-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).1 = (fun _ => 1#1)
    ∧ (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).2.1 = (fun _ => 1#1)
    ∧ (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).2.2 = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_tables [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)) (v4 : (c : Dev Cert.Kernel2Ideal.nD) → Buf (Elt Ideal) ((c.tc : Thread Cert.Kernel2Ideal.nD Cert.Kernel2Ideal.τ).loc Cert.Kernel2Ideal.main_v29_4)) (v5 : (c : Dev Cert.Kernel2Ideal.nD) → Buf (Elt Ideal) ((c.tc : Thread Cert.Kernel2Ideal.nD Cert.Kernel2Ideal.τ).loc Cert.Kernel2Ideal.main_v29_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_v29_4) = v4 c
          ∧ r.2.mem ((c.tc : Thread Cert.Kernel2Ideal.nD Cert.Kernel2Ideal.τ).loc Cert.Kernel2Ideal.main_v29_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_v77) = v4 c
          ∧ r.2.mem ((c.tc : Thread Cert.Reference2Ideal.nD Cert.Reference2Ideal.τ).loc Cert.Reference2Ideal.main_v78) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts) (hPre_tables : Cert.Pre_tables.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal)
    ∧ quiescent_Reference3Ideal_pre_tables (hReference3Ideal := hReference3Ideal) (hPre_tables := hPre_tables)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
-- ==== Pre_finite_inputs.lean ====
abbrev S32768x512 : Shape := ⟨2, ![32768, 512]⟩
abbrev S64 : Shape := ⟨1, ![64]⟩
abbrev S128 : Shape := ⟨1, ![128]⟩
abbrev S_ : Shape := ⟨0, ![]⟩

class Facts : Prop where
  bcast_S_S32768x512 : S_.BroadcastsInDim S32768x512 (![] : Fin 0 → Fin S32768x512.rank)
  bcast_S_S64 : S_.BroadcastsInDim S64 (![] : Fin 0 → Fin S64.rank)

variable [Facts]

def fn_part1 {F : FTy → Type} [FloatOps F] (main_arg6 : FVec F S64 .f32) (main_v2 : IVec S32768x512 1) (main_v5 : IVec S32768x512 1) (main_v8 : IVec S32768x512 1) (main_v11 : IVec S64 1) (main_v14 : IVec S64 1) (main_v17 : IVec S64 1) : IVec S32768x512 1 × IVec S32768x512 1 × IVec S32768x512 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S32768x512 .f32) (main_arg1 : FVec F S32768x512 .f32) (main_arg2 : FVec F S32768x512 .f32) (main_arg3 : FVec F S64 .f32) (main_arg4 : FVec F S64 .f32) (main_arg5 : FVec F S64 .f32) (main_arg6 : FVec F S64 .f32) (main_arg7 : FVec F S128 .f32) : IVec S32768x512 1 × IVec S32768x512 1 × IVec S32768x512 1 × IVec S64 1 × IVec S64 1 × IVec S64 1 × IVec S64 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S32768x512 .f32 := Host.absf main_arg1
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v3 main_v4
  let main_v6 : FVec F S32768x512 .f32 := Host.absf main_arg2
  let main_cst_1 : FVec F S_ .f32 := constant S_ .f32 0x7F800000#32
  let main_v7 : FVec F S32768x512 .f32 := broadcastInDim S32768x512 ![] bcast_S_S32768x512 main_cst_1
  let main_v8 : IVec S32768x512 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Pre_tables.lean ====
abbrev S1280 : Shape := ⟨1, ![1280]⟩
abbrev S1 : Shape := ⟨1, ![1]⟩
abbrev S327680x512 : Shape := ⟨2, ![327680, 512]⟩
abbrev S256x1024x256 : Shape := ⟨3, ![256, 1024, 256]⟩
abbrev S256x256x1024 : Shape := ⟨3, ![256, 256, 1024]⟩
abbrev S_ : Shape := ⟨0, ![]⟩

class Facts : Prop where
  bcast_S_S1280 : S_.BroadcastsInDim S1280 (![] : Fin 0 → Fin S1280.rank)
  bcast_S_S1 : S_.BroadcastsInDim S1 (![] : Fin 0 → Fin S1.rank)

variable [Facts]

def fn {F : FTy → Type} [FloatOps F] (main_arg0 : IVec S1280 32) (main_arg1 : IVec S1 32) (main_arg2 : FVec F S327680x512 .bf16) (main_arg3 : FVec F S327680x512 .bf16) (main_arg4 : FVec F S256x1024x256 .f32) (main_arg5 : FVec F S256x1024x256 .f32) (main_arg6 : FVec F S256x256x1024 .f32) : IVec S1280 1 × IVec S1280 1 × IVec S1 1 :=
  let main_c : IVec S_ 32 := constantI S_ 32 0#32
  let main_v0 : IVec S1280 32 := broadcastInDim S1280 ![] bcast_S_S1280 main_c
  let main_v1 : IVec S1280 1 := cmpi .sge main_arg0 main_v0
  let main_c_0 : IVec S_ 32 := constantI S_ 32 256#32
  let main_v2 : IVec S1280 32 := broadcastInDim S1280 ![] bcast_S_S1280 main_c_0
  let main_v3 : IVec S1280 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  (main_v1, main_v3, main_v5)
-- ==== Kernel.lean ====
abbrev S32768x512 : Shape := ⟨2, ![32768, 512]⟩
abbrev S64 : Shape := ⟨1, ![64]⟩
abbrev S128 : Shape := ⟨1, ![128]⟩
abbrev S136 : Shape := ⟨1, ![136]⟩
abbrev S_ : Shape := ⟨0, ![]⟩
abbrev S1x1 : Shape := ⟨2, ![1, 1]⟩
abbrev S4 : Shape := ⟨1, ![4]⟩
abbrev S1x128 : Shape := ⟨2, ![1, 128]⟩
abbrev S1x4 : Shape := ⟨2, ![1, 4]⟩
abbrev S512x128 : Shape := ⟨2, ![512, 128]⟩
abbrev S1 : Shape := ⟨1, ![1]⟩
abbrev S2x512x1 : Shape := ⟨3, ![2, 512, 1]⟩
abbrev S2x512x128 : Shape := ⟨3, ![2, 512, 128]⟩
abbrev S1x512 : Shape := ⟨2, ![1, 512]⟩
abbrev S512x1 : Shape := ⟨2, ![512, 1]⟩
abbrev S512x512 : Shape := ⟨2, ![512, 512]⟩
abbrev S1x512x1 : Shape := ⟨3, ![1, 512, 1]⟩
abbrev S512 : Shape := ⟨1, ![512]⟩
abbrev S1x512x128 : Shape := ⟨3, ![1, 512, 128]⟩

abbrev nBuf : Space → Nat
  | .hbm => 38
  | .vmem => 13
  | .smem => 3
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S32768x512, .bf16⟩
  | .hbm, ⟨9, _⟩ => ⟨S32768x512, .bf16⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S1x128, .f32⟩
  | .hbm, ⟨36, _⟩ => ⟨S1x4, .f32⟩
  | .hbm, ⟨37, _⟩ => ⟨S32768x512, .bf16⟩
  | .local _ .vmem, ⟨0, _⟩ => ⟨S512x128, .f32⟩
  | .local _ .vmem, ⟨1, _⟩ => ⟨S512x128, .f32⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x1, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | .local _ .smem, ⟨0, _⟩ => ⟨S136, .i32⟩
  | .local _ .smem, ⟨1, _⟩ => ⟨S136, .i32⟩
  | .local _ .smem, ⟨2, _⟩ => ⟨S1x4, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg5_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 136], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (i : grid0.Coords) : Fin 2 → Nat :=
  let c0_8 : Index := 0#32
  let arg1 : BitVec 32 := BitVec.ofNat 32 (i 1).val
  let v27 : Index := Scalar.indexCast arg1
  ![0, v27.toNat]
def k0_cond2 (v1 : BitVec 32) (v3 : BitVec 32) : BitVec 1 :=
  let v114 : BitVec 1 := Scalar.cmpi .eq v3 v1
  let v115 : BitVec 32 := Scalar.extui v114
  let c0_i32_56 : BitVec 32 := 0#32
  let v116 : BitVec 1 := Scalar.cmpi .ne v115 c0_i32_56
  v116

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 0 (Rect.unit (s := S136) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 1 (Rect.unit (s := S136) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 1 (Rect.unit (s := S136) ![v1.toNat] S1.size (k0_off1_inb i)) numel1_S1
  let v3 : BitVec 32 := Scalar.addi v0 v2
  let c0_i32 : BitVec 32 := 0#32
  ![v3.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 0 (Rect.unit (s := S136) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .smem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== ReferenceIdeal.lean ====
abbrev S32768x512 : Shape := ⟨2, ![32768, 512]⟩
abbrev S64 : Shape := ⟨1, ![64]⟩
abbrev S128 : Shape := ⟨1, ![128]⟩
abbrev S4x8192x4x2x64 : Shape := ⟨5, ![4, 8192, 4, 2, 64]⟩
abbrev S4x8192x4x128 : Shape := ⟨4, ![4, 8192, 4, 128]⟩
abbrev S4 : Shape := ⟨1, ![4]⟩
abbrev S_ : Shape := ⟨0, ![]⟩
abbrev S4x4x2x8192x64 : Shape := ⟨5, ![4, 4, 2, 8192, 64]⟩
abbrev S4x4x8192x128 : Shape := ⟨4, ![4, 4, 8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x4x2x8192x8192 : Shape := ⟨5, ![4, 4, 2, 8192, 8192]⟩
abbrev S1x4x1x1x1 : Shape := ⟨5, ![1, 4, 1, 1, 1]⟩
abbrev S1x1x1x8192x8192 : Shape := ⟨5, ![1, 1, 1, 8192, 8192]⟩
abbrev S1x4x1x8192x8192 : Shape := ⟨5, ![1, 4, 1, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4x8192x4x2x64, .f32⟩
  | .hbm, ⟨9, _⟩ => ⟨S4x8192x4x2x64, .f32⟩
  | .hbm, ⟨10, _⟩ => ⟨S4x8192x4x128, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x4x2x8192x64, .f32⟩
  | .hbm, ⟨36, _⟩ => ⟨S4x4x2x8192x64, .f32⟩
  | .hbm, ⟨37, _⟩ => ⟨S4x4x8192x128, .f32⟩
  | .hbm, ⟨38, _⟩ => ⟨S8192, .i32⟩
  | .hbm, ⟨39, _⟩ => ⟨S8192x1, .i32⟩
  | .hbm, ⟨40, _⟩ => ⟨S1x8192, .i32⟩
  | .hbm, ⟨41, _⟩ => ⟨S8192x8192, .i32⟩
  | .hbm, ⟨42, _⟩ => ⟨S8192x8192, .i32⟩
  | .hbm, ⟨43, _⟩ => ⟨S8192x8192, .i32⟩
  | .hbm, ⟨44, _⟩ => ⟨S8192x8192, .f32⟩
  | .hbm, ⟨45, _⟩ => ⟨S4x4x2x8192x8192, .f32⟩
  | .hbm, ⟨46, _⟩ => ⟨S_, .f32⟩
  | .hbm, ⟨47, _⟩ => ⟨S4x4x2x8192x8192, .f32⟩
  | .hbm, ⟨48, _⟩ => ⟨S4x4x2x8192x8192, .f32⟩
  | .hbm, ⟨49, _⟩ => ⟨S_, .f32⟩
  | .hbm, ⟨50, _⟩ => ⟨S8192x8192, .f32⟩
  | .hbm, ⟨51, _⟩ => ⟨S8192x8192, .i1⟩
  | .hbm, ⟨52, _⟩ => ⟨S1x4x1x1x1, .f32⟩
  | .hbm, ⟨53, _⟩ => ⟨S1x1x1x8192x8192, .f32⟩
  | .hbm, ⟨54, _⟩ => ⟨S1x4x1x8192x8192, .f32⟩
  | .hbm, ⟨55, _⟩ => ⟨S1x4x1x8192x8192, .f32⟩
  | .hbm, ⟨56, _⟩ => ⟨S1x4x1x8192x8192, .f32⟩
  | .hbm, ⟨57, _⟩ => ⟨S4x4x2x8192x8192, .f32⟩
  | .hbm, ⟨58, _⟩ => ⟨S4x4x2x8192x8192, .f32⟩
  | .hbm, ⟨59, _⟩ => ⟨S_, .f32⟩
  | .hbm, ⟨60, _⟩ => ⟨S_, .f32⟩
  | .hbm, ⟨61, _⟩ => ⟨S4x4x2x8192x8192, .i1⟩
  | .hbm, ⟨62, _⟩ => ⟨S4x4x2x8192x8192, .f32⟩
  | .hbm, ⟨63, _⟩ => ⟨S4x4x2x8192x8192, .f32⟩
  | .hbm, ⟨64, _⟩ => ⟨S_, .f32⟩
  | .hbm, ⟨65, _⟩ => ⟨S4x4x2x8192, .f32⟩
  | .hbm, ⟨66, _⟩ => ⟨S_, .f32⟩
  | .hbm, ⟨67, _⟩ => ⟨S4x4x2x8192, .f32⟩
  | .hbm, ⟨68, _⟩ => ⟨S4x4x2x8192, .f32⟩
  | .hbm, ⟨69, _⟩ => ⟨S4x4x2x8192x1, .f32⟩
  | .hbm, ⟨70, _⟩ => ⟨S4x4x2x8192x8192, .f32⟩
  | .hbm, ⟨71, _⟩ => ⟨S4x4x2x8192x8192, .f32⟩
  | .hbm, ⟨72, _⟩ => ⟨S4x4x2x8192x8192, .f32⟩
  | .hbm, ⟨73, _⟩ => ⟨S_, .f32⟩
  | .hbm, ⟨74, _⟩ => ⟨S4x4x2x8192, .f32⟩
  | .hbm, ⟨75, _⟩ => ⟨S4x4x2x8192x1, .f32⟩
  | .hbm, ⟨76, _⟩ => ⟨S4x4x2x8192x8192, .f32⟩
  | .hbm, ⟨77, _⟩ => ⟨S4x4x2x8192x8192, .f32⟩
  | .hbm, ⟨78, _⟩ => ⟨S4x4x1x8192x8192, .f32⟩
  | .hbm, ⟨79, _⟩ => ⟨S4x4x8192x8192, .f32⟩
  | .hbm, ⟨80, _⟩ => ⟨S4x4x1x8192x8192, .f32⟩
  | .hbm, ⟨81, _⟩ => ⟨S4x4x8192x8192, .f32⟩
  | .hbm, ⟨82, _⟩ => ⟨S4x4x8192x8192, .f32⟩
  | .hbm, ⟨83, _⟩ => ⟨S4x4x8192x8192, .f32⟩
  | .hbm, ⟨84, _⟩ => ⟨S4x4x8192x8192, .f32⟩
  | .hbm, ⟨85, _⟩ => ⟨S4x4x8192x128, .f32⟩
  | .hbm, ⟨86, _⟩ => ⟨S4x8192x4x128, .f32⟩
  | .hbm, ⟨87, _⟩ => ⟨S4x8192x4x128, .f32⟩
  | .hbm, ⟨88, _⟩ => ⟨S_, .f32⟩
  | .hbm, ⟨89, _⟩ => ⟨S4x8192x4, .f32⟩
  | .hbm, ⟨90, _⟩ => ⟨S4x8192x4x1, .f32⟩
  | .hbm, ⟨91, _⟩ => ⟨S_, .f32⟩
  | .hbm, ⟨92, _⟩ => ⟨S4x8192x4x1, .f32⟩
  | .hbm, ⟨93, _⟩ => ⟨S4x8192x4x1, .f32⟩
  | .hbm, ⟨94, _⟩ => ⟨S_, .f32⟩
  | .hbm, ⟨95, _⟩ => ⟨S4x8192x4x1, .f32⟩
  | .hbm, ⟨96, _⟩ => ⟨S4x8192x4x1, .f32⟩
  | .hbm, ⟨97, _⟩ => ⟨S4x8192x4x1, .f32⟩
  | .hbm, ⟨98, _⟩ => ⟨S4x8192x4x128, .f32⟩
  | .hbm, ⟨99, _⟩ => ⟨S4x8192x4x128, .f32⟩
  | .hbm, ⟨100, _⟩ => ⟨S1x1x1x128, .f32⟩
  | .hbm, ⟨101, _⟩ => ⟨S4x8192x4x128, .f32⟩
  | .hbm, ⟨102, _⟩ => ⟨S4x8192x4x128, .f32⟩
  | .hbm, ⟨103, _⟩ => ⟨S_, .f32⟩
  | .hbm, ⟨104, _⟩ => ⟨S4x8192x4x128, .f32⟩
  | .hbm, ⟨105, _⟩ => ⟨S4x8192x4x128, .f32⟩
  | .hbm, ⟨106, _⟩ => ⟨S4x8192x4x128, .bf16⟩
  | .hbm, ⟨107, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x6x1024 : Shape := ⟨3, ![4, 6, 1024]⟩
abbrev S1024x3592 : Shape := ⟨2, ![1024, 3592]⟩
abbrev S8 : Shape := ⟨1, ![8]⟩
abbrev S64 : Shape := ⟨1, ![64]⟩
abbrev S32768x1024 : Shape := ⟨2, ![32768, 1024]⟩
abbrev S1024x2048 : Shape := ⟨2, ![1024, 2048]⟩
abbrev S1024x1536 : Shape := ⟨2, ![1024, 1536]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S128 : Shape := ⟨1, ![128]⟩
abbrev S1x128 : Shape := ⟨2, ![1, 128]⟩
abbrev S8x1 : Shape := ⟨2, ![8, 1]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32768x2048 : Shape := ⟨2, ![32768, 2048]⟩
abbrev S32768x512 : Shape := ⟨2, ![32768, 512]⟩
abbrev S32768x128 : Shape := ⟨2, ![32768, 128]⟩
abbrev S8x32768 : Shape := ⟨2, ![8, 32768]⟩
abbrev S512x1024 : Shape := ⟨2, ![512, 1024]⟩
abbrev S1x6x1024 : Shape := ⟨3, ![1, 6, 1024]⟩
abbrev S512x2048 : Shape := ⟨2, ![512, 2048]⟩
abbrev S512x128 : Shape := ⟨2, ![512, 128]⟩
abbrev S8x512 : Shape := ⟨2, ![8, 512]⟩
abbrev S1x1x1024 : Shape := ⟨3, ![1, 1, 1024]⟩
abbrev S1x1024 : Shape := ⟨2, ![1, 1024]⟩
abbrev S1024x512 : Shape := ⟨2, ![1024, 512]⟩

abbrev nBuf : Space → Nat
  | .hbm => 62
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x3592, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S32768x1024, .f32⟩
  | .hbm, ⟨7, _⟩ => ⟨S1024x2048, .f32⟩
  | .hbm, ⟨8, _⟩ => ⟨S1024x1536, .f32⟩
  | .hbm, ⟨9, _⟩ => ⟨S1024x3584, .f32⟩
  | .hbm, ⟨10, _⟩ => ⟨S1024x3584, .bf16⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S8x1024, .f32⟩
  | .hbm, ⟨17, _⟩ => ⟨S8x1024, .bf16⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S8x1, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S1x64, .f32⟩
  | .hbm, ⟨28, _⟩ => ⟨S8x64, .f32⟩
  | .hbm, ⟨29, _⟩ => ⟨S512, .f32⟩
  | .hbm, ⟨30, _⟩ => ⟨S1x512, .f32⟩
  | .hbm, ⟨31, _⟩ => ⟨S512, .i32⟩
  | .hbm, ⟨32, _⟩ => ⟨S_, .i32⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S512, .i1⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S512x1, .i32⟩
  | .hbm, ⟨51, _⟩ => ⟨S1x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S512x512, .bf16⟩
  | .hbm, ⟨56, _⟩ => ⟨S32768x2048, .bf16⟩
  | .hbm, ⟨57, _⟩ => ⟨S32768x512, .bf16⟩
  | .hbm, ⟨58, _⟩ => ⟨S32768x512, .bf16⟩
  | .hbm, ⟨59, _⟩ => ⟨S32768x512, .bf16⟩
  | .hbm, ⟨60, _⟩ => ⟨S32768x128, .f32⟩
  | .hbm, ⟨61, _⟩ => ⟨S8x32768, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3584, .bf16⟩
  | .local _ .vmem, ⟨5, _⟩ => ⟨S1024x128, .bf16⟩
  | .local _ .vmem, ⟨6, _⟩ => ⟨S8x1024, .bf16⟩
  | .local _ .vmem, ⟨7, _⟩ => ⟨S1x128, .f32⟩
  | .local _ .vmem, ⟨8, _⟩ => ⟨S8x1, .f32⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x128, .f32⟩
  | .local _ .vmem, ⟨21, _⟩ => ⟨S512x128, .f32⟩
  | .local _ .vmem, ⟨22, _⟩ => ⟨S8x512, .f32⟩
  | .local _ .vmem, ⟨23, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29_0 : Ref sig .tc := ⟨.hbm, 56, rfl⟩
abbrev main_v29_1 : Ref sig .tc := ⟨.hbm, 57, rfl⟩
abbrev main_v29_2 : Ref sig .tc := ⟨.hbm, 58, rfl⟩
abbrev main_v29_3 : Ref sig .tc := ⟨.hbm, 59, rfl⟩
abbrev main_v29_4 : Ref sig .tc := ⟨.hbm, 60, rfl⟩
abbrev main_v29_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S4x8192x1024 : Shape := ⟨3, ![4, 8192, 1024]⟩
abbrev S4x6x1024 : Shape := ⟨3, ![4, 6, 1024]⟩
abbrev S1024x3592 : Shape := ⟨2, ![1024, 3592]⟩
abbrev S8 : Shape := ⟨1, ![8]⟩
abbrev S64 : Shape := ⟨1, ![64]⟩
abbrev S4x6x1x1024 : Shape := ⟨4, ![4, 6, 1, 1024]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S4x8192x3592 : Shape := ⟨3, ![4, 8192, 3592]⟩
abbrev S4x8192x512 : Shape := ⟨3, ![4, 8192, 512]⟩
abbrev S4x8192x4 : Shape := ⟨3, ![4, 8192, 4]⟩
abbrev S4x8192x4x2x64 : Shape := ⟨5, ![4, 8192, 4, 2, 64]⟩
abbrev S4x8192x4x2 : Shape := ⟨4, ![4, 8192, 4, 2]⟩
abbrev S4x8192x4x2x1 : Shape := ⟨5, ![4, 8192, 4, 2, 1]⟩
abbrev S1x1x1x1x64 : Shape := ⟨5, ![1, 1, 1, 1, 64]⟩
abbrev S4 : Shape := ⟨1, ![4]⟩
abbrev S1x1x4 : Shape := ⟨3, ![1, 1, 4]⟩
abbrev S4x8192x8 : Shape := ⟨3, ![4, 8192, 8]⟩
abbrev S32768x8 : Shape := ⟨2, ![32768, 8]⟩
abbrev S4x8192x2048 : Shape := ⟨3, ![4, 8192, 2048]⟩
abbrev S32768x2048 : Shape := ⟨2, ![32768, 2048]⟩
abbrev S32768x512 : Shape := ⟨2, ![32768, 512]⟩
abbrev S32768x128 : Shape := ⟨2, ![32768, 128]⟩
abbrev S8x32768 : Shape := ⟨2, ![8, 32768]⟩

abbrev nBuf : Space → Nat
  | .hbm => 97
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x3592, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S4x6x1x1024, .f32⟩
  | .hbm, ⟨7, _⟩ => ⟨S4x1x1x1024, .f32⟩
  | .hbm, ⟨8, _⟩ => ⟨S4x1x1024, .f32⟩
  | .hbm, ⟨9, _⟩ => ⟨S4x1x1x1024, .f32⟩
  | .hbm, ⟨10, _⟩ => ⟨S4x1x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x3592, .f32⟩
  | .hbm, ⟨32, _⟩ => ⟨S4x8192x1024, .f32⟩
  | .hbm, ⟨33, _⟩ => ⟨S4x8192x512, .f32⟩
  | .hbm, ⟨34, _⟩ => ⟨S4x8192x512, .f32⟩
  | .hbm, ⟨35, _⟩ => ⟨S4x8192x4, .f32⟩
  | .hbm, ⟨36, _⟩ => ⟨S4x8192x4, .f32⟩
  | .hbm, ⟨37, _⟩ => ⟨S4x8192x512, .f32⟩
  | .hbm, ⟨38, _⟩ => ⟨S4x8192x512, .f32⟩
  | .hbm, ⟨39, _⟩ => ⟨S4x8192x512, .f32⟩
  | .hbm, ⟨40, _⟩ => ⟨S4x8192x4x2x64, .f32⟩
  | .hbm, ⟨41, _⟩ => ⟨S4x8192x4x2x64, .f32⟩
  | .hbm, ⟨42, _⟩ => ⟨S_, .f32⟩
  | .hbm, ⟨43, _⟩ => ⟨S4x8192x4x2, .f32⟩
  | .hbm, ⟨44, _⟩ => ⟨S4x8192x4x2x1, .f32⟩
  | .hbm, ⟨45, _⟩ => ⟨S_, .f32⟩
  | .hbm, ⟨46, _⟩ => ⟨S4x8192x4x2x1, .f32⟩
  | .hbm, ⟨47, _⟩ => ⟨S4x8192x4x2x1, .f32⟩
  | .hbm, ⟨48, _⟩ => ⟨S_, .f32⟩
  | .hbm, ⟨49, _⟩ => ⟨S4x8192x4x2x1, .f32⟩
  | .hbm, ⟨50, _⟩ => ⟨S4x8192x4x2x1, .f32⟩
  | .hbm, ⟨51, _⟩ => ⟨S4x8192x4x2x1, .f32⟩
  | .hbm, ⟨52, _⟩ => ⟨S4x8192x4x2x64, .f32⟩
  | .hbm, ⟨53, _⟩ => ⟨S4x8192x4x2x64, .f32⟩
  | .hbm, ⟨54, _⟩ => ⟨S1x1x1x1x64, .f32⟩
  | .hbm, ⟨55, _⟩ => ⟨S4x8192x4x2x64, .f32⟩
  | .hbm, ⟨56, _⟩ => ⟨S4x8192x4x2x64, .f32⟩
  | .hbm, ⟨57, _⟩ => ⟨S4x8192x4x2x64, .f32⟩
  | .hbm, ⟨58, _⟩ => ⟨S4x8192x4x2x64, .f32⟩
  | .hbm, ⟨59, _⟩ => ⟨S_, .f32⟩
  | .hbm, ⟨60, _⟩ => ⟨S4x8192x4x2, .f32⟩
  | .hbm, ⟨61, _⟩ => ⟨S4x8192x4x2x1, .f32⟩
  | .hbm, ⟨62, _⟩ => ⟨S_, .f32⟩
  | .hbm, ⟨63, _⟩ => ⟨S4x8192x4x2x1, .f32⟩
  | .hbm, ⟨64, _⟩ => ⟨S4x8192x4x2x1, .f32⟩
  | .hbm, ⟨65, _⟩ => ⟨S_, .f32⟩
  | .hbm, ⟨66, _⟩ => ⟨S4x8192x4x2x1, .f32⟩
  | .hbm, ⟨67, _⟩ => ⟨S4x8192x4x2x1, .f32⟩
  | .hbm, ⟨68, _⟩ => ⟨S4x8192x4x2x1, .f32⟩
  | .hbm, ⟨69, _⟩ => ⟨S4x8192x4x2x64, .f32⟩
  | .hbm, ⟨70, _⟩ => ⟨S4x8192x4x2x64, .f32⟩
  | .hbm, ⟨71, _⟩ => ⟨S1x1x1x1x64, .f32⟩
  | .hbm, ⟨72, _⟩ => ⟨S4x8192x4x2x64, .f32⟩
  | .hbm, ⟨73, _⟩ => ⟨S4x8192x4x2x64, .f32⟩
  | .hbm, ⟨74, _⟩ => ⟨S4, .f32⟩
  | .hbm, ⟨75, _⟩ => ⟨S1x1x4, .f32⟩
  | .hbm, ⟨76, _⟩ => ⟨S4x8192x4, .f32⟩
  | .hbm, ⟨77, _⟩ => ⟨S4x8192x4, .f32⟩
  | .hbm, ⟨78, _⟩ => ⟨S4, .f32⟩
  | .hbm, ⟨79, _⟩ => ⟨S1x1x4, .f32⟩
  | .hbm, ⟨80, _⟩ => ⟨S4x8192x4, .f32⟩
  | .hbm, ⟨81, _⟩ => ⟨S4x8192x4, .f32⟩
  | .hbm, ⟨82, _⟩ => ⟨S4x8192x8, .f32⟩
  | .hbm, ⟨83, _⟩ => ⟨S32768x8, .f32⟩
  | .hbm, ⟨84, _⟩ => ⟨S4x8192x2048, .f32⟩
  | .hbm, ⟨85, _⟩ => ⟨S32768x2048, .f32⟩
  | .hbm, ⟨86, _⟩ => ⟨S32768x2048, .bf16⟩
  | .hbm, ⟨87, _⟩ => ⟨S32768x512, .f32⟩
  | .hbm, ⟨88, _⟩ => ⟨S32768x512, .bf16⟩
  | .hbm, ⟨89, _⟩ => ⟨S32768x512, .f32⟩
  | .hbm, ⟨90, _⟩ => ⟨S32768x512, .bf16⟩
  | .hbm, ⟨91, _⟩ => ⟨S32768x512, .f32⟩
  | .hbm, ⟨92, _⟩ => ⟨S32768x512, .bf16⟩
  | .hbm, ⟨93, _⟩ => ⟨S_, .i32⟩
  | .hbm, ⟨94, _⟩ => ⟨S_, .f32⟩
  | .hbm, ⟨95, _⟩ => ⟨S32768x128, .f32⟩
  | .hbm, ⟨96, _⟩ => ⟨S8x32768, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_c : Ref sig .tc := ⟨.hbm, 93, rfl⟩
abbrev main_call0_v0 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Kernel3.lean ====
abbrev S1280 : Shape := ⟨1, ![1280]⟩
abbrev S1 : Shape := ⟨1, ![1]⟩
abbrev S327680x512 : Shape := ⟨2, ![327680, 512]⟩
abbrev S256x1024x256 : Shape := ⟨3, ![256, 1024, 256]⟩
abbrev S256x256x1024 : Shape := ⟨3, ![256, 256, 1024]⟩
abbrev S256x512 : Shape := ⟨2, ![256, 512]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S512x256 : Shape := ⟨2, ![512, 256]⟩
abbrev S256x256 : Shape := ⟨2, ![256, 256]⟩

abbrev nBuf : Space → Nat
  | .hbm => 7
  | .vmem => 17
  | .smem => 2
  | _ => 0

abbrev bufTy : (tb : Table) → Fin (tcTables nBuf tb) → BufTy
  | .hbm, ⟨0, _⟩ => ⟨S327680x512, .bf16⟩
  | .hbm, ⟨1, _⟩ => ⟨S327680x512, .bf16⟩
  | .hbm, ⟨2, _⟩ => ⟨S256x1024x256, .f32⟩
  | .hbm, ⟨3, _⟩ => ⟨S256x1024x256, .f32⟩
  | .hbm, ⟨4, _⟩ => ⟨S256x256x1024, .f32⟩
  | .hbm, ⟨5, _⟩ => ⟨S327680x512, .bf16⟩
  | .hbm, ⟨6, _⟩ => ⟨S327680x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .smem, ⟨0, _⟩ => ⟨S1280, .i32⟩
  | .local _ .smem, ⟨1, _⟩ => ⟨S1, .i32⟩
  | _, _ => ⟨S327680x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0_0 : Ref sig .tc := ⟨.hbm, 5, rfl⟩
abbrev main_v0_1 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![1280], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_off3 (i : grid0.Coords) : Fin 1 → Nat :=
  let arg0 : BitVec 32 := BitVec.ofNat 32 (i 0).val
  let c1_i32 : BitVec 32 := 1#32
  let v10 : BitVec 32 := Scalar.subi arg0 c1_i32
  let c0_i32_2 : BitVec 32 := 0#32
  let v11 : BitVec 32 := Scalar.maxsi v10 c0_i32_2
  let v12 : Index := Scalar.indexCast v11
  ![v12.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S1280 : Shape := ⟨1, ![1280]⟩
abbrev S1 : Shape := ⟨1, ![1]⟩
abbrev S327680x512 : Shape := ⟨2, ![327680, 512]⟩
abbrev S256x1024x256 : Shape := ⟨3, ![256, 1024, 256]⟩
abbrev S256x256x1024 : Shape := ⟨3, ![256, 256, 1024]⟩
abbrev S327680x1024 : Shape := ⟨2, ![327680, 1024]⟩
abbrev S1280x256x1024 : Shape := ⟨3, ![1280, 256, 1024]⟩
abbrev S_ : Shape := ⟨0, ![]⟩
abbrev S1280x1 : Shape := ⟨2, ![1280, 1]⟩
abbrev S1280x1024x256 : Shape := ⟨3, ![1280, 1024, 256]⟩
abbrev S1280x256x256 : Shape := ⟨3, ![1280, 256, 256]⟩
abbrev S1280x1x1 : Shape := ⟨3, ![1280, 1, 1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S1280, .i32⟩
  | .hbm, ⟨1, _⟩ => ⟨S1, .i32⟩
  | .hbm, ⟨2, _⟩ => ⟨S327680x512, .bf16⟩
  | .hbm, ⟨3, _⟩ => ⟨S327680x512, .bf16⟩
  | .hbm, ⟨4, _⟩ => ⟨S256x1024x256, .f32⟩
  | .hbm, ⟨5, _⟩ => ⟨S256x1024x256, .f32⟩
  | .hbm, ⟨6, _⟩ => ⟨S256x256x1024, .f32⟩
  | .hbm, ⟨7, _⟩ => ⟨S327680x1024, .bf16⟩
  | .hbm, ⟨8, _⟩ => ⟨S327680x1024, .f32⟩
  | .hbm, ⟨9, _⟩ => ⟨S1280x256x1024, .f32⟩
  | .hbm, ⟨10, _⟩ => ⟨S_, .i32⟩
  | .hbm, ⟨11, _⟩ => ⟨S1280, .i32⟩
  | .hbm, ⟨12, _⟩ => ⟨S1280, .i1⟩
  | .hbm, ⟨13, _⟩ => ⟨S_, .i32⟩
  | .hbm, ⟨14, _⟩ => ⟨S1280, .i32⟩
  | .hbm, ⟨15, _⟩ => ⟨S1280, .i32⟩
  | .hbm, ⟨16, _⟩ => ⟨S1280, .i32⟩
  | .hbm, ⟨17, _⟩ => ⟨S1280x1, .i32⟩
  | .hbm, ⟨18, _⟩ => ⟨S1280x1024x256, .f32⟩
  | .hbm, ⟨19, _⟩ => ⟨S1280x256x256, .f32⟩
  | .hbm, ⟨20, _⟩ => ⟨S_, .i32⟩
  | .hbm, ⟨21, _⟩ => ⟨S1280, .i32⟩
  | .hbm, ⟨22, _⟩ => ⟨S1280, .i1⟩
  | .hbm, ⟨23, _⟩ => ⟨S_, .i32⟩
  | .hbm, ⟨24, _⟩ => ⟨S1280, .i32⟩
  | .hbm, ⟨25, _⟩ => ⟨S1280, .i32⟩
  | .hbm, ⟨26, _⟩ => ⟨S1280, .i32⟩
  | .hbm, ⟨27, _⟩ => ⟨S1280x1, .i32⟩
  | .hbm, ⟨28, _⟩ => ⟨S1280x1024x256, .f32⟩
  | .hbm, ⟨29, _⟩ => ⟨S1280x256x256, .f32⟩
  | .hbm, ⟨30, _⟩ => ⟨S1280x256x256, .f32⟩
  | .hbm, ⟨31, _⟩ => ⟨S1280x256x256, .f32⟩
  | .hbm, ⟨32, _⟩ => ⟨S_, .f32⟩
  | .hbm, ⟨33, _⟩ => ⟨S1280x256x256, .f32⟩
  | .hbm, ⟨34, _⟩ => ⟨S1280x256x256, .f32⟩
  | .hbm, ⟨35, _⟩ => ⟨S_, .f32⟩
  | .hbm, ⟨36, _⟩ => ⟨S1280x256x256, .f32⟩
  | .hbm, ⟨37, _⟩ => ⟨S1280x256x256, .f32⟩
  | .hbm, ⟨38, _⟩ => ⟨S1280x256x256, .f32⟩
  | .hbm, ⟨39, _⟩ => ⟨S1280x256x256, .f32⟩
  | .hbm, ⟨40, _⟩ => ⟨S_, .i32⟩
  | .hbm, ⟨41, _⟩ => ⟨S1280, .i32⟩
  | .hbm, ⟨42, _⟩ => ⟨S1280, .i1⟩
  | .hbm, ⟨43, _⟩ => ⟨S_, .i32⟩
  | .hbm, ⟨44, _⟩ => ⟨S1280, .i32⟩
  | .hbm, ⟨45, _⟩ => ⟨S1280, .i32⟩
  | .hbm, ⟨46, _⟩ => ⟨S1280, .i32⟩
  | .hbm, ⟨47, _⟩ => ⟨S1280x1, .i32⟩
  | .hbm, ⟨48, _⟩ => ⟨S1280x256x1024, .f32⟩
  | .hbm, ⟨49, _⟩ => ⟨S1280x256x1024, .f32⟩
  | .hbm, ⟨50, _⟩ => ⟨S1280, .i32⟩
  | .hbm, ⟨51, _⟩ => ⟨S1280x1x1, .i32⟩
  | .hbm, ⟨52, _⟩ => ⟨S1x1x1, .i32⟩
  | .hbm, ⟨53, _⟩ => ⟨S1280x1x1, .i32⟩
  | .hbm, ⟨54, _⟩ => ⟨S1280x1x1, .i1⟩
  | .hbm, ⟨55, _⟩ => ⟨S_, .f32⟩
  | .hbm, ⟨56, _⟩ => ⟨S_, .f32⟩
  | .hbm, ⟨57, _⟩ => ⟨S1280x256x1024, .i1⟩
  | .hbm, ⟨58, _⟩ => ⟨S1280x256x1024, .f32⟩
  | .hbm, ⟨59, _⟩ => ⟨S1280x256x1024, .f32⟩
  | .hbm, ⟨60, _⟩ => ⟨S327680x1024, .f32⟩
  | .hbm, ⟨61, _⟩ => ⟨S327680x1024, .bf16⟩
  | .hbm, ⟨62, _⟩ => ⟨S327680x512, .bf16⟩
  | .hbm, ⟨63, _⟩ => ⟨S327680x512, .bf16⟩
  | _, _ => ⟨S1280, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Proof.Att.Tables.lean ====
module

public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # The two tables of block pairs, and where the body stands at a point

The call runs over (batch, head, pair); the pair's two words are read off two tables: the number of the block of queries and
the number of the block of keys. -/

/-- The table of query blocks as the body reads it. -/
abbrev qTab : Memref sig .tc .smem S136 .i32 := Memref.whole main_c
/-- The table of key blocks as the body reads it. -/
abbrev kTab : Memref sig .tc .smem S136 .i32 := Memref.whole main_c_0
/-- The scratch of running maxima. -/
abbrev mScr : Memref sig .tc .vmem S2x512x1 .f32 := Memref.whole cc0_scratch0
/-- The scratch of running denominators. -/
abbrev lScr : Memref sig .tc .vmem S2x512x1 .f32 := Memref.whole cc0_scratch1
/-- The scratch of running numerators. -/
abbrev aScr : Memref sig .tc .vmem S2x512x128 .f32 := Memref.whole cc0_scratch2

/-- The contents of the table of query blocks. -/
def Tq : S136.Idx → BitVec 32 := fun i => lit0 (S136.rowMajor i)
/-- The contents of the table of key blocks. -/
def Tk : S136.Idx → BitVec 32 := fun i => lit1 (S136.rowMajor i)

/-- The query block's number at coordinates `i`, read off contents `T` of its table. -/
abbrev qWord (i : grid0.Coords) (T : S136.Idx → BitVec 32) : BitVec 32 :=
  View.readAt (Elt Ideal) qTab.view (Rect.unit (s := S136) (k0_off1 i) S1.size (k0_off1_inb i)).toLoadRect T (Shape.Idx.first (numel1_S1.symm ▸ Nat.one_pos))
/-- The key block's number at coordinates `i`, read off contents `T` of its table. -/
abbrev kWord (i : grid0.Coords) (T : S136.Idx → BitVec 32) : BitVec 32 :=
  View.readAt (Elt Ideal) kTab.view (Rect.unit (s := S136) (k0_off1 i) S1.size (k0_off1_inb i)).toLoadRect T (Shape.Idx.first (numel1_S1.symm ▸ Nat.one_pos))

/-- The body begins a row of blocks: the key block is the first. -/
abbrev Opens (i : grid0.Coords) (T1 : S136.Idx → BitVec 32) : Prop :=
  Scalar.cmpi .ne (Scalar.extui (Scalar.cmpi .eq (kWord i T1) 0#32)) 0#32 = 1#1
/-- The body closes a row of blocks: the key block is the query block. -/
abbrev Closes (i : grid0.Coords) (T0 T1 : S136.Idx → BitVec 32) : Prop := k0_cond2 (qWord i T0) (kWord i T1) = 1#1

set_option backward.proofsInPublic true in
/-- The tables' contents, as the call takes them. -/
def pf : pre0.Contents (Elt Ideal) := fun | ⟨0, _⟩ => Tq | ⟨1, _⟩ => Tk | ⟨_ + 2, h⟩ => absurd h (by simp)

theorem inb_0 : ∀ i : grid0.Coords, ∀ a, (cc0_transform_0 k0_off1_inb numel1_S1 pf i a + 1) * S512x128.size a ≤ S32768x512.size a := by decide +kernel
theorem inb_1 : ∀ i : grid0.Coords, ∀ a, (cc0_transform_1 k0_off1_inb numel1_S1 pf i a + 1) * S512x128.size a ≤ S32768x512.size a := by decide +kernel
theorem inb_2 : ∀ i : grid0.Coords, ∀ a, (cc0_transform_2 k0_off1_inb numel1_S1 pf i a + 1) * S512x128.size a ≤ S32768x512.size a := by decide +kernel
theorem inb_6 : ∀ i : grid0.Coords, ∀ a, (cc0_transform_6 k0_off1_inb numel1_S1 pf i a + 1) * S512x128.size a ≤ S32768x512.size a := by decide +kernel

/-- At these tables every block of every window lies inside its array, on whole words. -/
theorem ok_pf : ok0 (F := Ideal) pf :=
  ⟨fun i => ⟨inb_0 i, .inl rfl⟩,
   fun i => ⟨inb_1 i, .inr (Affine.block_words_dvd (s := S32768x512) (p := EltTy.packing .bf16) (by decide) (by decide))⟩,
   fun i => ⟨inb_2 i, .inr (Affine.block_words_dvd (s := S32768x512) (p := EltTy.packing .bf16) (by decide) (by decide))⟩,
   fun i => ⟨inb_6 i, .inr (Affine.block_words_dvd (s := S32768x512) (p := EltTy.packing .bf16) (by decide) (by decide))⟩⟩

/-- The tables, admissible; the call at them. -/
def adm : (pcfg0 (F := Ideal)).Adm := ⟨pf, ok_pf⟩
abbrev cfg : Pipeline.Cfg sig Λ₀ := cfg0 (F := Ideal) adm
abbrev cfgs : Fin 1 → Pipeline.Cfg sig Λ₀ := Pipeline.pin (pcfgs (F := Ideal)) fun _ => adm

/-- Point `t`'s coordinates. -/
abbrev crd (t : Fin cfg.N) : cfg.grid.Coords := cfg.grid.coords t

/-- What is decided of the call's schedule at a point: the first point opens a row; the output's window is stored into, and
    written back, exactly where a row closes. -/
abbrev Sched (t : Fin cfg.N) : Prop :=
  (t.val = 0 → Opens (crd t) Tk)
  ∧ (Closes (crd t) Tq Tk → cfg.idle (6 : Fin 7) (cfg.grid.coords t) = false ∧ (cfg.win (6 : Fin 7)).flush t = true)
  ∧ (¬ Closes (crd t) Tq Tk → cfg.idle (6 : Fin 7) (cfg.grid.coords t) = true ∧ (cfg.win (6 : Fin 7)).flush t = false)

theorem sched_0 : ∀ t : Fin cfg.N, 0 ≤ t.val → t.val < 272 → Sched t := by decide +kernel
theorem sched_1 : ∀ t : Fin cfg.N, 272 ≤ t.val → t.val < 544 → Sched t := by decide +kernel
theorem sched_2 : ∀ t : Fin cfg.N, 544 ≤ t.val → t.val < 816 → Sched t := by decide +kernel
theorem sched_3 : ∀ t : Fin cfg.N, 816 ≤ t.val → t.val < 1088 → Sched t := by decide +kernel
theorem sched_4 : ∀ t : Fin cfg.N, 1088 ≤ t.val → t.val < 1360 → Sched t := by decide +kernel
theorem sched_5 : ∀ t : Fin cfg.N, 1360 ≤ t.val → t.val < 1632 → Sched t := by decide +kernel
theorem sched_6 : ∀ t : Fin cfg.N, 1632 ≤ t.val → t.val < 1904 → Sched t := by decide +kernel
theorem sched_7 : ∀ t : Fin cfg.N, 1904 ≤ t.val → t.val < 2176 → Sched t := by decide +kernel

/-- The schedule at every point. -/
theorem sched : ∀ t : Fin cfg.N, Sched t := fun t => by
  have h0 : 0 ≤ t.val := Nat.zero_le _
  rcases Nat.lt_or_ge t.val 272 with h1 | h1; · exact sched_0 t h0 h1
  rcases Nat.lt_or_ge t.val 544 with h2 | h2; · exact sched_1 t h1 h2
  rcases Nat.lt_or_ge t.val 816 with h3 | h3; · exact sched_2 t h2 h3
  rcases Nat.lt_or_ge t.val 1088 with h4 | h4; · exact sched_3 t h3 h4
  rcases Nat.lt_or_ge t.val 1360 with h5 | h5; · exact sched_4 t h4 h5
  rcases Nat.lt_or_ge t.val 1632 with h6 | h6; · exact sched_5 t h5 h6
  rcases Nat.lt_or_ge t.val 1904 with h7 | h7; · exact sched_6 t h6 h7
  exact sched_7 t h7 t.isLt

end Cert.KernelIdeal.Attn

end
-- ==== Proof.Att.Runs.lean ====
module

public import proofs.«01_k».proof.Proof.Gen.KernelIdeal.Skeleton
public import proofs.«01_k».proof.Proof.Att.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the machine the assertions speak of. -/
local notation "𝕄" => MT nD τ sig Unit (Elt Ideal) ℕ (UR sig nD τ) ℕ

/-! # The body, run once

On whole staging buffers holding the blocks of queries, keys, values and the small inputs, and on the three scratches, the body
runs to its end; the four theorems, one per way its two conditions fall, find what it leaves. -/

variable (c : Dev nD) (i : grid0.Coords)
  (arg5 : Memref sig .tc .vmem S512x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1 .f32) (harg8 : arg8.IsWhole) (arg9 : Memref sig .tc .vmem S1x128 .f32) (harg9 : arg9.IsWhole) (arg10 : Memref sig .tc .smem S1x4 .f32) (harg10 : arg10.IsWhole) (arg11 : Memref sig .tc .vmem S512x128 .bf16) (harg11 : arg11.IsWhole)
  (T0 T1 : S136.Idx → BitVec 32)
  (x0 : S512x128.Idx → Elt Ideal .f32) (x1 : S512x128.Idx → Elt Ideal .bf16) (x2 : S512x128.Idx → Elt Ideal .bf16) (x3 : S1x1.Idx → Elt Ideal .f32) (x4 : S1x128.Idx → Elt Ideal .f32) (x5 : S1x4.Idx → Elt Ideal .f32)

/-- The inputs' staging buffers at their blocks, and the body's shares of the two tables. -/
def Ins : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (arg8.view.loc (c : Thread nD τ) ↦[arg8.view.set]{fullShare} arg8.view.rep x3)
    ∗ (arg9.view.loc (c : Thread nD τ) ↦[arg9.view.set]{fullShare} arg9.view.rep x4)
    ∗ (arg10.view.loc (c : Thread nD τ) ↦[arg10.view.set]{fullShare} arg10.view.rep x5)
    ∗ (qTab.view.loc (c : Thread nD τ) ↦{fullShare.right} T0) ∗ (kTab.view.loc (c : Thread nD τ) ↦{fullShare.right} T1))

/-- The three scratches at given contents. -/
def Scr (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) : sProp 𝕄 :=
  iprop((mScr.view.loc (c : Thread nD τ) ↦{fullShare} xa0) ∗ (lScr.view.loc (c : Thread nD τ) ↦{fullShare} xa1) ∗ (aScr.view.loc (c : Thread nD τ) ↦{fullShare} xa2))

/-- The body on these buffers. -/
abbrev body : Prog (TpuEff nD τ sig (Elt Ideal) Λ₀ .tc) PUnit :=
  cc0_attn i qTab (Memref.isWhole_whole _) kTab (Memref.isWhole_whole _) arg5 harg5 arg6 harg6 arg7 harg7 arg8 harg8 arg9 harg9 arg10 harg10 arg11 harg11 mScr (Memref.isWhole_whole _) lScr (Memref.isWhole_whole _) aScr (Memref.isWhole_whole _)

/-- The body's run at a postcondition. -/
abbrev runs (K : PUnit → sProp 𝕄) : sProp 𝕄 :=
  wp frame (wpE (defs₀ (F := Ideal)) Variants.none c none) Set.univ (body i arg5 harg5 arg6 harg6 arg7 harg7 arg8 harg8 arg9 harg9 arg10 harg10 arg11 harg11) K

/-- One buffer of the output's window, through which its contents are stated. -/
abbrev VO : View sig .tc .vmem S512x128 .bf16 := (Memref.whole cc0_stg6_0 : Memref sig .tc .vmem S512x128 .bf16).view

set_option backward.proofsInPublic true in
set_option maxHeartbeats 8000000 in
/-- A row of one block: opened and closed. -/
def runA (hc0 : Opens i T1) (k0_h2 : Closes i T0 T1) :
    Σ' (o : List (View.Piece (Elt Ideal) S512x128 .bf16)) (o0 : Buf (Elt Ideal) ((c : Thread nD τ).loc cc0_scratch0)) (o1 : Buf (Elt Ideal) ((c : Thread nD τ).loc cc0_scratch1)), { o2 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop(Ins c arg5 arg6 arg7 arg8 arg9 arg10 T0 T1 x0 x1 x2 x3 x4 x5
          ∗ (∃ d, owns (c : Thread nD τ) arg11 fullShare d)
          ∗ Scr c xa0 xa1 xa2
          ∗ (iprop(Ins c arg5 arg6 arg7 arg8 arg9 arg10 T0 T1 x0 x1 x2 x3 x4 x5
              ∗ (∃ f, arg11.view.loc (c : Thread nD τ) ↦[arg11.view.set]{fullShare} arg11.view.writes (Elt Ideal) f o)
              ∗ Scr c o0 o1 o2) -∗ K ⟨⟩))
          ⊢ runs c i arg5 harg5 arg6 harg6 arg7 harg7 arg8 harg8 arg9 harg9 arg10 harg10 arg11 harg11 K } :=
  ⟨_, _, _, _, fun xa0 xa1 xa2 K => by
    unfold owns Ins Scr runs body
    rw [cc0_attn_eq_skeleton]; unfold cc0_attn_skel
    iintro ⟨⟨H0, H1, H2, H3, H4, H5, HT0, HT1⟩, ⟨%d6, %f6, -, HO6⟩, ⟨HS0, HS1, HS2⟩, Hk⟩
    have hS0 : mScr.IsWhole := Memref.isWhole_whole _
    have hS1 : lScr.IsWhole := Memref.isWhole_whole _
    have hS2 : aScr.IsWhole := Memref.isWhole_whole _
    have hT0 : qTab.IsWhole := Memref.isWhole_whole _
    have hT1 : kTab.IsWhole := Memref.isWhole_whole _
    sl_exec! (disch := first | (guard_target = Scalar.cmpi = _; exact hc0) | (guard_target = k0_cond2 _ _ = _; exact k0_h2))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; iexact HO6
    isplitl [HS0]; · iexact HS0
    isplitl [HS1]; · iexact HS1
    iexact HS2⟩

/-- The stores into the output's buffer in `runA` cover its block. -/
theorem coverA (hc0 : Opens i T1) (k0_h2 : Closes i T0 T1) (y : S512x128.Idx) :
    ∃ pc ∈ (runA c i arg5 harg5 arg6 harg6 arg7 harg7 arg8 harg8 arg9 harg9 arg10 harg10 arg11 harg11 T0 T1 x0 x1 x2 x3 x4 x5 hc0 k0_h2).1, y ∈ pc.1.set :=
  View.cover_of_tiledL (runA c i arg5 harg5 arg6 harg6 arg7 harg7 arg8 harg8 arg9 harg9 arg10 harg10 arg11 harg11 T0 T1 x0 x1 x2 x3 x4 x5 hc0 k0_h2).1 S512x128.size (by sl_kernel_rfl) y

/-- The block `runA` leaves in the output's buffer. -/
def outA (hc0 : Opens i T1) (k0_h2 : Closes i T0 T1) : S512x128.Idx → Elt Ideal .bf16 :=
  VO.read (Elt Ideal) (VO.writes (Elt Ideal) VO.junk (runA c i arg5 harg5 arg6 harg6 arg7 harg7 arg8 harg8 arg9 harg9 arg10 harg10 arg11 harg11 T0 T1 x0 x1 x2 x3 x4 x5 hc0 k0_h2).1)

set_option backward.proofsInPublic true in
set_option maxHeartbeats 8000000 in
/-- A row opened, not closed. -/
def runB (hc0 : Opens i T1) (k0_h2 : ¬ Closes i T0 T1) :
    Σ' (o0 : Buf (Elt Ideal) ((c : Thread nD τ).loc cc0_scratch0)) (o1 : Buf (Elt Ideal) ((c : Thread nD τ).loc cc0_scratch1)), { o2 : Buf (Elt Ideal) ((c : Thread nD τ).loc cc0_scratch2) //
      ∀ (y6 : S512x128.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop(Ins c arg5 arg6 arg7 arg8 arg9 arg10 T0 T1 x0 x1 x2 x3 x4 x5
          ∗ owns (c : Thread nD τ) arg11 fullShare y6
          ∗ Scr c xa0 xa1 xa2
          ∗ (iprop(Ins c arg5 arg6 arg7 arg8 arg9 arg10 T0 T1 x0 x1 x2 x3 x4 x5
              ∗ owns (c : Thread nD τ) arg11 fullShare y6
              ∗ Scr c o0 o1 o2) -∗ K ⟨⟩))
          ⊢ runs c i arg5 harg5 arg6 harg6 arg7 harg7 arg8 harg8 arg9 harg9 arg10 harg10 arg11 harg11 K } :=
  ⟨_, _, _, fun y6 xa0 xa1 xa2 K => by
    unfold owns Ins Scr runs body
    rw [cc0_attn_eq_skeleton]; unfold cc0_attn_skel
    iintro ⟨⟨H0, H1, H2, H3, H4, H5, HT0, HT1⟩, ⟨%f6, %hf6, HO6⟩, ⟨HS0, HS1, HS2⟩, Hk⟩
    obtain rfl := harg11.eq_unread hf6
    have hS0 : mScr.IsWhole := Memref.isWhole_whole _
    have hS1 : lScr.IsWhole := Memref.isWhole_whole _
    have hS2 : aScr.IsWhole := Memref.isWhole_whole _
    have hT0 : qTab.IsWhole := Memref.isWhole_whole _
    have hT1 : kTab.IsWhole := Memref.isWhole_whole _
    sl_exec! (disch := first | (guard_target = Scalar.cmpi = _; exact hc0) | (guard_target = ¬(k0_cond2 _ _ = _); exact k0_h2))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; isplitr; swap
      · iexact HO6
      ipureintro; exact harg11.read_unread _
    isplitl [HS0]; · iexact HS0
    isplitl [HS1]; · iexact HS1
    iexact HS2⟩

set_option backward.proofsInPublic true in
set_option maxHeartbeats 8000000 in
/-- A row closed, not opened here. -/
def runC (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬ Opens i T1) (k0_h2 : Closes i T0 T1) :
    Σ' (o : List (View.Piece (Elt Ideal) S512x128 .bf16)) (o0 : Buf (Elt Ideal) ((c : Thread nD τ).loc cc0_scratch0)) (o1 : Buf (Elt Ideal) ((c : Thread nD τ).loc cc0_scratch1)), { o2 : Buf (Elt Ideal) ((c : Thread nD τ).loc cc0_scratch2) //
      ∀ (K : PUnit → sProp 𝕄),
        iprop(Ins c arg5 arg6 arg7 arg8 arg9 arg10 T0 T1 x0 x1 x2 x3 x4 x5
          ∗ (∃ d, owns (c : Thread nD τ) arg11 fullShare d)
          ∗ Scr c xa0 xa1 xa2
          ∗ (iprop(Ins c arg5 arg6 arg7 arg8 arg9 arg10 T0 T1 x0 x1 x2 x3 x4 x5
              ∗ (∃ f, arg11.view.loc (c : Thread nD τ) ↦[arg11.view.set]{fullShare} arg11.view.writes (Elt Ideal) f o)
              ∗ Scr c o0 o1 o2) -∗ K ⟨⟩))
          ⊢ runs c i arg5 harg5 arg6 harg6 arg7 harg7 arg8 harg8 arg9 harg9 arg10 harg10 arg11 harg11 K } :=
  ⟨_, _, _, _, fun K => by
    unfold owns Ins Scr runs body
    rw [cc0_attn_eq_skeleton]; unfold cc0_attn_skel
    iintro ⟨⟨H0, H1, H2, H3, H4, H5, HT0, HT1⟩, ⟨%d6, %f6, -, HO6⟩, ⟨HS0, HS1, HS2⟩, Hk⟩
    have hS0 : mScr.IsWhole := Memref.isWhole_whole _
    have hS1 : lScr.IsWhole := Memref.isWhole_whole _
    have hS2 : aScr.IsWhole := Memref.isWhole_whole _
    have hT0 : qTab.IsWhole := Memref.isWhole_whole _
    have hT1 : kTab.IsWhole := Memref.isWhole_whole _
    sl_exec! (disch := first | (guard_target = ¬(Scalar.cmpi = _); exact hc0) | (guard_target = k0_cond2 _ _ = _; exact k0_h2))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; iexact HO6
    isplitl [HS0]; · iexact HS0
    isplitl [HS1]; · iexact HS1
    iexact HS2⟩

/-- The stores into the output's buffer in `runC` cover its block. -/
theorem coverC (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬ Opens i T1) (k0_h2 : Closes i T0 T1) (y : S512x128.Idx) :
    ∃ pc ∈ (runC c i arg5 harg5 arg6 harg6 arg7 harg7 arg8 harg8 arg9 harg9 arg10 harg10 arg11 harg11 T0 T1 x0 x1 x2 x3 x4 x5 xa0 xa1 xa2 hc0 k0_h2).1, y ∈ pc.1.set :=
  View.cover_of_tiledL (runC c i arg5 harg5 arg6 harg6 arg7 harg7 arg8 harg8 arg9 harg9 arg10 harg10 arg11 harg11 T0 T1 x0 x1 x2 x3 x4 x5 xa0 xa1 xa2 hc0 k0_h2).1 S512x128.size (by sl_kernel_rfl) y

/-- The block `runC` leaves in the output's buffer. -/
def outC (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬ Opens i T1) (k0_h2 : Closes i T0 T1) : S512x128.Idx → Elt Ideal .bf16 :=
  VO.read (Elt Ideal) (VO.writes (Elt Ideal) VO.junk (runC c i arg5 harg5 arg6 harg6 arg7 harg7 arg8 harg8 arg9 harg9 arg10 harg10 arg11 harg11 T0 T1 x0 x1 x2 x3 x4 x5 xa0 xa1 xa2 hc0 k0_h2).1)

set_option backward.proofsInPublic true in
set_option maxHeartbeats 8000000 in
/-- A block inside a row. -/
def runD (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬ Opens i T1) (k0_h2 : ¬ Closes i T0 T1) :
    Σ' (o0 : Buf (Elt Ideal) ((c : Thread nD τ).loc cc0_scratch0)) (o1 : Buf (Elt Ideal) ((c : Thread nD τ).loc cc0_scratch1)), { o2 : Buf (Elt Ideal) ((c : Thread nD τ).loc cc0_scratch2) //
      ∀ (y6 : S512x128.Idx → Elt Ideal .bf16) (K : PUnit → sProp 𝕄),
        iprop(Ins c arg5 arg6 arg7 arg8 arg9 arg10 T0 T1 x0 x1 x2 x3 x4 x5
          ∗ owns (c : Thread nD τ) arg11 fullShare y6
          ∗ Scr c xa0 xa1 xa2
          ∗ (iprop(Ins c arg5 arg6 arg7 arg8 arg9 arg10 T0 T1 x0 x1 x2 x3 x4 x5
              ∗ owns (c : Thread nD τ) arg11 fullShare y6
              ∗ Scr c o0 o1 o2) -∗ K ⟨⟩))
          ⊢ runs c i arg5 harg5 arg6 harg6 arg7 harg7 arg8 harg8 arg9 harg9 arg10 harg10 arg11 harg11 K } :=
  ⟨_, _, _, fun y6 K => by
    unfold owns Ins Scr runs body
    rw [cc0_attn_eq_skeleton]; unfold cc0_attn_skel
    iintro ⟨⟨H0, H1, H2, H3, H4, H5, HT0, HT1⟩, ⟨%f6, %hf6, HO6⟩, ⟨HS0, HS1, HS2⟩, Hk⟩
    obtain rfl := harg11.eq_unread hf6
    have hS0 : mScr.IsWhole := Memref.isWhole_whole _
    have hS1 : lScr.IsWhole := Memref.isWhole_whole _
    have hS2 : aScr.IsWhole := Memref.isWhole_whole _
    have hT0 : qTab.IsWhole := Memref.isWhole_whole _
    have hT1 : kTab.IsWhole := Memref.isWhole_whole _
    sl_exec! (disch := first | (guard_target = ¬(Scalar.cmpi = _); exact hc0) | (guard_target = ¬(k0_cond2 _ _ = _); exact k0_h2))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; isplitr; swap
      · iexact HO6
      ipureintro; exact harg11.read_unread _
    isplitl [HS0]; · iexact HS0
    isplitl [HS1]; · iexact HS1
    iexact HS2⟩

end Cert.KernelIdeal.Attn

end
-- ==== Proof.Att.Flash.lean ====
module

public import proofs.«01_k».proof.Proof.Att.Runs
public import Idealize.ShloMosaic.Lib.Pipeline.Frame
public import Idealize.ShloMosaic.Lib.Claim

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the machine the assertions speak of. -/
local notation "𝕄" => MT nD τ sig Unit (Elt Ideal) ℕ (UR sig nD τ) ℕ

/-! # The call's run

Before point `t` the three scratches hold what the runs below `t` left (nothing is known before the first); the staged inputs hold
their blocks. From this the library's launch theorem gives the run of the program: its arrays end at what the write-backs leave, every
other buffer at what it held when the call began. -/

/-- The embedding of the launch's own resources. -/
abbrev EP : Emb (UR sig nD τ) 𝕄 := emb₁

variable (V : (c : Dev nD) → (b : Ref sig .tc) → Buf (Elt Ideal) ((c.tc : Thread nD τ).loc b))

abbrev ms0 (t : Fin cfg.N) : Memref sig .tc .vmem S512x128 .f32 := spec0_0.stage (cfg.slots t (0 : Fin 7))
abbrev hs0 (t : Fin cfg.N) : (ms0 t).IsWhole := hstage0_0 ((cfg.slots t (0 : Fin 7)).cast nbuf0_0)
abbrev ms1 (t : Fin cfg.N) : Memref sig .tc .vmem S512x128 .bf16 := spec0_1.stage (cfg.slots t (1 : Fin 7))
abbrev hs1 (t : Fin cfg.N) : (ms1 t).IsWhole := hstage0_1 ((cfg.slots t (1 : Fin 7)).cast nbuf0_1)
abbrev ms2 (t : Fin cfg.N) : Memref sig .tc .vmem S512x128 .bf16 := spec0_2.stage (cfg.slots t (2 : Fin 7))
abbrev hs2 (t : Fin cfg.N) : (ms2 t).IsWhole := hstage0_2 ((cfg.slots t (2 : Fin 7)).cast nbuf0_2)
abbrev ms3 (t : Fin cfg.N) : Memref sig .tc .vmem S1x1 .f32 := spec0_3.stage (cfg.slots t (3 : Fin 7))
abbrev hs3 (t : Fin cfg.N) : (ms3 t).IsWhole := hstage0_3 ((cfg.slots t (3 : Fin 7)).cast nbuf0_3)
abbrev ms4 (t : Fin cfg.N) : Memref sig .tc .vmem S1x128 .f32 := spec0_4.stage (cfg.slots t (4 : Fin 7))
abbrev hs4 (t : Fin cfg.N) : (ms4 t).IsWhole := hstage0_4 ((cfg.slots t (4 : Fin 7)).cast nbuf0_4)
abbrev ms5 (t : Fin cfg.N) : Memref sig .tc .smem S1x4 .f32 := spec0_5.stage (cfg.slots t (5 : Fin 7))
abbrev hs5 (t : Fin cfg.N) : (ms5 t).IsWhole := hstage0_5 ((cfg.slots t (5 : Fin 7)).cast nbuf0_5)
abbrev ms6 (t : Fin cfg.N) : Memref sig .tc .vmem S512x128 .bf16 := spec0_6.stage (cfg.slots t (6 : Fin 7))
abbrev hs6 (t : Fin cfg.N) : (ms6 t).IsWhole := hstage0_6 ((cfg.slots t (6 : Fin 7)).cast nbuf0_6)

/-- Window `w`'s block at point `t`, read off its array as it is when the call begins. -/
def iblk (c : Dev nD) (w : Fin cfg.W) (t : Fin cfg.N) : ((cfg.win w).xblock (crd t)).Idx → Elt Ideal (cfg.win w).elt :=
  ((cfg.win w).blk t).view.read (Elt Ideal) (V c (Pipeline.arrRef cfg.spec w))

/-- The contents of the three scratches on core `c`. -/
abbrev St (c : Dev nD) : Type :=
  Buf (Elt Ideal) ((c : Thread nD τ).loc cc0_scratch0) × Buf (Elt Ideal) ((c : Thread nD τ).loc cc0_scratch1) × Buf (Elt Ideal) ((c : Thread nD τ).loc cc0_scratch2)

/-- The run at a point opening and closing a row. -/
abbrev atA (c : Dev nD) (t : Fin cfg.N) (q0 : Opens (crd t) Tk) (q1 : Closes (crd t) Tq Tk) :=
  runA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) q0 q1

/-- The run at a point opening and not closing a row. -/
abbrev atB (c : Dev nD) (t : Fin cfg.N) (q0 : Opens (crd t) Tk) (q1 : ¬ Closes (crd t) Tq Tk) :=
  runB c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) q0 q1

/-- The run at a point not opening and closing a row. -/
abbrev atC (c : Dev nD) (t : Fin cfg.N) (p : St c) (q0 : ¬ Opens (crd t) Tk) (q1 : Closes (crd t) Tq Tk) :=
  runC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 q0 q1

/-- The run at a point not opening and not closing a row. -/
abbrev atD (c : Dev nD) (t : Fin cfg.N) (p : St c) (q0 : ¬ Opens (crd t) Tk) (q1 : ¬ Closes (crd t) Tq Tk) :=
  runD c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 q0 q1

/-- What the body leaves in the scratches at point `t`, from what they held. -/
def step (c : Dev nD) (t : Fin cfg.N) (p : St c) : St c :=
  if q0 : Opens (crd t) Tk then
    if q1 : Closes (crd t) Tq Tk then ((atA V c t q0 q1).2.1, (atA V c t q0 q1).2.2.1, (atA V c t q0 q1).2.2.2.1)
    else ((atB V c t q0 q1).1, (atB V c t q0 q1).2.1, (atB V c t q0 q1).2.2.1)
  else
    if q1 : Closes (crd t) Tq Tk then ((atC V c t p q0 q1).2.1, (atC V c t p q0 q1).2.2.1, (atC V c t p q0 q1).2.2.2.1)
    else ((atD V c t p q0 q1).1, (atD V c t p q0 q1).2.1, (atD V c t p q0 q1).2.2.1)

/-- What the body leaves in the output's block at a point closing a row (anything elsewhere). -/
def outAt (c : Dev nD) (t : Fin cfg.N) (p : St c) : S512x128.Idx → Elt Ideal .bf16 :=
  if q1 : Closes (crd t) Tq Tk then
    if q0 : Opens (crd t) Tk then outA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) q0 q1
    else outC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 q0 q1
  else default

/-- What the scratches hold before point `n`. -/
def st (c : Dev nD) : ℕ → St c
  | 0 => (default, default, default)
  | n + 1 => if h : n < cfg.N then step V c ⟨n, h⟩ (st c n) else st c n

theorem st_succ (c : Dev nD) (t : Fin cfg.N) : st V c (t.val + 1) = step V c t (st V c t.val) := by
  rw [st]; exact dif_pos t.isLt

/-- The assertion before point `t`: the scratches, the body's shares of the tables, the generator's register. -/
def Phi (c : Dev nD) (t : Fin (cfg.N + 1)) : sProp 𝕄 :=
  iprop((∃ a0 a1 a2, ⌜t.val ≠ 0 → a0 = (st V c t.val).1 ∧ a1 = (st V c t.val).2.1 ∧ a2 = (st V c t.val).2.2⌝ ∗ Scr c a0 a1 a2)
    ∗ ((qTab.view.loc (c : Thread nD τ) ↦{fullShare.right} Tq) ∗ (kTab.view.loc (c : Thread nD τ) ↦{fullShare.right} Tk))
    ∗ ∃ r, prngReg c r)

/-- The proof data of the call on core `c`. -/
def dats (_ : Fin 1) (c : Dev nD) : Dat τ (Elt Ideal) Unit ℕ (UR sig nD τ) ℕ cfg c where
  A w := V c (Pipeline.arrRef cfg.spec w)
  after w t := match w with
    | ⟨0, _⟩ => iblk V c (0 : Fin 7) t
    | ⟨1, _⟩ => iblk V c (1 : Fin 7) t
    | ⟨2, _⟩ => iblk V c (2 : Fin 7) t
    | ⟨3, _⟩ => iblk V c (3 : Fin 7) t
    | ⟨4, _⟩ => iblk V c (4 : Fin 7) t
    | ⟨5, _⟩ => iblk V c (5 : Fin 7) t
    | ⟨6, _⟩ => outAt V c t (st V c t.val)
  Φ t := Phi V c t
  q _ := fullShare
  owed _ := 0

theorem after_0 (c : Dev nD) (t : Fin cfg.N) : (dats V 0 c).after (0 : Fin 7) t = iblk V c (0 : Fin 7) t := rfl
theorem after_1 (c : Dev nD) (t : Fin cfg.N) : (dats V 0 c).after (1 : Fin 7) t = iblk V c (1 : Fin 7) t := rfl
theorem after_2 (c : Dev nD) (t : Fin cfg.N) : (dats V 0 c).after (2 : Fin 7) t = iblk V c (2 : Fin 7) t := rfl
theorem after_3 (c : Dev nD) (t : Fin cfg.N) : (dats V 0 c).after (3 : Fin 7) t = iblk V c (3 : Fin 7) t := rfl
theorem after_4 (c : Dev nD) (t : Fin cfg.N) : (dats V 0 c).after (4 : Fin 7) t = iblk V c (4 : Fin 7) t := rfl
theorem after_5 (c : Dev nD) (t : Fin cfg.N) : (dats V 0 c).after (5 : Fin 7) t = iblk V c (5 : Fin 7) t := rfl
theorem after_6 (c : Dev nD) (t : Fin cfg.N) : (dats V 0 c).after (6 : Fin 7) t = outAt V c t (st V c t.val) := rfl

/-- Input window 0's buffer holds its block when the body runs. -/
theorem before_0 (c : Dev nD) (t : Fin cfg.N) (d) : (dats V 0 c).before (0 : Fin 7) t d = iblk V c (0 : Fin 7) t :=
  ((dats V 0 c).before_in_eq_fetched (0 : Fin 7) rfl (fun _ => rfl) (fun _ _ _ => rfl) (fun t => by rw [after_0]; unfold Dat.blockOf iblk; rfl) t d).trans
    (by unfold Dat.fetched Dat.blockOf iblk; rfl)
/-- Input window 1's buffer holds its block when the body runs. -/
theorem before_1 (c : Dev nD) (t : Fin cfg.N) (d) : (dats V 0 c).before (1 : Fin 7) t d = iblk V c (1 : Fin 7) t :=
  ((dats V 0 c).before_in_eq_fetched (1 : Fin 7) rfl (fun _ => rfl) (fun _ _ _ => rfl) (fun t => by rw [after_1]; unfold Dat.blockOf iblk; rfl) t d).trans
    (by unfold Dat.fetched Dat.blockOf iblk; rfl)
/-- Input window 2's buffer holds its block when the body runs. -/
theorem before_2 (c : Dev nD) (t : Fin cfg.N) (d) : (dats V 0 c).before (2 : Fin 7) t d = iblk V c (2 : Fin 7) t :=
  ((dats V 0 c).before_in_eq_fetched (2 : Fin 7) rfl (fun _ => rfl) (fun _ _ _ => rfl) (fun t => by rw [after_2]; unfold Dat.blockOf iblk; rfl) t d).trans
    (by unfold Dat.fetched Dat.blockOf iblk; rfl)
/-- Input window 3's buffer holds its block when the body runs. -/
theorem before_3 (c : Dev nD) (t : Fin cfg.N) (d) : (dats V 0 c).before (3 : Fin 7) t d = iblk V c (3 : Fin 7) t :=
  ((dats V 0 c).before_in_eq_fetched (3 : Fin 7) rfl (fun _ => rfl) (fun _ _ _ => rfl) (fun t => by rw [after_3]; unfold Dat.blockOf iblk; rfl) t d).trans
    (by unfold Dat.fetched Dat.blockOf iblk; rfl)
/-- Input window 4's buffer holds its block when the body runs. -/
theorem before_4 (c : Dev nD) (t : Fin cfg.N) (d) : (dats V 0 c).before (4 : Fin 7) t d = iblk V c (4 : Fin 7) t :=
  ((dats V 0 c).before_in_eq_fetched (4 : Fin 7) rfl (fun _ => rfl) (fun _ _ _ => rfl) (fun t => by rw [after_4]; unfold Dat.blockOf iblk; rfl) t d).trans
    (by unfold Dat.fetched Dat.blockOf iblk; rfl)
/-- Input window 5's buffer holds its block when the body runs. -/
theorem before_5 (c : Dev nD) (t : Fin cfg.N) (d) : (dats V 0 c).before (5 : Fin 7) t d = iblk V c (5 : Fin 7) t :=
  ((dats V 0 c).before_in_eq_fetched (5 : Fin 7) rfl (fun _ => rfl) (fun _ _ _ => rfl) (fun t => by rw [after_5]; unfold Dat.blockOf iblk; rfl) t d).trans
    (by unfold Dat.fetched Dat.blockOf iblk; rfl)

set_option maxHeartbeats 4000000 in
/-- The body at point `t` turns the assertion before it into the one after it. -/
theorem sound_body (c : Dev nD) (t : Fin cfg.N) :
    iprop((dats V 0 c).Φ t.castSucc ∗ (dats V 0 c).owesAt () t.castSucc
        ∗ (∃ d, owns (c : Thread nD τ) (ms0 t) fullShare ((dats V 0 c).before (0 : Fin 7) t d))
        ∗ (∃ d, owns (c : Thread nD τ) (ms1 t) fullShare ((dats V 0 c).before (1 : Fin 7) t d))
        ∗ (∃ d, owns (c : Thread nD τ) (ms2 t) fullShare ((dats V 0 c).before (2 : Fin 7) t d))
        ∗ (∃ d, owns (c : Thread nD τ) (ms3 t) fullShare ((dats V 0 c).before (3 : Fin 7) t d))
        ∗ (∃ d, owns (c : Thread nD τ) (ms4 t) fullShare ((dats V 0 c).before (4 : Fin 7) t d))
        ∗ (∃ d, owns (c : Thread nD τ) (ms5 t) fullShare ((dats V 0 c).before (5 : Fin 7) t d))
        ∗ (∃ d, owns (c : Thread nD τ) (ms6 t) fullShare ((dats V 0 c).before (6 : Fin 7) t d)))
      ⊢ wp frame (wpE (defs₀ (F := Ideal)) Variants.none c none) Set.univ (body (crd t) (ms0 t) (hs0 t) (ms1 t) (hs1 t) (ms2 t) (hs2 t) (ms3 t) (hs3 t) (ms4 t) (hs4 t) (ms5 t) (hs5 t) (ms6 t) (hs6 t)) fun _ =>
          iprop((dats V 0 c).Φ t.succ ∗ (dats V 0 c).owesAt () t.succ
            ∗ bigSep Finset.univ fun w : Fin cfg.W =>
                match cfg.idle w (cfg.grid.coords t) with
                | true =>
                  match (cfg.win w).flush t with
                  | false => iprop(∃ d, owns (c : Thread nD τ) ((cfg.win w).stage (cfg.slots t w)) fullShare ((dats V 0 c).before w t d))
                  | true => owns (c : Thread nD τ) ((cfg.win w).stage (cfg.slots t w)) fullShare ((dats V 0 c).after w t)
                | false => owns (c : Thread nD τ) ((cfg.win w).stage (cfg.slots t w)) fullShare ((dats V 0 c).after w t)) := by
  obtain ⟨sf, sc, sn⟩ := sched t
  rw [bigSep_W0]
  have hst := st_succ V c t
  rewrite [show (dats V 0 c).Φ t.succ = Phi V c t.succ from rfl, show (dats V 0 c).Φ t.castSucc = Phi V c t.castSucc from rfl,
    show (dats V 0 c).owesAt () t.succ = (dats V 0 c).owesAt () t.castSucc from rfl]
  by_cases q0 : Opens (crd t) Tk
  · by_cases q1 : Closes (crd t) Tq Tk
    · obtain ⟨i6, f6⟩ := sc q1
      have hs : step V c t (st V c t.val) = ((atA V c t q0 q1).2.1, (atA V c t q0 q1).2.2.1, (atA V c t q0 q1).2.2.2.1) := by unfold step; simp only [dif_pos q0, dif_pos q1]
      have ho : outAt V c t (st V c t.val) = outA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) q0 q1 := by unfold outAt; simp only [dif_pos q0, dif_pos q1]
      rewrite [i6]
      simp only [before_0, before_1, before_2, before_3, before_4, before_5, after_0, after_1, after_2, after_3, after_4, after_5, f6]
      rewrite [after_6, ho]
      unfold Phi; simp only [Fin.val_castSucc, Fin.val_succ, hst, hs]
      iintro ⟨⟨⟨%a0, %a1, %a2, %ha, HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      iapply ((atA V c t q0 q1).2.2.2.2 a0 a1 a2 _)
      isplitl [H0 H1 H2 H3 H4 H5 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        iexact HT1
      isplitl [H6]; · iexists _; iexact H6
      isplitl [HS]; · iexact HS
      unfold Ins
      iintro ⟨⟨H0, H1, H2, H3, H4, H5, HT0, HT1⟩, ⟨%e6, H6⟩, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact View.read_writes_of_cover _ _ _ _ _ (coverA c _ _ _ _ _ _ _ _ _ _ _ _ _ _ _ _ _ _ _ _ _ _ _ _ _)
    · obtain ⟨i6, f6⟩ := sn q1
      have hs : step V c t (st V c t.val) = ((atB V c t q0 q1).1, (atB V c t q0 q1).2.1, (atB V c t q0 q1).2.2.1) := by unfold step; simp only [dif_pos q0, dif_neg q1]
      rewrite [i6]
      simp only [before_0, before_1, before_2, before_3, before_4, before_5, after_0, after_1, after_2, after_3, after_4, after_5, f6]
      unfold Phi; simp only [Fin.val_castSucc, Fin.val_succ, hst, hs]
      iintro ⟨⟨⟨%a0, %a1, %a2, %ha, HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      iapply ((atB V c t q0 q1).2.2.2 _ a0 a1 a2 _)
      isplitl [H0 H1 H2 H3 H4 H5 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        iexact HT1
      isplitl [H6]; · iexact H6
      isplitl [HS]; · iexact HS
      unfold Ins
      iintro ⟨⟨H0, H1, H2, H3, H4, H5, HT0, HT1⟩, H6, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; iexact H6
  · by_cases q1 : Closes (crd t) Tq Tk
    · obtain ⟨i6, f6⟩ := sc q1
      have hs : step V c t (st V c t.val) = ((atC V c t (st V c t.val) q0 q1).2.1, (atC V c t (st V c t.val) q0 q1).2.2.1, (atC V c t (st V c t.val) q0 q1).2.2.2.1) := by unfold step; simp only [dif_neg q0, dif_pos q1]
      have ho : outAt V c t (st V c t.val) = outC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) (st V c t.val).1 (st V c t.val).2.1 (st V c t.val).2.2 q0 q1 := by unfold outAt; simp only [dif_neg q0, dif_pos q1]
      rewrite [i6]
      simp only [before_0, before_1, before_2, before_3, before_4, before_5, after_0, after_1, after_2, after_3, after_4, after_5, f6]
      rewrite [after_6, ho]
      unfold Phi; simp only [Fin.val_castSucc, Fin.val_succ, hst, hs]
      have hne : t.val ≠ 0 := fun h => q0 (sf h)
      iintro ⟨⟨⟨%a0, %a1, %a2, %ha, HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      obtain ⟨rfl, rfl, rfl⟩ := ha hne
      iapply ((atC V c t (st V c t.val) q0 q1).2.2.2.2 _)
      isplitl [H0 H1 H2 H3 H4 H5 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        iexact HT1
      isplitl [H6]; · iexists _; iexact H6
      isplitl [HS]; · iexact HS
      unfold Ins
      iintro ⟨⟨H0, H1, H2, H3, H4, H5, HT0, HT1⟩, ⟨%e6, H6⟩, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact View.read_writes_of_cover _ _ _ _ _ (coverC c _ _ _ _ _ _ _ _ _ _ _ _ _ _ _ _ _ _ _ _ _ _ _ _ _ _ _ _)
    · obtain ⟨i6, f6⟩ := sn q1
      have hs : step V c t (st V c t.val) = ((atD V c t (st V c t.val) q0 q1).1, (atD V c t (st V c t.val) q0 q1).2.1, (atD V c t (st V c t.val) q0 q1).2.2.1) := by unfold step; simp only [dif_neg q0, dif_neg q1]
      rewrite [i6]
      simp only [before_0, before_1, before_2, before_3, before_4, before_5, after_0, after_1, after_2, after_3, after_4, after_5, f6]
      unfold Phi; simp only [Fin.val_castSucc, Fin.val_succ, hst, hs]
      have hne : t.val ≠ 0 := fun h => q0 (sf h)
      iintro ⟨⟨⟨%a0, %a1, %a2, %ha, HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      obtain ⟨rfl, rfl, rfl⟩ := ha hne
      iapply ((atD V c t (st V c t.val) q0 q1).2.2.2 _ _)
      isplitl [H0 H1 H2 H3 H4 H5 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        iexact HT1
      isplitl [H6]; · iexact H6
      isplitl [HS]; · iexact HS
      unfold Ins
      iintro ⟨⟨H0, H1, H2, H3, H4, H5, HT0, HT1⟩, H6, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; iexact H6

/-- The same as the library states it. -/
theorem body_obligation (c : Dev nD) : BodyObligation (dats V 0 c) (defs₀ (F := Ideal)) Variants.none () Set.univ := fun t => by
  rw [bigSep_W0]
  exact sound_body V c t

theorem share_eq (c : Dev nD) (w : Fin cfg.W) : (dats V 0 c).share w = fullShare := by unfold Dat.share; split <;> rfl

/-- The body's shares of the tables, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The assertion before the first point, from what the call finds. -/
theorem enter (c : Dev nD) :
    iprop((Pipeline.ΦA cfg.spec c : sProp 𝕄) ∗ (Pipeline.ΦT pre0 adm.1 c : sProp 𝕄)) ⊢ (dats V 0 c).Φ 0 := by
  rw [show (dats V 0 c).Φ 0 = Phi V c 0 from rfl]
  unfold Phi Scr Pipeline.ΦA Pipeline.ΦT
  rw [tables_eq, show (Pipeline.scopedRest (Ix := Unit) (Name := ℕ) (U := UR sig nD τ) (Lvl := ℕ) (Val := Elt Ideal) cfg.spec c : sProp 𝕄) = Pipeline.scopedRest spec0 c from rfl, scopedRest0_eq]
  iintro ⟨⟨⟨⟨%a0, HS0⟩, ⟨%a1, HS1⟩, ⟨%a2, HS2⟩⟩, Hp⟩, ⟨HT0, HT1⟩⟩
  isplitl [HS0 HS1 HS2]
  · iexists a0; iexists a1; iexists a2; isplitr
    · ipureintro; intro h; exact absurd rfl h
    isplitl [HS0]; · iexact HS0
    isplitl [HS1]; · iexact HS1
    iexact HS2
  isplitl [HT0 HT1]
  · isplitl [HT0]; · iexact HT0
    iexact HT1
  iexact Hp

/-- The assertion after the last point gives the scratches back. -/
theorem leave (c : Dev nD) : (dats V 0 c).Φ (Fin.last cfg.N) ⊢ (Pipeline.ΦA cfg.spec c : sProp 𝕄) := by
  rw [show (dats V 0 c).Φ (Fin.last cfg.N) = Phi V c (Fin.last _) from rfl]
  unfold Phi Scr Pipeline.ΦA
  rw [show (Pipeline.scopedRest (Ix := Unit) (Name := ℕ) (U := UR sig nD τ) (Lvl := ℕ) (Val := Elt Ideal) cfg.spec c : sProp 𝕄) = Pipeline.scopedRest spec0 c from rfl, scopedRest0_eq]
  iintro ⟨⟨%a0, %a1, %a2, -, HS0, HS1, HS2⟩, -, Hp⟩
  isplitl [HS0 HS1 HS2]
  · isplitl [HS0]; · iexists a0; iexact HS0
    isplitl [HS1]; · iexists a1; iexact HS1
    iexists a2; iexact HS2
  iexact Hp

variable (m : (ℓ : Loc nD τ sig) → Buf (Elt Ideal) ℓ) (ρ : Dev nD → PrngReg)

/-- The buffers when the call begins: what the host's operations leave. -/
abbrev V0 (c : Dev nD) (b : Ref sig .tc) : Buf (Elt Ideal) ((c.tc : Thread nD τ).loc b) :=
  StableHlo.after (hostOps0 (F := Ideal)) (fun b => m (c, b)) b

/-- The tables hold the pairs when the call begins. -/
theorem tables_at (c : Dev nD) : ∀ k, V0 m c (pre0.ref k) = adm.1 k := by
  intro k
  fin_cases k
  · show StableHlo.after (hostOps0 (F := Ideal)) (fun b => m (c, b)) main_c = Tq
    entry_read
    rfl
  · show StableHlo.after (hostOps0 (F := Ideal)) (fun b => m (c, b)) main_c_0 = Tk
    entry_read
    rfl

set_option backward.isDefEq.respectTransparency.types false in
set_option maxHeartbeats 4000000 in
/-- THE RUN: from any memory with all counters zero the program terminates, nothing faulting; at the end the call's arrays hold what
    the write-backs leave, every other buffer what it held when the call began, and every counter is zero. -/
theorem run_main : θ_run (defs (F := Ideal)) (onTc (τ := τ) (main (F := Ideal))) (s₀ m ρ)
    (fun r => Pipeline.FramePost cfgs (dats (V0 m)) 0 (V0 m) r ∧ r.2.sem = fun _ => 0) :=
  Pipeline.θ_run_frameP_track (pcfgs (F := Ideal)) (fun _ => adm) (dats (V0 m)) 0 (launch0 (F := Ideal)) defs₀ Variants.none m ρ main
    (hbody := fun c => (body_obligation (V0 m) c).loose) (hshare := fun c w => share_eq (V0 m) c w) (howed := fun _ _ => rfl)
    (V := V0 m)
    (hmain := Pipeline.hmainP_prefix (pcfgs (F := Ideal)) 0 defs₀ Variants.none m main hostOps0 hostOps0_sub (by simp [List.Forall]; decide) main_chain)
    (hA := fun _ _ => rfl) (hpf := fun c k => tables_at m c k)
    (hin := fun c => enter (V0 m) c) (hout := fun c => leave (V0 m) c)
    (Q' := fun r => Pipeline.FramePost cfgs (dats (V0 m)) 0 (V0 m) r ∧ r.2.sem = fun _ => 0) (hQ' := fun _ h => h)

theorem arg_at (c : Dev nD) : V0 m c main_arg0 = m ((c.tc : Thread nD τ).loc main_arg0) := by
  show StableHlo.after (hostOps0 (F := Ideal)) (fun b => m (c, b)) main_arg0 = _
  entry_read
  rfl

/-- The arguments end unchanged. -/
theorem rest_arg (r : PUnit × MemSt nD τ sig (Elt Ideal)) (h : Pipeline.FramePost cfgs (dats (V0 m)) 0 (V0 m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) := by
  refine ⟨((h c).1 (0 : Fin 7)).trans (((dats (V0 m) 0 c).arrAt_in (0 : Fin 7) rfl _).trans (arg_at m c)), ?_, ?_, ?_, ?_, ?_, ?_, ?_⟩
  · refine ((h c).2 main_arg1 (by decide)).trans ?_
    show StableHlo.after (hostOps0 (F := Ideal)) (fun b => m (c, b)) main_arg1 = _
    entry_read
    rfl
  · refine ((h c).2 main_arg2 (by decide)).trans ?_
    show StableHlo.after (hostOps0 (F := Ideal)) (fun b => m (c, b)) main_arg2 = _
    entry_read
    rfl
  · refine ((h c).2 main_arg3 (by decide)).trans ?_
    show StableHlo.after (hostOps0 (F := Ideal)) (fun b => m (c, b)) main_arg3 = _
    entry_read
    rfl
  · refine ((h c).2 main_arg4 (by decide)).trans ?_
    show StableHlo.after (hostOps0 (F := Ideal)) (fun b => m (c, b)) main_arg4 = _
    entry_read
    rfl
  · refine ((h c).2 main_arg5 (by decide)).trans ?_
    show StableHlo.after (hostOps0 (F := Ideal)) (fun b => m (c, b)) main_arg5 = _
    entry_read
    rfl
  · refine ((h c).2 main_arg6 (by decide)).trans ?_
    show StableHlo.after (hostOps0 (F := Ideal)) (fun b => m (c, b)) main_arg6 = _
    entry_read
    rfl
  · refine ((h c).2 main_arg7 (by decide)).trans ?_
    show StableHlo.after (hostOps0 (F := Ideal)) (fun b => m (c, b)) main_arg7 = _
    entry_read
    rfl

end Cert.KernelIdeal.Attn

end
-- ==== Proof.AttB.Tables.lean ====
module

public import proofs.«01_k».proof.Proof.Gen.Kernel
public import proofs.«01_k».proof.Proof.Gen.Kernel.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # The two tables of block pairs, and where the body stands at a point

The call runs over (batch, head, pair); the pair's two words are read off two tables: the number of the block of queries and
the number of the block of keys. -/

/-- The table of query blocks as the body reads it. -/
abbrev qTab : Memref sig .tc .smem S136 .i32 := Memref.whole main_c
/-- The table of key blocks as the body reads it. -/
abbrev kTab : Memref sig .tc .smem S136 .i32 := Memref.whole main_c_0
/-- The scratch of running maxima. -/
abbrev mScr : Memref sig .tc .vmem S2x512x1 .f32 := Memref.whole cc0_scratch0
/-- The scratch of running denominators. -/
abbrev lScr : Memref sig .tc .vmem S2x512x1 .f32 := Memref.whole cc0_scratch1
/-- The scratch of running numerators. -/
abbrev aScr : Memref sig .tc .vmem S2x512x128 .f32 := Memref.whole cc0_scratch2

/-- The contents of the table of query blocks. -/
def Tq : S136.Idx → BitVec 32 := fun i => lit0 (S136.rowMajor i)
/-- The contents of the table of key blocks. -/
def Tk : S136.Idx → BitVec 32 := fun i => lit1 (S136.rowMajor i)

/-- The query block's number at coordinates `i`, read off contents `T` of its table. -/
abbrev qWord (i : grid0.Coords) (T : S136.Idx → BitVec 32) : BitVec 32 :=
  View.readAt (Elt Bits) qTab.view (Rect.unit (s := S136) (k0_off1 i) S1.size (k0_off1_inb i)).toLoadRect T (Shape.Idx.first (numel1_S1.symm ▸ Nat.one_pos))
/-- The key block's number at coordinates `i`, read off contents `T` of its table. -/
abbrev kWord (i : grid0.Coords) (T : S136.Idx → BitVec 32) : BitVec 32 :=
  View.readAt (Elt Bits) kTab.view (Rect.unit (s := S136) (k0_off1 i) S1.size (k0_off1_inb i)).toLoadRect T (Shape.Idx.first (numel1_S1.symm ▸ Nat.one_pos))

/-- The body begins a row of blocks: the key block is the first. -/
abbrev Opens (i : grid0.Coords) (T1 : S136.Idx → BitVec 32) : Prop :=
  Scalar.cmpi .ne (Scalar.extui (Scalar.cmpi .eq (kWord i T1) 0#32)) 0#32 = 1#1
/-- The body closes a row of blocks: the key block is the query block. -/
abbrev Closes (i : grid0.Coords) (T0 T1 : S136.Idx → BitVec 32) : Prop := k0_cond2 (qWord i T0) (kWord i T1) = 1#1

set_option backward.proofsInPublic true in
/-- The tables' contents, as the call takes them. -/
def pf : pre0.Contents (Elt Bits) := fun | ⟨0, _⟩ => Tq | ⟨1, _⟩ => Tk | ⟨_ + 2, h⟩ => absurd h (by simp)

theorem inb_0 : ∀ i : grid0.Coords, ∀ a, (cc0_transform_0 k0_off1_inb numel1_S1 pf i a + 1) * S512x128.size a ≤ S32768x512.size a := by decide +kernel
theorem inb_1 : ∀ i : grid0.Coords, ∀ a, (cc0_transform_1 k0_off1_inb numel1_S1 pf i a + 1) * S512x128.size a ≤ S32768x512.size a := by decide +kernel
theorem inb_2 : ∀ i : grid0.Coords, ∀ a, (cc0_transform_2 k0_off1_inb numel1_S1 pf i a + 1) * S512x128.size a ≤ S32768x512.size a := by decide +kernel
theorem inb_6 : ∀ i : grid0.Coords, ∀ a, (cc0_transform_6 k0_off1_inb numel1_S1 pf i a + 1) * S512x128.size a ≤ S32768x512.size a := by decide +kernel

/-- At these tables every block of every window lies inside its array, on whole words. -/
theorem ok_pf : ok0 (F := Bits) pf :=
  ⟨fun i => ⟨inb_0 i, .inl rfl⟩,
   fun i => ⟨inb_1 i, .inr (Affine.block_words_dvd (s := S32768x512) (p := EltTy.packing .bf16) (by decide) (by decide))⟩,
   fun i => ⟨inb_2 i, .inr (Affine.block_words_dvd (s := S32768x512) (p := EltTy.packing .bf16) (by decide) (by decide))⟩,
   fun i => ⟨inb_6 i, .inr (Affine.block_words_dvd (s := S32768x512) (p := EltTy.packing .bf16) (by decide) (by decide))⟩⟩

/-- The tables, admissible; the call at them. -/
def adm : (pcfg0 (F := Bits)).Adm := ⟨pf, ok_pf⟩
abbrev cfg : Pipeline.Cfg sig Λ₀ := cfg0 (F := Bits) adm
abbrev cfgs : Fin 1 → Pipeline.Cfg sig Λ₀ := Pipeline.pin (pcfgs (F := Bits)) fun _ => adm

/-- Point `t`'s coordinates. -/
abbrev crd (t : Fin cfg.N) : cfg.grid.Coords := cfg.grid.coords t

/-- What is decided of the call's schedule at a point: the first point opens a row; the output's window is stored into, and
    written back, exactly where a row closes. -/
abbrev Sched (t : Fin cfg.N) : Prop :=
  (t.val = 0 → Opens (crd t) Tk)
  ∧ (Closes (crd t) Tq Tk → cfg.idle (6 : Fin 7) (cfg.grid.coords t) = false ∧ (cfg.win (6 : Fin 7)).flush t = true)
  ∧ (¬ Closes (crd t) Tq Tk → cfg.idle (6 : Fin 7) (cfg.grid.coords t) = true ∧ (cfg.win (6 : Fin 7)).flush t = false)

theorem sched_0 : ∀ t : Fin cfg.N, 0 ≤ t.val → t.val < 272 → Sched t := by decide +kernel
theorem sched_1 : ∀ t : Fin cfg.N, 272 ≤ t.val → t.val < 544 → Sched t := by decide +kernel
theorem sched_2 : ∀ t : Fin cfg.N, 544 ≤ t.val → t.val < 816 → Sched t := by decide +kernel
theorem sched_3 : ∀ t : Fin cfg.N, 816 ≤ t.val → t.val < 1088 → Sched t := by decide +kernel
theorem sched_4 : ∀ t : Fin cfg.N, 1088 ≤ t.val → t.val < 1360 → Sched t := by decide +kernel
theorem sched_5 : ∀ t : Fin cfg.N, 1360 ≤ t.val → t.val < 1632 → Sched t := by decide +kernel
theorem sched_6 : ∀ t : Fin cfg.N, 1632 ≤ t.val → t.val < 1904 → Sched t := by decide +kernel
theorem sched_7 : ∀ t : Fin cfg.N, 1904 ≤ t.val → t.val < 2176 → Sched t := by decide +kernel

/-- The schedule at every point. -/
theorem sched : ∀ t : Fin cfg.N, Sched t := fun t => by
  have h0 : 0 ≤ t.val := Nat.zero_le _
  rcases Nat.lt_or_ge t.val 272 with h1 | h1; · exact sched_0 t h0 h1
  rcases Nat.lt_or_ge t.val 544 with h2 | h2; · exact sched_1 t h1 h2
  rcases Nat.lt_or_ge t.val 816 with h3 | h3; · exact sched_2 t h2 h3
  rcases Nat.lt_or_ge t.val 1088 with h4 | h4; · exact sched_3 t h3 h4
  rcases Nat.lt_or_ge t.val 1360 with h5 | h5; · exact sched_4 t h4 h5
  rcases Nat.lt_or_ge t.val 1632 with h6 | h6; · exact sched_5 t h5 h6
  rcases Nat.lt_or_ge t.val 1904 with h7 | h7; · exact sched_6 t h6 h7
  exact sched_7 t h7 t.isLt

end Cert.Kernel.Attn

end
-- ==== Proof.AttB.Runs.lean ====
module

public import proofs.«01_k».proof.Proof.Gen.Kernel.Skeleton
public import proofs.«01_k».proof.Proof.AttB.Tables

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the machine the assertions speak of. -/
local notation "𝕄" => MT nD τ sig Unit (Elt Bits) ℕ (UR sig nD τ) ℕ

/-! # The body, run once

On whole staging buffers holding the blocks of queries, keys, values and the small inputs, and on the three scratches, the body
runs to its end; the four theorems, one per way its two conditions fall, find what it leaves. -/

variable (c : Dev nD) (i : grid0.Coords)
  (arg5 : Memref sig .tc .vmem S512x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1 .f32) (harg8 : arg8.IsWhole) (arg9 : Memref sig .tc .vmem S1x128 .f32) (harg9 : arg9.IsWhole) (arg10 : Memref sig .tc .smem S1x4 .f32) (harg10 : arg10.IsWhole) (arg11 : Memref sig .tc .vmem S512x128 .bf16) (harg11 : arg11.IsWhole)
  (T0 T1 : S136.Idx → BitVec 32)
  (x0 : S512x128.Idx → Elt Bits .f32) (x1 : S512x128.Idx → Elt Bits .bf16) (x2 : S512x128.Idx → Elt Bits .bf16) (x3 : S1x1.Idx → Elt Bits .f32) (x4 : S1x128.Idx → Elt Bits .f32) (x5 : S1x4.Idx → Elt Bits .f32)

/-- The inputs' staging buffers at their blocks, and the body's shares of the two tables. -/
def Ins : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (arg8.view.loc (c : Thread nD τ) ↦[arg8.view.set]{fullShare} arg8.view.rep x3)
    ∗ (arg9.view.loc (c : Thread nD τ) ↦[arg9.view.set]{fullShare} arg9.view.rep x4)
    ∗ (arg10.view.loc (c : Thread nD τ) ↦[arg10.view.set]{fullShare} arg10.view.rep x5)
    ∗ (qTab.view.loc (c : Thread nD τ) ↦{fullShare.right} T0) ∗ (kTab.view.loc (c : Thread nD τ) ↦{fullShare.right} T1))

/-- The three scratches at given contents. -/
def Scr (xa0 : Buf (Elt Bits) ((c : Thread nD τ).loc cc0_scratch0)) (xa1 : Buf (Elt Bits) ((c : Thread nD τ).loc cc0_scratch1)) (xa2 : Buf (Elt Bits) ((c : Thread nD τ).loc cc0_scratch2)) : sProp 𝕄 :=
  iprop((mScr.view.loc (c : Thread nD τ) ↦{fullShare} xa0) ∗ (lScr.view.loc (c : Thread nD τ) ↦{fullShare} xa1) ∗ (aScr.view.loc (c : Thread nD τ) ↦{fullShare} xa2))

/-- The body on these buffers. -/
abbrev body : Prog (TpuEff nD τ sig (Elt Bits) Λ₀ .tc) PUnit :=
  cc0_attn i qTab (Memref.isWhole_whole _) kTab (Memref.isWhole_whole _) arg5 harg5 arg6 harg6 arg7 harg7 arg8 harg8 arg9 harg9 arg10 harg10 arg11 harg11 mScr (Memref.isWhole_whole _) lScr (Memref.isWhole_whole _) aScr (Memref.isWhole_whole _)

/-- The body's run at a postcondition. -/
abbrev runs (K : PUnit → sProp 𝕄) : sProp 𝕄 :=
  wp frame (wpE (defs₀ (F := Bits)) Variants.none c none) Set.univ (body i arg5 harg5 arg6 harg6 arg7 harg7 arg8 harg8 arg9 harg9 arg10 harg10 arg11 harg11) K

/-- One buffer of the output's window, through which its contents are stated. -/
abbrev VO : View sig .tc .vmem S512x128 .bf16 := (Memref.whole cc0_stg6_0 : Memref sig .tc .vmem S512x128 .bf16).view

set_option backward.proofsInPublic true in
set_option maxHeartbeats 8000000 in
/-- A row of one block: opened and closed. -/
def runA (hc0 : Opens i T1) (k0_h2 : Closes i T0 T1) :
    Σ' (o : List (View.Piece (Elt Bits) S512x128 .bf16)) (o0 : Buf (Elt Bits) ((c : Thread nD τ).loc cc0_scratch0)) (o1 : Buf (Elt Bits) ((c : Thread nD τ).loc cc0_scratch1)), { o2 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop(Ins c arg5 arg6 arg7 arg8 arg9 arg10 T0 T1 x0 x1 x2 x3 x4 x5
          ∗ (∃ d, owns (c : Thread nD τ) arg11 fullShare d)
          ∗ Scr c xa0 xa1 xa2
          ∗ (iprop(Ins c arg5 arg6 arg7 arg8 arg9 arg10 T0 T1 x0 x1 x2 x3 x4 x5
              ∗ (∃ f, arg11.view.loc (c : Thread nD τ) ↦[arg11.view.set]{fullShare} arg11.view.writes (Elt Bits) f o)
              ∗ Scr c o0 o1 o2) -∗ K ⟨⟩))
          ⊢ runs c i arg5 harg5 arg6 harg6 arg7 harg7 arg8 harg8 arg9 harg9 arg10 harg10 arg11 harg11 K } :=
  ⟨_, _, _, _, fun xa0 xa1 xa2 K => by
    unfold owns Ins Scr runs body
    rw [cc0_attn_eq_skeleton]; unfold cc0_attn_skel
    iintro ⟨⟨H0, H1, H2, H3, H4, H5, HT0, HT1⟩, ⟨%d6, %f6, -, HO6⟩, ⟨HS0, HS1, HS2⟩, Hk⟩
    have hS0 : mScr.IsWhole := Memref.isWhole_whole _
    have hS1 : lScr.IsWhole := Memref.isWhole_whole _
    have hS2 : aScr.IsWhole := Memref.isWhole_whole _
    have hT0 : qTab.IsWhole := Memref.isWhole_whole _
    have hT1 : kTab.IsWhole := Memref.isWhole_whole _
    sl_exec! (disch := first | (guard_target = Scalar.cmpi = _; exact hc0) | (guard_target = k0_cond2 _ _ = _; exact k0_h2))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; iexact HO6
    isplitl [HS0]; · iexact HS0
    isplitl [HS1]; · iexact HS1
    iexact HS2⟩

/-- The stores into the output's buffer in `runA` cover its block. -/
theorem coverA (hc0 : Opens i T1) (k0_h2 : Closes i T0 T1) (y : S512x128.Idx) :
    ∃ pc ∈ (runA c i arg5 harg5 arg6 harg6 arg7 harg7 arg8 harg8 arg9 harg9 arg10 harg10 arg11 harg11 T0 T1 x0 x1 x2 x3 x4 x5 hc0 k0_h2).1, y ∈ pc.1.set :=
  View.cover_of_tiledL (runA c i arg5 harg5 arg6 harg6 arg7 harg7 arg8 harg8 arg9 harg9 arg10 harg10 arg11 harg11 T0 T1 x0 x1 x2 x3 x4 x5 hc0 k0_h2).1 S512x128.size (by sl_kernel_rfl) y

/-- The block `runA` leaves in the output's buffer. -/
def outA (hc0 : Opens i T1) (k0_h2 : Closes i T0 T1) : S512x128.Idx → Elt Bits .bf16 :=
  VO.read (Elt Bits) (VO.writes (Elt Bits) VO.junk (runA c i arg5 harg5 arg6 harg6 arg7 harg7 arg8 harg8 arg9 harg9 arg10 harg10 arg11 harg11 T0 T1 x0 x1 x2 x3 x4 x5 hc0 k0_h2).1)

set_option backward.proofsInPublic true in
set_option maxHeartbeats 8000000 in
/-- A row opened, not closed. -/
def runB (hc0 : Opens i T1) (k0_h2 : ¬ Closes i T0 T1) :
    Σ' (o0 : Buf (Elt Bits) ((c : Thread nD τ).loc cc0_scratch0)) (o1 : Buf (Elt Bits) ((c : Thread nD τ).loc cc0_scratch1)), { o2 : Buf (Elt Bits) ((c : Thread nD τ).loc cc0_scratch2) //
      ∀ (y6 : S512x128.Idx → Elt Bits .bf16) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop(Ins c arg5 arg6 arg7 arg8 arg9 arg10 T0 T1 x0 x1 x2 x3 x4 x5
          ∗ owns (c : Thread nD τ) arg11 fullShare y6
          ∗ Scr c xa0 xa1 xa2
          ∗ (iprop(Ins c arg5 arg6 arg7 arg8 arg9 arg10 T0 T1 x0 x1 x2 x3 x4 x5
              ∗ owns (c : Thread nD τ) arg11 fullShare y6
              ∗ Scr c o0 o1 o2) -∗ K ⟨⟩))
          ⊢ runs c i arg5 harg5 arg6 harg6 arg7 harg7 arg8 harg8 arg9 harg9 arg10 harg10 arg11 harg11 K } :=
  ⟨_, _, _, fun y6 xa0 xa1 xa2 K => by
    unfold owns Ins Scr runs body
    rw [cc0_attn_eq_skeleton]; unfold cc0_attn_skel
    iintro ⟨⟨H0, H1, H2, H3, H4, H5, HT0, HT1⟩, ⟨%f6, %hf6, HO6⟩, ⟨HS0, HS1, HS2⟩, Hk⟩
    obtain rfl := harg11.eq_unread hf6
    have hS0 : mScr.IsWhole := Memref.isWhole_whole _
    have hS1 : lScr.IsWhole := Memref.isWhole_whole _
    have hS2 : aScr.IsWhole := Memref.isWhole_whole _
    have hT0 : qTab.IsWhole := Memref.isWhole_whole _
    have hT1 : kTab.IsWhole := Memref.isWhole_whole _
    sl_exec! (disch := first | (guard_target = Scalar.cmpi = _; exact hc0) | (guard_target = ¬(k0_cond2 _ _ = _); exact k0_h2))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; isplitr; swap
      · iexact HO6
      ipureintro; exact harg11.read_unread _
    isplitl [HS0]; · iexact HS0
    isplitl [HS1]; · iexact HS1
    iexact HS2⟩

set_option backward.proofsInPublic true in
set_option maxHeartbeats 8000000 in
/-- A row closed, not opened here. -/
def runC (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬ Opens i T1) (k0_h2 : Closes i T0 T1) :
    Σ' (o : List (View.Piece (Elt Bits) S512x128 .bf16)) (o0 : Buf (Elt Bits) ((c : Thread nD τ).loc cc0_scratch0)) (o1 : Buf (Elt Bits) ((c : Thread nD τ).loc cc0_scratch1)), { o2 : Buf (Elt Bits) ((c : Thread nD τ).loc cc0_scratch2) //
      ∀ (K : PUnit → sProp 𝕄),
        iprop(Ins c arg5 arg6 arg7 arg8 arg9 arg10 T0 T1 x0 x1 x2 x3 x4 x5
          ∗ (∃ d, owns (c : Thread nD τ) arg11 fullShare d)
          ∗ Scr c xa0 xa1 xa2
          ∗ (iprop(Ins c arg5 arg6 arg7 arg8 arg9 arg10 T0 T1 x0 x1 x2 x3 x4 x5
              ∗ (∃ f, arg11.view.loc (c : Thread nD τ) ↦[arg11.view.set]{fullShare} arg11.view.writes (Elt Bits) f o)
              ∗ Scr c o0 o1 o2) -∗ K ⟨⟩))
          ⊢ runs c i arg5 harg5 arg6 harg6 arg7 harg7 arg8 harg8 arg9 harg9 arg10 harg10 arg11 harg11 K } :=
  ⟨_, _, _, _, fun K => by
    unfold owns Ins Scr runs body
    rw [cc0_attn_eq_skeleton]; unfold cc0_attn_skel
    iintro ⟨⟨H0, H1, H2, H3, H4, H5, HT0, HT1⟩, ⟨%d6, %f6, -, HO6⟩, ⟨HS0, HS1, HS2⟩, Hk⟩
    have hS0 : mScr.IsWhole := Memref.isWhole_whole _
    have hS1 : lScr.IsWhole := Memref.isWhole_whole _
    have hS2 : aScr.IsWhole := Memref.isWhole_whole _
    have hT0 : qTab.IsWhole := Memref.isWhole_whole _
    have hT1 : kTab.IsWhole := Memref.isWhole_whole _
    sl_exec! (disch := first | (guard_target = ¬(Scalar.cmpi = _); exact hc0) | (guard_target = k0_cond2 _ _ = _; exact k0_h2))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; iexact HO6
    isplitl [HS0]; · iexact HS0
    isplitl [HS1]; · iexact HS1
    iexact HS2⟩

/-- The stores into the output's buffer in `runC` cover its block. -/
theorem coverC (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬ Opens i T1) (k0_h2 : Closes i T0 T1) (y : S512x128.Idx) :
    ∃ pc ∈ (runC c i arg5 harg5 arg6 harg6 arg7 harg7 arg8 harg8 arg9 harg9 arg10 harg10 arg11 harg11 T0 T1 x0 x1 x2 x3 x4 x5 xa0 xa1 xa2 hc0 k0_h2).1, y ∈ pc.1.set :=
  View.cover_of_tiledL (runC c i arg5 harg5 arg6 harg6 arg7 harg7 arg8 harg8 arg9 harg9 arg10 harg10 arg11 harg11 T0 T1 x0 x1 x2 x3 x4 x5 xa0 xa1 xa2 hc0 k0_h2).1 S512x128.size (by sl_kernel_rfl) y

/-- The block `runC` leaves in the output's buffer. -/
def outC (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬ Opens i T1) (k0_h2 : Closes i T0 T1) : S512x128.Idx → Elt Bits .bf16 :=
  VO.read (Elt Bits) (VO.writes (Elt Bits) VO.junk (runC c i arg5 harg5 arg6 harg6 arg7 harg7 arg8 harg8 arg9 harg9 arg10 harg10 arg11 harg11 T0 T1 x0 x1 x2 x3 x4 x5 xa0 xa1 xa2 hc0 k0_h2).1)

set_option backward.proofsInPublic true in
set_option maxHeartbeats 8000000 in
/-- A block inside a row. -/
def runD (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬ Opens i T1) (k0_h2 : ¬ Closes i T0 T1) :
    Σ' (o0 : Buf (Elt Bits) ((c : Thread nD τ).loc cc0_scratch0)) (o1 : Buf (Elt Bits) ((c : Thread nD τ).loc cc0_scratch1)), { o2 : Buf (Elt Bits) ((c : Thread nD τ).loc cc0_scratch2) //
      ∀ (y6 : S512x128.Idx → Elt Bits .bf16) (K : PUnit → sProp 𝕄),
        iprop(Ins c arg5 arg6 arg7 arg8 arg9 arg10 T0 T1 x0 x1 x2 x3 x4 x5
          ∗ owns (c : Thread nD τ) arg11 fullShare y6
          ∗ Scr c xa0 xa1 xa2
          ∗ (iprop(Ins c arg5 arg6 arg7 arg8 arg9 arg10 T0 T1 x0 x1 x2 x3 x4 x5
              ∗ owns (c : Thread nD τ) arg11 fullShare y6
              ∗ Scr c o0 o1 o2) -∗ K ⟨⟩))
          ⊢ runs c i arg5 harg5 arg6 harg6 arg7 harg7 arg8 harg8 arg9 harg9 arg10 harg10 arg11 harg11 K } :=
  ⟨_, _, _, fun y6 K => by
    unfold owns Ins Scr runs body
    rw [cc0_attn_eq_skeleton]; unfold cc0_attn_skel
    iintro ⟨⟨H0, H1, H2, H3, H4, H5, HT0, HT1⟩, ⟨%f6, %hf6, HO6⟩, ⟨HS0, HS1, HS2⟩, Hk⟩
    obtain rfl := harg11.eq_unread hf6
    have hS0 : mScr.IsWhole := Memref.isWhole_whole _
    have hS1 : lScr.IsWhole := Memref.isWhole_whole _
    have hS2 : aScr.IsWhole := Memref.isWhole_whole _
    have hT0 : qTab.IsWhole := Memref.isWhole_whole _
    have hT1 : kTab.IsWhole := Memref.isWhole_whole _
    sl_exec! (disch := first | (guard_target = ¬(Scalar.cmpi = _); exact hc0) | (guard_target = ¬(k0_cond2 _ _ = _); exact k0_h2))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO6]
    · iexists _; isplitr; swap
      · iexact HO6
      ipureintro; exact harg11.read_unread _
    isplitl [HS0]; · iexact HS0
    isplitl [HS1]; · iexact HS1
    iexact HS2⟩

end Cert.Kernel.Attn

end
-- ==== Proof.AttB.Flash.lean ====
module

public import proofs.«01_k».proof.Proof.AttB.Runs
public import Idealize.ShloMosaic.Lib.Pipeline.Frame
public import Idealize.ShloMosaic.Lib.Claim

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the machine the assertions speak of. -/
local notation "𝕄" => MT nD τ sig Unit (Elt Bits) ℕ (UR sig nD τ) ℕ

/-! # The call's run

Before point `t` the three scratches hold what the runs below `t` left (nothing is known before the first); the staged inputs hold
their blocks. From this the library's launch theorem gives the run of the program: its arrays end at what the write-backs leave, every
other buffer at what it held when the call began. -/

/-- The embedding of the launch's own resources. -/
abbrev EP : Emb (UR sig nD τ) 𝕄 := emb₁

variable (V : (c : Dev nD) → (b : Ref sig .tc) → Buf (Elt Bits) ((c.tc : Thread nD τ).loc b))

abbrev ms0 (t : Fin cfg.N) : Memref sig .tc .vmem S512x128 .f32 := spec0_0.stage (cfg.slots t (0 : Fin 7))
abbrev hs0 (t : Fin cfg.N) : (ms0 t).IsWhole := hstage0_0 ((cfg.slots t (0 : Fin 7)).cast nbuf0_0)
abbrev ms1 (t : Fin cfg.N) : Memref sig .tc .vmem S512x128 .bf16 := spec0_1.stage (cfg.slots t (1 : Fin 7))
abbrev hs1 (t : Fin cfg.N) : (ms1 t).IsWhole := hstage0_1 ((cfg.slots t (1 : Fin 7)).cast nbuf0_1)
abbrev ms2 (t : Fin cfg.N) : Memref sig .tc .vmem S512x128 .bf16 := spec0_2.stage (cfg.slots t (2 : Fin 7))
abbrev hs2 (t : Fin cfg.N) : (ms2 t).IsWhole := hstage0_2 ((cfg.slots t (2 : Fin 7)).cast nbuf0_2)
abbrev ms3 (t : Fin cfg.N) : Memref sig .tc .vmem S1x1 .f32 := spec0_3.stage (cfg.slots t (3 : Fin 7))
abbrev hs3 (t : Fin cfg.N) : (ms3 t).IsWhole := hstage0_3 ((cfg.slots t (3 : Fin 7)).cast nbuf0_3)
abbrev ms4 (t : Fin cfg.N) : Memref sig .tc .vmem S1x128 .f32 := spec0_4.stage (cfg.slots t (4 : Fin 7))
abbrev hs4 (t : Fin cfg.N) : (ms4 t).IsWhole := hstage0_4 ((cfg.slots t (4 : Fin 7)).cast nbuf0_4)
abbrev ms5 (t : Fin cfg.N) : Memref sig .tc .smem S1x4 .f32 := spec0_5.stage (cfg.slots t (5 : Fin 7))
abbrev hs5 (t : Fin cfg.N) : (ms5 t).IsWhole := hstage0_5 ((cfg.slots t (5 : Fin 7)).cast nbuf0_5)
abbrev ms6 (t : Fin cfg.N) : Memref sig .tc .vmem S512x128 .bf16 := spec0_6.stage (cfg.slots t (6 : Fin 7))
abbrev hs6 (t : Fin cfg.N) : (ms6 t).IsWhole := hstage0_6 ((cfg.slots t (6 : Fin 7)).cast nbuf0_6)

/-- Window `w`'s block at point `t`, read off its array as it is when the call begins. -/
def iblk (c : Dev nD) (w : Fin cfg.W) (t : Fin cfg.N) : ((cfg.win w).xblock (crd t)).Idx → Elt Bits (cfg.win w).elt :=
  ((cfg.win w).blk t).view.read (Elt Bits) (V c (Pipeline.arrRef cfg.spec w))

/-- The contents of the three scratches on core `c`. -/
abbrev St (c : Dev nD) : Type :=
  Buf (Elt Bits) ((c : Thread nD τ).loc cc0_scratch0) × Buf (Elt Bits) ((c : Thread nD τ).loc cc0_scratch1) × Buf (Elt Bits) ((c : Thread nD τ).loc cc0_scratch2)

/-- The run at a point opening and closing a row. -/
abbrev atA (c : Dev nD) (t : Fin cfg.N) (q0 : Opens (crd t) Tk) (q1 : Closes (crd t) Tq Tk) :=
  runA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) q0 q1

/-- The run at a point opening and not closing a row. -/
abbrev atB (c : Dev nD) (t : Fin cfg.N) (q0 : Opens (crd t) Tk) (q1 : ¬ Closes (crd t) Tq Tk) :=
  runB c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) q0 q1

/-- The run at a point not opening and closing a row. -/
abbrev atC (c : Dev nD) (t : Fin cfg.N) (p : St c) (q0 : ¬ Opens (crd t) Tk) (q1 : Closes (crd t) Tq Tk) :=
  runC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 q0 q1

/-- The run at a point not opening and not closing a row. -/
abbrev atD (c : Dev nD) (t : Fin cfg.N) (p : St c) (q0 : ¬ Opens (crd t) Tk) (q1 : ¬ Closes (crd t) Tq Tk) :=
  runD c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 q0 q1

/-- What the body leaves in the scratches at point `t`, from what they held. -/
def step (c : Dev nD) (t : Fin cfg.N) (p : St c) : St c :=
  if q0 : Opens (crd t) Tk then
    if q1 : Closes (crd t) Tq Tk then ((atA V c t q0 q1).2.1, (atA V c t q0 q1).2.2.1, (atA V c t q0 q1).2.2.2.1)
    else ((atB V c t q0 q1).1, (atB V c t q0 q1).2.1, (atB V c t q0 q1).2.2.1)
  else
    if q1 : Closes (crd t) Tq Tk then ((atC V c t p q0 q1).2.1, (atC V c t p q0 q1).2.2.1, (atC V c t p q0 q1).2.2.2.1)
    else ((atD V c t p q0 q1).1, (atD V c t p q0 q1).2.1, (atD V c t p q0 q1).2.2.1)

/-- What the body leaves in the output's block at a point closing a row (anything elsewhere). -/
def outAt (c : Dev nD) (t : Fin cfg.N) (p : St c) : S512x128.Idx → Elt Bits .bf16 :=
  if q1 : Closes (crd t) Tq Tk then
    if q0 : Opens (crd t) Tk then outA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) q0 q1
    else outC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 q0 q1
  else default

/-- What the scratches hold before point `n`. -/
def st (c : Dev nD) : ℕ → St c
  | 0 => (default, default, default)
  | n + 1 => if h : n < cfg.N then step V c ⟨n, h⟩ (st c n) else st c n

theorem st_succ (c : Dev nD) (t : Fin cfg.N) : st V c (t.val + 1) = step V c t (st V c t.val) := by
  rw [st]; exact dif_pos t.isLt

/-- The assertion before point `t`: the scratches, the body's shares of the tables, the generator's register. -/
def Phi (c : Dev nD) (t : Fin (cfg.N + 1)) : sProp 𝕄 :=
  iprop((∃ a0 a1 a2, ⌜t.val ≠ 0 → a0 = (st V c t.val).1 ∧ a1 = (st V c t.val).2.1 ∧ a2 = (st V c t.val).2.2⌝ ∗ Scr c a0 a1 a2)
    ∗ ((qTab.view.loc (c : Thread nD τ) ↦{fullShare.right} Tq) ∗ (kTab.view.loc (c : Thread nD τ) ↦{fullShare.right} Tk))
    ∗ ∃ r, prngReg c r)

/-- The proof data of the call on core `c`. -/
def dats (_ : Fin 1) (c : Dev nD) : Dat τ (Elt Bits) Unit ℕ (UR sig nD τ) ℕ cfg c where
  A w := V c (Pipeline.arrRef cfg.spec w)
  after w t := match w with
    | ⟨0, _⟩ => iblk V c (0 : Fin 7) t
    | ⟨1, _⟩ => iblk V c (1 : Fin 7) t
    | ⟨2, _⟩ => iblk V c (2 : Fin 7) t
    | ⟨3, _⟩ => iblk V c (3 : Fin 7) t
    | ⟨4, _⟩ => iblk V c (4 : Fin 7) t
    | ⟨5, _⟩ => iblk V c (5 : Fin 7) t
    | ⟨6, _⟩ => outAt V c t (st V c t.val)
  Φ t := Phi V c t
  q _ := fullShare
  owed _ := 0

theorem after_0 (c : Dev nD) (t : Fin cfg.N) : (dats V 0 c).after (0 : Fin 7) t = iblk V c (0 : Fin 7) t := rfl
theorem after_1 (c : Dev nD) (t : Fin cfg.N) : (dats V 0 c).after (1 : Fin 7) t = iblk V c (1 : Fin 7) t := rfl
theorem after_2 (c : Dev nD) (t : Fin cfg.N) : (dats V 0 c).after (2 : Fin 7) t = iblk V c (2 : Fin 7) t := rfl
theorem after_3 (c : Dev nD) (t : Fin cfg.N) : (dats V 0 c).after (3 : Fin 7) t = iblk V c (3 : Fin 7) t := rfl
theorem after_4 (c : Dev nD) (t : Fin cfg.N) : (dats V 0 c).after (4 : Fin 7) t = iblk V c (4 : Fin 7) t := rfl
theorem after_5 (c : Dev nD) (t : Fin cfg.N) : (dats V 0 c).after (5 : Fin 7) t = iblk V c (5 : Fin 7) t := rfl
theorem after_6 (c : Dev nD) (t : Fin cfg.N) : (dats V 0 c).after (6 : Fin 7) t = outAt V c t (st V c t.val) := rfl

/-- Input window 0's buffer holds its block when the body runs. -/
theorem before_0 (c : Dev nD) (t : Fin cfg.N) (d) : (dats V 0 c).before (0 : Fin 7) t d = iblk V c (0 : Fin 7) t :=
  ((dats V 0 c).before_in_eq_fetched (0 : Fin 7) rfl (fun _ => rfl) (fun _ _ _ => rfl) (fun t => by rw [after_0]; unfold Dat.blockOf iblk; rfl) t d).trans
    (by unfold Dat.fetched Dat.blockOf iblk; rfl)
/-- Input window 1's buffer holds its block when the body runs. -/
theorem before_1 (c : Dev nD) (t : Fin cfg.N) (d) : (dats V 0 c).before (1 : Fin 7) t d = iblk V c (1 : Fin 7) t :=
  ((dats V 0 c).before_in_eq_fetched (1 : Fin 7) rfl (fun _ => rfl) (fun _ _ _ => rfl) (fun t => by rw [after_1]; unfold Dat.blockOf iblk; rfl) t d).trans
    (by unfold Dat.fetched Dat.blockOf iblk; rfl)
/-- Input window 2's buffer holds its block when the body runs. -/
theorem before_2 (c : Dev nD) (t : Fin cfg.N) (d) : (dats V 0 c).before (2 : Fin 7) t d = iblk V c (2 : Fin 7) t :=
  ((dats V 0 c).before_in_eq_fetched (2 : Fin 7) rfl (fun _ => rfl) (fun _ _ _ => rfl) (fun t => by rw [after_2]; unfold Dat.blockOf iblk; rfl) t d).trans
    (by unfold Dat.fetched Dat.blockOf iblk; rfl)
/-- Input window 3's buffer holds its block when the body runs. -/
theorem before_3 (c : Dev nD) (t : Fin cfg.N) (d) : (dats V 0 c).before (3 : Fin 7) t d = iblk V c (3 : Fin 7) t :=
  ((dats V 0 c).before_in_eq_fetched (3 : Fin 7) rfl (fun _ => rfl) (fun _ _ _ => rfl) (fun t => by rw [after_3]; unfold Dat.blockOf iblk; rfl) t d).trans
    (by unfold Dat.fetched Dat.blockOf iblk; rfl)
/-- Input window 4's buffer holds its block when the body runs. -/
theorem before_4 (c : Dev nD) (t : Fin cfg.N) (d) : (dats V 0 c).before (4 : Fin 7) t d = iblk V c (4 : Fin 7) t :=
  ((dats V 0 c).before_in_eq_fetched (4 : Fin 7) rfl (fun _ => rfl) (fun _ _ _ => rfl) (fun t => by rw [after_4]; unfold Dat.blockOf iblk; rfl) t d).trans
    (by unfold Dat.fetched Dat.blockOf iblk; rfl)
/-- Input window 5's buffer holds its block when the body runs. -/
theorem before_5 (c : Dev nD) (t : Fin cfg.N) (d) : (dats V 0 c).before (5 : Fin 7) t d = iblk V c (5 : Fin 7) t :=
  ((dats V 0 c).before_in_eq_fetched (5 : Fin 7) rfl (fun _ => rfl) (fun _ _ _ => rfl) (fun t => by rw [after_5]; unfold Dat.blockOf iblk; rfl) t d).trans
    (by unfold Dat.fetched Dat.blockOf iblk; rfl)

set_option maxHeartbeats 4000000 in
/-- The body at point `t` turns the assertion before it into the one after it. -/
theorem sound_body (c : Dev nD) (t : Fin cfg.N) :
    iprop((dats V 0 c).Φ t.castSucc ∗ (dats V 0 c).owesAt () t.castSucc
        ∗ (∃ d, owns (c : Thread nD τ) (ms0 t) fullShare ((dats V 0 c).before (0 : Fin 7) t d))
        ∗ (∃ d, owns (c : Thread nD τ) (ms1 t) fullShare ((dats V 0 c).before (1 : Fin 7) t d))
        ∗ (∃ d, owns (c : Thread nD τ) (ms2 t) fullShare ((dats V 0 c).before (2 : Fin 7) t d))
        ∗ (∃ d, owns (c : Thread nD τ) (ms3 t) fullShare ((dats V 0 c).before (3 : Fin 7) t d))
        ∗ (∃ d, owns (c : Thread nD τ) (ms4 t) fullShare ((dats V 0 c).before (4 : Fin 7) t d))
        ∗ (∃ d, owns (c : Thread nD τ) (ms5 t) fullShare ((dats V 0 c).before (5 : Fin 7) t d))
        ∗ (∃ d, owns (c : Thread nD τ) (ms6 t) fullShare ((dats V 0 c).before (6 : Fin 7) t d)))
      ⊢ wp frame (wpE (defs₀ (F := Bits)) Variants.none c none) Set.univ (body (crd t) (ms0 t) (hs0 t) (ms1 t) (hs1 t) (ms2 t) (hs2 t) (ms3 t) (hs3 t) (ms4 t) (hs4 t) (ms5 t) (hs5 t) (ms6 t) (hs6 t)) fun _ =>
          iprop((dats V 0 c).Φ t.succ ∗ (dats V 0 c).owesAt () t.succ
            ∗ bigSep Finset.univ fun w : Fin cfg.W =>
                match cfg.idle w (cfg.grid.coords t) with
                | true =>
                  match (cfg.win w).flush t with
                  | false => iprop(∃ d, owns (c : Thread nD τ) ((cfg.win w).stage (cfg.slots t w)) fullShare ((dats V 0 c).before w t d))
                  | true => owns (c : Thread nD τ) ((cfg.win w).stage (cfg.slots t w)) fullShare ((dats V 0 c).after w t)
                | false => owns (c : Thread nD τ) ((cfg.win w).stage (cfg.slots t w)) fullShare ((dats V 0 c).after w t)) := by
  obtain ⟨sf, sc, sn⟩ := sched t
  rw [bigSep_W0]
  have hst := st_succ V c t
  rewrite [show (dats V 0 c).Φ t.succ = Phi V c t.succ from rfl, show (dats V 0 c).Φ t.castSucc = Phi V c t.castSucc from rfl,
    show (dats V 0 c).owesAt () t.succ = (dats V 0 c).owesAt () t.castSucc from rfl]
  by_cases q0 : Opens (crd t) Tk
  · by_cases q1 : Closes (crd t) Tq Tk
    · obtain ⟨i6, f6⟩ := sc q1
      have hs : step V c t (st V c t.val) = ((atA V c t q0 q1).2.1, (atA V c t q0 q1).2.2.1, (atA V c t q0 q1).2.2.2.1) := by unfold step; simp only [dif_pos q0, dif_pos q1]
      have ho : outAt V c t (st V c t.val) = outA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) q0 q1 := by unfold outAt; simp only [dif_pos q0, dif_pos q1]
      rewrite [i6]
      simp only [before_0, before_1, before_2, before_3, before_4, before_5, after_0, after_1, after_2, after_3, after_4, after_5, f6]
      rewrite [after_6, ho]
      unfold Phi; simp only [Fin.val_castSucc, Fin.val_succ, hst, hs]
      iintro ⟨⟨⟨%a0, %a1, %a2, %ha, HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      iapply ((atA V c t q0 q1).2.2.2.2 a0 a1 a2 _)
      isplitl [H0 H1 H2 H3 H4 H5 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        iexact HT1
      isplitl [H6]; · iexists _; iexact H6
      isplitl [HS]; · iexact HS
      unfold Ins
      iintro ⟨⟨H0, H1, H2, H3, H4, H5, HT0, HT1⟩, ⟨%e6, H6⟩, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact View.read_writes_of_cover _ _ _ _ _ (coverA c _ _ _ _ _ _ _ _ _ _ _ _ _ _ _ _ _ _ _ _ _ _ _ _ _)
    · obtain ⟨i6, f6⟩ := sn q1
      have hs : step V c t (st V c t.val) = ((atB V c t q0 q1).1, (atB V c t q0 q1).2.1, (atB V c t q0 q1).2.2.1) := by unfold step; simp only [dif_pos q0, dif_neg q1]
      rewrite [i6]
      simp only [before_0, before_1, before_2, before_3, before_4, before_5, after_0, after_1, after_2, after_3, after_4, after_5, f6]
      unfold Phi; simp only [Fin.val_castSucc, Fin.val_succ, hst, hs]
      iintro ⟨⟨⟨%a0, %a1, %a2, %ha, HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      iapply ((atB V c t q0 q1).2.2.2 _ a0 a1 a2 _)
      isplitl [H0 H1 H2 H3 H4 H5 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        iexact HT1
      isplitl [H6]; · iexact H6
      isplitl [HS]; · iexact HS
      unfold Ins
      iintro ⟨⟨H0, H1, H2, H3, H4, H5, HT0, HT1⟩, H6, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; iexact H6
  · by_cases q1 : Closes (crd t) Tq Tk
    · obtain ⟨i6, f6⟩ := sc q1
      have hs : step V c t (st V c t.val) = ((atC V c t (st V c t.val) q0 q1).2.1, (atC V c t (st V c t.val) q0 q1).2.2.1, (atC V c t (st V c t.val) q0 q1).2.2.2.1) := by unfold step; simp only [dif_neg q0, dif_pos q1]
      have ho : outAt V c t (st V c t.val) = outC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) (st V c t.val).1 (st V c t.val).2.1 (st V c t.val).2.2 q0 q1 := by unfold outAt; simp only [dif_neg q0, dif_pos q1]
      rewrite [i6]
      simp only [before_0, before_1, before_2, before_3, before_4, before_5, after_0, after_1, after_2, after_3, after_4, after_5, f6]
      rewrite [after_6, ho]
      unfold Phi; simp only [Fin.val_castSucc, Fin.val_succ, hst, hs]
      have hne : t.val ≠ 0 := fun h => q0 (sf h)
      iintro ⟨⟨⟨%a0, %a1, %a2, %ha, HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      obtain ⟨rfl, rfl, rfl⟩ := ha hne
      iapply ((atC V c t (st V c t.val) q0 q1).2.2.2.2 _)
      isplitl [H0 H1 H2 H3 H4 H5 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        iexact HT1
      isplitl [H6]; · iexists _; iexact H6
      isplitl [HS]; · iexact HS
      unfold Ins
      iintro ⟨⟨H0, H1, H2, H3, H4, H5, HT0, HT1⟩, ⟨%e6, H6⟩, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; exact View.read_writes_of_cover _ _ _ _ _ (coverC c _ _ _ _ _ _ _ _ _ _ _ _ _ _ _ _ _ _ _ _ _ _ _ _ _ _ _ _)
    · obtain ⟨i6, f6⟩ := sn q1
      have hs : step V c t (st V c t.val) = ((atD V c t (st V c t.val) q0 q1).1, (atD V c t (st V c t.val) q0 q1).2.1, (atD V c t (st V c t.val) q0 q1).2.2.1) := by unfold step; simp only [dif_neg q0, dif_neg q1]
      rewrite [i6]
      simp only [before_0, before_1, before_2, before_3, before_4, before_5, after_0, after_1, after_2, after_3, after_4, after_5, f6]
      unfold Phi; simp only [Fin.val_castSucc, Fin.val_succ, hst, hs]
      have hne : t.val ≠ 0 := fun h => q0 (sf h)
      iintro ⟨⟨⟨%a0, %a1, %a2, %ha, HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      obtain ⟨rfl, rfl, rfl⟩ := ha hne
      iapply ((atD V c t (st V c t.val) q0 q1).2.2.2 _ _)
      isplitl [H0 H1 H2 H3 H4 H5 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        iexact HT1
      isplitl [H6]; · iexact H6
      isplitl [HS]; · iexact HS
      unfold Ins
      iintro ⟨⟨H0, H1, H2, H3, H4, H5, HT0, HT1⟩, H6, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; iexact H6

/-- The same as the library states it. -/
theorem body_obligation (c : Dev nD) : BodyObligation (dats V 0 c) (defs₀ (F := Bits)) Variants.none () Set.univ := fun t => by
  rw [bigSep_W0]
  exact sound_body V c t

theorem share_eq (c : Dev nD) (w : Fin cfg.W) : (dats V 0 c).share w = fullShare := by unfold Dat.share; split <;> rfl

/-- The body's shares of the tables, one by one. -/
theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The assertion before the first point, from what the call finds. -/
theorem enter (c : Dev nD) :
    iprop((Pipeline.ΦA cfg.spec c : sProp 𝕄) ∗ (Pipeline.ΦT pre0 adm.1 c : sProp 𝕄)) ⊢ (dats V 0 c).Φ 0 := by
  rw [show (dats V 0 c).Φ 0 = Phi V c 0 from rfl]
  unfold Phi Scr Pipeline.ΦA Pipeline.ΦT
  rw [tables_eq, show (Pipeline.scopedRest (Ix := Unit) (Name := ℕ) (U := UR sig nD τ) (Lvl := ℕ) (Val := Elt Bits) cfg.spec c : sProp 𝕄) = Pipeline.scopedRest spec0 c from rfl, scopedRest0_eq]
  iintro ⟨⟨⟨⟨%a0, HS0⟩, ⟨%a1, HS1⟩, ⟨%a2, HS2⟩⟩, Hp⟩, ⟨HT0, HT1⟩⟩
  isplitl [HS0 HS1 HS2]
  · iexists a0; iexists a1; iexists a2; isplitr
    · ipureintro; intro h; exact absurd rfl h
    isplitl [HS0]; · iexact HS0
    isplitl [HS1]; · iexact HS1
    iexact HS2
  isplitl [HT0 HT1]
  · isplitl [HT0]; · iexact HT0
    iexact HT1
  iexact Hp

/-- The assertion after the last point gives the scratches back. -/
theorem leave (c : Dev nD) : (dats V 0 c).Φ (Fin.last cfg.N) ⊢ (Pipeline.ΦA cfg.spec c : sProp 𝕄) := by
  rw [show (dats V 0 c).Φ (Fin.last cfg.N) = Phi V c (Fin.last _) from rfl]
  unfold Phi Scr Pipeline.ΦA
  rw [show (Pipeline.scopedRest (Ix := Unit) (Name := ℕ) (U := UR sig nD τ) (Lvl := ℕ) (Val := Elt Bits) cfg.spec c : sProp 𝕄) = Pipeline.scopedRest spec0 c from rfl, scopedRest0_eq]
  iintro ⟨⟨%a0, %a1, %a2, -, HS0, HS1, HS2⟩, -, Hp⟩
  isplitl [HS0 HS1 HS2]
  · isplitl [HS0]; · iexists a0; iexact HS0
    isplitl [HS1]; · iexists a1; iexact HS1
    iexists a2; iexact HS2
  iexact Hp

variable (m : (ℓ : Loc nD τ sig) → Buf (Elt Bits) ℓ) (ρ : Dev nD → PrngReg)

/-- The buffers when the call begins: what the host's operations leave. -/
abbrev V0 (c : Dev nD) (b : Ref sig .tc) : Buf (Elt Bits) ((c.tc : Thread nD τ).loc b) :=
  StableHlo.after (hostOps0 (F := Bits)) (fun b => m (c, b)) b

/-- The tables hold the pairs when the call begins. -/
theorem tables_at (c : Dev nD) : ∀ k, V0 m c (pre0.ref k) = adm.1 k := by
  intro k
  fin_cases k
  · show StableHlo.after (hostOps0 (F := Bits)) (fun b => m (c, b)) main_c = Tq
    entry_read
    rfl
  · show StableHlo.after (hostOps0 (F := Bits)) (fun b => m (c, b)) main_c_0 = Tk
    entry_read
    rfl

set_option backward.isDefEq.respectTransparency.types false in
set_option maxHeartbeats 4000000 in
/-- THE RUN: from any memory with all counters zero the program terminates, nothing faulting; at the end the call's arrays hold what
    the write-backs leave, every other buffer what it held when the call began, and every counter is zero. -/
theorem run_main : θ_run (defs (F := Bits)) (onTc (τ := τ) (main (F := Bits))) (s₀ m ρ)
    (fun r => Pipeline.FramePost cfgs (dats (V0 m)) 0 (V0 m) r ∧ r.2.sem = fun _ => 0) :=
  Pipeline.θ_run_frameP_track (pcfgs (F := Bits)) (fun _ => adm) (dats (V0 m)) 0 (launch0 (F := Bits)) defs₀ Variants.none m ρ main
    (hbody := fun c => (body_obligation (V0 m) c).loose) (hshare := fun c w => share_eq (V0 m) c w) (howed := fun _ _ => rfl)
    (V := V0 m)
    (hmain := Pipeline.hmainP_prefix (pcfgs (F := Bits)) 0 defs₀ Variants.none m main hostOps0 hostOps0_sub (by simp [List.Forall]; decide) main_chain)
    (hA := fun _ _ => rfl) (hpf := fun c k => tables_at m c k)
    (hin := fun c => enter (V0 m) c) (hout := fun c => leave (V0 m) c)
    (Q' := fun r => Pipeline.FramePost cfgs (dats (V0 m)) 0 (V0 m) r ∧ r.2.sem = fun _ => 0) (hQ' := fun _ h => h)

theorem arg_at (c : Dev nD) : V0 m c main_arg0 = m ((c.tc : Thread nD τ).loc main_arg0) := by
  show StableHlo.after (hostOps0 (F := Bits)) (fun b => m (c, b)) main_arg0 = _
  entry_read
  rfl

/-- The arguments end unchanged. -/
theorem rest_arg (r : PUnit × MemSt nD τ sig (Elt Bits)) (h : Pipeline.FramePost cfgs (dats (V0 m)) 0 (V0 m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) := by
  refine ⟨((h c).1 (0 : Fin 7)).trans (((dats (V0 m) 0 c).arrAt_in (0 : Fin 7) rfl _).trans (arg_at m c)), ?_, ?_, ?_, ?_, ?_, ?_, ?_⟩
  · refine ((h c).2 main_arg1 (by decide)).trans ?_
    show StableHlo.after (hostOps0 (F := Bits)) (fun b => m (c, b)) main_arg1 = _
    entry_read
    rfl
  · refine ((h c).2 main_arg2 (by decide)).trans ?_
    show StableHlo.after (hostOps0 (F := Bits)) (fun b => m (c, b)) main_arg2 = _
    entry_read
    rfl
  · refine ((h c).2 main_arg3 (by decide)).trans ?_
    show StableHlo.after (hostOps0 (F := Bits)) (fun b => m (c, b)) main_arg3 = _
    entry_read
    rfl
  · refine ((h c).2 main_arg4 (by decide)).trans ?_
    show StableHlo.after (hostOps0 (F := Bits)) (fun b => m (c, b)) main_arg4 = _
    entry_read
    rfl
  · refine ((h c).2 main_arg5 (by decide)).trans ?_
    show StableHlo.after (hostOps0 (F := Bits)) (fun b => m (c, b)) main_arg5 = _
    entry_read
    rfl
  · refine ((h c).2 main_arg6 (by decide)).trans ?_
    show StableHlo.after (hostOps0 (F := Bits)) (fun b => m (c, b)) main_arg6 = _
    entry_read
    rfl
  · refine ((h c).2 main_arg7 (by decide)).trans ?_
    show StableHlo.after (hostOps0 (F := Bits)) (fun b => m (c, b)) main_arg7 = _
    entry_read
    rfl

end Cert.Kernel.Attn

end
-- ==== Proof.Ref.Parts.lean ====
module
public import proofs.«01_k».proof.Proof.Gen.ReferenceIdeal.Run
public import Idealize.ShloMosaic.Lib.Pointwise
public import Idealize.ShloMosaic.PureOps.Ideal
@[expose] public section
noncomputable section
namespace Cert.ReferenceIdeal.Parts

open Cert.ReferenceIdeal Cert.ReferenceIdeal.Gen Idealize.ShloMosaic Idealize.ShloMosaic.TcCoe Idealize.SL.Sem Idealize.ShloMosaic.StableHlo

/-! # The reference, in named parts -/

/-- The heads' slopes. -/
def slopes : FVec Ideal S4 .f32 :=
  Host.powf (broadcastInDim S4 ![] bcast_S_S4 (constant S_ .f32 0x40000000#32))
    (Host.divf (mulf (broadcastInDim S4 ![] bcast_S_S4 (constant S_ .f32 0xC1000000#32))
      (addf (broadcastInDim S4 ![] bcast_S_S4 (constant S_ .f32 0x3F800000#32)) (sitofp .f32 (iotaInDim S4 32 0))))
      (broadcastInDim S4 ![] bcast_S_S4 (constant S_ .f32 0x40800000#32)))

/-- The weight of the second attention. -/
def lam (a3 a4 a5 a6 : FVec Ideal S64 .f32) : FVec Ideal S_ .f32 :=
  addf (subf (Host.exp (Host.reduceAdd (mulf a3 a4) (constant S_ .f32 0x00000000#32) reducesTo_S64_S_d0 h_S_))
    (Host.exp (Host.reduceAdd (mulf a5 a6) (constant S_ .f32 0x00000000#32) reducesTo_S64_S_d0 h_S_))) (constant S_ .f32 0x3E4CCCCD#32)

/-- How far each key is behind each query. -/
def dist : FVec Ideal S8192x8192 .f32 :=
  sitofp .f32 (subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0))))

/-- The heads' half queries (or half keys), heads first. -/
def halves (x : FVec Ideal S32768x512 .f32) : FVec Ideal S4x4x2x8192x64 .f32 :=
  transpose S4x4x2x8192x64 [0, 2, 3, 1, 4] (shapeCast S4x8192x4x2x64 x shapeCasts_S32768x512_S4x8192x4x2x64) transposes_S4x8192x4x2x64_S4x4x2x8192x64_0_2_3_1_4

/-- The heads' values, heads first. -/
def vals (x : FVec Ideal S32768x512 .f32) : FVec Ideal S4x4x8192x128 .f32 :=
  transpose S4x4x8192x128 [0, 2, 1, 3] (shapeCast S4x8192x4x128 x shapeCasts_S32768x512_S4x8192x4x128) transposes_S4x8192x4x128_S4x4x8192x128_0_2_1_3

/-- The masked scores. -/
def scores (q k : FVec Ideal S32768x512 .f32) : FVec Ideal S4x4x2x8192x8192 .f32 :=
  select (broadcastInDim S4x4x2x8192x8192 ![3, 4] bcast_S8192x8192_S4x4x2x8192x8192_3_4 (cmpf .oge dist (broadcastInDim S8192x8192 ![] bcast_S_S8192x8192 (constant S_ .f32 0x00000000#32))))
    (subf (mulf (Host.dotGeneral dot_S4x4x2x8192x64_S4x4x2x8192x64_S4x4x2x8192x8192_4_4_3_3_012_012 none (halves q) (halves k))
        (broadcastInDim S4x4x2x8192x8192 ![] bcast_S_S4x4x2x8192x8192 (constant S_ .f32 0x3E000000#32)))
      (broadcastInDim S4x4x2x8192x8192 ![0, 1, 2, 3, 4] bcast_S1x4x1x8192x8192_S4x4x2x8192x8192_0_1_2_3_4
        (mulf (broadcastInDim S1x4x1x8192x8192 ![0, 1, 2, 3, 4] bcast_S1x4x1x1x1_S1x4x1x8192x8192_0_1_2_3_4 (broadcastInDim S1x4x1x1x1 ![1] bcast_S4_S1x4x1x1x1_1 slopes))
          (broadcastInDim S1x4x1x8192x8192 ![0, 1, 2, 3, 4] bcast_S1x1x1x8192x8192_S1x4x1x8192x8192_0_1_2_3_4 (broadcastInDim S1x1x1x8192x8192 ![3, 4] bcast_S8192x8192_S1x1x1x8192x8192_3_4 dist)))))
    (broadcastInDim S4x4x2x8192x8192 ![] bcast_S_S4x4x2x8192x8192 (id (constant S_ .f32 0xFF800000#32)))

/-- The largest score of each query. -/
def top (s : FVec Ideal S4x4x2x8192x8192 .f32) : FVec Ideal S4x4x2x8192 .f32 :=
  maximumf (broadcastInDim S4x4x2x8192 ![] bcast_S_S4x4x2x8192 (constant S_ .f32 0xFF800000#32))
    (Host.reduce FloatOps.maximumf s (constant S_ .f32 0xFF800000#32) reducesTo_S4x4x2x8192x8192_S4x4x2x8192_d4 h_S_)

/-- The exponentials of the scores, less the largest. -/
def exps (s : FVec Ideal S4x4x2x8192x8192 .f32) : FVec Ideal S4x4x2x8192x8192 .f32 :=
  Host.exp (subf s (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3 (top s))))

/-- The probabilities. -/
def probs (x : FVec Ideal S4x4x2x8192x8192 .f32) : FVec Ideal S4x4x2x8192x8192 .f32 :=
  Host.divf x (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3
    (Host.reduceAdd x (constant S_ .f32 0x00000000#32) reducesTo_S4x4x2x8192x8192_S4x4x2x8192_d4 h_S_)))

/-- The difference of the two halves' probabilities. -/
def diff (p : FVec Ideal S4x4x2x8192x8192 .f32) (l : FVec Ideal S_ .f32) : FVec Ideal S4x4x8192x8192 .f32 :=
  subf (shapeCast S4x4x8192x8192 (extractStridedSlice S4x4x1x8192x8192 ![0, 0, 0, 0, 0] p slices_S4x4x2x8192x8192_S4x4x1x8192x8192_0_0_0_0_0) shapeCasts_S4x4x1x8192x8192_S4x4x8192x8192)
    (mulf (broadcastInDim S4x4x8192x8192 ![] bcast_S_S4x4x8192x8192 l)
      (shapeCast S4x4x8192x8192 (extractStridedSlice S4x4x1x8192x8192 ![0, 0, 1, 0, 0] p slices_S4x4x2x8192x8192_S4x4x1x8192x8192_0_0_1_0_0) shapeCasts_S4x4x1x8192x8192_S4x4x8192x8192))

/-- The averages of the values, positions first. -/
def avg (d : FVec Ideal S4x4x8192x8192 .f32) (v : FVec Ideal S4x4x8192x128 .f32) : FVec Ideal S4x8192x4x128 .f32 :=
  transpose S4x8192x4x128 [0, 2, 1, 3] (Host.dotGeneral dot_S4x4x8192x8192_S4x4x8192x128_S4x4x8192x128_3_2_2_3_01_01 none d v) transposes_S4x4x8192x128_S4x8192x4x128_0_2_1_3

/-- The normalised averages, times the gain and the factor. -/
def normed (o : FVec Ideal S4x8192x4x128 .f32) (g : FVec Ideal S128 .f32) : FVec Ideal S4x8192x4x128 .f32 :=
  mulf (mulf (mulf o (broadcastInDim S4x8192x4x128 ![0, 1, 2, 3] bcast_S4x8192x4x1_S4x8192x4x128_0_1_2_3
      (Host.rsqrt (addf (Host.divf (broadcastInDim S4x8192x4x1 ![0, 1, 2] bcast_S4x8192x4_S4x8192x4x1_0_1_2 (Host.reduceAdd (mulf o o) (constant S_ .f32 0x00000000#32) reducesTo_S4x8192x4x128_S4x8192x4_d3 h_S_))
        (broadcastInDim S4x8192x4x1 ![] bcast_S_S4x8192x4x1 (constant S_ .f32 0x43000000#32))) (broadcastInDim S4x8192x4x1 ![] bcast_S_S4x8192x4x1 (constant S_ .f32 0x358637BD#32))))))
    (broadcastInDim S4x8192x4x128 ![0, 1, 2, 3] bcast_S1x1x1x128_S4x8192x4x128_0_1_2_3 (broadcastInDim S1x1x1x128 ![3] bcast_S128_S1x1x1x128_3 g)))
    (broadcastInDim S4x8192x4x128 ![] bcast_S_S4x8192x4x128 (constant S_ .f32 0x3F4CCCCD#32))

/-- The reference's result. -/
def out (q k v : FVec Ideal S32768x512 .f32) (a3 a4 a5 a6 : FVec Ideal S64 .f32) (g : FVec Ideal S128 .f32) : FVec Ideal S32768x512 .bf16 :=
  shapeCast S32768x512 (truncf .bf16 (normed (avg (diff (probs (exps (scores q k))) (lam a3 a4 a5 a6)) (vals v)) g) bitsLt_bf16_f32) shapeCasts_S4x8192x4x128_S32768x512

set_option maxRecDepth 8192 in
set_option maxHeartbeats 4000000 in
/-- The reference's run ends with this result. -/
theorem res_eq (m : (ℓ : Loc nD τ sig) → Buf (Elt Ideal) ℓ) (c : Dev nD) :
    Value.res_out0 (F := Ideal) m c = out (m (c, main_arg0)) (m (c, main_arg1)) (m (c, main_arg2)) (m (c, main_arg3)) (m (c, main_arg4)) (m (c, main_arg5)) (m (c, main_arg6)) (m (c, main_arg7)) := by
  unfold Value.res_out0 Value.res_main_v79 out normed avg diff probs exps top scores vals halves dist lam slopes
  rfl

end Cert.ReferenceIdeal.Parts
-- ==== Proof.Ref.Read.lean ====
module
public import proofs.«01_k».proof.Proof.Ref.Parts
@[expose] public section
noncomputable section
namespace Cert.ReferenceIdeal.Parts

open Cert.ReferenceIdeal Cert.ReferenceIdeal.Gen Idealize.ShloMosaic

/-! # The reference's parts, element by element -/

/-- Lane `d` of half `c` of head `h`. -/
abbrev col (h : Fin 4) (e : Fin 128) : Fin 512 := ⟨h.val * 128 + e.val, by omega⟩
/-- Position `i` of batch `b`. -/
abbrev row (b : Fin 4) (i : Fin 8192) : Fin 32768 := ⟨b.val * 8192 + i.val, by omega⟩

theorem slopes_at (h : Fin 4) : slopes (ix1 h) = Ideal.pow (Ideal.ofBits FTy.f32 1073741824#32)
      (Ideal.div (Ideal.ofBits FTy.f32 3238002688#32 * (1 + FloatOps.sitofp (F := Ideal) FTy.f32 (BitVec.ofNat 32 h.val)))
        (Ideal.ofBits FTy.f32 1082130432#32)) := by
  pointwise [slopes]

theorem lam_at (a3 a4 a5 a6 : FVec Ideal S64 .f32) (j) : lam a3 a4 a5 a6 j =
    Ideal.exp (∑ x, a3 (ix1 x) * a4 (ix1 x)) - Ideal.exp (∑ x, a5 (ix1 x) * a6 (ix1 x)) + Ideal.ofBits FTy.f32 1045220557#32 := by
  pointwise [lam]

theorem dist_at (i j : Fin 8192) : dist (ix2 i j) = (((i.val : ℝ) - (j.val : ℝ) : ℝ) : EReal) := by
  pointwise [dist]
  show (((IntOp.subi (BitVec.ofNat 32 i.val) (BitVec.ofNat 32 j.val)).toInt : ℝ) : EReal) = _
  have e : (IntOp.subi (BitVec.ofNat 32 i.val) (BitVec.ofNat 32 j.val)).toInt = (i.val : ℤ) - (j.val : ℤ) := by
    have hi : (BitVec.ofNat 32 i.val).toInt = i.val := by
      rw [BitVec.toInt_eq_toNat_of_lt (by simp; omega)]; simp; omega
    have hj : (BitVec.ofNat 32 j.val).toInt = j.val := by
      rw [BitVec.toInt_eq_toNat_of_lt (by simp; omega)]; simp; omega
    simp only [IntOp.subi, BitVec.toInt_sub, hi, hj]
    rw [Int.bmod_eq_of_le] <;> omega
  rw [e]; push_cast; rfl

theorem halves_at (x : FVec Ideal S32768x512 .f32) (b h : Fin 4) (c : Fin 2) (i : Fin 8192) (d : Fin 64) :
    halves x (ix5 b h c i d) = x (ix2 (row b i) (col h ⟨64 * c.val + d.val, by omega⟩)) := by
  pointwise [halves]
  refine congrArg x (congrArg₂ ix2 rfl (Fin.ext ?_))
  show h.val * 128 + c.val * 64 + d.val = h.val * 128 + (64 * c.val + d.val)
  omega

theorem vals_at (x : FVec Ideal S32768x512 .f32) (b h : Fin 4) (i : Fin 8192) (d : Fin 128) : vals x (ix4 b h i d) = x (ix2 (row b i) (col h d)) := by
  pointwise [vals]

theorem negInf_eq : Ideal.ofBits .f32 0xFF800000#32 = ⊥ := by simp [Ideal.ofBits, Ideal.ieee]

theorem scores_at (q k : FVec Ideal S32768x512 .f32) (b h : Fin 4) (c : Fin 2) (i j : Fin 8192) : scores q k (ix5 b h c i j) =
    if j.val ≤ i.val then
      (∑ x : Fin 64, q (ix2 (row b i) (col h ⟨64 * c.val + x.val, by omega⟩)) * k (ix2 (row b j) (col h ⟨64 * c.val + x.val, by omega⟩))) * Ideal.ofBits FTy.f32 0x3E000000#32 -
        slopes (ix1 h) * (((i.val : ℝ) - (j.val : ℝ) : ℝ) : EReal)
    else ⊥ := by
  pointwise [scores]
  simp only [dist_at, halves_at]
  by_cases hij : j.val ≤ i.val
  · rw [if_pos hij, if_pos (by rw [← EReal.coe_zero, EReal.coe_le_coe_iff, sub_nonneg]; exact_mod_cast hij)]
  · rw [if_neg hij, if_neg (by rw [← EReal.coe_zero, EReal.coe_le_coe_iff, sub_nonneg]; exact_mod_cast hij)]
    exact negInf_eq

/-- A largest over the last axis. -/
theorem fold_last {a b c n m : ℕ} (s : (⟨5, ![a, b, c, n, m]⟩ : Shape).Idx → EReal) {u : Shape} (init : u.Idx → EReal)
    (h : (⟨5, ![a, b, c, n, m]⟩ : Shape).ReducesTo [4] ⟨4, ![a, b, c, n]⟩) (hu : 0 < u.numel) (x : Fin a) (y : Fin b) (z : Fin c) (i : Fin n) :
    Host.reduce (max : EReal → EReal → EReal) s init h hu (ix4 x y z i)
      = (Finset.univ : Finset (Fin m)).fold max (init (Shape.Idx.first hu)) (fun j => s (ix5 x y z i j)) := by
  have h' : (⟨5, ![a, b, c, n, m]⟩ : Shape).Reduces [4] ⟨4, ![a, b, c, n]⟩ := ⟨rfl, Nat.succ_pos 3, h.2⟩
  rw [Host.reduce_eq_fold_single _ _ _ _ h']
  refine congrArg (fun f => Finset.fold max (init (Shape.Idx.first hu)) f Finset.univ) (funext fun j => congrArg s (funext fun a => Fin.ext ?_))
  fin_cases a <;> rfl

theorem max_at {s : Shape} (a b : FVec Ideal s .f32) (j : s.Idx) : maximumf a b j = (max (a j) (b j) : EReal) := rfl

theorem reduce_max {s t u : Shape} {axes : List (Fin s.rank)} (x : FVec Ideal s .f32) (init : FVec Ideal u .f32) (h : s.ReducesTo axes t) (hu : 0 < u.numel) :
    Host.reduce (FloatOps.maximumf (F := Ideal) (φ := .f32)) x init h hu = Host.reduce (max : EReal → EReal → EReal) x init h hu := rfl

theorem cst_at {s : Shape} (h : S_.BroadcastsInDim s ![]) (j : s.Idx) : broadcastInDim s ![] h (constant (F := Ideal) S_ .f32 0xFF800000#32) j = (⊥ : EReal) := negInf_eq

/-- The largest score of a query. -/
theorem top_at (s : FVec Ideal S4x4x2x8192x8192 .f32) (b h : Fin 4) (c : Fin 2) (i : Fin 8192) :
    top s (ix4 b h c i) = (Finset.univ : Finset (Fin 8192)).fold max ⊥ (fun x => s (ix5 b h c i x)) := by
  unfold top
  rw [max_at, cst_at, reduce_max, fold_last, bot_sup_eq]
  exact congrArg (fun z => Finset.fold max z (fun x => s (ix5 b h c i x)) Finset.univ) negInf_eq
theorem exps_at (s : FVec Ideal S4x4x2x8192x8192 .f32) (b h : Fin 4) (c : Fin 2) (i j : Fin 8192) : exps s (ix5 b h c i j) = Ideal.exp (s (ix5 b h c i j) - top s (ix4 b h c i)) := by
  pointwise [exps]

theorem probs_at (s : FVec Ideal S4x4x2x8192x8192 .f32) (b h : Fin 4) (c : Fin 2) (i j : Fin 8192) : probs s (ix5 b h c i j) = Ideal.div (s (ix5 b h c i j)) (∑ x, s (ix5 b h c i x)) := by
  pointwise [probs]

theorem diff_at (p : FVec Ideal S4x4x2x8192x8192 .f32) (l : FVec Ideal S_ .f32) (b h : Fin 4) (i j : Fin 8192) : diff p l (ix4 b h i j) = p (ix5 b h 0 i j) - l ix0 * p (ix5 b h 1 i j) := by
  pointwise [diff]

theorem avg_at (d : FVec Ideal S4x4x8192x8192 .f32) (v : FVec Ideal S4x4x8192x128 .f32) (b h : Fin 4) (i : Fin 8192) (e : Fin 128) : avg d v (ix4 b i h e) = ∑ x, d (ix4 b h i x) * v (ix4 b h x e) := by
  pointwise [avg]

theorem normed_at (o : FVec Ideal S4x8192x4x128 .f32) (g : FVec Ideal S128 .f32) (b h : Fin 4) (i : Fin 8192) (e : Fin 128) : normed o g (ix4 b i h e) =
    o (ix4 b i h e) * Ideal.rsqrt (Ideal.div (∑ x, o (ix4 b i h x) * o (ix4 b i h x)) (Ideal.ofBits FTy.f32 1124073472#32) + Ideal.ofBits FTy.f32 897988541#32) * g (ix1 e) * Ideal.ofBits FTy.f32 1061997773#32 := by
  pointwise [normed]

theorem out_at (q k v : FVec Ideal S32768x512 .f32) (a3 a4 a5 a6 : FVec Ideal S64 .f32) (g : FVec Ideal S128 .f32) (b h : Fin 4) (i : Fin 8192) (e : Fin 128) :
    out q k v a3 a4 a5 a6 g (ix2 (row b i) (col h e)) = normed (avg (diff (probs (exps (scores q k))) (lam a3 a4 a5 a6)) (vals v)) g (ix4 b i h e) := by
  pointwise [out]
  refine congrArg _ ?_
  have e1 : (b.val * 8192 + i.val) / 8192 = b.val := by omega
  have e2 : (b.val * 8192 + i.val) % 8192 = i.val := by omega
  have e3 : (h.val * 128 + e.val) / 128 = h.val := by omega
  have e4 : (h.val * 128 + e.val) % 128 = e.val := by omega
  simp only [e1, e2, e3, e4]
end Cert.ReferenceIdeal.Parts
-- ==== Proof.Att.Online.lean ====
module
public import Idealize.ShloMosaic.PureOps.Ideal
@[expose] public section
namespace Cert.Online

open Idealize.ShloMosaic

/-! # A softmax row met block by block

Over a row's scores `z 0, z 1, …` in base two and its values `v 0, v 1, …`, of which the first `i + 1` are kept. -/

/-- The weights of the kept scores among the first `n`, over the weight `M`. -/
noncomputable def den (z : ℕ → ℝ) (i n : ℕ) (M : ℝ) : ℝ :=
  ∑ j ∈ Finset.range n, if j ≤ i then (2 : ℝ) ^ (z j - M) else 0

/-- The kept values among the first `n`, each times its weight over `M`. -/
noncomputable def num (z v : ℕ → ℝ) (i n : ℕ) (M : ℝ) : ℝ :=
  ∑ j ∈ Finset.range n, if j ≤ i then (2 : ℝ) ^ (z j - M) * v j else 0

/-- The running maximum, sum and accumulator of a row after its first `n` keys: for some real number `M` they are `M`, the
weights' sum over `M` and the weighted values' sums over `M`. -/
def Row {E : Type} (z : ℕ → ℝ) (v : ℕ → E → ℝ) (i n : ℕ) (m l : EReal) (a : E → EReal) : Prop :=
  ∃ M : ℝ, m = (M : EReal) ∧ l = ((den z i n M : ℝ) : EReal) ∧ ∀ e, a e = ((num z (fun j => v j e) i n M : ℝ) : EReal)

/-- What a block of scores makes of the running maximum. -/
noncomputable def newM (m : EReal) (s : Fin 512 → EReal) : EReal := max m (Finset.univ.fold max ⊥ s)

/-- … of the running sum. -/
noncomputable def newL (m l : EReal) (s : Fin 512 → EReal) : EReal :=
  Ideal.exp2 (m - newM m s) * l + ∑ j, Ideal.exp2 (s j - newM m s)

/-- … of an element of the accumulator. -/
noncomputable def newA (m a : EReal) (s w : Fin 512 → EReal) : EReal :=
  Ideal.exp2 (m - newM m s) * a + ∑ j, Ideal.exp2 (s j - newM m s) * w j

/-- The greatest of a block of scores with one kept is a real number. -/
theorem fold_real (s : Fin 512 → EReal) (h : ∀ j, s j < ⊤) (j₀ : Fin 512) (h₀ : ⊥ < s j₀) :
    ∃ B : ℝ, Finset.univ.fold max ⊥ s = (B : EReal) := by
  have e : Finset.univ.fold max ⊥ s = Finset.univ.sup s := rfl
  have hb : Finset.univ.sup s ≠ ⊥ := (h₀.trans_le (Finset.le_sup (Finset.mem_univ j₀))).ne'
  have ht : Finset.univ.sup s ≠ ⊤ := ((Finset.sup_lt_iff (by simp)).2 (fun j _ => h j)).ne
  exact ⟨_, e.trans (EReal.coe_toReal ht hb).symm⟩

theorem sum_coe {ι : Type} (S : Finset ι) (f : ι → ℝ) : ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

theorem exp2_sub (x y : ℝ) : Ideal.exp2 ((x : EReal) - (y : EReal)) = (((2 : ℝ) ^ (x - y) : ℝ) : EReal) := by
  rw [← EReal.coe_sub, Ideal.exp2_coe]; rfl

theorem den_shift (z : ℕ → ℝ) (i n : ℕ) (M M' : ℝ) : (2 : ℝ) ^ (M - M') * den z i n M = den z i n M' := by
  unfold den
  rw [Finset.mul_sum]
  refine Finset.sum_congr rfl fun j _ => ?_
  split
  · rw [← Real.rpow_add (by norm_num)]; congr 1; ring
  · simp

theorem num_shift (z v : ℕ → ℝ) (i n : ℕ) (M M' : ℝ) : (2 : ℝ) ^ (M - M') * num z v i n M = num z v i n M' := by
  unfold num
  rw [Finset.mul_sum]
  refine Finset.sum_congr rfl fun j _ => ?_
  split
  · rw [← mul_assoc, ← Real.rpow_add (by norm_num)]; congr 2; ring
  · simp

theorem range_block (f : ℕ → ℝ) (n : ℕ) : ∑ j ∈ Finset.range (n + 512), f j = ∑ j ∈ Finset.range n, f j + ∑ j : Fin 512, f (n + j) := by
  rw [Finset.sum_range_add, ← Fin.sum_univ_eq_sum_range (fun k => f (n + k)) 512]

/-- A block of 512 keys carries a row from its first `n` keys to its first `n + 512`; at `n = 0` the row is met with the
maximum at `⊥` and the sums at `0`. -/
theorem step {E : Type} (z : ℕ → ℝ) (v : ℕ → E → ℝ) (i n : ℕ) (hn : n ≤ i) (s : Fin 512 → EReal) (w : E → Fin 512 → EReal)
    (hs : ∀ j : Fin 512, s j = if n + j.val ≤ i then ((z (n + j.val) : ℝ) : EReal) else ⊥)
    (hw : ∀ e (j : Fin 512), w e j = ((v (n + j.val) e : ℝ) : EReal)) (m l : EReal) (a : E → EReal)
    (h : (n = 0 ∧ m = ⊥ ∧ l = 0 ∧ ∀ e, a e = 0) ∨ Row z v i n m l a) :
    Row z v i (n + 512) (newM m s) (newL m l s) (fun e => newA m (a e) s (w e)) := by
  obtain ⟨B, hB⟩ := fold_real s (fun j => by rw [hs]; split <;> simp) 0 (by rw [hs]; simp [hn])
  have hex : ∀ (M' : ℝ) (j : Fin 512), Ideal.exp2 (s j - (M' : EReal)) = (((if n + j.val ≤ i then (2 : ℝ) ^ (z (n + j.val) - M') else 0) : ℝ) : EReal) := by
    intro M' j
    rw [hs]
    split
    · exact exp2_sub _ _
    · simp
  have hex2 : ∀ (M' : ℝ) (e : E) (j : Fin 512), Ideal.exp2 (s j - (M' : EReal)) * w e j = (((if n + j.val ≤ i then (2 : ℝ) ^ (z (n + j.val) - M') * v (n + j.val) e else 0) : ℝ) : EReal) := by
    intro M' e j
    rw [hex, hw, ← EReal.coe_mul]
    split <;> simp
  rcases h with ⟨rfl, rfl, rfl, ha⟩ | ⟨M, rfl, rfl, ha⟩
  · have hM : newM ⊥ s = (B : EReal) := by simp [newM, hB]
    refine ⟨B, hM, ?_, fun e => ?_⟩
    · rw [newL, hM]
      simp only [hex, sum_coe, den, range_block]
      simp
    · simp only [newA, hM, ha]
      simp only [hex2, sum_coe, num, range_block]
      simp
  · have hM : newM (M : EReal) s = ((max M B : ℝ) : EReal) := by rw [newM, hB]; exact (EReal.coe_strictMono.monotone.map_max).symm
    refine ⟨max M B, hM, ?_, fun e => ?_⟩
    · rw [newL, hM, exp2_sub, ← EReal.coe_mul, den_shift]
      simp only [hex, sum_coe]
      rw [← EReal.coe_add]
      simp only [den, range_block]
    · simp only [newA]
      rw [hM, exp2_sub, ha, ← EReal.coe_mul, num_shift]
      simp only [hex2, sum_coe]
      rw [← EReal.coe_add]
      simp only [num, range_block]

/-- The softmax average of a row's kept values, its weights in base two. -/
noncomputable def att (z v : ℕ → ℝ) (i : ℕ) : ℝ :=
  (∑ j ∈ Finset.range (i + 1), (2 : ℝ) ^ (z j) * v j) / ∑ j ∈ Finset.range (i + 1), (2 : ℝ) ^ (z j)

theorem sum_kept (f : ℕ → ℝ) (i n : ℕ) (hn : i < n) : (∑ j ∈ Finset.range n, if j ≤ i then f j else 0) = ∑ j ∈ Finset.range (i + 1), f j := by
  rw [← Finset.sum_filter]
  congr 1
  ext j; simp; omega

/-- After all its kept keys, a row's accumulator over its sum is the softmax average. -/
theorem Row.div {E : Type} {z : ℕ → ℝ} {v : ℕ → E → ℝ} {i n : ℕ} {m l : EReal} {a : E → EReal} (h : Row z v i n m l a) (hn : i < n) (e : E) :
    Ideal.div (a e) l = ((att z (fun j => v j e) i : ℝ) : EReal) := by
  obtain ⟨M, -, rfl, ha⟩ := h
  have h0 : den z i n M = (2 : ℝ) ^ (0 - M) * ∑ j ∈ Finset.range (i + 1), (2 : ℝ) ^ (z j) := by
    rw [← den_shift z i n 0 M, den, sum_kept (fun j => (2 : ℝ) ^ (z j - 0)) i n hn]; simp
  have h1 : num z (fun j => v j e) i n M = (2 : ℝ) ^ (0 - M) * ∑ j ∈ Finset.range (i + 1), (2 : ℝ) ^ (z j) * v j e := by
    rw [← num_shift z _ i n 0 M, num, sum_kept (fun j => (2 : ℝ) ^ (z j - 0) * v j e) i n hn]; simp
  have hp : 0 < ∑ j ∈ Finset.range (i + 1), (2 : ℝ) ^ (z j) := Finset.sum_pos (fun j _ => by positivity) ⟨0, by simp⟩
  have hq : (0 : ℝ) < (2 : ℝ) ^ (0 - M) := by positivity
  rw [ha, h0, h1, Ideal.div_coe (by positivity : (2 : ℝ) ^ (0 - M) * ∑ j ∈ Finset.range (i + 1), (2 : ℝ) ^ (z j) ≠ 0), ← EReal.coe_mul, mul_one_div, mul_div_mul_left _ _ hq.ne']
  rfl

end Cert.Online
-- ==== Proof.Att.Pay.lean ====
module
public import proofs.«01_k».proof.Proof.Gen.KernelIdeal.Skeleton
public import proofs.«01_k».proof.Proof.Gen.KernelIdeal
public import proofs.«01_k».proof.Proof.Att.Online
public import Idealize.ShloMosaic.Lib.Pointwise
public import Idealize.ShloMosaic.PureOps.Ideal
public import Idealize.ShloMosaic.PureOps.IdealRules
@[expose] public section
namespace Cert.KernelIdeal.Attn

open Cert.KernelIdeal Cert.KernelIdeal.Gen Cert.Online
open Idealize.ShloMosaic

/-! # What the body's stored values are, element by element -/

/-- The mask is `⊥`. -/
theorem mask_eq : Named.named (F := Ideal) κ "mask" (φ := .f32) 0xF149F2CA#32 = (⊥ : EReal) :=
  IdealRules.named_const.ideal_named_scalar _ _ _ _ rfl

/-- The scale of the queries is `1 / 8 / log 2`. -/
theorem scale_eq : Named.named (F := Ideal) κ "scale" (φ := .f32) 0x3E38AA3B#32 = (((1 / 8) * (Real.log 2)⁻¹ : ℝ) : EReal) :=
  IdealRules.named_const.ideal_named_scalar _ _ _ _ rfl

/-- The factor of the position's bias is `1 / log 2`. -/
theorem log2e_eq : Named.named (F := Ideal) κ "log2e" (φ := .f32) 0x3FB8AA3B#32 = (((Real.log 2)⁻¹ : ℝ) : EReal) :=
  IdealRules.named_const.ideal_named_scalar _ _ _ _ rfl

theorem negInf_eq : Ideal.ofBits .f32 0xFF800000#32 = ⊥ := by simp [Ideal.ofBits, Ideal.ieee]

section
variable (k q : FVec Ideal S512x128 .bf16) (v : FVec Ideal S512x128 .bf16) (b : FVec Ideal S1x512 .f32) (keep : IVec S512x512 1) (m l : Vec Ideal S1x512x1 .f32) (a : Vec Ideal S1x512x128 .f32)
  (r : Fin 512) (e : Fin 128)

/-- A row of the block's masked scores. -/
noncomputable abbrev scRow : Fin 512 → EReal := fun j => k0_pay15 (F := Ideal) k q b keep (ix2 r j)

/-- The running maximum after the block. -/
theorem pay17_at : k0_pay17 (F := Ideal) k q b keep m (ix2 r 0) = newM (m (ix3 0 r 0)) (scRow k q b keep r) := by
  pointwise [k0_pay17, k0_pay16]
  rw [negInf_eq]
  rfl

theorem pay18_at : k0_pay18 (F := Ideal) k q b keep m (ix2 r 0) = Ideal.exp2 (m (ix3 0 r 0) - newM (m (ix3 0 r 0)) (scRow k q b keep r)) := by
  pointwise [k0_pay18, k0_pay16]
  rw [pay17_at]; rfl

theorem pay19_at (j : Fin 512) : k0_pay19 (F := Ideal) k q b keep m (ix2 r j) = Ideal.exp2 (scRow k q b keep r j - newM (m (ix3 0 r 0)) (scRow k q b keep r)) := by
  pointwise [k0_pay19]
  rw [pay17_at]; rfl

/-- The running sum after the block. -/
theorem pay20_at : k0_pay20 (F := Ideal) k q b keep m l (ix3 0 r 0) = newL (m (ix3 0 r 0)) (l (ix3 0 r 0)) (scRow k q b keep r) := by
  pointwise [k0_pay20]
  rw [pay18_at]; simp only [pay19_at]; rfl

/-- The accumulator after the block. -/
theorem pay21_at : k0_pay21 (F := Ideal) k v q b keep m a (ix3 0 r e) = newA (m (ix3 0 r 0)) (a (ix3 0 r e)) (scRow k q b keep r) (fun j => v (ix2 j e)) := by
  pointwise [k0_pay21]
  rw [pay18_at]; simp only [pay19_at]; rfl
end

/-- Lane `d` of half `c` of a head. -/
abbrev lane (c : Fin 2) (d : Fin 64) : Fin 128 := ⟨64 * c.val + d.val, by omega⟩

/-- A score in base two, of a half query, a half key, the head's slope and the key's position. -/
noncomputable def zsc (qr kr : Fin 64 → ℝ) (s : ℝ) (j : ℕ) : ℝ := ((∑ d, qr d * kr d) * (1 / 8) + s * (j : ℝ)) * (Real.log 2)⁻¹

/-- The half queries: `q`'s lanes of half `c`, scaled, and zero elsewhere. -/
noncomputable def halfQ (c : Fin 2) (q : Vec Ideal S512x128 .f32) : FVec Ideal S512x128 .bf16 := if c = 0 then k0_pay10 q else k0_pay11 q

theorem lt64 (x : Fin 128) : IntOp.cmpi CmpIPredicate.slt (BitVec.ofNat 32 ↑x) 64#32 = if x.val < 64 then 1#1 else 0#1 := by
  revert x; decide +kernel
theorem ge64 (x : Fin 128) : IntOp.cmpi CmpIPredicate.sge (BitVec.ofNat 32 ↑x) 64#32 = if x.val < 64 then 0#1 else 1#1 := by
  revert x; decide +kernel

theorem halfQ_at (c : Fin 2) (q : Vec Ideal S512x128 .f32) (r : Fin 512) (x : Fin 128) :
    halfQ c q (ix2 r x) = if x.val / 64 = c.val then q (ix2 r x) * (((1 / 8) * (Real.log 2)⁻¹ : ℝ) : EReal) else 0 := by
  unfold halfQ
  fin_cases c
  · simp only [Fin.zero_eta, ↓reduceIte]
    pointwise [k0_pay10, k0_pay6, k0_pay9]
    rw [lt64, scale_eq]
    by_cases h : x.val < 64
    · rw [if_pos h, if_pos (by first | omega | (simp; omega))]; rfl
    · rw [if_neg h, if_neg (by first | omega | (simp; omega))]; rfl
  · simp only [Fin.mk_one, Fin.isValue, one_ne_zero, ↓reduceIte]
    pointwise [k0_pay11, k0_pay6, k0_pay9]
    rw [ge64, scale_eq]
    by_cases h : x.val < 64
    · rw [if_pos h, if_neg (by first | omega | (simp; omega))]; rfl
    · rw [if_neg h, if_pos (by first | omega | (simp; omega))]; rfl

theorem sum_half (c : Fin 2) (f : Fin 128 → ℝ) : (∑ x : Fin 128, if x.val / 64 = c.val then f x else 0) = ∑ d : Fin 64, f (lane c d) := by
  rw [← Finset.sum_filter]
  refine (Finset.sum_bij (fun d _ => lane c d) (fun d _ => ?_) (fun d _ d' _ h => ?_) (fun x hx => ?_) (fun d _ => rfl)).symm
  · simp only [Finset.mem_filter, Finset.mem_univ, true_and]; omega
  · simp only [Fin.mk.injEq] at h; exact Fin.ext (by omega)
  · simp only [Finset.mem_filter, Finset.mem_univ, true_and] at hx
    exact ⟨⟨x.val - 64 * c.val, by omega⟩, Finset.mem_univ _, Fin.ext (by simp; omega)⟩

/-- The position word of key `j` of block `ki`. -/
theorem pos_word (ki : Fin 16) (j : Fin 512) : IntOp.addi (Scalar.muli (BitVec.ofNat 32 ki.val) 512#32) (BitVec.ofNat 32 j.val) = BitVec.ofNat 32 (512 * ki.val + j.val) := by
  apply BitVec.eq_of_toNat_eq
  simp only [IntOp.addi, Scalar.muli, IntOp.muli, BitVec.toNat_add, BitVec.toNat_mul, BitVec.toNat_ofNat]
  omega

theorem toInt_small (n : ℕ) (h : n < 16384) : (BitVec.ofNat 32 n).toInt = n := by
  rw [BitVec.toInt_eq_toNat_of_lt (by simp; omega)]; simp; omega

theorem keep_at (qi ki : Fin 16) (r j : Fin 512) :
    k0_pay14 (F := Ideal) (BitVec.ofNat 32 qi.val) (BitVec.ofNat 32 ki.val) (ix2 r j) = if 512 * ki.val + j.val ≤ 512 * qi.val + r.val then 1#1 else 0#1 := by
  pointwise [k0_pay14, k0_pay12]
  rw [pos_word, pos_word]
  simp only [IntOp.cmpi, BitVec.sle, toInt_small (512 * ki.val + j.val) (by omega), toInt_small (512 * qi.val + r.val) (by omega)]
  show BitVec.ofBool (decide (((512 * ki.val + j.val : ℕ) : ℤ) ≤ ((512 * qi.val + r.val : ℕ) : ℤ))) = _
  by_cases h : 512 * ki.val + j.val ≤ 512 * qi.val + r.val
  · rw [if_pos h]; have : ((512 * ki.val + j.val : ℕ) : ℤ) ≤ ((512 * qi.val + r.val : ℕ) : ℤ) := by exact_mod_cast h
    rw [decide_eq_true this]; rfl
  · rw [if_neg h]; have : ¬ ((512 * ki.val + j.val : ℕ) : ℤ) ≤ ((512 * qi.val + r.val : ℕ) : ℤ) := by exact_mod_cast h
    rw [decide_eq_false this]; rfl

theorem bias_at (ki : Fin 16) (s : ℝ) (j : Fin 512) :
    k0_pay13 (F := Ideal) (BitVec.ofNat 32 ki.val) (s : EReal) (ix2 0 j) = ((s * (Real.log 2)⁻¹ * ((512 * ki.val + j.val : ℕ) : ℝ) : ℝ) : EReal) := by
  pointwise [k0_pay13, k0_pay12]
  rw [pos_word, log2e_eq]
  have : (FloatOps.sitofp (F := Ideal) FTy.f32 (BitVec.ofNat 32 (512 * ki.val + j.val)) : EReal) = (((512 * ki.val + j.val : ℕ) : ℝ) : EReal) := by
    show (((BitVec.ofNat 32 (512 * ki.val + j.val)).toInt : ℝ) : EReal) = _
    rw [toInt_small _ (by omega)]; norm_num
  rw [this, ← EReal.coe_mul, ← EReal.coe_mul]

/-- A score of the block, where the query, the key and the slope are real numbers: `⊥` where the key comes after the query. -/
theorem score_at (c : Fin 2) (k : FVec Ideal S512x128 .bf16) (q : Vec Ideal S512x128 .f32) (s : ℝ) (qi ki : Fin 16) (r j : Fin 512) (qr kr : Fin 128 → ℝ)
    (hq : ∀ x, q (ix2 r x) = (qr x : EReal)) (hk : ∀ x, k (ix2 j x) = (kr x : EReal)) :
    scRow k (halfQ c q) (k0_pay13 (F := Ideal) (BitVec.ofNat 32 ki.val) (s : EReal)) (k0_pay14 (F := Ideal) (BitVec.ofNat 32 qi.val) (BitVec.ofNat 32 ki.val)) r j
      = if 512 * ki.val + j.val ≤ 512 * qi.val + r.val then ((zsc (fun d => qr (lane c d)) (fun d => kr (lane c d)) s (512 * ki.val + j.val) : ℝ) : EReal) else ⊥ := by
  unfold scRow
  pointwise [k0_pay15]
  rw [mask_eq, keep_at, bias_at]
  by_cases h : 512 * ki.val + j.val ≤ 512 * qi.val + r.val
  swap
  · rw [if_neg h, if_neg h]; rfl
  rw [if_pos h, if_pos h]
  show (_ : EReal) + _ = _
  have e : ∀ x : Fin 128, halfQ c q (ix2 r x) * k (ix2 j x) = (((if x.val / 64 = c.val then qr x * kr x * ((1 / 8) * (Real.log 2)⁻¹) else 0) : ℝ) : EReal) := by
    intro x
    rw [halfQ_at, hq, hk]
    split
    · rw [← EReal.coe_mul, ← EReal.coe_mul]; congr 1; ring
    · simp
  simp only [e]
  rw [sum_coe, sum_half c (fun x => qr x * kr x * ((1 / 8) * (Real.log 2)⁻¹)), ← EReal.coe_add, ← Finset.sum_mul, zsc]
  congr 1; ring

/-- The output block: the difference of the two averages, normalised, times the gain and the factor. -/
noncomputable def outRow (lam g : EReal) (o : Fin 128 → EReal) (e : Fin 128) : EReal :=
  o e * Ideal.rsqrt (Ideal.div (∑ x, o x * o x) (Ideal.ofBits FTy.f32 0x43000000#32) + Ideal.ofBits FTy.f32 0x358637BD#32) * g * Ideal.ofBits FTy.f32 0x3F4CCCCD#32

theorem pay2_at (lam : Vec Ideal S1x1 .f32) (a0 a1 : Vec Ideal S1x512x128 .f32) (l0 l1 : Vec Ideal S1x512x1 .f32) (g : Vec Ideal S1x128 .f32) (r : Fin 512) (e : Fin 128) :
    k0_pay2 (F := Ideal) lam a0 l0 a1 l1 g (ix2 r e)
      = outRow (lam (ix2 0 0)) (g (ix2 0 e)) (fun x => Ideal.div (a0 (ix3 0 r x)) (l0 (ix3 0 r 0)) - lam (ix2 0 0) * Ideal.div (a1 (ix3 0 r x)) (l1 (ix3 0 r 0))) e := by
  pointwise [k0_pay2]
  rfl

end Cert.KernelIdeal.Attn
-- ==== Proof.Ref.Real.lean ====
module
public import proofs.«01_k».proof.Proof.Ref.Read
public import proofs.«01_k».proof.Proof.Att.Pay
@[expose] public section
noncomputable section
namespace Cert.ReferenceIdeal.Parts

open Cert.ReferenceIdeal Cert.ReferenceIdeal.Gen Idealize.ShloMosaic Cert.Online
open Cert.KernelIdeal.Attn (lane zsc outRow)

/-! # The reference's result over real inputs

Over real inputs each softmax average of the reference is `att` of base-2 scores: the largest score cancels, and so does the part
of the position bias which depends on the query's position alone. -/

/-- The weight of key `j` for query `i`. -/
def wgt (z : ℕ → ℝ) (i j : ℕ) : ℝ := if j ≤ i then (2 : ℝ) ^ (z j) / ∑ x ∈ Finset.range (i + 1), (2 : ℝ) ^ (z x) else 0

theorem sum_fin_kept (f : ℕ → ℝ) {n : ℕ} (i : Fin n) : (∑ x : Fin n, if x.val ≤ i.val then f x.val else 0) = ∑ x ∈ Finset.range (i.val + 1), f x := by
  rw [Fin.sum_univ_eq_sum_range (fun x => if x ≤ i.val then f x else 0) n, sum_kept f i.val n i.isLt]

theorem fold_max_real {n : ℕ} (s : Fin n → EReal) (h : ∀ j, s j < ⊤) (j₀ : Fin n) (h₀ : ⊥ < s j₀) :
    ∃ B : ℝ, Finset.univ.fold max ⊥ s = (B : EReal) := by
  have e : Finset.univ.fold max ⊥ s = Finset.univ.sup s := rfl
  have hb : Finset.univ.sup s ≠ ⊥ := (h₀.trans_le (Finset.le_sup (Finset.mem_univ j₀))).ne'
  have ht : Finset.univ.sup s ≠ ⊤ := ((Finset.sup_lt_iff (by simp)).2 (fun j _ => h j)).ne
  exact ⟨_, e.trans (EReal.coe_toReal ht hb).symm⟩

/-- The softmax of a row of scores, the later keys masked, is the base-2 weight: `a` and the largest score cancel. -/
theorem softmax_at (z : ℕ → ℝ) (a : ℝ) {n : ℕ} (i : Fin n) (s : Fin n → EReal)
    (hs : ∀ j, s j = if j.val ≤ i.val then ((z j.val * Real.log 2 - a : ℝ) : EReal) else ⊥) (j : Fin n) :
    Ideal.div (Ideal.exp (s j - Finset.univ.fold max ⊥ s)) (∑ x, Ideal.exp (s x - Finset.univ.fold max ⊥ s)) = ((wgt z i.val j.val : ℝ) : EReal) := by
  obtain ⟨B, hB⟩ := fold_max_real s (fun j => by rw [hs]; split; exacts [EReal.coe_lt_top _, bot_lt_top]) i (by rw [hs, if_pos le_rfl]; exact EReal.bot_lt_coe _)
  rw [hB]
  have he : ∀ x : Fin n, Ideal.exp (s x - (B : EReal)) = (((if x.val ≤ i.val then (2 : ℝ) ^ (z x.val) * Real.exp (-(a + B)) else 0) : ℝ) : EReal) := by
    intro x
    rw [hs]
    split
    · rw [← EReal.coe_sub, Ideal.exp_coe, Real.rpow_def_of_pos (by norm_num), ← Real.exp_add]
      congr 2; ring
    · rw [EReal.bot_sub, Ideal.exp_bot]; simp
  have hsum : ∑ x, Ideal.exp (s x - (B : EReal)) = (((∑ x ∈ Finset.range (i.val + 1), (2 : ℝ) ^ (z x)) * Real.exp (-(a + B)) : ℝ) : EReal) := by
    rw [Finset.sum_congr rfl fun x _ => he x, sum_coe, sum_fin_kept (fun x => (2 : ℝ) ^ (z x) * Real.exp (-(a + B))), Finset.sum_mul]
  have hpos : 0 < ∑ x ∈ Finset.range (i.val + 1), (2 : ℝ) ^ (z x) := Finset.sum_pos (fun x _ => by positivity) ⟨0, by simp⟩
  have hE : 0 < Real.exp (-(a + B)) := Real.exp_pos _
  rw [hsum, he, Ideal.div_coe (mul_pos hpos hE).ne', ← EReal.coe_mul]
  congr 1
  unfold wgt
  split
  · field_simp
  · simp

/-- The differential average, from the two rows of weights. -/
theorem average_at (z0 z1 : ℕ → ℝ) (v : ℕ → ℝ) (L : ℝ) {n : ℕ} (i : Fin n) :
    ∑ x : Fin n, (((wgt z0 i.val x.val : ℝ) : EReal) - (L : EReal) * ((wgt z1 i.val x.val : ℝ) : EReal)) * ((v x.val : ℝ) : EReal)
      = ((att z0 v i.val - L * att z1 v i.val : ℝ) : EReal) := by
  have h1 : ∀ z : ℕ → ℝ, ∑ x : Fin n, wgt z i.val x.val * v x.val = att z v i.val := by
    intro z
    unfold att
    rw [Finset.sum_div, ← sum_fin_kept (fun x => (2 : ℝ) ^ (z x) * v x / ∑ y ∈ Finset.range (i.val + 1), (2 : ℝ) ^ (z y)) i]
    refine Finset.sum_congr rfl fun x _ => ?_
    unfold wgt
    split
    · ring
    · simp
  simp only [← EReal.coe_mul, ← EReal.coe_sub]
  rw [sum_coe, ← h1 z0, ← h1 z1, Finset.mul_sum, ← Finset.sum_sub_distrib]
  congr 1
  exact Finset.sum_congr rfl fun x _ => by ring

/-- Row `j` of batch `b`, for any number `j`. -/
abbrev rowN (b : Fin 4) (j : ℕ) : Fin 32768 := ⟨b.val * 8192 + j % 8192, by have := Nat.mod_lt j (show 0 < 8192 by norm_num); omega⟩

theorem rowN_fin (b : Fin 4) (j : Fin 8192) : rowN b j.val = row b j := Fin.ext (by show b.val * 8192 + j.val % 8192 = b.val * 8192 + j.val; omega)

/-- The base-2 score of key `j` for query `i`, in half `c` of head `h` of batch `b`, less what depends on `i` alone. -/
def zAt (Q K : S32768x512.Idx → ℝ) (s : ℝ) (b h : Fin 4) (c : Fin 2) (i : ℕ) (j : ℕ) : ℝ :=
  zsc (fun d => Q (ix2 (rowN b i) (col h (lane c d)))) (fun d => K (ix2 (rowN b j) (col h (lane c d)))) s j

/-- Lane `e` of the value of key `j`. -/
def vAt (V : S32768x512.Idx → ℝ) (b h : Fin 4) (j : ℕ) (e : Fin 128) : ℝ := V (ix2 (rowN b j) (col h e))

/-- Lane `x` of the differential average of query `i`. -/
def oAt (Q K V : S32768x512.Idx → ℝ) (s L : ℝ) (b h : Fin 4) (i : ℕ) (x : Fin 128) : ℝ :=
  att (zAt Q K s b h 0 i) (fun j => vAt V b h j x) i - L * att (zAt Q K s b h 1 i) (fun j => vAt V b h j x) i

theorem eighth_eq : Ideal.ofBits .f32 0x3E000000#32 = ((1 / 8 : ℝ) : EReal) := by
  simp [Ideal.ofBits, Ideal.ieee, -EReal.coe_mul]; norm_num

/-- A score of the reference, over real inputs. -/
theorem scores_real (q k : FVec Ideal S32768x512 .f32) (Q K : S32768x512.Idx → ℝ) (hq : ∀ x, q x = ((Q x : ℝ) : EReal)) (hk : ∀ x, k x = ((K x : ℝ) : EReal))
    (b h : Fin 4) (s : ℝ) (hs : slopes (ix1 h) = ((s : ℝ) : EReal)) (c : Fin 2) (i j : Fin 8192) :
    scores q k (ix5 b h c i j) = if j.val ≤ i.val then ((zAt Q K s b h c i.val j.val * Real.log 2 - s * i.val : ℝ) : EReal) else ⊥ := by
  rw [scores_at]
  refine if_congr Iff.rfl ?_ rfl
  simp only [hq, hk, hs, eighth_eq]
  simp only [← EReal.coe_mul]
  rw [sum_coe, ← EReal.coe_mul, ← EReal.coe_sub]
  congr 1
  unfold zAt zsc
  rw [rowN_fin, rowN_fin]
  have hl : Real.log 2 ≠ 0 := (Real.log_pos (by norm_num)).ne'
  rw [inv_mul_cancel_right₀ hl]
  show _ * (1 / 8) - s * ((i.val : ℝ) - j.val) = (∑ d : Fin 64, Q (ix2 (row b i) (col h (lane c d))) * K (ix2 (row b j) (col h (lane c d)))) * (1 / 8) + s * j.val - s * i.val
  have e : ∀ d : Fin 64, (⟨64 * c.val + d.val, by omega⟩ : Fin 128) = lane c d := fun d => rfl
  simp only [e]
  ring

/-- A result of the reference, over real inputs. -/
theorem out_real (q k v : FVec Ideal S32768x512 .f32) (a3 a4 a5 a6 : FVec Ideal S64 .f32) (g : FVec Ideal S128 .f32) (Q K V : S32768x512.Idx → ℝ)
    (hq : ∀ x, q x = ((Q x : ℝ) : EReal)) (hk : ∀ x, k x = ((K x : ℝ) : EReal)) (hv : ∀ x, v x = ((V x : ℝ) : EReal))
    (b h : Fin 4) (s L : ℝ) (hs : slopes (ix1 h) = ((s : ℝ) : EReal)) (hL : lam a3 a4 a5 a6 ix0 = ((L : ℝ) : EReal)) (y : EReal) (i : Fin 8192) (e : Fin 128) :
    out q k v a3 a4 a5 a6 g (ix2 (row b i) (col h e)) = outRow y (g (ix1 e)) (fun x => ((oAt Q K V s L b h i.val x : ℝ) : EReal)) e := by
  have hp : ∀ (c : Fin 2) (j : Fin 8192), probs (exps (scores q k)) (ix5 b h c i j) = ((wgt (zAt Q K s b h c i.val) i.val j.val : ℝ) : EReal) := by
    intro c j
    rw [probs_at]
    simp only [exps_at, top_at]
    exact softmax_at (zAt Q K s b h c i.val) (s * i.val) i (fun j => scores q k (ix5 b h c i j)) (fun j => scores_real q k Q K hq hk b h s hs c i j) j
  have ho : ∀ x : Fin 128, avg (diff (probs (exps (scores q k))) (lam a3 a4 a5 a6)) (vals v) (ix4 b i h x) = ((oAt Q K V s L b h i.val x : ℝ) : EReal) := by
    intro x
    rw [avg_at]
    simp only [diff_at, hp, hL, vals_at, hv]
    refine Eq.trans (Finset.sum_congr rfl fun j _ => ?_) (average_at (zAt Q K s b h 0 i.val) (zAt Q K s b h 1 i.val) (fun j => vAt V b h j x) L i)
    unfold vAt
    rw [rowN_fin]
  rw [out_at, normed_at]
  simp only [ho]
  rfl

end Cert.ReferenceIdeal.Parts
-- ==== Proof.Finite.lean ====
module
public import proofs.«01_k».proof.Defs
public import proofs.«01_k».proof.Proof.Ref.Real
@[expose] public section
noncomputable section
namespace Cert.Finite

open Idealize.ShloMosaic

/-! # What the precondition gives: real inputs -/

theorem inf_eq : Ideal.ofBits .f32 0x7F800000#32 = ⊤ := by simp [Ideal.ofBits, Ideal.ieee]

/-- Where the absolute value is below infinity, the number is real. -/
theorem real_of {s : Shape} (x : FVec Ideal s .f32) (h : Cert.Pre_finite_inputs.S_.BroadcastsInDim s (![] : Fin 0 → Fin s.rank))
    (H : cmpf .olt (Host.absf x) (broadcastInDim s ![] h (constant (F := Ideal) Cert.Pre_finite_inputs.S_ .f32 0x7F800000#32)) = fun _ => 1#1) (i : s.Idx) :
    x i = (((x i).toReal : ℝ) : EReal) := by
  have h1 := congrFun H i
  have h2 : max (x i) (-(x i)) < ⊤ := by
    by_contra hc
    have h3 : BitVec.ofBool (decide (max (x i) (-(x i)) < Ideal.ofBits .f32 0x7F800000#32)) = (1#1 : BitVec 1) := by
      pointwise at h1
      exact h1
    rw [inf_eq, decide_eq_false hc] at h3
    exact absurd h3 (by decide)
  have ht : x i ≠ ⊤ := (lt_of_le_of_lt (le_max_left _ _) h2).ne
  have hb : x i ≠ ⊥ := fun e => by
    have := (lt_of_le_of_lt (le_max_right _ _) h2).ne
    rw [e] at this
    exact this rfl
  exact (EReal.coe_toReal ht hb).symm

theorem two_eq : Ideal.ofBits .f32 0x40000000#32 = ((2 : ℝ) : EReal) := by
  simp [Ideal.ofBits, Ideal.ieee, -EReal.coe_mul]; norm_num
theorem negEight_eq : Ideal.ofBits .f32 0xC1000000#32 = ((-8 : ℝ) : EReal) := by
  simp [Ideal.ofBits, Ideal.ieee, -EReal.coe_mul]; norm_num
theorem four_eq : Ideal.ofBits .f32 0x40800000#32 = ((4 : ℝ) : EReal) := by
  simp [Ideal.ofBits, Ideal.ieee, -EReal.coe_mul]; norm_num
theorem fifth_eq : ∃ y : ℝ, Ideal.ofBits .f32 0x3E4CCCCD#32 = ((y : ℝ) : EReal) := by
  refine ⟨13421773 / 67108864, ?_⟩
  simp [Ideal.ofBits, Ideal.ieee, -EReal.coe_mul]; norm_num

/-- Each slope is real. -/
theorem slope_real (h : Fin 4) : ∃ s : ℝ, Cert.ReferenceIdeal.Parts.slopes (ix1 h) = ((s : ℝ) : EReal) := by
  refine ⟨Real.rpow 2 (((-8) * (1 + ((BitVec.ofNat 32 h.val).toInt : ℝ))) * (1 / 4)), ?_⟩
  rw [Cert.ReferenceIdeal.Parts.slopes_at, two_eq, negEight_eq, four_eq,
    show FloatOps.sitofp (F := Ideal) FTy.f32 (BitVec.ofNat 32 h.val) = ((((BitVec.ofNat 32 h.val).toInt : ℝ) : ℝ) : EReal) from rfl,
    Ideal.div_coe (by norm_num), ← EReal.coe_one, ← EReal.coe_add, ← EReal.coe_mul, ← EReal.coe_mul, Ideal.pow_coe_coe]

theorem dot_real (a b : FVec Ideal Cert.ReferenceIdeal.S64 .f32) (ha : ∀ i, a i = (((a i).toReal : ℝ) : EReal)) (hb : ∀ i, b i = (((b i).toReal : ℝ) : EReal)) :
    ∃ y : ℝ, ∑ x : Fin 64, a (ix1 x) * b (ix1 x) = ((y : ℝ) : EReal) := by
  refine ⟨∑ x : Fin 64, (a (ix1 x)).toReal * (b (ix1 x)).toReal, ?_⟩
  rw [← Cert.Online.sum_coe]
  refine Finset.sum_congr rfl fun x _ => ?_
  rw [EReal.coe_mul, ← ha, ← hb]

/-- The weight of the second attention is real. -/
theorem lam_real (a3 a4 a5 a6 : FVec Ideal Cert.ReferenceIdeal.S64 .f32) (h3 : ∀ i, a3 i = (((a3 i).toReal : ℝ) : EReal)) (h4 : ∀ i, a4 i = (((a4 i).toReal : ℝ) : EReal))
    (h5 : ∀ i, a5 i = (((a5 i).toReal : ℝ) : EReal)) (h6 : ∀ i, a6 i = (((a6 i).toReal : ℝ) : EReal)) :
    ∃ y : ℝ, Cert.ReferenceIdeal.Parts.lam a3 a4 a5 a6 ix0 = ((y : ℝ) : EReal) := by
  obtain ⟨u, hu⟩ := dot_real a3 a4 h3 h4
  obtain ⟨v, hv⟩ := dot_real a5 a6 h5 h6
  obtain ⟨w, hw⟩ := fifth_eq
  refine ⟨Real.exp u - Real.exp v + w, ?_⟩
  rw [Cert.ReferenceIdeal.Parts.lam_at, hu, hv, Ideal.exp_coe, Ideal.exp_coe, hw, ← EReal.coe_sub, ← EReal.coe_add]

end Cert.Finite
-- ==== Proof.Att.Place.lean ====
module
public import proofs.«01_k».proof.Proof.Att.Tables
@[expose] public section
noncomputable section
namespace Cert.KernelIdeal.Attn

open Cert.KernelIdeal Cert.KernelIdeal.Gen
open Idealize.ShloMosaic
open Idealize.ShloMosaic.TcCoe

/-! # Where each point stands: batch, head, query block, key block -/

/-- The batch of point `t`. -/
abbrev bN (t : ℕ) : ℕ := t / 544
/-- The head of point `t`. -/
abbrev hN (t : ℕ) : ℕ := t / 136 % 4
/-- The query block of point `t`. -/
def qN (t : ℕ) : ℕ := (lit0 ⟨t % 136, Nat.mod_lt _ (by norm_num)⟩).toNat
/-- The key block of point `t`. -/
def kN (t : ℕ) : ℕ := (lit1 ⟨t % 136, Nat.mod_lt _ (by norm_num)⟩).toNat

/-- What is decided of a point: the two words the body reads, where it opens and closes a row, the blocks its windows read. -/
abbrev Place (t : Fin cfg.N) : Prop :=
  (qWord (crd t) Tq = BitVec.ofNat 32 (qN t.val) ∧ kWord (crd t) Tk = BitVec.ofNat 32 (kN t.val))
  ∧ (Opens (crd t) Tk ↔ kN t.val = 0) ∧ (Closes (crd t) Tq Tk ↔ kN t.val = qN t.val)
  ∧ (crd t 1).val = hN t.val
  ∧ ((cfg.win (0 : Fin 7)).index t 0 = bN t.val * 16 + qN t.val ∧ (cfg.win (0 : Fin 7)).index t 1 = hN t.val)
  ∧ ((cfg.win (1 : Fin 7)).index t 0 = bN t.val * 16 + kN t.val ∧ (cfg.win (1 : Fin 7)).index t 1 = hN t.val)
  ∧ ((cfg.win (2 : Fin 7)).index t 0 = bN t.val * 16 + kN t.val ∧ (cfg.win (2 : Fin 7)).index t 1 = hN t.val)
  ∧ ((cfg.win (6 : Fin 7)).index t 0 = bN t.val * 16 + qN t.val ∧ (cfg.win (6 : Fin 7)).index t 1 = hN t.val)

theorem place_0 : ∀ t : Fin cfg.N, 0 ≤ t.val → t.val < 272 → Place t := by decide +kernel
theorem place_1 : ∀ t : Fin cfg.N, 272 ≤ t.val → t.val < 544 → Place t := by decide +kernel
theorem place_2 : ∀ t : Fin cfg.N, 544 ≤ t.val → t.val < 816 → Place t := by decide +kernel
theorem place_3 : ∀ t : Fin cfg.N, 816 ≤ t.val → t.val < 1088 → Place t := by decide +kernel
theorem place_4 : ∀ t : Fin cfg.N, 1088 ≤ t.val → t.val < 1360 → Place t := by decide +kernel
theorem place_5 : ∀ t : Fin cfg.N, 1360 ≤ t.val → t.val < 1632 → Place t := by decide +kernel
theorem place_6 : ∀ t : Fin cfg.N, 1632 ≤ t.val → t.val < 1904 → Place t := by decide +kernel
theorem place_7 : ∀ t : Fin cfg.N, 1904 ≤ t.val → t.val < 2176 → Place t := by decide +kernel

/-- The facts at every point. -/
theorem place : ∀ t : Fin cfg.N, Place t := fun t => by
  have h0 : 0 ≤ t.val := Nat.zero_le _
  rcases Nat.lt_or_ge t.val 272 with h1 | h1; · exact place_0 t h0 h1
  rcases Nat.lt_or_ge t.val 544 with h2 | h2; · exact place_1 t h1 h2
  rcases Nat.lt_or_ge t.val 816 with h3 | h3; · exact place_2 t h2 h3
  rcases Nat.lt_or_ge t.val 1088 with h4 | h4; · exact place_3 t h3 h4
  rcases Nat.lt_or_ge t.val 1360 with h5 | h5; · exact place_4 t h4 h5
  rcases Nat.lt_or_ge t.val 1632 with h6 | h6; · exact place_5 t h5 h6
  rcases Nat.lt_or_ge t.val 1904 with h7 | h7; · exact place_6 t h6 h7
  exact place_7 t h7 t.isLt

/-- A query block is one of 16, its key blocks those up to it; and past a row's first key block the point before stands at the
    key block before. -/
theorem tables_chain : ∀ p : Fin 136, (lit0 p).toNat < 16 ∧ (lit1 p).toNat ≤ (lit0 p).toNat
    ∧ ((lit1 p).toNat ≠ 0 → ∃ r : Fin 136, r.val + 1 = p.val ∧ lit0 r = lit0 p ∧ (lit1 r).toNat + 1 = (lit1 p).toNat) := by decide +kernel

/-- Every query block is closed in every head of every batch. -/
theorem tables_onto : ∀ q : Fin 16, ∃ p : Fin 136, (lit0 p).toNat = q.val ∧ (lit1 p).toNat = q.val := by decide +kernel

theorem qN_lt (t : ℕ) : qN t < 16 := (tables_chain _).1
theorem kN_le (t : ℕ) : kN t ≤ qN t := (tables_chain _).2.1

theorem before (t : ℕ) (h : kN t ≠ 0) : ∃ r, r + 1 = t ∧ bN r = bN t ∧ hN r = hN t ∧ qN r = qN t ∧ kN r + 1 = kN t := by
  obtain ⟨r, h1, h2, h3⟩ := (tables_chain ⟨t % 136, Nat.mod_lt _ (by norm_num)⟩).2.2 h
  have hp : r.val + 1 = t % 136 := h1
  have hr : (t - 1) % 136 = r.val := by omega
  have e : (⟨(t - 1) % 136, Nat.mod_lt _ (by norm_num)⟩ : Fin 136) = r := Fin.ext hr
  refine ⟨t - 1, by omega, by unfold bN; omega, by unfold hN; omega, ?_, ?_⟩
  · unfold qN; rw [e, h2]
  · unfold kN; rw [e, h3]

/-- The point closing query block `q` in head `h` of batch `b`. -/
theorem closing (b h : Fin 4) (q : Fin 16) : ∃ t : Fin cfg.N, bN t.val = b.val ∧ hN t.val = h.val ∧ qN t.val = q.val ∧ kN t.val = q.val := by
  obtain ⟨p, h1, h2⟩ := tables_onto q
  have hN : cfg.N = 2176 := rfl
  have e : (⟨(b.val * 544 + h.val * 136 + p.val) % 136, Nat.mod_lt _ (by norm_num)⟩ : Fin 136) = p := Fin.ext (by show (b.val * 544 + h.val * 136 + p.val) % 136 = p.val; omega)
  refine ⟨⟨b.val * 544 + h.val * 136 + p.val, by rw [hN]; omega⟩, ?_, ?_, ?_, ?_⟩
  · show (b.val * 544 + h.val * 136 + p.val) / 544 = b.val; omega
  · show (b.val * 544 + h.val * 136 + p.val) / 136 % 4 = h.val; omega
  · show qN (b.val * 544 + h.val * 136 + p.val) = q.val; unfold qN; rw [e, h1]
  · show kN (b.val * 544 + h.val * 136 + p.val) = q.val; unfold kN; rw [e, h2]

end Cert.KernelIdeal.Attn
-- ==== Proof.Att.Cont.lean ====
module
public import proofs.«01_k».proof.Proof.Att.Flash
public import proofs.«01_k».proof.Proof.Att.Pay
public import Idealize.ShloMosaic.Lib.WritesUnit
public import Idealize.ShloMosaic.Lib.VecWindow
@[expose] public section
set_option maxRecDepth 16384
set_option Elab.async false
noncomputable section
namespace Cert.KernelIdeal.Attn

open Cert.KernelIdeal Cert.KernelIdeal.Gen Cert.Online
open Idealize.ShloMosaic Idealize.ShloMosaic.TcCoe

/-! # What a run of the body leaves in the scratches and in the output's block, element by element -/

section
variable {κ : Kind} {sp : Space} {w : ℕ} {e : EltTy} {sg : RefSig} {Val : EltTy → Type} (v : View sg κ sp (⟨3, ![2, 512, w]⟩ : Shape) e) (f : v.ty.Contents Val)

/-- A store into half `o` read back in that half. -/
theorem wr_hit {o : ℕ} (inb : ∀ a, (![o, 0, 0] : Fin 3 → ℕ) a + (![1, 512, w] : Fin 3 → ℕ) a ≤ (⟨3, ![2, 512, w]⟩ : Shape).size a)
    (p : (Rect.unit (s := (⟨3, ![2, 512, w]⟩ : Shape)) ![o, 0, 0] ![1, 512, w] inb).shape.Idx → Val e) (L : List (View.Piece Val (⟨3, ![2, 512, w]⟩ : Shape) e)) (ch : Fin 2) (r : Fin 512) (x : Fin w) (h : ch.val = o) :
    v.read Val (v.writes Val f ((⟨Rect.unit (s := (⟨3, ![2, 512, w]⟩ : Shape)) ![o, 0, 0] ![1, 512, w] inb, p⟩ : View.Piece Val _ e) :: L)) (ix3 ch r x) = p (ix3 0 r x) :=
  View.read_writes_cons_unit_of_mem v f inb p L (ix3 ch r x) (ix3 0 r x) rfl fun a => by
    fin_cases a
    · show ch.val = o + 0; omega
    · show r.val = 0 + r.val; omega
    · show x.val = 0 + x.val; omega

/-- A store into half `o` read back in the other half. -/
theorem wr_miss {o : ℕ} (inb : ∀ a, (![o, 0, 0] : Fin 3 → ℕ) a + (![1, 512, w] : Fin 3 → ℕ) a ≤ (⟨3, ![2, 512, w]⟩ : Shape).size a)
    (p : (Rect.unit (s := (⟨3, ![2, 512, w]⟩ : Shape)) ![o, 0, 0] ![1, 512, w] inb).shape.Idx → Val e) (L : List (View.Piece Val (⟨3, ![2, 512, w]⟩ : Shape) e)) (ch : Fin 2) (r : Fin 512) (x : Fin w) (h : ch.val ≠ o) :
    v.read Val (v.writes Val f ((⟨Rect.unit (s := (⟨3, ![2, 512, w]⟩ : Shape)) ![o, 0, 0] ![1, 512, w] inb, p⟩ : View.Piece Val _ e) :: L)) (ix3 ch r x) = v.read Val (v.writes Val f L) (ix3 ch r x) :=
  View.read_writes_cons_unit_of_not_mem v f inb p L (ix3 ch r x) rfl (0 : Fin 3) (by
    show ch.val < o ∨ o + 1 ≤ ch.val
    omega)

/-- A load of half `o`. -/
theorem rd (o : ℕ) (ch : Fin 2) (h : ch.val = o) (inb : ∀ a, (![o, 0, 0] : Fin 3 → ℕ) a + (![1, 512, w] : Fin 3 → ℕ) a ≤ (⟨3, ![2, 512, w]⟩ : Shape).size a) (r : Fin 512) (x : Fin w) :
    View.readAt Val v (Rect.unit (s := (⟨3, ![2, 512, w]⟩ : Shape)) ![o, 0, 0] ![1, 512, w] inb).toLoadRect f (ix3 0 r x) = v.read Val f (ix3 ch r x) := by
  show v.read Val f _ = v.read Val f _
  refine congrArg (v.read Val f) (funext fun a => Fin.ext ?_)
  fin_cases a
  · show o + 1 * 0 = ch.val; omega
  · show 0 + 1 * r.val = r.val; omega
  · show 0 + 1 * x.val = x.val; omega
end

theorem pay1_at (x : FVec Ideal S512x1 .f32) (r : Fin 512) : k0_pay1 x (ix3 0 r 0) = x (ix2 r 0) := by pointwise [k0_pay1]
theorem pay22_at (x : FVec Ideal S512x1 .f32) (r : Fin 512) : k0_pay22 x (ix3 0 r 0) = x (ix2 r 0) := by pointwise [k0_pay22]
theorem pay7_eq (x : Vec Ideal S512x128 .bf16) : k0_pay7 x = x := by funext y; idx_vars y; pointwise [k0_pay7]
theorem pay8_eq (x : Vec Ideal S512x128 .bf16) : k0_pay8 x = x := by funext y; idx_vars y; pointwise [k0_pay8]
theorem pay3_at (ch : Fin 2) (r : Fin 512) : k0_pay3 (F := Ideal) (ix3 ch r 0) = ⊥ := by pointwise [k0_pay3]; exact mask_eq
theorem pay4_at (ch : Fin 2) (r : Fin 512) : k0_pay4 (F := Ideal) (ix3 ch r 0) = 0 := by pointwise [k0_pay4]
theorem pay5_at (ch : Fin 2) (r : Fin 512) (x : Fin 128) : k0_pay5 (F := Ideal) (ix3 ch r x) = 0 := by pointwise [k0_pay5]

/-- A row of scores at coordinates `i`, of the tables and the blocks. -/
abbrev sRow (i : grid0.Coords) (T0 T1 : S136.Idx → BitVec 32) (x0 : S512x128.Idx → Elt Ideal .f32) (x1 : S512x128.Idx → Elt Ideal .bf16) (x5 : S1x4.Idx → Elt Ideal .f32)
    (ch : Fin 2) (r : Fin 512) : Fin 512 → EReal :=
  scRow x1 (halfQ ch x0) (k0_pay13 (F := Ideal) (kWord i T1) (x5 (ix2 0 (i 1)))) (k0_pay14 (F := Ideal) (qWord i T0) (kWord i T1)) r

/-- The slope the body reads is the head's. -/
theorem slope_read (i : grid0.Coords) (arg10 : Memref sig .tc .smem S1x4 .f32) (x5 : S1x4.Idx → Elt Ideal .f32) (inb) (hn : 0 < (Rect.unit (s := S1x4) (k0_off2 i) S1x1.size inb).shape.numel) :
    View.readAt (Elt Ideal) arg10.view (Rect.unit (s := S1x4) (k0_off2 i) S1x1.size inb).toLoadRect (arg10.view.rep x5) (Shape.Idx.first hn) = x5 (ix2 0 (i 1)) := by
  rw [View.readAt_rep]
  refine congrArg x5 (funext fun a => Fin.ext ?_)
  have e1 : (i 1).val < 4 := (i 1).isLt
  have e2 : k0_off2 i = ![0, (i 1).val] := by
    unfold k0_off2
    simp only [Scalar.indexCast, BitVec.toNat_ofNat]
    congr 2
    first | omega | (simp; omega)
  have z0 : (Shape.Idx.first hn (0 : Fin 2)).val < 1 := (Shape.Idx.first hn (0 : Fin 2)).isLt
  have z1 : (Shape.Idx.first hn (1 : Fin 2)).val < 1 := (Shape.Idx.first hn (1 : Fin 2)).isLt
  have o0 : k0_off2 i 0 = 0 := congrFun e2 0
  have o1 : k0_off2 i 1 = (i 1).val := congrFun e2 1
  fin_cases a
  · show k0_off2 i 0 + 1 * (Shape.Idx.first hn (0 : Fin 2)).val = 0
    omega
  · show k0_off2 i 1 + 1 * (Shape.Idx.first hn (1 : Fin 2)).val = (i 1).val
    omega

variable (c : Dev nD) (i : grid0.Coords)
  (arg5 : Memref sig .tc .vmem S512x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1 .f32) (harg8 : arg8.IsWhole) (arg9 : Memref sig .tc .vmem S1x128 .f32) (harg9 : arg9.IsWhole) (arg10 : Memref sig .tc .smem S1x4 .f32) (harg10 : arg10.IsWhole) (arg11 : Memref sig .tc .vmem S512x128 .bf16) (harg11 : arg11.IsWhole)
  (T0 T1 : S136.Idx → BitVec 32)
  (x0 : S512x128.Idx → Elt Ideal .f32) (x1 : S512x128.Idx → Elt Ideal .bf16) (x2 : S512x128.Idx → Elt Ideal .bf16) (x3 : S1x1.Idx → Elt Ideal .f32) (x4 : S1x128.Idx → Elt Ideal .f32) (x5 : S1x4.Idx → Elt Ideal .f32)
  (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
  (ch : Fin 2) (r : Fin 512) (e : Fin 128)

/-- The scratches' contents read at an index. -/
abbrev mAt (f : Buf (Elt Ideal) ((c : Thread nD τ).loc cc0_scratch0)) : EReal := mScr.view.read (Elt Ideal) f (ix3 ch r 0)
abbrev lAt (f : Buf (Elt Ideal) ((c : Thread nD τ).loc cc0_scratch1)) : EReal := lScr.view.read (Elt Ideal) f (ix3 ch r 0)
abbrev aAt (f : Buf (Elt Ideal) ((c : Thread nD τ).loc cc0_scratch2)) : EReal := aScr.view.read (Elt Ideal) f (ix3 ch r e)

end Cert.KernelIdeal.Attn
-- ==== Proof.Att.Blocks.lean ====
module
public import proofs.«01_k».proof.Proof.Att.Flash
public import proofs.«01_k».proof.Proof.Att.Place
public import proofs.«01_k».proof.Proof.Att.Cont
public import proofs.«01_k».proof.Proof.Ref.Real
@[expose] public section
noncomputable section
namespace Cert.KernelIdeal.Attn

open Cert.KernelIdeal Cert.KernelIdeal.Gen
open Idealize.ShloMosaic
open Idealize.ShloMosaic.TcCoe Idealize.SL.Sem
open Cert.ReferenceIdeal.Parts (rowN col zAt vAt oAt)

/-! # What the windows read at a point -/

variable (V : (c : Dev nD) → (b : Ref sig .tc) → Buf (Elt Ideal) ((c.tc : Thread nD τ).loc b)) (c : Dev nD)

/-- The batch, the head of a point. -/
abbrev bF (t : Fin cfg.N) : Fin 4 := ⟨bN t.val, by have h : t.val < 2176 := t.isLt; unfold bN; omega⟩
abbrev hF (t : Fin cfg.N) : Fin 4 := ⟨hN t.val, by unfold hN; omega⟩

/-- A block of queries, or of the output: rows `512 q …` of the batch, the head's lanes. -/
theorem blk0 (t : Fin cfg.N) (r : Fin 512) (x : Fin 128) :
    iblk V c (0 : Fin 7) t (ix2 r x) = V c main_arg0 (ix2 (rowN (bF t) (512 * qN t.val + r.val)) (col (hF t) x)) := by
  unfold iblk
  rw [View.read_apply]
  show V c main_arg0 _ = V c main_arg0 _
  have hq := qN_lt t.val
  have hp := (place t).2.2.2.2.1
  congr 1
  funext a
  apply Fin.ext
  match a with
  | ⟨0, _⟩ =>
    show (cfg.win (0 : Fin 7)).index t 0 * 512 + 1 * r.val = bN t.val * 8192 + (512 * qN t.val + r.val) % 8192
    rw [hp.1]; omega
  | ⟨1, _⟩ =>
    show (cfg.win (0 : Fin 7)).index t 1 * 128 + 1 * x.val = hN t.val * 128 + x.val
    rw [hp.2]; omega

/-- A block of keys. -/
theorem blk1 (t : Fin cfg.N) (r : Fin 512) (x : Fin 128) :
    iblk V c (1 : Fin 7) t (ix2 r x) = V c main_v0 (ix2 (rowN (bF t) (512 * kN t.val + r.val)) (col (hF t) x)) := by
  unfold iblk
  rw [View.read_apply]
  show V c main_v0 _ = V c main_v0 _
  have hq := qN_lt t.val
  have hk := kN_le t.val
  have hp := (place t).2.2.2.2.2.1
  congr 1
  funext a
  apply Fin.ext
  match a with
  | ⟨0, _⟩ =>
    show (cfg.win (1 : Fin 7)).index t 0 * 512 + 1 * r.val = bN t.val * 8192 + (512 * kN t.val + r.val) % 8192
    rw [hp.1]; omega
  | ⟨1, _⟩ =>
    show (cfg.win (1 : Fin 7)).index t 1 * 128 + 1 * x.val = hN t.val * 128 + x.val
    rw [hp.2]; omega

/-- A block of values. -/
theorem blk2 (t : Fin cfg.N) (r : Fin 512) (x : Fin 128) :
    iblk V c (2 : Fin 7) t (ix2 r x) = V c main_v1 (ix2 (rowN (bF t) (512 * kN t.val + r.val)) (col (hF t) x)) := by
  unfold iblk
  rw [View.read_apply]
  show V c main_v1 _ = V c main_v1 _
  have hq := qN_lt t.val
  have hk := kN_le t.val
  have hp := (place t).2.2.2.2.2.2.1
  congr 1
  funext a
  apply Fin.ext
  match a with
  | ⟨0, _⟩ =>
    show (cfg.win (2 : Fin 7)).index t 0 * 512 + 1 * r.val = bN t.val * 8192 + (512 * kN t.val + r.val) % 8192
    rw [hp.1]; omega
  | ⟨1, _⟩ =>
    show (cfg.win (2 : Fin 7)).index t 1 * 128 + 1 * x.val = hN t.val * 128 + x.val
    rw [hp.2]; omega

/-- The weight. -/
theorem blk3 (t : Fin cfg.N) : iblk V c (3 : Fin 7) t (ix2 (0 : Fin 1) (0 : Fin 1)) = V c main_v10 (ix2 (0 : Fin 1) (0 : Fin 1)) := by
  unfold iblk
  rw [View.read_apply]
  show V c main_v10 _ = V c main_v10 _
  congr 1
  funext a
  apply Fin.ext
  match a with
  | ⟨0, _⟩ => rfl
  | ⟨1, _⟩ => rfl

/-- The gain. -/
theorem blk4 (t : Fin cfg.N) (e : Fin 128) : iblk V c (4 : Fin 7) t (ix2 (0 : Fin 1) e) = V c main_v20 (ix2 (0 : Fin 1) e) := by
  unfold iblk
  rw [View.read_apply]
  show V c main_v20 _ = V c main_v20 _
  congr 1
  funext a
  apply Fin.ext
  match a with
  | ⟨0, _⟩ => rfl
  | ⟨1, _⟩ => show 0 * 128 + 1 * e.val = e.val; omega

/-- The slopes. -/
theorem blk5 (t : Fin cfg.N) (h : Fin 4) : iblk V c (5 : Fin 7) t (ix2 (0 : Fin 1) h) = V c main_v21 (ix2 (0 : Fin 1) h) := by
  unfold iblk
  rw [View.read_apply]
  show V c main_v21 _ = V c main_v21 _
  congr 1
  funext a
  apply Fin.ext
  match a with
  | ⟨0, _⟩ => rfl
  | ⟨1, _⟩ => show 0 * 4 + 1 * h.val = h.val; omega

/-- The arrays hold real numbers when the call begins. -/
structure Reals (Q K W : S32768x512.Idx → ℝ) (s : Fin 4 → ℝ) (L : ℝ) : Prop where
  q : ∀ x : S32768x512.Idx, V c main_arg0 x = ((Q x : ℝ) : EReal)
  k : ∀ x : S32768x512.Idx, V c main_v0 x = ((K x : ℝ) : EReal)
  v : ∀ x : S32768x512.Idx, V c main_v1 x = ((W x : ℝ) : EReal)
  l : V c main_v10 (ix2 (0 : Fin 1) (0 : Fin 1)) = ((L : ℝ) : EReal)
  s : ∀ h : Fin 4, V c main_v21 (ix2 (0 : Fin 1) h) = ((s h : ℝ) : EReal)

variable {Q K W : S32768x512.Idx → ℝ} {s : Fin 4 → ℝ} {L : ℝ} (H : Reals V c Q K W s L)
include H

/-- The scores a point computes. -/
theorem row_at (t : Fin cfg.N) (ch : Fin 2) (r j : Fin 512) :
    sRow (crd t) Tq Tk (iblk V c (0 : Fin 7) t) (iblk V c (1 : Fin 7) t) (iblk V c (5 : Fin 7) t) ch r j
      = if 512 * kN t.val + j.val ≤ 512 * qN t.val + r.val then ((zAt Q K (s (hF t)) (bF t) (hF t) ch (512 * qN t.val + r.val) (512 * kN t.val + j.val) : ℝ) : EReal) else ⊥ := by
  have hp := place t
  have hs : iblk V c (5 : Fin 7) t (ix2 (0 : Fin 1) (crd t 1)) = ((s (hF t) : ℝ) : EReal) := by
    rw [show (crd t 1 : Fin 4) = hF t from Fin.ext hp.2.2.2.1]
    exact (blk5 V c t (hF t)).trans (H.s _)
  unfold sRow
  rw [hp.1.1, hp.1.2, hs]
  exact score_at ch _ _ (s (hF t)) ⟨qN t.val, qN_lt _⟩ ⟨kN t.val, (kN_le _).trans_lt (qN_lt _)⟩ r j
    (fun x => Q (ix2 (rowN (bF t) (512 * qN t.val + r.val)) (col (hF t) x)))
    (fun x => K (ix2 (rowN (bF t) (512 * kN t.val + j.val)) (col (hF t) x)))
    (fun x => (blk0 V c t r x).trans (H.q _)) (fun x => (blk1 V c t j x).trans (H.k _))

end Cert.KernelIdeal.Attn
-- ==== Proof.Att.ContA.lean ====
module
public import proofs.«01_k».proof.Proof.Att.Cont
@[expose] public section
set_option maxRecDepth 16384
set_option Elab.async false
noncomputable section
namespace Cert.KernelIdeal.Attn

open Cert.KernelIdeal Cert.KernelIdeal.Gen Cert.Online
open Idealize.ShloMosaic Idealize.ShloMosaic.TcCoe

variable (c : Dev nD) (i : grid0.Coords)
  (arg5 : Memref sig .tc .vmem S512x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1 .f32) (harg8 : arg8.IsWhole) (arg9 : Memref sig .tc .vmem S1x128 .f32) (harg9 : arg9.IsWhole) (arg10 : Memref sig .tc .smem S1x4 .f32) (harg10 : arg10.IsWhole) (arg11 : Memref sig .tc .vmem S512x128 .bf16) (harg11 : arg11.IsWhole)
  (T0 T1 : S136.Idx → BitVec 32)
  (x0 : S512x128.Idx → Elt Ideal .f32) (x1 : S512x128.Idx → Elt Ideal .bf16) (x2 : S512x128.Idx → Elt Ideal .bf16) (x3 : S1x1.Idx → Elt Ideal .f32) (x4 : S1x128.Idx → Elt Ideal .f32) (x5 : S1x4.Idx → Elt Ideal .f32)
  (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
  (ch : Fin 2) (r : Fin 512) (e : Fin 128)

/-! ### Run A -/

theorem keyA : runA.sl.r_3 arg6 x1 = x1 := by
  unfold runA.sl.r_3
  rw [pay7_eq]; exact View.readAt_rep_full _ _ _
theorem valA : runA.sl.r_4 arg7 x2 = x2 := by
  unfold runA.sl.r_4
  rw [pay8_eq]; exact View.readAt_rep_full _ _ _
theorem qaA : runA.sl.r_5 arg5 x0 = halfQ 0 x0 := by
  unfold runA.sl.r_5 halfQ
  rw [if_pos rfl]; exact congrArg k0_pay10 (View.readAt_rep_full _ _ _)
theorem qbA : runA.sl.r_6 arg5 x0 = halfQ 1 x0 := by
  unfold runA.sl.r_6 halfQ
  rw [if_neg (by decide)]; exact congrArg k0_pay11 (View.readAt_rep_full _ _ _)
theorem biasA : runA.sl.r_7 i arg10 T1 x5 = k0_pay13 (F := Ideal) (kWord i T1) (x5 (ix2 0 (i 1))) := by
  unfold runA.sl.r_7 runA.sl.r_2
  rw [slope_read]; rfl
theorem keepA : runA.sl.r_8 i T0 T1 = k0_pay14 (F := Ideal) (qWord i T0) (kWord i T1) := rfl

theorem iniA_m0 : mScr.view.read (Elt Ideal) (mScr.view.writes (Elt Ideal) mScr.view.junk runA.sl.HS0_1) (ix3 ch r 0) = ⊥ := by
  unfold runA.sl.HS0_1
  exact (congrFun (View.read_writes_full _ _ _ _ _) _).trans (pay3_at ch r)
theorem iniA_l0 : lScr.view.read (Elt Ideal) (lScr.view.writes (Elt Ideal) lScr.view.junk runA.sl.HS1_1) (ix3 ch r 0) = 0 := by
  unfold runA.sl.HS1_1
  exact (congrFun (View.read_writes_full _ _ _ _ _) _).trans (pay4_at ch r)
theorem iniA_a0 : aScr.view.read (Elt Ideal) (aScr.view.writes (Elt Ideal) aScr.view.junk runA.sl.HS2_1) (ix3 ch r e) = 0 := by
  unfold runA.sl.HS2_1
  exact (congrFun (View.read_writes_full _ _ _ _ _) _).trans (pay5_at ch r e)
theorem v45A : runA.sl.v45 (ix3 0 r 0) = ⊥ := by
  unfold runA.sl.v45
  exact (rd mScr.view _ 0 0 rfl _ r 0).trans (iniA_m0 0 r)
theorem v55A : runA.sl.v55 (ix3 0 r 0) = 0 := by
  unfold runA.sl.v55
  exact (rd lScr.view _ 0 0 rfl _ r 0).trans (iniA_l0 0 r)
theorem v64A : runA.sl.v64 (ix3 0 r e) = 0 := by
  unfold runA.sl.v64
  exact (rd aScr.view _ 0 0 rfl _ r e).trans (iniA_a0 0 r e)
theorem v82A : runA.sl.v82 i arg5 arg6 arg10 T0 T1 x0 x1 x5 (ix3 0 r 0) = ⊥ := by
  unfold runA.sl.v82 runA.sl.HS0_2
  exact (rd mScr.view _ 1 1 rfl _ r 0).trans ((wr_miss mScr.view _ _ _ _ 1 r 0 (by decide)).trans (iniA_m0 1 r))
theorem v92A : runA.sl.v92 i arg5 arg6 arg10 T0 T1 x0 x1 x5 (ix3 0 r 0) = 0 := by
  unfold runA.sl.v92 runA.sl.HS1_2
  exact (rd lScr.view _ 1 1 rfl _ r 0).trans ((wr_miss lScr.view _ _ _ _ 1 r 0 (by decide)).trans (iniA_l0 1 r))
theorem v101A : runA.sl.v101 i arg5 arg6 arg7 arg10 T0 T1 x0 x1 x2 x5 (ix3 0 r e) = 0 := by
  unfold runA.sl.v101 runA.sl.HS2_2
  exact (rd aScr.view _ 1 1 rfl _ r e).trans ((wr_miss aScr.view _ _ _ _ 1 r e (by decide)).trans (iniA_a0 1 r e))

theorem eqA0 (h0 : Opens i T1) (h1 : Closes i T0 T1) : (runA c i arg5 harg5 arg6 harg6 arg7 harg7 arg8 harg8 arg9 harg9 arg10 harg10 arg11 harg11 T0 T1 x0 x1 x2 x3 x4 x5 h0 h1).2.1 = mScr.view.writes (Elt Ideal) mScr.view.junk (runA.sl.HS0_3 i arg5 arg6 arg10 T0 T1 x0 x1 x5) := by unfold runA; rfl
theorem eqA1 (h0 : Opens i T1) (h1 : Closes i T0 T1) : (runA c i arg5 harg5 arg6 harg6 arg7 harg7 arg8 harg8 arg9 harg9 arg10 harg10 arg11 harg11 T0 T1 x0 x1 x2 x3 x4 x5 h0 h1).2.2.1 = lScr.view.writes (Elt Ideal) lScr.view.junk (runA.sl.HS1_3 i arg5 arg6 arg10 T0 T1 x0 x1 x5) := by unfold runA; rfl
theorem eqA2 (h0 : Opens i T1) (h1 : Closes i T0 T1) : (runA c i arg5 harg5 arg6 harg6 arg7 harg7 arg8 harg8 arg9 harg9 arg10 harg10 arg11 harg11 T0 T1 x0 x1 x2 x3 x4 x5 h0 h1).2.2.2.1 = aScr.view.writes (Elt Ideal) aScr.view.junk (runA.sl.HS2_3 i arg5 arg6 arg7 arg10 T0 T1 x0 x1 x2 x5) := by unfold runA; rfl

/-- The running maximum it leaves. -/
theorem mA (h0 : Opens i T1) (h1 : Closes i T0 T1) : mAt c ch r (runA c i arg5 harg5 arg6 harg6 arg7 harg7 arg8 harg8 arg9 harg9 arg10 harg10 arg11 harg11 T0 T1 x0 x1 x2 x3 x4 x5 h0 h1).2.1 = newM ⊥ (sRow i T0 T1 x0 x1 x5 ch r) := by
  rw [eqA0]
  show mScr.view.read (Elt Ideal) _ (ix3 ch r 0) = _
  unfold runA.sl.HS0_3 runA.sl.HS0_2
  match ch with
  | ⟨0, _⟩ =>
    refine (wr_miss mScr.view _ _ _ _ 0 r 0 (by decide)).trans ((wr_hit mScr.view _ _ _ _ 0 r 0 rfl).trans ?_)
    rw [pay22_at]
    unfold runA.sl.r_9
    rw [pay17_at, keyA, qaA, biasA, keepA]
    exact congrArg (fun z => newM z _) (v45A r)
  | ⟨1, _⟩ =>
    refine (wr_hit mScr.view _ _ _ _ 1 r 0 rfl).trans ?_
    rw [pay1_at]
    unfold runA.sl.r_10
    refine (pay17_at _ _ _ _ _ r).trans ?_
    rw [keyA, qbA, biasA, keepA, v82A]
    all_goals rfl

/-- The running sum it leaves. -/
theorem lA (h0 : Opens i T1) (h1 : Closes i T0 T1) : lAt c ch r (runA c i arg5 harg5 arg6 harg6 arg7 harg7 arg8 harg8 arg9 harg9 arg10 harg10 arg11 harg11 T0 T1 x0 x1 x2 x3 x4 x5 h0 h1).2.2.1 = newL ⊥ 0 (sRow i T0 T1 x0 x1 x5 ch r) := by
  rw [eqA1]
  show lScr.view.read (Elt Ideal) _ (ix3 ch r 0) = _
  unfold runA.sl.HS1_3 runA.sl.HS1_2
  match ch with
  | ⟨0, _⟩ =>
    refine (wr_miss lScr.view _ _ _ _ 0 r 0 (by decide)).trans ((wr_hit lScr.view _ _ _ _ 0 r 0 rfl).trans ?_)
    refine (pay20_at _ _ _ _ _ _ r).trans ?_
    rw [keyA, qaA, biasA, keepA]
    exact congrArg₂ (fun z y => newL z y _) (v45A r) (v55A r)
  | ⟨1, _⟩ =>
    refine (wr_hit lScr.view _ _ _ _ 1 r 0 rfl).trans ?_
    refine (pay20_at _ _ _ _ _ _ r).trans ?_
    rw [keyA, qbA, biasA, keepA, v82A, v92A]
    all_goals rfl

/-- The running numerators it leaves. -/
theorem aA (h0 : Opens i T1) (h1 : Closes i T0 T1) : aAt c ch r e (runA c i arg5 harg5 arg6 harg6 arg7 harg7 arg8 harg8 arg9 harg9 arg10 harg10 arg11 harg11 T0 T1 x0 x1 x2 x3 x4 x5 h0 h1).2.2.2.1 = newA ⊥ 0 (sRow i T0 T1 x0 x1 x5 ch r) (fun j => x2 (ix2 j e)) := by
  rw [eqA2]
  show aScr.view.read (Elt Ideal) _ (ix3 ch r e) = _
  unfold runA.sl.HS2_3 runA.sl.HS2_2
  match ch with
  | ⟨0, _⟩ =>
    refine (wr_miss aScr.view _ _ _ _ 0 r e (by decide)).trans ((wr_hit aScr.view _ _ _ _ 0 r e rfl).trans ?_)
    refine (pay21_at _ _ _ _ _ _ _ r e).trans ?_
    rw [keyA, valA, qaA, biasA, keepA]
    exact congrArg₂ (fun z y => newA z y _ _) (v45A r) (v64A r e)
  | ⟨1, _⟩ =>
    refine (wr_hit aScr.view _ _ _ _ 1 r e rfl).trans ?_
    refine (pay21_at _ _ _ _ _ _ _ r e).trans ?_
    rw [keyA, valA, qbA, biasA, keepA, v82A, v101A]
    all_goals rfl

theorem oA' (h0 : Opens i T1) (h1 : Closes i T0 T1) : outA c i arg5 harg5 arg6 harg6 arg7 harg7 arg8 harg8 arg9 harg9 arg10 harg10 arg11 harg11 T0 T1 x0 x1 x2 x3 x4 x5 h0 h1 (ix2 r e)
    = outRow (x3 (ix2 0 0)) (x4 (ix2 0 e)) (fun x => Ideal.div (aAt c 0 r x (aScr.view.writes (Elt Ideal) aScr.view.junk (runA.sl.HS2_3 i arg5 arg6 arg7 arg10 T0 T1 x0 x1 x2 x5))) (lAt c 0 r (lScr.view.writes (Elt Ideal) lScr.view.junk (runA.sl.HS1_3 i arg5 arg6 arg10 T0 T1 x0 x1 x5)))
        - x3 (ix2 0 0) * Ideal.div (aAt c 1 r x (aScr.view.writes (Elt Ideal) aScr.view.junk (runA.sl.HS2_3 i arg5 arg6 arg7 arg10 T0 T1 x0 x1 x2 x5))) (lAt c 1 r (lScr.view.writes (Elt Ideal) lScr.view.junk (runA.sl.HS1_3 i arg5 arg6 arg10 T0 T1 x0 x1 x5)))) e := by
  unfold outA
  show VO.read (Elt Ideal) (VO.writes (Elt Ideal) VO.junk (runA.sl.HO6_1 i arg5 arg6 arg7 arg8 arg9 arg10 T0 T1 x0 x1 x2 x3 x4 x5)) (ix2 r e) = _
  unfold runA.sl.HO6_1
  refine (congrFun (View.read_writes_full _ _ _ _ _) _).trans ((pay2_at _ _ _ _ _ _ r e).trans ?_)
  have e3 : View.readAt (Elt Ideal) arg8.view (Rect.unit (s := S1x1) ![0, 0] S1x1.size inb_S1x1_S1x1_0_0).toLoadRect (arg8.view.rep x3) = x3 := View.readAt_rep_full _ _ _
  have e4 : View.readAt (Elt Ideal) arg9.view (Rect.unit (s := S1x128) ![0, 0] S1x128.size inb_S1x128_S1x128_0_0).toLoadRect (arg9.view.rep x4) = x4 := View.readAt_rep_full _ _ _
  rw [e3, e4]
  refine congrArg (fun o => outRow (x3 (ix2 0 0)) (x4 (ix2 0 e)) o e) (funext fun x => ?_)
  unfold runA.sl.v119 runA.sl.v121 runA.sl.v125 runA.sl.v127
  exact congrArg₂ (fun u v => u - x3 (ix2 0 0) * v)
    (congrArg₂ Ideal.div (rd aScr.view _ 0 0 rfl _ r x) (rd lScr.view _ 0 0 rfl _ r 0))
    (congrArg₂ Ideal.div (rd aScr.view _ 1 1 rfl _ r x) (rd lScr.view _ 1 1 rfl _ r 0))

/-- The output's block it leaves. -/
theorem oA (h0 : Opens i T1) (h1 : Closes i T0 T1) : outA c i arg5 harg5 arg6 harg6 arg7 harg7 arg8 harg8 arg9 harg9 arg10 harg10 arg11 harg11 T0 T1 x0 x1 x2 x3 x4 x5 h0 h1 (ix2 r e)
    = outRow (x3 (ix2 0 0)) (x4 (ix2 0 e)) (fun x => Ideal.div (aAt c 0 r x (runA c i arg5 harg5 arg6 harg6 arg7 harg7 arg8 harg8 arg9 harg9 arg10 harg10 arg11 harg11 T0 T1 x0 x1 x2 x3 x4 x5 h0 h1).2.2.2.1) (lAt c 0 r (runA c i arg5 harg5 arg6 harg6 arg7 harg7 arg8 harg8 arg9 harg9 arg10 harg10 arg11 harg11 T0 T1 x0 x1 x2 x3 x4 x5 h0 h1).2.2.1) - x3 (ix2 0 0) * Ideal.div (aAt c 1 r x (runA c i arg5 harg5 arg6 harg6 arg7 harg7 arg8 harg8 arg9 harg9 arg10 harg10 arg11 harg11 T0 T1 x0 x1 x2 x3 x4 x5 h0 h1).2.2.2.1) (lAt c 1 r (runA c i arg5 harg5 arg6 harg6 arg7 harg7 arg8 harg8 arg9 harg9 arg10 harg10 arg11 harg11 T0 T1 x0 x1 x2 x3 x4 x5 h0 h1).2.2.1)) e :=
  (oA' c i arg5 harg5 arg6 harg6 arg7 harg7 arg8 harg8 arg9 harg9 arg10 harg10 arg11 harg11 T0 T1 x0 x1 x2 x3 x4 x5 r e h0 h1).trans
    (congrArg₂ (fun u v => outRow (x3 (ix2 0 0)) (x4 (ix2 0 e)) (fun x => Ideal.div (aAt c 0 r x u) (lAt c 0 r v) - x3 (ix2 0 0) * Ideal.div (aAt c 1 r x u) (lAt c 1 r v)) e)
      (eqA2 c i arg5 harg5 arg6 harg6 arg7 harg7 arg8 harg8 arg9 harg9 arg10 harg10 arg11 harg11 T0 T1 x0 x1 x2 x3 x4 x5 h0 h1).symm (eqA1 c i arg5 harg5 arg6 harg6 arg7 harg7 arg8 harg8 arg9 harg9 arg10 harg10 arg11 harg11 T0 T1 x0 x1 x2 x3 x4 x5 h0 h1).symm)

end Cert.KernelIdeal.Attn
-- ==== Proof.Att.ContB.lean ====
module
public import proofs.«01_k».proof.Proof.Att.Cont
@[expose] public section
set_option maxRecDepth 16384
set_option Elab.async false
noncomputable section
namespace Cert.KernelIdeal.Attn

open Cert.KernelIdeal Cert.KernelIdeal.Gen Cert.Online
open Idealize.ShloMosaic Idealize.ShloMosaic.TcCoe

variable (c : Dev nD) (i : grid0.Coords)
  (arg5 : Memref sig .tc .vmem S512x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1 .f32) (harg8 : arg8.IsWhole) (arg9 : Memref sig .tc .vmem S1x128 .f32) (harg9 : arg9.IsWhole) (arg10 : Memref sig .tc .smem S1x4 .f32) (harg10 : arg10.IsWhole) (arg11 : Memref sig .tc .vmem S512x128 .bf16) (harg11 : arg11.IsWhole)
  (T0 T1 : S136.Idx → BitVec 32)
  (x0 : S512x128.Idx → Elt Ideal .f32) (x1 : S512x128.Idx → Elt Ideal .bf16) (x2 : S512x128.Idx → Elt Ideal .bf16) (x3 : S1x1.Idx → Elt Ideal .f32) (x4 : S1x128.Idx → Elt Ideal .f32) (x5 : S1x4.Idx → Elt Ideal .f32)
  (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
  (ch : Fin 2) (r : Fin 512) (e : Fin 128)

/-! ### Run B -/

theorem keyB : runB.sl.r_3 arg6 x1 = x1 := by
  unfold runB.sl.r_3
  rw [pay7_eq]; exact View.readAt_rep_full _ _ _
theorem valB : runB.sl.r_4 arg7 x2 = x2 := by
  unfold runB.sl.r_4
  rw [pay8_eq]; exact View.readAt_rep_full _ _ _
theorem qaB : runB.sl.r_5 arg5 x0 = halfQ 0 x0 := by
  unfold runB.sl.r_5 halfQ
  rw [if_pos rfl]; exact congrArg k0_pay10 (View.readAt_rep_full _ _ _)
theorem qbB : runB.sl.r_6 arg5 x0 = halfQ 1 x0 := by
  unfold runB.sl.r_6 halfQ
  rw [if_neg (by decide)]; exact congrArg k0_pay11 (View.readAt_rep_full _ _ _)
theorem biasB : runB.sl.r_7 i arg10 T1 x5 = k0_pay13 (F := Ideal) (kWord i T1) (x5 (ix2 0 (i 1))) := by
  unfold runB.sl.r_7 runB.sl.r_2
  rw [slope_read]; rfl
theorem keepB : runB.sl.r_8 i T0 T1 = k0_pay14 (F := Ideal) (qWord i T0) (kWord i T1) := rfl

theorem iniB_m0 : mScr.view.read (Elt Ideal) (mScr.view.writes (Elt Ideal) mScr.view.junk runB.sl.HS0_1) (ix3 ch r 0) = ⊥ := by
  unfold runB.sl.HS0_1
  exact (congrFun (View.read_writes_full _ _ _ _ _) _).trans (pay3_at ch r)
theorem iniB_l0 : lScr.view.read (Elt Ideal) (lScr.view.writes (Elt Ideal) lScr.view.junk runB.sl.HS1_1) (ix3 ch r 0) = 0 := by
  unfold runB.sl.HS1_1
  exact (congrFun (View.read_writes_full _ _ _ _ _) _).trans (pay4_at ch r)
theorem iniB_a0 : aScr.view.read (Elt Ideal) (aScr.view.writes (Elt Ideal) aScr.view.junk runB.sl.HS2_1) (ix3 ch r e) = 0 := by
  unfold runB.sl.HS2_1
  exact (congrFun (View.read_writes_full _ _ _ _ _) _).trans (pay5_at ch r e)
theorem v45B : runB.sl.v45 (ix3 0 r 0) = ⊥ := by
  unfold runB.sl.v45
  exact (rd mScr.view _ 0 0 rfl _ r 0).trans (iniB_m0 0 r)
theorem v55B : runB.sl.v55 (ix3 0 r 0) = 0 := by
  unfold runB.sl.v55
  exact (rd lScr.view _ 0 0 rfl _ r 0).trans (iniB_l0 0 r)
theorem v64B : runB.sl.v64 (ix3 0 r e) = 0 := by
  unfold runB.sl.v64
  exact (rd aScr.view _ 0 0 rfl _ r e).trans (iniB_a0 0 r e)
theorem v82B : runB.sl.v82 i arg5 arg6 arg10 T0 T1 x0 x1 x5 (ix3 0 r 0) = ⊥ := by
  unfold runB.sl.v82 runB.sl.HS0_2
  exact (rd mScr.view _ 1 1 rfl _ r 0).trans ((wr_miss mScr.view _ _ _ _ 1 r 0 (by decide)).trans (iniB_m0 1 r))
theorem v92B : runB.sl.v92 i arg5 arg6 arg10 T0 T1 x0 x1 x5 (ix3 0 r 0) = 0 := by
  unfold runB.sl.v92 runB.sl.HS1_2
  exact (rd lScr.view _ 1 1 rfl _ r 0).trans ((wr_miss lScr.view _ _ _ _ 1 r 0 (by decide)).trans (iniB_l0 1 r))
theorem v101B : runB.sl.v101 i arg5 arg6 arg7 arg10 T0 T1 x0 x1 x2 x5 (ix3 0 r e) = 0 := by
  unfold runB.sl.v101 runB.sl.HS2_2
  exact (rd aScr.view _ 1 1 rfl _ r e).trans ((wr_miss aScr.view _ _ _ _ 1 r e (by decide)).trans (iniB_a0 1 r e))

theorem eqB0 (h0 : Opens i T1) (h1 : ¬ Closes i T0 T1) : (runB c i arg5 harg5 arg6 harg6 arg7 harg7 arg8 harg8 arg9 harg9 arg10 harg10 arg11 harg11 T0 T1 x0 x1 x2 x3 x4 x5 h0 h1).1 = mScr.view.writes (Elt Ideal) mScr.view.junk (runB.sl.HS0_3 i arg5 arg6 arg10 T0 T1 x0 x1 x5) := by unfold runB; rfl
theorem eqB1 (h0 : Opens i T1) (h1 : ¬ Closes i T0 T1) : (runB c i arg5 harg5 arg6 harg6 arg7 harg7 arg8 harg8 arg9 harg9 arg10 harg10 arg11 harg11 T0 T1 x0 x1 x2 x3 x4 x5 h0 h1).2.1 = lScr.view.writes (Elt Ideal) lScr.view.junk (runB.sl.HS1_3 i arg5 arg6 arg10 T0 T1 x0 x1 x5) := by unfold runB; rfl
theorem eqB2 (h0 : Opens i T1) (h1 : ¬ Closes i T0 T1) : (runB c i arg5 harg5 arg6 harg6 arg7 harg7 arg8 harg8 arg9 harg9 arg10 harg10 arg11 harg11 T0 T1 x0 x1 x2 x3 x4 x5 h0 h1).2.2.1 = aScr.view.writes (Elt Ideal) aScr.view.junk (runB.sl.HS2_3 i arg5 arg6 arg7 arg10 T0 T1 x0 x1 x2 x5) := by unfold runB; rfl

/-- The running maximum it leaves. -/
theorem mB (h0 : Opens i T1) (h1 : ¬ Closes i T0 T1) : mAt c ch r (runB c i arg5 harg5 arg6 harg6 arg7 harg7 arg8 harg8 arg9 harg9 arg10 harg10 arg11 harg11 T0 T1 x0 x1 x2 x3 x4 x5 h0 h1).1 = newM ⊥ (sRow i T0 T1 x0 x1 x5 ch r) := by
  rw [eqB0]
  show mScr.view.read (Elt Ideal) _ (ix3 ch r 0) = _
  unfold runB.sl.HS0_3 runB.sl.HS0_2
  match ch with
  | ⟨0, _⟩ =>
    refine (wr_miss mScr.view _ _ _ _ 0 r 0 (by decide)).trans ((wr_hit mScr.view _ _ _ _ 0 r 0 rfl).trans ?_)
    rw [pay22_at]
    unfold runB.sl.r_9
    rw [pay17_at, keyB, qaB, biasB, keepB]
    exact congrArg (fun z => newM z _) (v45B r)
  | ⟨1, _⟩ =>
    refine (wr_hit mScr.view _ _ _ _ 1 r 0 rfl).trans ?_
    rw [pay1_at]
    unfold runB.sl.r_10
    refine (pay17_at _ _ _ _ _ r).trans ?_
    rw [keyB, qbB, biasB, keepB, v82B]
    all_goals rfl

/-- The running sum it leaves. -/
theorem lB (h0 : Opens i T1) (h1 : ¬ Closes i T0 T1) : lAt c ch r (runB c i arg5 harg5 arg6 harg6 arg7 harg7 arg8 harg8 arg9 harg9 arg10 harg10 arg11 harg11 T0 T1 x0 x1 x2 x3 x4 x5 h0 h1).2.1 = newL ⊥ 0 (sRow i T0 T1 x0 x1 x5 ch r) := by
  rw [eqB1]
  show lScr.view.read (Elt Ideal) _ (ix3 ch r 0) = _
  unfold runB.sl.HS1_3 runB.sl.HS1_2
  match ch with
  | ⟨0, _⟩ =>
    refine (wr_miss lScr.view _ _ _ _ 0 r 0 (by decide)).trans ((wr_hit lScr.view _ _ _ _ 0 r 0 rfl).trans ?_)
    refine (pay20_at _ _ _ _ _ _ r).trans ?_
    rw [keyB, qaB, biasB, keepB]
    exact congrArg₂ (fun z y => newL z y _) (v45B r) (v55B r)
  | ⟨1, _⟩ =>
    refine (wr_hit lScr.view _ _ _ _ 1 r 0 rfl).trans ?_
    refine (pay20_at _ _ _ _ _ _ r).trans ?_
    rw [keyB, qbB, biasB, keepB, v82B, v92B]
    all_goals rfl

/-- The running numerators it leaves. -/
theorem aB (h0 : Opens i T1) (h1 : ¬ Closes i T0 T1) : aAt c ch r e (runB c i arg5 harg5 arg6 harg6 arg7 harg7 arg8 harg8 arg9 harg9 arg10 harg10 arg11 harg11 T0 T1 x0 x1 x2 x3 x4 x5 h0 h1).2.2.1 = newA ⊥ 0 (sRow i T0 T1 x0 x1 x5 ch r) (fun j => x2 (ix2 j e)) := by
  rw [eqB2]
  show aScr.view.read (Elt Ideal) _ (ix3 ch r e) = _
  unfold runB.sl.HS2_3 runB.sl.HS2_2
  match ch with
  | ⟨0, _⟩ =>
    refine (wr_miss aScr.view _ _ _ _ 0 r e (by decide)).trans ((wr_hit aScr.view _ _ _ _ 0 r e rfl).trans ?_)
    refine (pay21_at _ _ _ _ _ _ _ r e).trans ?_
    rw [keyB, valB, qaB, biasB, keepB]
    exact congrArg₂ (fun z y => newA z y _ _) (v45B r) (v64B r e)
  | ⟨1, _⟩ =>
    refine (wr_hit aScr.view _ _ _ _ 1 r e rfl).trans ?_
    refine (pay21_at _ _ _ _ _ _ _ r e).trans ?_
    rw [keyB, valB, qbB, biasB, keepB, v82B, v101B]
    all_goals rfl

end Cert.KernelIdeal.Attn
-- ==== Proof.Att.ContC.lean ====
module
public import proofs.«01_k».proof.Proof.Att.Cont
@[expose] public section
set_option maxRecDepth 16384
set_option Elab.async false
noncomputable section
namespace Cert.KernelIdeal.Attn

open Cert.KernelIdeal Cert.KernelIdeal.Gen Cert.Online
open Idealize.ShloMosaic Idealize.ShloMosaic.TcCoe

variable (c : Dev nD) (i : grid0.Coords)
  (arg5 : Memref sig .tc .vmem S512x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1 .f32) (harg8 : arg8.IsWhole) (arg9 : Memref sig .tc .vmem S1x128 .f32) (harg9 : arg9.IsWhole) (arg10 : Memref sig .tc .smem S1x4 .f32) (harg10 : arg10.IsWhole) (arg11 : Memref sig .tc .vmem S512x128 .bf16) (harg11 : arg11.IsWhole)
  (T0 T1 : S136.Idx → BitVec 32)
  (x0 : S512x128.Idx → Elt Ideal .f32) (x1 : S512x128.Idx → Elt Ideal .bf16) (x2 : S512x128.Idx → Elt Ideal .bf16) (x3 : S1x1.Idx → Elt Ideal .f32) (x4 : S1x128.Idx → Elt Ideal .f32) (x5 : S1x4.Idx → Elt Ideal .f32)
  (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
  (ch : Fin 2) (r : Fin 512) (e : Fin 128)

/-! ### Run C -/

theorem keyC : runC.sl.r_3 arg6 x1 = x1 := by
  unfold runC.sl.r_3
  rw [pay7_eq]; exact View.readAt_rep_full _ _ _
theorem valC : runC.sl.r_4 arg7 x2 = x2 := by
  unfold runC.sl.r_4
  rw [pay8_eq]; exact View.readAt_rep_full _ _ _
theorem qaC : runC.sl.r_5 arg5 x0 = halfQ 0 x0 := by
  unfold runC.sl.r_5 halfQ
  rw [if_pos rfl]; exact congrArg k0_pay10 (View.readAt_rep_full _ _ _)
theorem qbC : runC.sl.r_6 arg5 x0 = halfQ 1 x0 := by
  unfold runC.sl.r_6 halfQ
  rw [if_neg (by decide)]; exact congrArg k0_pay11 (View.readAt_rep_full _ _ _)
theorem biasC : runC.sl.r_7 i arg10 T1 x5 = k0_pay13 (F := Ideal) (kWord i T1) (x5 (ix2 0 (i 1))) := by
  unfold runC.sl.r_7 runC.sl.r_2
  rw [slope_read]; rfl
theorem keepC : runC.sl.r_8 i T0 T1 = k0_pay14 (F := Ideal) (qWord i T0) (kWord i T1) := rfl

theorem v82C : runC.sl.v82 c xa0 (ix3 0 r 0) = mAt c 1 r xa0 := by
  unfold runC.sl.v82
  exact rd mScr.view _ 1 1 rfl _ r 0
theorem v92C : runC.sl.v92 c xa1 (ix3 0 r 0) = lAt c 1 r xa1 := by
  unfold runC.sl.v92
  exact rd lScr.view _ 1 1 rfl _ r 0
theorem v101C : runC.sl.v101 c xa2 (ix3 0 r e) = aAt c 1 r e xa2 := by
  unfold runC.sl.v101
  exact rd aScr.view _ 1 1 rfl _ r e

theorem eqC0 (h0 : ¬ Opens i T1) (h1 : Closes i T0 T1) : (runC c i arg5 harg5 arg6 harg6 arg7 harg7 arg8 harg8 arg9 harg9 arg10 harg10 arg11 harg11 T0 T1 x0 x1 x2 x3 x4 x5 xa0 xa1 xa2 h0 h1).2.1 = mScr.view.writes (Elt Ideal) mScr.view.junk (runC.sl.HS0_2 c i arg5 arg6 arg10 T0 T1 x0 x1 x5 xa0) := by unfold runC; rfl
theorem eqC1 (h0 : ¬ Opens i T1) (h1 : Closes i T0 T1) : (runC c i arg5 harg5 arg6 harg6 arg7 harg7 arg8 harg8 arg9 harg9 arg10 harg10 arg11 harg11 T0 T1 x0 x1 x2 x3 x4 x5 xa0 xa1 xa2 h0 h1).2.2.1 = lScr.view.writes (Elt Ideal) lScr.view.junk (runC.sl.HS1_2 c i arg5 arg6 arg10 T0 T1 x0 x1 x5 xa0 xa1) := by unfold runC; rfl
theorem eqC2 (h0 : ¬ Opens i T1) (h1 : Closes i T0 T1) : (runC c i arg5 harg5 arg6 harg6 arg7 harg7 arg8 harg8 arg9 harg9 arg10 harg10 arg11 harg11 T0 T1 x0 x1 x2 x3 x4 x5 xa0 xa1 xa2 h0 h1).2.2.2.1 = aScr.view.writes (Elt Ideal) aScr.view.junk (runC.sl.HS2_2 c i arg5 arg6 arg7 arg10 T0 T1 x0 x1 x2 x5 xa0 xa2) := by unfold runC; rfl

/-- The running maximum it leaves. -/
theorem mC (h0 : ¬ Opens i T1) (h1 : Closes i T0 T1) : mAt c ch r (runC c i arg5 harg5 arg6 harg6 arg7 harg7 arg8 harg8 arg9 harg9 arg10 harg10 arg11 harg11 T0 T1 x0 x1 x2 x3 x4 x5 xa0 xa1 xa2 h0 h1).2.1 = newM (mAt c ch r xa0) (sRow i T0 T1 x0 x1 x5 ch r) := by
  rw [eqC0]
  show mScr.view.read (Elt Ideal) _ (ix3 ch r 0) = _
  unfold runC.sl.HS0_2
  match ch with
  | ⟨0, _⟩ =>
    refine (wr_miss mScr.view _ _ _ _ 0 r 0 (by decide)).trans ((wr_hit mScr.view _ _ _ _ 0 r 0 rfl).trans ?_)
    rw [pay22_at]
    unfold runC.sl.r_9
    rw [pay17_at, keyC, qaC, biasC, keepC]
    exact congrArg (fun z => newM z _) (rd mScr.view xa0 0 0 rfl _ r 0)
  | ⟨1, _⟩ =>
    refine (wr_hit mScr.view _ _ _ _ 1 r 0 rfl).trans ?_
    rw [pay1_at]
    unfold runC.sl.r_11
    refine (pay17_at _ _ _ _ _ r).trans ?_
    rw [keyC, qbC, biasC, keepC, v82C]
    all_goals rfl

/-- The running sum it leaves. -/
theorem lC (h0 : ¬ Opens i T1) (h1 : Closes i T0 T1) : lAt c ch r (runC c i arg5 harg5 arg6 harg6 arg7 harg7 arg8 harg8 arg9 harg9 arg10 harg10 arg11 harg11 T0 T1 x0 x1 x2 x3 x4 x5 xa0 xa1 xa2 h0 h1).2.2.1 = newL (mAt c ch r xa0) (lAt c ch r xa1) (sRow i T0 T1 x0 x1 x5 ch r) := by
  rw [eqC1]
  show lScr.view.read (Elt Ideal) _ (ix3 ch r 0) = _
  unfold runC.sl.HS1_2
  match ch with
  | ⟨0, _⟩ =>
    refine (wr_miss lScr.view _ _ _ _ 0 r 0 (by decide)).trans ((wr_hit lScr.view _ _ _ _ 0 r 0 rfl).trans ?_)
    refine (pay20_at _ _ _ _ _ _ r).trans ?_
    rw [keyC, qaC, biasC, keepC]
    exact congrArg₂ (fun z y => newL z y _) (rd mScr.view xa0 0 0 rfl _ r 0) (rd lScr.view xa1 0 0 rfl _ r 0)
  | ⟨1, _⟩ =>
    refine (wr_hit lScr.view _ _ _ _ 1 r 0 rfl).trans ?_
    refine (pay20_at _ _ _ _ _ _ r).trans ?_
    rw [keyC, qbC, biasC, keepC, v82C, v92C]
    all_goals rfl

/-- The running numerators it leaves. -/
theorem aC (h0 : ¬ Opens i T1) (h1 : Closes i T0 T1) : aAt c ch r e (runC c i arg5 harg5 arg6 harg6 arg7 harg7 arg8 harg8 arg9 harg9 arg10 harg10 arg11 harg11 T0 T1 x0 x1 x2 x3 x4 x5 xa0 xa1 xa2 h0 h1).2.2.2.1 = newA (mAt c ch r xa0) (aAt c ch r e xa2) (sRow i T0 T1 x0 x1 x5 ch r) (fun j => x2 (ix2 j e)) := by
  rw [eqC2]
  show aScr.view.read (Elt Ideal) _ (ix3 ch r e) = _
  unfold runC.sl.HS2_2
  match ch with
  | ⟨0, _⟩ =>
    refine (wr_miss aScr.view _ _ _ _ 0 r e (by decide)).trans ((wr_hit aScr.view _ _ _ _ 0 r e rfl).trans ?_)
    refine (pay21_at _ _ _ _ _ _ _ r e).trans ?_
    rw [keyC, valC, qaC, biasC, keepC]
    exact congrArg₂ (fun z y => newA z y _ _) (rd mScr.view xa0 0 0 rfl _ r 0) (rd aScr.view xa2 0 0 rfl _ r e)
  | ⟨1, _⟩ =>
    refine (wr_hit aScr.view _ _ _ _ 1 r e rfl).trans ?_
    refine (pay21_at _ _ _ _ _ _ _ r e).trans ?_
    rw [keyC, valC, qbC, biasC, keepC, v82C, v101C]
    all_goals rfl

theorem oC' (h0 : ¬ Opens i T1) (h1 : Closes i T0 T1) : outC c i arg5 harg5 arg6 harg6 arg7 harg7 arg8 harg8 arg9 harg9 arg10 harg10 arg11 harg11 T0 T1 x0 x1 x2 x3 x4 x5 xa0 xa1 xa2 h0 h1 (ix2 r e)
    = outRow (x3 (ix2 0 0)) (x4 (ix2 0 e)) (fun x => Ideal.div (aAt c 0 r x (aScr.view.writes (Elt Ideal) aScr.view.junk (runC.sl.HS2_2 c i arg5 arg6 arg7 arg10 T0 T1 x0 x1 x2 x5 xa0 xa2))) (lAt c 0 r (lScr.view.writes (Elt Ideal) lScr.view.junk (runC.sl.HS1_2 c i arg5 arg6 arg10 T0 T1 x0 x1 x5 xa0 xa1)))
        - x3 (ix2 0 0) * Ideal.div (aAt c 1 r x (aScr.view.writes (Elt Ideal) aScr.view.junk (runC.sl.HS2_2 c i arg5 arg6 arg7 arg10 T0 T1 x0 x1 x2 x5 xa0 xa2))) (lAt c 1 r (lScr.view.writes (Elt Ideal) lScr.view.junk (runC.sl.HS1_2 c i arg5 arg6 arg10 T0 T1 x0 x1 x5 xa0 xa1)))) e := by
  unfold outC
  show VO.read (Elt Ideal) (VO.writes (Elt Ideal) VO.junk (runC.sl.HO6_1 c i arg5 arg6 arg7 arg8 arg9 arg10 T0 T1 x0 x1 x2 x3 x4 x5 xa0 xa1 xa2)) (ix2 r e) = _
  unfold runC.sl.HO6_1
  refine (congrFun (View.read_writes_full _ _ _ _ _) _).trans ((pay2_at _ _ _ _ _ _ r e).trans ?_)
  have e3 : View.readAt (Elt Ideal) arg8.view (Rect.unit (s := S1x1) ![0, 0] S1x1.size inb_S1x1_S1x1_0_0).toLoadRect (arg8.view.rep x3) = x3 := View.readAt_rep_full _ _ _
  have e4 : View.readAt (Elt Ideal) arg9.view (Rect.unit (s := S1x128) ![0, 0] S1x128.size inb_S1x128_S1x128_0_0).toLoadRect (arg9.view.rep x4) = x4 := View.readAt_rep_full _ _ _
  rw [e3, e4]
  refine congrArg (fun o => outRow (x3 (ix2 0 0)) (x4 (ix2 0 e)) o e) (funext fun x => ?_)
  unfold runC.sl.v119 runC.sl.v121 runC.sl.v125 runC.sl.v127
  exact congrArg₂ (fun u v => u - x3 (ix2 0 0) * v)
    (congrArg₂ Ideal.div (rd aScr.view _ 0 0 rfl _ r x) (rd lScr.view _ 0 0 rfl _ r 0))
    (congrArg₂ Ideal.div (rd aScr.view _ 1 1 rfl _ r x) (rd lScr.view _ 1 1 rfl _ r 0))

/-- The output's block it leaves. -/
theorem oC (h0 : ¬ Opens i T1) (h1 : Closes i T0 T1) : outC c i arg5 harg5 arg6 harg6 arg7 harg7 arg8 harg8 arg9 harg9 arg10 harg10 arg11 harg11 T0 T1 x0 x1 x2 x3 x4 x5 xa0 xa1 xa2 h0 h1 (ix2 r e)
    = outRow (x3 (ix2 0 0)) (x4 (ix2 0 e)) (fun x => Ideal.div (aAt c 0 r x (runC c i arg5 harg5 arg6 harg6 arg7 harg7 arg8 harg8 arg9 harg9 arg10 harg10 arg11 harg11 T0 T1 x0 x1 x2 x3 x4 x5 xa0 xa1 xa2 h0 h1).2.2.2.1) (lAt c 0 r (runC c i arg5 harg5 arg6 harg6 arg7 harg7 arg8 harg8 arg9 harg9 arg10 harg10 arg11 harg11 T0 T1 x0 x1 x2 x3 x4 x5 xa0 xa1 xa2 h0 h1).2.2.1) - x3 (ix2 0 0) * Ideal.div (aAt c 1 r x (runC c i arg5 harg5 arg6 harg6 arg7 harg7 arg8 harg8 arg9 harg9 arg10 harg10 arg11 harg11 T0 T1 x0 x1 x2 x3 x4 x5 xa0 xa1 xa2 h0 h1).2.2.2.1) (lAt c 1 r (runC c i arg5 harg5 arg6 harg6 arg7 harg7 arg8 harg8 arg9 harg9 arg10 harg10 arg11 harg11 T0 T1 x0 x1 x2 x3 x4 x5 xa0 xa1 xa2 h0 h1).2.2.1)) e :=
  (oC' c i arg5 harg5 arg6 harg6 arg7 harg7 arg8 harg8 arg9 harg9 arg10 harg10 arg11 harg11 T0 T1 x0 x1 x2 x3 x4 x5 xa0 xa1 xa2 r e h0 h1).trans
    (congrArg₂ (fun u v => outRow (x3 (ix2 0 0)) (x4 (ix2 0 e)) (fun x => Ideal.div (aAt c 0 r x u) (lAt c 0 r v) - x3 (ix2 0 0) * Ideal.div (aAt c 1 r x u) (lAt c 1 r v)) e)
      (eqC2 c i arg5 harg5 arg6 harg6 arg7 harg7 arg8 harg8 arg9 harg9 arg10 harg10 arg11 harg11 T0 T1 x0 x1 x2 x3 x4 x5 xa0 xa1 xa2 h0 h1).symm (eqC1 c i arg5 harg5 arg6 harg6 arg7 harg7 arg8 harg8 arg9 harg9 arg10 harg10 arg11 harg11 T0 T1 x0 x1 x2 x3 x4 x5 xa0 xa1 xa2 h0 h1).symm)

end Cert.KernelIdeal.Attn
-- ==== Proof.Att.ContD.lean ====
module
public import proofs.«01_k».proof.Proof.Att.Cont
@[expose] public section
set_option maxRecDepth 16384
set_option Elab.async false
noncomputable section
namespace Cert.KernelIdeal.Attn

open Cert.KernelIdeal Cert.KernelIdeal.Gen Cert.Online
open Idealize.ShloMosaic Idealize.ShloMosaic.TcCoe

variable (c : Dev nD) (i : grid0.Coords)
  (arg5 : Memref sig .tc .vmem S512x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1 .f32) (harg8 : arg8.IsWhole) (arg9 : Memref sig .tc .vmem S1x128 .f32) (harg9 : arg9.IsWhole) (arg10 : Memref sig .tc .smem S1x4 .f32) (harg10 : arg10.IsWhole) (arg11 : Memref sig .tc .vmem S512x128 .bf16) (harg11 : arg11.IsWhole)
  (T0 T1 : S136.Idx → BitVec 32)
  (x0 : S512x128.Idx → Elt Ideal .f32) (x1 : S512x128.Idx → Elt Ideal .bf16) (x2 : S512x128.Idx → Elt Ideal .bf16) (x3 : S1x1.Idx → Elt Ideal .f32) (x4 : S1x128.Idx → Elt Ideal .f32) (x5 : S1x4.Idx → Elt Ideal .f32)
  (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
  (ch : Fin 2) (r : Fin 512) (e : Fin 128)

/-! ### Run D -/

theorem keyD : runD.sl.r_3 arg6 x1 = x1 := by
  unfold runD.sl.r_3
  rw [pay7_eq]; exact View.readAt_rep_full _ _ _
theorem valD : runD.sl.r_4 arg7 x2 = x2 := by
  unfold runD.sl.r_4
  rw [pay8_eq]; exact View.readAt_rep_full _ _ _
theorem qaD : runD.sl.r_5 arg5 x0 = halfQ 0 x0 := by
  unfold runD.sl.r_5 halfQ
  rw [if_pos rfl]; exact congrArg k0_pay10 (View.readAt_rep_full _ _ _)
theorem qbD : runD.sl.r_6 arg5 x0 = halfQ 1 x0 := by
  unfold runD.sl.r_6 halfQ
  rw [if_neg (by decide)]; exact congrArg k0_pay11 (View.readAt_rep_full _ _ _)
theorem biasD : runD.sl.r_7 i arg10 T1 x5 = k0_pay13 (F := Ideal) (kWord i T1) (x5 (ix2 0 (i 1))) := by
  unfold runD.sl.r_7 runD.sl.r_2
  rw [slope_read]; rfl
theorem keepD : runD.sl.r_8 i T0 T1 = k0_pay14 (F := Ideal) (qWord i T0) (kWord i T1) := rfl

theorem v82D : runD.sl.v82 c xa0 (ix3 0 r 0) = mAt c 1 r xa0 := by
  unfold runD.sl.v82
  exact rd mScr.view _ 1 1 rfl _ r 0
theorem v92D : runD.sl.v92 c xa1 (ix3 0 r 0) = lAt c 1 r xa1 := by
  unfold runD.sl.v92
  exact rd lScr.view _ 1 1 rfl _ r 0
theorem v101D : runD.sl.v101 c xa2 (ix3 0 r e) = aAt c 1 r e xa2 := by
  unfold runD.sl.v101
  exact rd aScr.view _ 1 1 rfl _ r e

theorem eqD0 (h0 : ¬ Opens i T1) (h1 : ¬ Closes i T0 T1) : (runD c i arg5 harg5 arg6 harg6 arg7 harg7 arg8 harg8 arg9 harg9 arg10 harg10 arg11 harg11 T0 T1 x0 x1 x2 x3 x4 x5 xa0 xa1 xa2 h0 h1).1 = mScr.view.writes (Elt Ideal) mScr.view.junk (runD.sl.HS0_2 c i arg5 arg6 arg10 T0 T1 x0 x1 x5 xa0) := by unfold runD; rfl
theorem eqD1 (h0 : ¬ Opens i T1) (h1 : ¬ Closes i T0 T1) : (runD c i arg5 harg5 arg6 harg6 arg7 harg7 arg8 harg8 arg9 harg9 arg10 harg10 arg11 harg11 T0 T1 x0 x1 x2 x3 x4 x5 xa0 xa1 xa2 h0 h1).2.1 = lScr.view.writes (Elt Ideal) lScr.view.junk (runD.sl.HS1_2 c i arg5 arg6 arg10 T0 T1 x0 x1 x5 xa0 xa1) := by unfold runD; rfl
theorem eqD2 (h0 : ¬ Opens i T1) (h1 : ¬ Closes i T0 T1) : (runD c i arg5 harg5 arg6 harg6 arg7 harg7 arg8 harg8 arg9 harg9 arg10 harg10 arg11 harg11 T0 T1 x0 x1 x2 x3 x4 x5 xa0 xa1 xa2 h0 h1).2.2.1 = aScr.view.writes (Elt Ideal) aScr.view.junk (runD.sl.HS2_2 c i arg5 arg6 arg7 arg10 T0 T1 x0 x1 x2 x5 xa0 xa2) := by unfold runD; rfl

/-- The running maximum it leaves. -/
theorem mD (h0 : ¬ Opens i T1) (h1 : ¬ Closes i T0 T1) : mAt c ch r (runD c i arg5 harg5 arg6 harg6 arg7 harg7 arg8 harg8 arg9 harg9 arg10 harg10 arg11 harg11 T0 T1 x0 x1 x2 x3 x4 x5 xa0 xa1 xa2 h0 h1).1 = newM (mAt c ch r xa0) (sRow i T0 T1 x0 x1 x5 ch r) := by
  rw [eqD0]
  show mScr.view.read (Elt Ideal) _ (ix3 ch r 0) = _
  unfold runD.sl.HS0_2
  match ch with
  | ⟨0, _⟩ =>
    refine (wr_miss mScr.view _ _ _ _ 0 r 0 (by decide)).trans ((wr_hit mScr.view _ _ _ _ 0 r 0 rfl).trans ?_)
    rw [pay22_at]
    unfold runD.sl.r_9
    rw [pay17_at, keyD, qaD, biasD, keepD]
    exact congrArg (fun z => newM z _) (rd mScr.view xa0 0 0 rfl _ r 0)
  | ⟨1, _⟩ =>
    refine (wr_hit mScr.view _ _ _ _ 1 r 0 rfl).trans ?_
    rw [pay1_at]
    unfold runD.sl.r_11
    refine (pay17_at _ _ _ _ _ r).trans ?_
    rw [keyD, qbD, biasD, keepD, v82D]
    all_goals rfl

/-- The running sum it leaves. -/
theorem lD (h0 : ¬ Opens i T1) (h1 : ¬ Closes i T0 T1) : lAt c ch r (runD c i arg5 harg5 arg6 harg6 arg7 harg7 arg8 harg8 arg9 harg9 arg10 harg10 arg11 harg11 T0 T1 x0 x1 x2 x3 x4 x5 xa0 xa1 xa2 h0 h1).2.1 = newL (mAt c ch r xa0) (lAt c ch r xa1) (sRow i T0 T1 x0 x1 x5 ch r) := by
  rw [eqD1]
  show lScr.view.read (Elt Ideal) _ (ix3 ch r 0) = _
  unfold runD.sl.HS1_2
  match ch with
  | ⟨0, _⟩ =>
    refine (wr_miss lScr.view _ _ _ _ 0 r 0 (by decide)).trans ((wr_hit lScr.view _ _ _ _ 0 r 0 rfl).trans ?_)
    refine (pay20_at _ _ _ _ _ _ r).trans ?_
    rw [keyD, qaD, biasD, keepD]
    exact congrArg₂ (fun z y => newL z y _) (rd mScr.view xa0 0 0 rfl _ r 0) (rd lScr.view xa1 0 0 rfl _ r 0)
  | ⟨1, _⟩ =>
    refine (wr_hit lScr.view _ _ _ _ 1 r 0 rfl).trans ?_
    refine (pay20_at _ _ _ _ _ _ r).trans ?_
    rw [keyD, qbD, biasD, keepD, v82D, v92D]
    all_goals rfl

/-- The running numerators it leaves. -/
theorem aD (h0 : ¬ Opens i T1) (h1 : ¬ Closes i T0 T1) : aAt c ch r e (runD c i arg5 harg5 arg6 harg6 arg7 harg7 arg8 harg8 arg9 harg9 arg10 harg10 arg11 harg11 T0 T1 x0 x1 x2 x3 x4 x5 xa0 xa1 xa2 h0 h1).2.2.1 = newA (mAt c ch r xa0) (aAt c ch r e xa2) (sRow i T0 T1 x0 x1 x5 ch r) (fun j => x2 (ix2 j e)) := by
  rw [eqD2]
  show aScr.view.read (Elt Ideal) _ (ix3 ch r e) = _
  unfold runD.sl.HS2_2
  match ch with
  | ⟨0, _⟩ =>
    refine (wr_miss aScr.view _ _ _ _ 0 r e (by decide)).trans ((wr_hit aScr.view _ _ _ _ 0 r e rfl).trans ?_)
    refine (pay21_at _ _ _ _ _ _ _ r e).trans ?_
    rw [keyD, valD, qaD, biasD, keepD]
    exact congrArg₂ (fun z y => newA z y _ _) (rd mScr.view xa0 0 0 rfl _ r 0) (rd aScr.view xa2 0 0 rfl _ r e)
  | ⟨1, _⟩ =>
    refine (wr_hit aScr.view _ _ _ _ 1 r e rfl).trans ?_
    refine (pay21_at _ _ _ _ _ _ _ r e).trans ?_
    rw [keyD, valD, qbD, biasD, keepD, v82D, v101D]
    all_goals rfl

end Cert.KernelIdeal.Attn
-- ==== Proof.Att.Traj.lean ====
module
public import proofs.«01_k».proof.Proof.Att.Blocks
public import proofs.«01_k».proof.Proof.Att.ContA
public import proofs.«01_k».proof.Proof.Att.ContB
public import proofs.«01_k».proof.Proof.Att.ContC
public import proofs.«01_k».proof.Proof.Att.ContD
@[expose] public section
noncomputable section
namespace Cert.KernelIdeal.Attn

open Cert.KernelIdeal Cert.KernelIdeal.Gen Cert.Online
open Idealize.ShloMosaic
open Idealize.ShloMosaic.TcCoe Idealize.SL.Sem
open Cert.ReferenceIdeal.Parts (rowN col zAt vAt oAt)

/-! # What the scratches hold after each point -/

theorem Row.of_eq {z : ℕ → ℝ} {v : ℕ → Fin 128 → ℝ} {i n : ℕ} {m m' l l' : EReal} {a a' : Fin 128 → EReal} (h : Row z v i n m l a)
    (hm : m' = m) (hl : l' = l) (ha : ∀ e, a' e = a e) : Row z v i n m' l' a' := by
  rw [hm, hl, funext ha]; exact h

variable (V : (c : Dev nD) → (b : Ref sig .tc) → Buf (Elt Ideal) ((c.tc : Thread nD τ).loc b)) (c : Dev nD)
variable (Q K W : S32768x512.Idx → ℝ) (s : Fin 4 → ℝ)

/-- The scratches hold the state of query block `q` in head `h` of batch `b`, after its first `n` keys. -/
def Held (b h : Fin 4) (q n : ℕ) (p : St c) : Prop :=
  ∀ (ch : Fin 2) (r : Fin 512), Row (zAt Q K (s h) b h ch (512 * q + r.val)) (vAt W b h) (512 * q + r.val) n
    (mAt c ch r p.1) (lAt c ch r p.2.1) (fun e => aAt c ch r e p.2.2)

theorem held_mk (b h : Fin 4) (q n : ℕ) (x : Buf (Elt Ideal) ((c : Thread nD τ).loc cc0_scratch0)) (y : Buf (Elt Ideal) ((c : Thread nD τ).loc cc0_scratch1)) (w : Buf (Elt Ideal) ((c : Thread nD τ).loc cc0_scratch2))
    (H : ∀ (ch : Fin 2) (r : Fin 512), Row (zAt Q K (s h) b h ch (512 * q + r.val)) (vAt W b h) (512 * q + r.val) n (mAt c ch r x) (lAt c ch r y) (fun e => aAt c ch r e w)) :
    Held c Q K W s b h q n (x, y, w) := H

/-- The weight a point reads, and the gain. -/
abbrev wAt (t : Fin cfg.N) : EReal := (show S1x1.Idx → EReal from iblk V c (3 : Fin 7) t) (ix2 (0 : Fin 1) (0 : Fin 1))
abbrev gAt (t : Fin cfg.N) (e : Fin 128) : EReal := (show S1x128.Idx → EReal from iblk V c (4 : Fin 7) t) (ix2 (0 : Fin 1) e)

/-- The scores of a point. -/
abbrev sAt (t : Fin cfg.N) (ch : Fin 2) (r : Fin 512) : Fin 512 → EReal :=
  sRow (crd t) Tq Tk (iblk V c (0 : Fin 7) t) (iblk V c (1 : Fin 7) t) (iblk V c (5 : Fin 7) t) ch r

theorem atA_m (t : Fin cfg.N) (q0 : Opens (crd t) Tk) (q1 : Closes (crd t) Tq Tk) (ch : Fin 2) (r : Fin 512) :
    mAt c ch r (atA V c t q0 q1).2.1 = newM ⊥ (sAt V c t ch r) :=
  mA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) ch r q0 q1
theorem atA_l (t : Fin cfg.N) (q0 : Opens (crd t) Tk) (q1 : Closes (crd t) Tq Tk) (ch : Fin 2) (r : Fin 512) :
    lAt c ch r (atA V c t q0 q1).2.2.1 = newL ⊥ 0 (sAt V c t ch r) :=
  lA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) ch r q0 q1
theorem atA_a (t : Fin cfg.N) (q0 : Opens (crd t) Tk) (q1 : Closes (crd t) Tq Tk) (ch : Fin 2) (r : Fin 512) (e : Fin 128) :
    aAt c ch r e (atA V c t q0 q1).2.2.2.1 = newA ⊥ 0 (sAt V c t ch r) (fun j => iblk V c (2 : Fin 7) t (ix2 j e)) :=
  aA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) ch r e q0 q1
theorem atA_o (t : Fin cfg.N) (q0 : Opens (crd t) Tk) (q1 : Closes (crd t) Tq Tk) (r : Fin 512) (e : Fin 128) :
    outA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) q0 q1 (ix2 r e)
      = outRow (wAt V c t) (gAt V c t e) (fun x => Ideal.div (aAt c 0 r x (atA V c t q0 q1).2.2.2.1) (lAt c 0 r (atA V c t q0 q1).2.2.1) - (wAt V c t) * Ideal.div (aAt c 1 r x (atA V c t q0 q1).2.2.2.1) (lAt c 1 r (atA V c t q0 q1).2.2.1)) e :=
  oA c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) r e q0 q1

theorem atB_m (t : Fin cfg.N) (q0 : Opens (crd t) Tk) (q1 : ¬ Closes (crd t) Tq Tk) (ch : Fin 2) (r : Fin 512) :
    mAt c ch r (atB V c t q0 q1).1 = newM ⊥ (sAt V c t ch r) :=
  mB c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) ch r q0 q1
theorem atB_l (t : Fin cfg.N) (q0 : Opens (crd t) Tk) (q1 : ¬ Closes (crd t) Tq Tk) (ch : Fin 2) (r : Fin 512) :
    lAt c ch r (atB V c t q0 q1).2.1 = newL ⊥ 0 (sAt V c t ch r) :=
  lB c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) ch r q0 q1
theorem atB_a (t : Fin cfg.N) (q0 : Opens (crd t) Tk) (q1 : ¬ Closes (crd t) Tq Tk) (ch : Fin 2) (r : Fin 512) (e : Fin 128) :
    aAt c ch r e (atB V c t q0 q1).2.2.1 = newA ⊥ 0 (sAt V c t ch r) (fun j => iblk V c (2 : Fin 7) t (ix2 j e)) :=
  aB c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) ch r e q0 q1

theorem atC_m (t : Fin cfg.N) (p : St c) (q0 : ¬ Opens (crd t) Tk) (q1 : Closes (crd t) Tq Tk) (ch : Fin 2) (r : Fin 512) :
    mAt c ch r (atC V c t p q0 q1).2.1 = newM (mAt c ch r p.1) (sAt V c t ch r) :=
  mC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 ch r q0 q1
theorem atC_l (t : Fin cfg.N) (p : St c) (q0 : ¬ Opens (crd t) Tk) (q1 : Closes (crd t) Tq Tk) (ch : Fin 2) (r : Fin 512) :
    lAt c ch r (atC V c t p q0 q1).2.2.1 = newL (mAt c ch r p.1) (lAt c ch r p.2.1) (sAt V c t ch r) :=
  lC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 ch r q0 q1
theorem atC_a (t : Fin cfg.N) (p : St c) (q0 : ¬ Opens (crd t) Tk) (q1 : Closes (crd t) Tq Tk) (ch : Fin 2) (r : Fin 512) (e : Fin 128) :
    aAt c ch r e (atC V c t p q0 q1).2.2.2.1 = newA (mAt c ch r p.1) (aAt c ch r e p.2.2) (sAt V c t ch r) (fun j => iblk V c (2 : Fin 7) t (ix2 j e)) :=
  aC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 ch r e q0 q1
theorem atC_o (t : Fin cfg.N) (p : St c) (q0 : ¬ Opens (crd t) Tk) (q1 : Closes (crd t) Tq Tk) (r : Fin 512) (e : Fin 128) :
    outC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 q0 q1 (ix2 r e)
      = outRow (wAt V c t) (gAt V c t e) (fun x => Ideal.div (aAt c 0 r x (atC V c t p q0 q1).2.2.2.1) (lAt c 0 r (atC V c t p q0 q1).2.2.1) - (wAt V c t) * Ideal.div (aAt c 1 r x (atC V c t p q0 q1).2.2.2.1) (lAt c 1 r (atC V c t p q0 q1).2.2.1)) e :=
  oC c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 r e q0 q1

theorem atD_m (t : Fin cfg.N) (p : St c) (q0 : ¬ Opens (crd t) Tk) (q1 : ¬ Closes (crd t) Tq Tk) (ch : Fin 2) (r : Fin 512) :
    mAt c ch r (atD V c t p q0 q1).1 = newM (mAt c ch r p.1) (sAt V c t ch r) :=
  mD c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 ch r q0 q1
theorem atD_l (t : Fin cfg.N) (p : St c) (q0 : ¬ Opens (crd t) Tk) (q1 : ¬ Closes (crd t) Tq Tk) (ch : Fin 2) (r : Fin 512) :
    lAt c ch r (atD V c t p q0 q1).2.1 = newL (mAt c ch r p.1) (lAt c ch r p.2.1) (sAt V c t ch r) :=
  lD c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 ch r q0 q1
theorem atD_a (t : Fin cfg.N) (p : St c) (q0 : ¬ Opens (crd t) Tk) (q1 : ¬ Closes (crd t) Tq Tk) (ch : Fin 2) (r : Fin 512) (e : Fin 128) :
    aAt c ch r e (atD V c t p q0 q1).2.2.1 = newA (mAt c ch r p.1) (aAt c ch r e p.2.2) (sAt V c t ch r) (fun j => iblk V c (2 : Fin 7) t (ix2 j e)) :=
  aD c (crd t) (ms0 t) (hs0 t) (ms1 t) (hs1 t) (ms2 t) (hs2 t) (ms3 t) (hs3 t) (ms4 t) (hs4 t) (ms5 t) (hs5 t) (ms6 t) (hs6 t) Tq Tk (iblk V c (0 : Fin 7) t) (iblk V c (1 : Fin 7) t) (iblk V c (2 : Fin 7) t) (iblk V c (3 : Fin 7) t) (iblk V c (4 : Fin 7) t) (iblk V c (5 : Fin 7) t) p.1 p.2.1 p.2.2 ch r e q0 q1

variable {Q K W s} {L : ℝ} (H : Reals V c Q K W s L)
include H

/-- A point carries the state over its block of keys. -/
theorem held_step (t : Fin cfg.N) (p : St c) (hp : kN t.val ≠ 0 → Held c Q K W s (bF t) (hF t) (qN t.val) (512 * kN t.val) p) :
    Held c Q K W s (bF t) (hF t) (qN t.val) (512 * kN t.val + 512) (step V c t p) := by
  have hk := kN_le t.val
  have hpl := place t
  have key := fun (ch : Fin 2) (r : Fin 512) (m l : EReal) (a : Fin 128 → EReal) h =>
    Online.step (zAt Q K (s (hF t)) (bF t) (hF t) ch (512 * qN t.val + r.val)) (vAt W (bF t) (hF t)) (512 * qN t.val + r.val) (512 * kN t.val) (by omega)
      (sRow (crd t) Tq Tk (iblk V c (0 : Fin 7) t) (iblk V c (1 : Fin 7) t) (iblk V c (5 : Fin 7) t) ch r)
      (fun e j => iblk V c (2 : Fin 7) t (ix2 j e)) (fun j => row_at V c H t ch r j)
      (fun e j => (blk2 V c t j e).trans (H.v _)) m l a h
  by_cases q0 : Opens (crd t) Tk
  · have hk0 : kN t.val = 0 := hpl.2.1.1 q0
    have key0 := fun ch r => key ch r ⊥ 0 (fun _ => 0) (Or.inl ⟨by omega, rfl, rfl, fun _ => rfl⟩)
    by_cases q1 : Closes (crd t) Tq Tk
    · have e : step V c t p = ((atA V c t q0 q1).2.1, (atA V c t q0 q1).2.2.1, (atA V c t q0 q1).2.2.2.1) := by
        unfold step; rw [dif_pos q0, dif_pos q1]
      rw [e]
      exact held_mk c Q K W s _ _ _ _ _ _ _ (fun ch r => Row.of_eq (key0 ch r) (atA_m V c t q0 q1 ch r) (atA_l V c t q0 q1 ch r) (atA_a V c t q0 q1 ch r))
    · have e : step V c t p = ((atB V c t q0 q1).1, (atB V c t q0 q1).2.1, (atB V c t q0 q1).2.2.1) := by
        unfold step; rw [dif_pos q0, dif_neg q1]
      rw [e]
      exact held_mk c Q K W s _ _ _ _ _ _ _ (fun ch r => Row.of_eq (key0 ch r) (atB_m V c t q0 q1 ch r) (atB_l V c t q0 q1 ch r) (atB_a V c t q0 q1 ch r))
  · have hk0 : kN t.val ≠ 0 := fun h => q0 (hpl.2.1.2 h)
    have key0 := fun ch r => key ch r _ _ _ (Or.inr (hp hk0 ch r))
    by_cases q1 : Closes (crd t) Tq Tk
    · have e : step V c t p = ((atC V c t p q0 q1).2.1, (atC V c t p q0 q1).2.2.1, (atC V c t p q0 q1).2.2.2.1) := by
        unfold step; rw [dif_neg q0, dif_pos q1]
      rw [e]
      exact held_mk c Q K W s _ _ _ _ _ _ _ (fun ch r => Row.of_eq (key0 ch r) (atC_m V c t p q0 q1 ch r) (atC_l V c t p q0 q1 ch r) (atC_a V c t p q0 q1 ch r))
    · have e : step V c t p = ((atD V c t p q0 q1).1, (atD V c t p q0 q1).2.1, (atD V c t p q0 q1).2.2.1) := by
        unfold step; rw [dif_neg q0, dif_neg q1]
      rw [e]
      exact held_mk c Q K W s _ _ _ _ _ _ _ (fun ch r => Row.of_eq (key0 ch r) (atD_m V c t p q0 q1 ch r) (atD_l V c t p q0 q1 ch r) (atD_a V c t p q0 q1 ch r))

/-- After each point the scratches hold the state of its query block, up to its block of keys. -/
theorem held_at : ∀ (n : ℕ) (hn : n < cfg.N), Held c Q K W s (bF ⟨n, hn⟩) (hF ⟨n, hn⟩) (qN n) (512 * kN n + 512) (st V c (n + 1)) := by
  intro n
  induction n with
  | zero =>
    intro hn
    rw [show st V c (0 + 1) = step V c ⟨0, hn⟩ (st V c 0) from st_succ V c ⟨0, hn⟩]
    exact held_step V c H ⟨0, hn⟩ _ (fun h => absurd (show kN 0 = 0 by decide) h)
  | succ n ih =>
    intro hn
    rw [show st V c (n + 1 + 1) = step V c ⟨n + 1, hn⟩ (st V c (n + 1)) from st_succ V c ⟨n + 1, hn⟩]
    refine held_step V c H ⟨n + 1, hn⟩ _ (fun h => ?_)
    obtain ⟨r, h1, h2, h3, h4, h5⟩ := before (n + 1) h
    obtain rfl : r = n := by omega
    have := ih (by omega)
    rw [show bF ⟨r, _⟩ = bF ⟨r + 1, hn⟩ from Fin.ext h2, show hF ⟨r, _⟩ = hF ⟨r + 1, hn⟩ from Fin.ext h3, h4,
      show 512 * kN r + 512 = 512 * kN (r + 1) by omega] at this
    exact this

/-- The row's averages, from scratches holding all its keys. -/
theorem averages (t : Fin cfg.N) (x : Buf (Elt Ideal) ((c : Thread nD τ).loc cc0_scratch0)) (y : Buf (Elt Ideal) ((c : Thread nD τ).loc cc0_scratch1)) (w : Buf (Elt Ideal) ((c : Thread nD τ).loc cc0_scratch2))
    (hh : Held c Q K W s (bF t) (hF t) (qN t.val) (512 * qN t.val + 512) (x, y, w)) (r : Fin 512) (e : Fin 128) :
    outRow (wAt V c t) (gAt V c t e)
        (fun x => Ideal.div (aAt c 0 r x w) (lAt c 0 r y) - (wAt V c t) * Ideal.div (aAt c 1 r x w) (lAt c 1 r y)) e
      = outRow ((L : ℝ) : EReal) (V c main_v20 (ix2 (0 : Fin 1) e)) (fun x => ((oAt Q K W (s (hF t)) L (bF t) (hF t) (512 * qN t.val + r.val) x : ℝ) : EReal)) e := by
  have hl : wAt V c t = ((L : ℝ) : EReal) := (blk3 V c t).trans H.l
  have hg : gAt V c t e = V c main_v20 (ix2 (0 : Fin 1) e) := blk4 V c t e
  rw [hl, hg]
  refine congrArg (fun o => outRow _ _ o e) (funext fun x => ?_)
  have e0 : Ideal.div (aAt c 0 r x w) (lAt c 0 r y) = _ := (hh 0 r).div (by omega) x
  have e1 : Ideal.div (aAt c 1 r x w) (lAt c 1 r y) = _ := (hh 1 r).div (by omega) x
  rw [e0, e1, ← EReal.coe_mul, ← EReal.coe_sub]
  rfl

/-- What a closing point stores into the output's block. -/
theorem stored_at (t : Fin cfg.N) (q1 : Closes (crd t) Tq Tk) (r : Fin 512) (e : Fin 128) :
    outAt V c t (st V c t.val) (ix2 r e)
      = outRow ((L : ℝ) : EReal) (V c main_v20 (ix2 (0 : Fin 1) e)) (fun x => ((oAt Q K W (s (hF t)) L (bF t) (hF t) (512 * qN t.val + r.val) x : ℝ) : EReal)) e := by
  have hpl := place t
  have hkq : kN t.val = qN t.val := hpl.2.2.1.1 q1
  have hh := held_at V c H t.val t.isLt
  rw [st_succ, hkq] at hh
  by_cases q0 : Opens (crd t) Tk
  · have eo : step V c t (st V c t.val) = ((atA V c t q0 q1).2.1, (atA V c t q0 q1).2.2.1, (atA V c t q0 q1).2.2.2.1) := by
      unfold step; rw [dif_pos q0, dif_pos q1]
    rw [eo] at hh
    unfold outAt
    rw [dif_pos q1, dif_pos q0]
    exact (atA_o V c t q0 q1 r e).trans (averages V c H t _ _ _ hh r e)
  · have eo : step V c t (st V c t.val) = ((atC V c t (st V c t.val) q0 q1).2.1, (atC V c t (st V c t.val) q0 q1).2.2.1, (atC V c t (st V c t.val) q0 q1).2.2.2.1) := by
      unfold step; rw [dif_neg q0, dif_pos q1]
    rw [eo] at hh
    unfold outAt
    rw [dif_pos q1, dif_neg q0]
    exact (atC_o V c t (st V c t.val) q0 q1 r e).trans (averages V c H t _ _ _ hh r e)

end Cert.KernelIdeal.Attn
-- ==== Proof.Att.Host.lean ====
module
public import proofs.«01_k».proof.Proof.Att.Flash
public import proofs.«01_k».proof.Proof.Ref.Read
@[expose] public section
noncomputable section
namespace Cert.KernelIdeal.Attn

open Cert.KernelIdeal Cert.KernelIdeal.Gen
open Idealize.ShloMosaic
open Idealize.ShloMosaic.TcCoe Idealize.ShloMosaic.Tactic Idealize.SL.Sem

/-! # What the call finds in its arrays when it begins -/

variable (m : (ℓ : Loc nD τ sig) → Buf (Elt Ideal) ℓ) (c : Dev nD)

/-- The keys, rounded. -/
theorem keys_at (x : S32768x512.Idx) : V0 m c main_v0 x = m (c, main_arg1) x := by
  have e : StableHlo.after (hostOps0 (F := Ideal)) (fun b => m (c, b)) main_v0 = truncf (F := Ideal) (s := S32768x512) (φ := .f32) .bf16 (m (c, main_arg1)) bitsLt_bf16_f32 := by
    entry_read
    rfl
  exact (congrFun e x).trans rfl

/-- The values, rounded. -/
theorem values_at (x : S32768x512.Idx) : V0 m c main_v1 x = m (c, main_arg2) x := by
  have e : StableHlo.after (hostOps0 (F := Ideal)) (fun b => m (c, b)) main_v1 = truncf (F := Ideal) (s := S32768x512) (φ := .f32) .bf16 (m (c, main_arg2)) bitsLt_bf16_f32 := by
    entry_read
    rfl
  exact (congrFun e x).trans rfl

/-- The weight of the second attention is the reference's. -/
theorem weight_at : V0 m c main_v10 (ix2 (0 : Fin 1) (0 : Fin 1)) = Cert.ReferenceIdeal.Parts.lam (m (c, main_arg3)) (m (c, main_arg4)) (m (c, main_arg5)) (m (c, main_arg6)) Idealize.ShloMosaic.ix0 := by
  rw [Cert.ReferenceIdeal.Parts.lam_at]
  show StableHlo.after (hostOps0 (F := Ideal)) (fun b => m (c, b)) main_v10 (ix2 (0 : Fin 1) (0 : Fin 1)) = _
  entry_read
  pointwise

/-- The gain. -/
theorem gain_at (e : Fin 128) : V0 m c main_v20 (ix2 (0 : Fin 1) e) = m (c, main_arg7) (ix1 e) := by
  show StableHlo.after (hostOps0 (F := Ideal)) (fun b => m (c, b)) main_v20 (ix2 (0 : Fin 1) e) = _
  entry_read
  pointwise

/-- The slopes are the reference's. -/
theorem slope_at (h : Fin 4) : V0 m c main_v21 (ix2 (0 : Fin 1) h) = Cert.ReferenceIdeal.Parts.slopes (ix1 h) := by
  rw [Cert.ReferenceIdeal.Parts.slopes_at]
  show StableHlo.after (hostOps0 (F := Ideal)) (fun b => m (c, b)) main_v21 (ix2 (0 : Fin 1) h) = _
  entry_read
  pointwise

end Cert.KernelIdeal.Attn
-- ==== Proof.Att.Out.lean ====
module
public import proofs.«01_k».proof.Proof.Att.Traj
public import proofs.«01_k».proof.Proof.Att.Host
public import Idealize.ShloMosaic.Lib.Pipeline.Value
@[expose] public section
noncomputable section
namespace Cert.KernelIdeal.Attn

open Cert.KernelIdeal Cert.KernelIdeal.Gen
open Idealize.ShloMosaic
open Idealize.ShloMosaic.TcCoe Idealize.SL.Sem
open Cert.ReferenceIdeal.Parts (row rowN rowN_fin col zAt vAt oAt out out_real)

/-! # The result array when the call ends -/

variable (m : (ℓ : Loc nD τ sig) → Buf (Elt Ideal) ℓ) (c : Dev nD)

/-- The reference's result over the kernel's arguments. -/
def ref : S32768x512.Idx → EReal :=
  out (m (c, main_arg0)) (m (c, main_arg1)) (m (c, main_arg2)) (m (c, main_arg3)) (m (c, main_arg4)) (m (c, main_arg5)) (m (c, main_arg6)) (m (c, main_arg7))

variable {Q K W : S32768x512.Idx → ℝ} {s : Fin 4 → ℝ} {L : ℝ} (H : Reals (V0 m) c Q K W s L)
include H

/-- A closing point writes back its block of the reference's result. -/
theorem written (t : Fin cfg.N) (q1 : Closes (crd t) Tq Tk) (r : Fin 512) (e : Fin 128) :
    outAt (V0 m) c t (st (V0 m) c t.val) (ix2 r e) = ref m c (ix2 (rowN (bF t) (512 * qN t.val + r.val)) (col (hF t) e)) := by
  have hq := qN_lt t.val
  have hi : 512 * qN t.val + r.val < 8192 := by omega
  rw [stored_at (V0 m) c H t q1 r e, gain_at, show rowN (bF t) (512 * qN t.val + r.val) = row (bF t) ⟨512 * qN t.val + r.val, hi⟩ from rowN_fin (bF t) ⟨512 * qN t.val + r.val, hi⟩]
  exact (out_real (m (c, main_arg0)) (m (c, main_arg1)) (m (c, main_arg2)) (m (c, main_arg3)) (m (c, main_arg4)) (m (c, main_arg5)) (m (c, main_arg6)) (m (c, main_arg7)) Q K W
    (fun x => (congrFun (arg_at m c) x).symm.trans (H.q x)) (fun x => (keys_at m c x).symm.trans (H.k x)) (fun x => (values_at m c x).symm.trans (H.v x))
    (bF t) (hF t) (s (hF t)) L ((slope_at m c (hF t)).symm.trans (H.s (hF t))) ((weight_at m c).symm.trans H.l) _ ⟨512 * qN t.val + r.val, hi⟩ e).symm

omit H in
/-- A block whose rows and lanes are those of an array is that block of the array. -/
theorem block_eq (R : S32768x512.Idx → EReal) (O : S512x128.Idx → EReal) (t : Fin cfg.N)
    (h : ∀ (r : Fin 512) (e : Fin 128), O (ix2 r e) = R (ix2 (rowN (bF t) (512 * qN t.val + r.val)) (col (hF t) e))) :
    (cfg.win (6 : Fin 7)).cut (α := EReal) (crd t) O = ((cfg.win (6 : Fin 7)).blk t).view.read (Elt Ideal) R := by
  have hq := qN_lt t.val
  have hp := (place t).2.2.2.2.2.2.2
  funext y
  idx_vars y
  rw [View.read_apply]
  refine Eq.trans (h y0 y1) ?_
  show R _ = R _
  congr 1
  funext a
  apply Fin.ext
  match a with
  | ⟨0, _⟩ =>
    show bN t.val * 8192 + (512 * qN t.val + y0.val) % 8192 = (cfg.win (6 : Fin 7)).index t 0 * 512 + 1 * y0.val
    rw [hp.1]; omega
  | ⟨1, _⟩ =>
    show hN t.val * 128 + y1.val = (cfg.win (6 : Fin 7)).index t 1 * 128 + 1 * y1.val
    rw [hp.2]; omega

theorem flushed_eq (t : Fin cfg.N) (hf : (cfg.win (6 : Fin 7)).flush t = true) :
    (dats (V0 m) 0 c).flushed (6 : Fin 7) t = ((cfg.win (6 : Fin 7)).blk t).view.read (Elt Ideal) (ref m c) := by
  have q1 : Closes (crd t) Tq Tk := by
    by_contra hc
    have := ((sched t).2.2 hc).2
    rw [hf] at this
    exact absurd this (by decide)
  show (cfg.win (6 : Fin 7)).cut (crd t) ((dats (V0 m) 0 c).after (6 : Fin 7) t) = _
  rw [after_6]
  exact block_eq (ref m c) (outAt (V0 m) c t (st (V0 m) c t.val)) t (fun r e => written m c H t q1 r e)

omit H in
/-- The written blocks are the whole array. -/
theorem cover (i : S32768x512.Idx) : ∃ t : Fin cfg.N, (cfg.win (6 : Fin 7)).flush t = true ∧ i ∈ ((cfg.win (6 : Fin 7)).blk t).view.set := by
  have h0 : (i 0 : ℕ) < 32768 := (i 0).isLt
  have h1 : (i 1 : ℕ) < 512 := (i 1).isLt
  obtain ⟨t, hb, hh, hq, hk⟩ := closing ⟨(i 0 : ℕ) / 8192, by omega⟩ ⟨(i 1 : ℕ) / 128, by omega⟩ ⟨(i 0 : ℕ) % 8192 / 512, by omega⟩
  have hpl := place t
  have q1 : Closes (crd t) Tq Tk := hpl.2.2.1.2 (hk.trans hq.symm)
  have hp := hpl.2.2.2.2.2.2.2
  rw [hb, hh, hq] at hp
  refine ⟨t, ((sched t).2.1 q1).2, ?_⟩
  show i ∈ ((View.whole main_v22).slice ((cfg.win (6 : Fin 7)).rect t)).set
  rw [View.set_slice_whole, Rect.mem_set_unit]
  intro a
  match a with
  | ⟨0, _⟩ =>
    show (cfg.win (6 : Fin 7)).index t 0 * 512 ≤ (i 0 : ℕ) ∧ (i 0 : ℕ) < (cfg.win (6 : Fin 7)).index t 0 * 512 + 512
    rw [hp.1]; dsimp only; omega
  | ⟨1, _⟩ =>
    show (cfg.win (6 : Fin 7)).index t 1 * 128 ≤ (i 1 : ℕ) ∧ (i 1 : ℕ) < (cfg.win (6 : Fin 7)).index t 1 * 128 + 128
    rw [hp.2]; dsimp only; omega

/-- So the result array ends as the reference's result. -/
theorem result_eq : (dats (V0 m) 0 c).arrAt (6 : Fin 7) cfg.N = ref m c :=
  (dats (V0 m) 0 c).arrAt_eq_of_cover (6 : Fin 7) (ref m c) (fun t hf => flushed_eq m c H t hf) (fun i => cover i)

end Cert.KernelIdeal.Attn
-- ==== Proof.Algebraic.lean ====
module

public import proofs.«01_k».proof.Defs
public import proofs.«01_k».proof.Proof.Finite
public import proofs.«01_k».proof.Proof.Att.Out
@[expose] public section
noncomputable section
namespace Cert.Algebraic

open Idealize.ShloMosaic Idealize.SL.Sem
open Idealize.ShloMosaic.TcCoe

/-! # The kernel and the reference end with equal results -/

variable [hp : Cert.Pre_finite_inputs.Facts]

/-- Under the precondition the call begins with real numbers in its arrays. -/
theorem reals (m : (ℓ : Loc Cert.KernelIdeal.nD Cert.KernelIdeal.τ Cert.KernelIdeal.sig) → Buf (Elt Ideal) ℓ) (h : Cert.Pre_KernelIdeal_finite_inputs m) (c : Dev Cert.KernelIdeal.nD) :
    ∃ (Q K W : Cert.KernelIdeal.S32768x512.Idx → ℝ) (s : Fin 4 → ℝ) (L : ℝ), Cert.KernelIdeal.Attn.Reals (Cert.KernelIdeal.Attn.V0 m) c Q K W s L := by
  obtain ⟨h0, h1, h2, h3, h4, h5, h6⟩ := h c
  have r0 := Cert.Finite.real_of (s := Cert.Pre_finite_inputs.S32768x512) _ hp.bcast_S_S32768x512 h0
  have r1 := Cert.Finite.real_of (s := Cert.Pre_finite_inputs.S32768x512) _ hp.bcast_S_S32768x512 h1
  have r2 := Cert.Finite.real_of (s := Cert.Pre_finite_inputs.S32768x512) _ hp.bcast_S_S32768x512 h2
  have r3 := Cert.Finite.real_of (s := Cert.Pre_finite_inputs.S64) _ hp.bcast_S_S64 h3
  have r4 := Cert.Finite.real_of (s := Cert.Pre_finite_inputs.S64) _ hp.bcast_S_S64 h4
  have r5 := Cert.Finite.real_of (s := Cert.Pre_finite_inputs.S64) _ hp.bcast_S_S64 h5
  have r6 := Cert.Finite.real_of (s := Cert.Pre_finite_inputs.S64) _ hp.bcast_S_S64 h6
  obtain ⟨L, hL⟩ := Cert.Finite.lam_real _ _ _ _ r3 r4 r5 r6
  choose s hs using Cert.Finite.slope_real
  exact ⟨_, _, _, s, L, ⟨fun x => (congrFun (Cert.KernelIdeal.Attn.arg_at m c) x).trans (r0 x), fun x => (Cert.KernelIdeal.Attn.keys_at m c x).trans (r1 x),
    fun x => (Cert.KernelIdeal.Attn.values_at m c x).trans (r2 x), (Cert.KernelIdeal.Attn.weight_at m c).trans hL, fun h => (Cert.KernelIdeal.Attn.slope_at m c h).trans (hs h)⟩⟩

/-- The two programs, run from equal arguments, end with equal results. -/
theorem algebraic : Cert.algebraic_KernelIdeal_ReferenceIdeal_pre_finite_inputs (hKernelIdeal := Cert.KernelIdeal.Gen.facts) (hReferenceIdeal := Cert.ReferenceIdeal.Gen.facts) := by
  intro m g m' g' hpre hargs
  refine ⟨fun c => Cert.KernelIdeal.Attn.ref m c, ?_, ?_⟩
  · refine (θ_run _ _ _).mono (fun r h c => ?_) (Cert.KernelIdeal.Attn.run_main m g)
    obtain ⟨Q, K, W, s, L, H⟩ := reals m hpre c
    exact ⟨((h.1 c).1 (6 : Fin 7)).trans (Cert.KernelIdeal.Attn.result_eq m c H), Cert.KernelIdeal.Attn.rest_arg m r h.1 c⟩
  · refine (θ_run _ _ _).mono (fun r h c => ⟨(h c).1.trans ?_, (h c).2⟩) (Cert.ReferenceIdeal.Value.run m' g')
    obtain ⟨a0, a1, a2, a3, a4, a5, a6, a7⟩ := hargs c
    refine (Cert.ReferenceIdeal.Parts.res_eq m' c).trans ?_
    unfold Cert.KernelIdeal.Attn.ref
    have e0 : m' (c, Cert.ReferenceIdeal.main_arg0) = m (c, Cert.KernelIdeal.main_arg0) := a0
    have e1 : m' (c, Cert.ReferenceIdeal.main_arg1) = m (c, Cert.KernelIdeal.main_arg1) := a1
    have e2 : m' (c, Cert.ReferenceIdeal.main_arg2) = m (c, Cert.KernelIdeal.main_arg2) := a2
    have e3 : m' (c, Cert.ReferenceIdeal.main_arg3) = m (c, Cert.KernelIdeal.main_arg3) := a3
    have e4 : m' (c, Cert.ReferenceIdeal.main_arg4) = m (c, Cert.KernelIdeal.main_arg4) := a4
    have e5 : m' (c, Cert.ReferenceIdeal.main_arg5) = m (c, Cert.KernelIdeal.main_arg5) := a5
    have e6 : m' (c, Cert.ReferenceIdeal.main_arg6) = m (c, Cert.KernelIdeal.main_arg6) := a6
    have e7 : m' (c, Cert.ReferenceIdeal.main_arg7) = m (c, Cert.KernelIdeal.main_arg7) := a7
    rw [e0, e1, e2, e3, e4, e5, e6, e7]

end Cert.Algebraic
-- ==== Proof.Inp.Spec.lean ====
module
public import proofs.«01_k».proof.Proof.Att.Online
public import Idealize.ShloMosaic.PureOps.Ideal
public import Idealize.ShloMosaic.PureOps.IdealRules
@[expose] public section
noncomputable section
namespace Cert.Inproj

open Idealize.ShloMosaic

/-! # One row of the input projection, as a function of that row -/

/-- A row normalised over its 1024 numbers, scaled by one plus `sc` and shifted by `sh`. -/
def normMod (x sc sh : Fin 1024 → EReal) (d : Fin 1024) : EReal :=
  x d * Ideal.rsqrt (Ideal.div (∑ z, x z * x z) (Ideal.ofBits FTy.f32 0x44800000#32) + Ideal.ofBits FTy.f32 0x358637BD#32)
    * (1 + sc d) + sh d

/-- Sixty-four numbers normalised among themselves, times a gain. -/
def segNorm (y g : Fin 64 → EReal) (e : Fin 64) : EReal :=
  y e * Ideal.rsqrt (Ideal.div (∑ z, y z * y z) (Ideal.ofBits FTy.f32 0x42800000#32) + Ideal.ofBits FTy.f32 0x358637BD#32) * g e

/-- Lane `z` of the segment lane `l` lies in. -/
abbrev segLane (l : Fin 512) (z : Fin 64) : Fin 512 := ⟨64 * (l.val / 64) + z.val, by omega⟩

/-- A sum over 512 lanes in which only the lanes of `l`'s segment count is the sum over that segment. -/
theorem sum_seg (l : Fin 512) (f : Fin 512 → EReal) : (∑ j : Fin 512, f j * (if j.val / 64 = l.val / 64 then (1 : EReal) else 0)) = ∑ z, f (segLane l z) := by
  have : ∀ j : Fin 512, f j * (if j.val / 64 = l.val / 64 then (1 : EReal) else 0) = if j.val / 64 = l.val / 64 then f j else 0 := by
    intro j; split <;> simp
  simp only [this]
  rw [← Finset.sum_filter]
  refine (Finset.sum_bij (fun z _ => segLane l z) (fun z _ => ?_) (fun z _ z' _ h => ?_) (fun x hx => ?_) (fun z _ => rfl)).symm
  · simp only [Finset.mem_filter, Finset.mem_univ, true_and]; omega
  · simp only [Fin.mk.injEq] at h; exact Fin.ext (by omega)
  · simp only [Finset.mem_filter, Finset.mem_univ, true_and] at hx
    exact ⟨⟨x.val - 64 * (l.val / 64), by omega⟩, Finset.mem_univ _, Fin.ext (by simp; omega)⟩

theorem c64 : Ideal.ofBits FTy.f32 0x42800000#32 = ((64 : ℝ) : EReal) := by
  simp [Ideal.ofBits, Ideal.ieee]
  rw [← EReal.coe_mul]; norm_num
theorem c64inv : Ideal.ofBits FTy.f32 0x3C800000#32 = ((1 / 64 : ℝ) : EReal) := by
  simp [Ideal.ofBits, Ideal.ieee]
  rw [← EReal.coe_mul]; norm_num

/-- Multiplying by the 64th is dividing by 64. -/
theorem mul_inv64 (x : EReal) : x * Ideal.ofBits FTy.f32 0x3C800000#32 = Ideal.div x (Ideal.ofBits FTy.f32 0x42800000#32) := by
  rw [c64, c64inv, Ideal.div_coe (by norm_num)]

end Cert.Inproj
-- ==== Proof.Inp.Pay.lean ====
module
public import proofs.«01_k».proof.Proof.Gen.Kernel2Ideal.Skeleton
public import proofs.«01_k».proof.Proof.Gen.Kernel2Ideal
public import proofs.«01_k».proof.Proof.Inp.Spec
public import Idealize.ShloMosaic.Lib.Pointwise
@[expose] public section
namespace Cert.Kernel2Ideal.Proj

open Cert.Kernel2Ideal Cert.Kernel2Ideal.Gen Cert.Inproj
open Idealize.ShloMosaic

/-! # What the body stores, element by element -/

section
variable (x : Vec Ideal S512x1024 .f32) (sc sh : Vec Ideal S1x1x1024 .f32) (h : FVec Ideal S512x1024 .bf16) (w : Vec Ideal S1024x512 .bf16)
  (r l : Fin 512)

/-- The normalised and modulated rows. -/
theorem pay2_at (d : Fin 1024) : k0_pay2 (F := Ideal) x sc sh (ix2 r d) = normMod (fun z => x (ix2 r z)) (fun z => sc (ix3 0 0 z)) (fun z => sh (ix3 0 0 z)) d := by
  pointwise [k0_pay2]
  rfl

theorem pay5_at : k0_pay5 (F := Ideal) h w (ix2 r l) = ∑ d : Fin 1024, (h (ix2 r d) : EReal) * w (ix2 d l) := by
  pointwise [k0_pay5]

theorem pay6_at : k0_pay6 (F := Ideal) h w (ix2 r l) = ∑ d : Fin 1024, (h (ix2 r d) : EReal) * w (ix2 d l) := by
  pointwise [k0_pay6]

theorem pay11_at : k0_pay11 (F := Ideal) h w (ix2 r l) = ∑ d : Fin 1024, (h (ix2 r d) : EReal) * w (ix2 d l) := by
  pointwise [k0_pay11]

theorem pay8_at : k0_pay8 (F := Ideal) h w (ix2 r l) = ∑ d : Fin 1024, (h (ix2 r d) : EReal) * w (ix2 d l) := by
  pointwise [k0_pay8]

theorem pay3_eq : k0_pay3 (F := Ideal) x sc sh w = k0_pay5 (k0_pay2 (F := Ideal) x sc sh) w := rfl
theorem pay4_eq : k0_pay4 (F := Ideal) x sc sh w = k0_pay5 (k0_pay2 (F := Ideal) x sc sh) w := rfl

/-- The normalised keys, the segments' sums taken by the block-diagonal matrix. -/
theorem pay10_at (y : FVec Ideal S512x512 .f32) (bd : Vec Ideal S512x512 .bf16) (g : Vec Ideal S1x512 .f32)
    (hbd : ∀ j l : Fin 512, bd (ix2 j l) = if j.val / 64 = l.val / 64 then (1 : EReal) else 0) :
    k0_pay10 (F := Ideal) y (mulf y y) bd g (ix2 r l)
      = segNorm (fun z => y (ix2 r (segLane l z))) (fun z => g (ix2 0 (segLane l z))) ⟨l.val % 64, by omega⟩ := by
  have hl : segLane l ⟨l.val % 64, by omega⟩ = l := Fin.ext (by simp; omega)
  pointwise [k0_pay10]
  simp only [hbd]
  rw [sum_seg l (fun j => (y (ix2 r j) : EReal) * y (ix2 r j))]
  unfold segNorm
  beta_reduce
  rw [hl, ← mul_inv64]

theorem pay7_eq (bd : Vec Ideal S512x512 .bf16) (g : Vec Ideal S1x512 .f32) :
    k0_pay7 (F := Ideal) h w bd g = k0_pay10 (k0_pay8 (F := Ideal) h w) (mulf (k0_pay8 (F := Ideal) h w) (k0_pay8 (F := Ideal) h w)) bd g := rfl

theorem pay9_eq : k0_pay9 (F := Ideal) h w = mulf (k0_pay8 (F := Ideal) h w) (k0_pay8 (F := Ideal) h w) := rfl

/-- The gates as columns. -/
theorem pay12_at (wg : Vec Ideal S1024x128 .bf16) (b : Vec Ideal S1x128 .f32) (n : Fin 128) :
    k0_pay12 (F := Ideal) h wg b (ix2 r n) = (∑ d : Fin 1024, (h (ix2 r d) : EReal) * wg (ix2 d n)) + b (ix2 0 n) := by
  pointwise [k0_pay12]

/-- The gates as rows. -/
theorem pay1_at (wgt : Vec Ideal S8x1024 .bf16) (b : Vec Ideal S8x1 .f32) (n : Fin 8) :
    k0_pay1 (F := Ideal) (k0_pay13 (F := Ideal) h wgt) b (ix2 n r) = (∑ d : Fin 1024, (wgt (ix2 n d) : EReal) * h (ix2 r d)) + b (ix2 n 0) := by
  pointwise [k0_pay1, k0_pay13]
end

end Cert.Kernel2Ideal.Proj
-- ==== Proof.Inp.Body.lean ====
module
public import proofs.«01_k».proof.Proof.Gen.Kernel2Ideal.Frame
public import proofs.«01_k».proof.Proof.Inp.Pay
public import Idealize.ShloMosaic.Lib.Pipeline.Value
@[expose] public section
noncomputable section
namespace Cert.Kernel2Ideal.Proj

open Cert.Kernel2Ideal Cert.Kernel2Ideal.Gen Cert.Inproj
open Idealize.ShloMosaic

/-! # What a point leaves in its output blocks, from its input blocks -/

/-- The value of the last store at an index it writes. -/
theorem canon_at {S : Shape} {e : EltTy} (r : Rect S) (w : r.shape.Idx → Elt Ideal e) (L : List (View.Piece (Elt Ideal) S e)) (y : S.Idx) (x : r.shape.Idx) (h : r.emb x = y) :
    View.canon (⟨r, w⟩ :: L) y = w x := by
  subst h; exact View.canon_cons_emb r w L x

theorem ld_eq {S : Shape} {e : EltTy} (X : S.Idx → Elt Ideal e) (r : Rect S) (x : r.shape.Idx) : View.ld X r x = X (r.idx x) := rfl

/-- A load of 512 columns of the weight. -/
theorem ld_w (w : Vec Ideal S1024x3584 .bf16) (o : ℕ) (ho : o + 512 ≤ 3584) (inb : ∀ a, (![0, o] : Fin 2 → ℕ) a + S1024x512.size a ≤ S1024x3584.size a) (d : Fin 1024) (l : Fin 512) :
    View.ld w (Rect.unit (s := S1024x3584) ![0, o] S1024x512.size inb) (ix2 d l) = w (ix2 d ⟨o + l.val, by omega⟩) := by
  rw [ld_eq]
  congr 1
  funext a
  apply Fin.ext
  match a with
  | ⟨0, _⟩ => show 0 + 1 * d.val = d.val; omega
  | ⟨1, _⟩ => show o + 1 * l.val = o + l.val; omega

/-- A load of one row of the modulation. -/
theorem ld_m (md : Vec Ideal S1x6x1024 .f32) (k : Fin 6) (inb : ∀ a, (![0, k.val, 0] : Fin 3 → ℕ) a + S1x1x1024.size a ≤ S1x6x1024.size a) (z : Fin 1024) :
    View.ld md (Rect.unit (s := S1x6x1024) ![0, k.val, 0] S1x1x1024.size inb) (ix3 0 0 z) = md (ix3 0 k z) := by
  rw [ld_eq]
  congr 1
  funext a
  apply Fin.ext
  match a with
  | ⟨0, _⟩ => rfl
  | ⟨1, _⟩ => show k.val + 1 * 0 = k.val; omega
  | ⟨2, _⟩ => show 0 + 1 * z.val = z.val; omega

/-- A load of a whole matrix. -/
theorem ld_all {p q : ℕ} {e : EltTy} (x : Vec Ideal ⟨2, ![p, q]⟩ e) (inb : ∀ a, (![0, 0] : Fin 2 → ℕ) a + (![p, q] : Fin 2 → ℕ) a ≤ (![p, q] : Fin 2 → ℕ) a) (i : Fin p) (j : Fin q) :
    View.ld x (Rect.unit (s := ⟨2, ![p, q]⟩) ![0, 0] ![p, q] inb) (ix2 i j) = x (ix2 i j) := by
  rw [ld_eq]
  congr 1
  funext a
  apply Fin.ext
  match a with
  | ⟨0, _⟩ => show 0 + 1 * i.val = i.val; omega
  | ⟨1, _⟩ => show 0 + 1 * j.val = j.val; omega

variable (x0 : Vec Ideal S512x1024 .f32) (x1 : Vec Ideal S1x6x1024 .f32) (x2 : Vec Ideal S1024x3584 .bf16) (x3 : Vec Ideal S1024x128 .bf16) (x4 : Vec Ideal S8x1024 .bf16)
  (x5 : Vec Ideal S1x128 .f32) (x6 : Vec Ideal S8x1 .f32) (x7 : Vec Ideal S1x512 .f32) (x8 : Vec Ideal S1x512 .f32) (x9 : Vec Ideal S512x512 .bf16)

/-- A row of the block, normalised and modulated. -/
abbrev hidRow (r : Fin 512) : Fin 1024 → EReal := normMod (fun z => x0 (ix2 r z)) (fun z => x1 (ix3 0 1 z)) (fun z => x1 (ix3 0 0 z))

/-- A row of the block's projection. -/
abbrev projRow (r : Fin 512) (n : Fin 3584) : EReal := ∑ d : Fin 1024, hidRow x0 x1 r d * x2 (ix2 d n)

theorem hid_at (r : Fin 512) (d : Fin 1024) : k0_pay14 (F := Ideal) x0 x1 x2 x3 x4 x5 x6 x7 x8 x9 (ix2 r d) = hidRow x0 x1 r d := by
  refine (pay2_at _ _ _ r d).trans ?_
  have e0 : (fun z => View.ld x0 r0_0 (ix2 r z)) = fun z => x0 (ix2 r z) := funext fun z => ld_all x0 _ r z
  have e1 : (fun z => View.ld x1 r0_1 (ix3 0 0 z)) = fun z => x1 (ix3 0 1 z) := funext fun z => ld_m x1 1 _ z
  have e2 : (fun z => View.ld x1 r0_2 (ix3 0 0 z)) = fun z => x1 (ix3 0 0 z) := funext fun z => ld_m x1 0 _ z
  unfold hidRow
  rw [← e0, ← e1, ← e2]

/-- The product with 512 columns of the weight. -/
theorem cols_at (o : ℕ) (ho : o + 512 ≤ 3584) (inb : ∀ a, (![0, o] : Fin 2 → ℕ) a + S1024x512.size a ≤ S1024x3584.size a) (r l : Fin 512) :
    (∑ d : Fin 1024, (k0_pay14 (F := Ideal) x0 x1 x2 x3 x4 x5 x6 x7 x8 x9 (ix2 r d) : EReal) * View.ld x2 (Rect.unit (s := S1024x3584) ![0, o] S1024x512.size inb) (ix2 d l))
      = projRow x0 x1 x2 r ⟨o + l.val, by omega⟩ := by
  refine Finset.sum_congr rfl fun d _ => ?_
  rw [hid_at, ld_w x2 o ho]

theorem emb_all {p q : ℕ} (inb : ∀ a, (![0, 0] : Fin 2 → ℕ) a + (![p, q] : Fin 2 → ℕ) a ≤ (![p, q] : Fin 2 → ℕ) a) (i : Fin p) (j : Fin q) :
    (Rect.unit (s := ⟨2, ![p, q]⟩) ![0, 0] ![p, q] inb).emb (ix2 i j) = ix2 i j := by
  funext a
  apply Fin.ext
  match a with
  | ⟨0, _⟩ => show 0 + 1 * i.val = i.val; omega
  | ⟨1, _⟩ => show 0 + 1 * j.val = j.val; omega

/-- The values. -/
theorem out13_at (r l : Fin 512) : out0_13 (F := Ideal) x0 x1 x2 x3 x4 x5 x6 x7 x8 x9 (ix2 r l) = projRow x0 x1 x2 r ⟨3072 + l.val, by omega⟩ := by
  unfold out0_13
  refine (canon_at _ _ _ _ (ix2 r l) (emb_all _ r l)).trans ?_
  refine (pay11_at _ _ r l).trans ?_
  exact cols_at x0 x1 x2 x3 x4 x5 x6 x7 x8 x9 3072 (by omega) _ r l

/-- The queries or keys: 512 columns of the projection, each half normalised, times the gain. -/
theorem segs_at (g : Vec Ideal S1x512 .f32) (hbd : ∀ j l : Fin 512, x9 (ix2 j l) = if j.val / 64 = l.val / 64 then (1 : EReal) else 0)
    (o : ℕ) (ho : o + 512 ≤ 3584) (inb : ∀ a, (![0, o] : Fin 2 → ℕ) a + S1024x512.size a ≤ S1024x3584.size a) (r l : Fin 512) :
    k0_pay7 (F := Ideal) (k0_pay14 x0 x1 x2 x3 x4 x5 x6 x7 x8 x9) (View.ld x2 (Rect.unit (s := S1024x3584) ![0, o] S1024x512.size inb)) (View.ld x9 r0_12) (View.ld g r0_13) (ix2 r l)
      = segNorm (fun z => projRow x0 x1 x2 r ⟨o + (segLane l z).val, by have := (segLane l z).isLt; omega⟩) (fun z => g (ix2 0 (segLane l z))) ⟨l.val % 64, by omega⟩ := by
  rw [pay7_eq]
  refine (pay10_at r l _ _ _ (fun j l => (ld_all x9 _ j l).trans (hbd j l))).trans ?_
  refine congrArg₂ (fun f g => segNorm f g _) (funext fun z => ?_) (funext fun z => ?_)
  · exact (pay8_at _ _ r _).trans (cols_at x0 x1 x2 x3 x4 x5 x6 x7 x8 x9 o ho inb r (segLane l z))
  · exact ld_all g _ 0 (segLane l z)

theorem out11_at (hbd : ∀ j l : Fin 512, x9 (ix2 j l) = if j.val / 64 = l.val / 64 then (1 : EReal) else 0) (r l : Fin 512) :
    out0_11 (F := Ideal) x0 x1 x2 x3 x4 x5 x6 x7 x8 x9 (ix2 r l)
      = segNorm (fun z => projRow x0 x1 x2 r ⟨2048 + (segLane l z).val, by have := (segLane l z).isLt; omega⟩) (fun z => x7 (ix2 0 (segLane l z))) ⟨l.val % 64, by omega⟩ := by
  unfold out0_11
  refine (canon_at _ _ _ _ (ix2 r l) (emb_all _ r l)).trans ?_
  exact segs_at x0 x1 x2 x3 x4 x5 x6 x7 x8 x9 x7 hbd 2048 (by omega) _ r l

theorem out12_at (hbd : ∀ j l : Fin 512, x9 (ix2 j l) = if j.val / 64 = l.val / 64 then (1 : EReal) else 0) (r l : Fin 512) :
    out0_12 (F := Ideal) x0 x1 x2 x3 x4 x5 x6 x7 x8 x9 (ix2 r l)
      = segNorm (fun z => projRow x0 x1 x2 r ⟨2560 + (segLane l z).val, by have := (segLane l z).isLt; omega⟩) (fun z => x8 (ix2 0 (segLane l z))) ⟨l.val % 64, by omega⟩ := by
  unfold out0_12
  refine (canon_at _ _ _ _ (ix2 r l) (emb_all _ r l)).trans ?_
  exact segs_at x0 x1 x2 x3 x4 x5 x6 x7 x8 x9 x8 hbd 2560 (by omega) _ r l

/-- The gates as columns. -/
theorem out14_at (r : Fin 512) (n : Fin 128) : out0_14 (F := Ideal) x0 x1 x2 x3 x4 x5 x6 x7 x8 x9 (ix2 r n)
    = (∑ d : Fin 1024, hidRow x0 x1 r d * x3 (ix2 d n)) + x5 (ix2 0 n) := by
  unfold out0_14
  refine (canon_at _ _ _ _ (ix2 r n) (emb_all _ r n)).trans ?_
  refine (pay12_at _ r _ _ n).trans ?_
  refine congrArg₂ (fun a b : EReal => a + b) (Finset.sum_congr rfl fun d _ => ?_) (ld_all x5 _ 0 n)
  rw [hid_at]
  exact congrArg _ (ld_all x3 _ d n)

/-- The gates as rows. -/
theorem out15_at (r : Fin 512) (n : Fin 8) : out0_15 (F := Ideal) x0 x1 x2 x3 x4 x5 x6 x7 x8 x9 (ix2 n r)
    = (∑ d : Fin 1024, hidRow x0 x1 r d * x4 (ix2 n d)) + x6 (ix2 n 0) := by
  unfold out0_15
  refine (canon_at _ _ _ _ (ix2 n r) (emb_all _ n r)).trans ?_
  refine (pay1_at _ r _ _ n).trans ?_
  refine congrArg₂ (fun a b : EReal => a + b) (Finset.sum_congr rfl fun d _ => ?_) (ld_all x6 _ n 0)
  rw [hid_at, mul_comm]
  exact congrArg _ (ld_all x4 _ n d)

/-- One of the four pieces of the mLSTM's columns. -/
theorem piece_at (o : ℕ) (ho : o + 512 ≤ 2048) (inb : ∀ a, (![0, o] : Fin 2 → ℕ) a + S1024x512.size a ≤ S1024x3584.size a)
    (inb' : ∀ a, (![0, o] : Fin 2 → ℕ) a + S512x512.size a ≤ S512x2048.size a) (r l : Fin 512) :
    k0_pay5 (F := Ideal) (k0_pay14 x0 x1 x2 x3 x4 x5 x6 x7 x8 x9) (View.ld x2 (Rect.unit (s := S1024x3584) ![0, o] S1024x512.size inb)) (ix2 r l)
      = (fun y : S512x2048.Idx => projRow x0 x1 x2 (y 0) ⟨(y 1).val, by have : (y 1).val < 2048 := (y 1).isLt; omega⟩) ((Rect.unit (s := S512x2048) ![0, o] S512x512.size inb').emb (ix2 r l)) := by
  refine (pay5_at _ _ r l).trans ((cols_at x0 x1 x2 x3 x4 x5 x6 x7 x8 x9 o (by omega) inb r l).trans ?_)
  refine congrArg₂ (projRow x0 x1 x2) (Fin.ext ?_) (Fin.ext ?_)
  · show r.val = 0 + 1 * r.val; omega
  · show o + l.val = o + 1 * l.val; omega

/-- The mLSTM's columns. -/
theorem out10_at (r : Fin 512) (n : Fin 2048) : out0_10 (F := Ideal) x0 x1 x2 x3 x4 x5 x6 x7 x8 x9 (ix2 r n) = projRow x0 x1 x2 r ⟨n.val, by omega⟩ := by
  unfold out0_10
  refine View.canon_apply_of_pieces (Val := Elt Ideal) (e := EltTy.bf16) (fun y : S512x2048.Idx => projRow x0 x1 x2 (y 0) ⟨(y 1).val, by have : (y 1).val < 2048 := (y 1).isLt; omega⟩) _ ?_ (ix2 r n) (cover0_10 _ _ _ _ _)
  intro p hp x
  simp only [List.mem_cons, List.not_mem_nil, or_false] at hp
  rcases hp with rfl | rfl | rfl | rfl
  · have hx : x = ix2 (x 0 : Fin 512) (x 1 : Fin 512) := by funext a; match a with | ⟨0, _⟩ => rfl | ⟨1, _⟩ => rfl
    rw [hx]
    exact piece_at x0 x1 x2 x3 x4 x5 x6 x7 x8 x9 1536 (by omega) _ (by decide) _ _
  · have hx : x = ix2 (x 0 : Fin 512) (x 1 : Fin 512) := by funext a; match a with | ⟨0, _⟩ => rfl | ⟨1, _⟩ => rfl
    rw [hx]
    exact piece_at x0 x1 x2 x3 x4 x5 x6 x7 x8 x9 1024 (by omega) _ (by decide) _ _
  · have hx : x = ix2 (x 0 : Fin 512) (x 1 : Fin 512) := by funext a; match a with | ⟨0, _⟩ => rfl | ⟨1, _⟩ => rfl
    rw [hx]
    exact piece_at x0 x1 x2 x3 x4 x5 x6 x7 x8 x9 512 (by omega) _ (by decide) _ _
  · have hx : x = ix2 (x 0 : Fin 512) (x 1 : Fin 512) := by funext a; match a with | ⟨0, _⟩ => rfl | ⟨1, _⟩ => rfl
    rw [hx]
    exact piece_at x0 x1 x2 x3 x4 x5 x6 x7 x8 x9 0 (by omega) _ (by decide) _ _

end Cert.Kernel2Ideal.Proj
-- ==== Proof.Inp.Host.lean ====
module
public import proofs.«01_k».proof.Proof.Gen.Kernel2Ideal.Frame
public import proofs.«01_k».proof.Proof.Inp.Spec
public import Idealize.ShloMosaic.Lib.Pointwise
@[expose] public section
noncomputable section
namespace Cert.Kernel2Ideal.Proj

open Cert.Kernel2Ideal Cert.Kernel2Ideal.Gen Cert.Inproj
open Idealize.ShloMosaic
open Idealize.ShloMosaic.TcCoe Idealize.ShloMosaic.Tactic Idealize.SL.Sem

/-! # What the projection's call finds in its arrays when it begins -/

variable (m : (ℓ : Loc nD τ sig) → Buf (Elt Ideal) ℓ) (c : Dev nD)

theorem x_at (r : Fin 32768) (d : Fin 1024) : V m c main_v0 (ix2 r d) = m (c, main_arg0) (ix3 (⟨r.val / 8192, by omega⟩ : Fin 4) (⟨r.val % 8192, by omega⟩ : Fin 8192) d) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.ternary, StableHlo.TRef.nullary, StableHlo.TRef.toBuf, StableHlo.TRef.ofBuf, cast_eq]
  after_results_simp
  pointwise

/-- The weight's columns, the eight of the gates left out. -/
theorem w_at (d : Fin 1024) (n : Fin 3584) : V m c main_v4 (ix2 d n) = m (c, main_arg2) (ix2 d (⟨if n.val < 2048 then n.val else n.val + 8, by split <;> omega⟩ : Fin 3592)) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.ternary, StableHlo.TRef.nullary, StableHlo.TRef.toBuf, StableHlo.TRef.ofBuf, cast_eq]
  after_results_simp
  pointwise
  split
  · after_results_simp
    pointwise
  · rename_i hn
    after_results_simp
    pointwise
    exact congrArg (m (c, main_arg2)) (congrArg (ix2 d) (Fin.ext (by show 2056 + (n.val - 2048) = n.val + 8; omega)))

theorem wg_at (d : Fin 1024) (n : Fin 128) : V m c main_v7 (ix2 d n) = if h : n.val < 8 then m (c, main_arg2) (ix2 d (⟨2048 + n.val, by omega⟩ : Fin 3592)) else (0 : EReal) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.ternary, StableHlo.TRef.nullary, StableHlo.TRef.toBuf, StableHlo.TRef.ofBuf, cast_eq]
  after_results_simp
  pointwise
  split
  · rfl
  · show (((0#32 : BitVec 32).toInt : ℝ) : EReal) = 0
    simp

theorem wgt_at (d : Fin 1024) (n : Fin 8) : V m c main_v9 (ix2 n d) = m (c, main_arg2) (ix2 d (⟨2048 + n.val, by omega⟩ : Fin 3592)) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.ternary, StableHlo.TRef.nullary, StableHlo.TRef.toBuf, StableHlo.TRef.ofBuf, cast_eq]
  after_results_simp
  pointwise

theorem gbr_at (n : Fin 128) : V m c main_v11 (ix2 0 n) = if h : n.val < 8 then m (c, main_arg3) (ix1 (⟨n.val, h⟩ : Fin 8)) else (0 : EReal) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.ternary, StableHlo.TRef.nullary, StableHlo.TRef.toBuf, StableHlo.TRef.ofBuf, cast_eq]
  after_results_simp
  pointwise
  split
  · rfl
  · show (((0#32 : BitVec 32).toInt : ℝ) : EReal) = 0
    simp

theorem gbc_at (n : Fin 8) : V m c main_v12 (ix2 n 0) = m (c, main_arg3) (ix1 n) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.ternary, StableHlo.TRef.nullary, StableHlo.TRef.toBuf, StableHlo.TRef.ofBuf, cast_eq]
  after_results_simp
  pointwise

theorem qg_at (l : Fin 512) : V m c main_v16 (ix2 0 l) = m (c, main_arg4) (ix1 (⟨l.val % 64, by omega⟩ : Fin 64)) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.ternary, StableHlo.TRef.nullary, StableHlo.TRef.toBuf, StableHlo.TRef.ofBuf, cast_eq]
  after_results_simp
  pointwise

theorem kg_at (l : Fin 512) : V m c main_v20 (ix2 0 l) = m (c, main_arg5) (ix1 (⟨l.val % 64, by omega⟩ : Fin 64)) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.ternary, StableHlo.TRef.nullary, StableHlo.TRef.toBuf, StableHlo.TRef.ofBuf, cast_eq]
  after_results_simp
  pointwise

/-- The number of a lane's segment, as the host computes it: the quotient by 64, one less where the signs differ and something remains. -/
def segWord (x : BitVec 32) : BitVec 32 :=
  Scalar.select
    (IntOp.andi
      (IntOp.cmpi CmpIPredicate.ne (if x = 0 then (0 : BitVec 32) else if x.msb = true then -1 else 1) (if (64#32 : BitVec 32) = 0 then (0 : BitVec 32) else if BitVec.msb 64#32 = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem segWord_eq (j : Fin 512) : segWord (BitVec.ofNat 32 j.val) = BitVec.ofNat 32 (j.val / 64) := by
  revert j; decide +kernel

theorem bd_at (j l : Fin 512) : V m c main_v28 (ix2 j l) = if j.val / 64 = l.val / 64 then (1 : EReal) else 0 := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.ternary, StableHlo.TRef.nullary, StableHlo.TRef.toBuf, StableHlo.TRef.ofBuf, cast_eq]
  after_results_simp
  pointwise
  show (FloatOps.uitofp (F := Ideal) FTy.bf16 (IntOp.cmpi CmpIPredicate.eq (segWord (BitVec.ofNat 32 j.val)) (segWord (BitVec.ofNat 32 l.val))) : EReal) = _
  rw [segWord_eq, segWord_eq]
  have e : IntOp.cmpi CmpIPredicate.eq (BitVec.ofNat 32 (j.val / 64)) (BitVec.ofNat 32 (l.val / 64)) = if j.val / 64 = l.val / 64 then 1#1 else 0#1 := by
    have hj : j.val / 64 < 8 := by omega
    have hl : l.val / 64 < 8 := by omega
    generalize j.val / 64 = a at hj
    generalize l.val / 64 = b at hl
    interval_cases a <;> interval_cases b <;> rfl
  rw [e]
  show ((((if j.val / 64 = l.val / 64 then 1#1 else 0#1 : BitVec 1)).toNat : ℝ) : EReal) = _
  split <;> simp

end Cert.Kernel2Ideal.Proj
-- ==== Proof.Inp.RefParts.lean ====
module
public import proofs.«01_k».proof.Proof.Gen.Reference2Ideal.Run
public import proofs.«01_k».proof.Proof.Inp.Spec
public import Idealize.ShloMosaic.Lib.Pointwise
@[expose] public section
noncomputable section
namespace Cert.Reference2Ideal.Parts

open Cert.Reference2Ideal Cert.Reference2Ideal.Gen Idealize.ShloMosaic Idealize.ShloMosaic.TcCoe Idealize.SL.Sem Idealize.ShloMosaic.StableHlo

/-! # The reference of the input projection, in named parts -/

/-- The normalised and modulated input. -/
def hid (x : FVec Ideal S4x8192x1024 .f32) (md : FVec Ideal S4x6x1024 .f32) : FVec Ideal S4x8192x1024 .f32 :=
  addf (mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_))
        (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S4x1x1024_S4x8192x1024_0_1_2 (addf (broadcastInDim S4x1x1024 ![] bcast_S_S4x1x1024 (constant S_ .f32 0x3F800000#32))
      (shapeCast S4x1x1024 (extractStridedSlice S4x1x1x1024 ![0, 1, 0, 0] (shapeCast S4x6x1x1024 md shapeCasts_S4x6x1024_S4x6x1x1024) slices_S4x6x1x1024_S4x1x1x1024_0_1_0_0) shapeCasts_S4x1x1x1024_S4x1x1024))))
    (broadcastInDim S4x8192x1024 ![0, 1, 2] bcast_S4x1x1024_S4x8192x1024_0_1_2
      (shapeCast S4x1x1024 (extractStridedSlice S4x1x1x1024 ![0, 0, 0, 0] (shapeCast S4x6x1x1024 md shapeCasts_S4x6x1024_S4x6x1x1024) slices_S4x6x1x1024_S4x1x1x1024_0_0_0_0) shapeCasts_S4x1x1x1024_S4x1x1024))

/-- The projection. -/
def proj (h : FVec Ideal S4x8192x1024 .f32) (w : FVec Ideal S1024x3592 .f32) : FVec Ideal S4x8192x3592 .f32 :=
  Host.dotGeneral dot_S4x8192x1024_S1024x3592_S4x8192x3592_2_0_01_1_n_n none h w

/-- Queries or keys, each half normalised, times the gain. -/
def norm5 (y : FVec Ideal S4x8192x4x2x64 .f32) (g : FVec Ideal S64 .f32) : FVec Ideal S4x8192x4x2x64 .f32 :=
  mulf (mulf y (broadcastInDim S4x8192x4x2x64 ![0, 1, 2, 3, 4] bcast_S4x8192x4x2x1_S4x8192x4x2x64_0_1_2_3_4
      (Host.rsqrt (addf (Host.divf (broadcastInDim S4x8192x4x2x1 ![0, 1, 2, 3] bcast_S4x8192x4x2_S4x8192x4x2x1_0_1_2_3 (Host.reduceAdd (mulf y y) (constant S_ .f32 0x00000000#32) reducesTo_S4x8192x4x2x64_S4x8192x4x2_d4 h_S_))
        (broadcastInDim S4x8192x4x2x1 ![] bcast_S_S4x8192x4x2x1 (constant S_ .f32 0x42800000#32))) (broadcastInDim S4x8192x4x2x1 ![] bcast_S_S4x8192x4x2x1 (constant S_ .f32 0x358637BD#32))))))
    (broadcastInDim S4x8192x4x2x64 ![0, 1, 2, 3, 4] bcast_S1x1x1x1x64_S4x8192x4x2x64_0_1_2_3_4 (broadcastInDim S1x1x1x1x64 ![4] bcast_S64_S1x1x1x1x64_4 g))

/-- The gates. -/
def gates (p : FVec Ideal S4x8192x3592 .f32) (b : FVec Ideal S8 .f32) : FVec Ideal S32768x8 .f32 :=
  shapeCast S32768x8 (concatenate S4x8192x8 2
    [⟨S4x8192x4, addf (extractStridedSlice S4x8192x4 ![0, 0, 2048] p slices_S4x8192x3592_S4x8192x4_0_0_2048) (broadcastInDim S4x8192x4 ![0, 1, 2] bcast_S1x1x4_S4x8192x4_0_1_2 (broadcastInDim S1x1x4 ![2] bcast_S4_S1x1x4_2 (extractStridedSlice S4 ![0] b slices_S8_S4_0)))⟩,
     ⟨S4x8192x4, addf (extractStridedSlice S4x8192x4 ![0, 0, 2052] p slices_S4x8192x3592_S4x8192x4_0_0_2052) (broadcastInDim S4x8192x4 ![0, 1, 2] bcast_S1x1x4_S4x8192x4_0_1_2 (broadcastInDim S1x1x4 ![2] bcast_S4_S1x1x4_2 (extractStridedSlice S4 ![4] b slices_S8_S4_4)))⟩]
    concatenates_S4x8192x4_S4x8192x4_S4x8192x8_d2) shapeCasts_S4x8192x8_S32768x8

/-- The mLSTM's columns. -/
def out0 (p : FVec Ideal S4x8192x3592 .f32) : FVec Ideal S32768x2048 .bf16 :=
  truncf .bf16 (shapeCast S32768x2048 (concatenate S4x8192x2048 2
    [⟨S4x8192x1024, extractStridedSlice S4x8192x1024 ![0, 0, 0] p slices_S4x8192x3592_S4x8192x1024_0_0_0⟩,
     ⟨S4x8192x512, extractStridedSlice S4x8192x512 ![0, 0, 1024] p slices_S4x8192x3592_S4x8192x512_0_0_1024⟩,
     ⟨S4x8192x512, extractStridedSlice S4x8192x512 ![0, 0, 1536] p slices_S4x8192x3592_S4x8192x512_0_0_1536⟩]
    concatenates_S4x8192x1024_S4x8192x512_S4x8192x512_S4x8192x2048_d2) shapeCasts_S4x8192x2048_S32768x2048) bitsLt_bf16_f32

/-- The queries. -/
def out1 (p : FVec Ideal S4x8192x3592 .f32) (g : FVec Ideal S64 .f32) : FVec Ideal S32768x512 .bf16 :=
  truncf .bf16 (shapeCast S32768x512 (norm5 (shapeCast S4x8192x4x2x64 (extractStridedSlice S4x8192x512 ![0, 0, 2056] p slices_S4x8192x3592_S4x8192x512_0_0_2056) shapeCasts_S4x8192x512_S4x8192x4x2x64) g) shapeCasts_S4x8192x4x2x64_S32768x512) bitsLt_bf16_f32

/-- The keys. -/
def out2 (p : FVec Ideal S4x8192x3592 .f32) (g : FVec Ideal S64 .f32) : FVec Ideal S32768x512 .bf16 :=
  truncf .bf16 (shapeCast S32768x512 (norm5 (shapeCast S4x8192x4x2x64 (extractStridedSlice S4x8192x512 ![0, 0, 2568] p slices_S4x8192x3592_S4x8192x512_0_0_2568) shapeCasts_S4x8192x512_S4x8192x4x2x64) g) shapeCasts_S4x8192x4x2x64_S32768x512) bitsLt_bf16_f32

/-- The values. -/
def out3 (p : FVec Ideal S4x8192x3592 .f32) : FVec Ideal S32768x512 .bf16 :=
  truncf .bf16 (shapeCast S32768x512 (extractStridedSlice S4x8192x512 ![0, 0, 3080] p slices_S4x8192x3592_S4x8192x512_0_0_3080) shapeCasts_S4x8192x512_S32768x512) bitsLt_bf16_f32

/-- The gates, padded. -/
def out4 (g : FVec Ideal S32768x8 .f32) : FVec Ideal S32768x128 .f32 :=
  pad S32768x128 ![0, 0] ![0, 120] ![0, 0] g (sitofp (F := Ideal) .f32 (constantI S_ 32 0#32)) pads_S32768x8_S32768x128_000_01200 h_S_

/-- The gates, transposed. -/
def out5 (g : FVec Ideal S32768x8 .f32) : FVec Ideal S8x32768 .f32 := transpose S8x32768 [1, 0] g transposes_S32768x8_S8x32768_1_0

section
variable (m : (ℓ : Loc nD τ sig) → Buf (Elt Ideal) ℓ) (c : Dev nD)

/-- The projection of the program's arguments. -/
abbrev P (m : (ℓ : Loc nD τ sig) → Buf (Elt Ideal) ℓ) (c : Dev nD) : FVec Ideal S4x8192x3592 .f32 := proj (hid (m ((c.tc : Thread nD τ).loc main_arg0)) (m ((c.tc : Thread nD τ).loc main_arg1))) (m ((c.tc : Thread nD τ).loc main_arg2))

theorem res0 : Cert.Reference2Ideal.Value.res_main_v70 (F := Ideal) m c = out0 (P m c) := rfl
theorem res1 : Cert.Reference2Ideal.Value.res_main_v72 (F := Ideal) m c = out1 (P m c) (m ((c.tc : Thread nD τ).loc main_arg4)) := rfl
theorem res2 : Cert.Reference2Ideal.Value.res_main_v74 (F := Ideal) m c = out2 (P m c) (m ((c.tc : Thread nD τ).loc main_arg5)) := rfl
/-- What the reference leaves, in the named parts. -/
theorem run_parts (ρ : Dev nD → PrngReg) : θ_run defs (onTc (τ := τ) (main (F := Ideal))) ⟨m, fun _ => 0, ρ⟩ fun r => ∀ c : Dev nD,
    r.2.mem ((c.tc : Thread nD τ).loc main_v70) = out0 (P m c)
    ∧ r.2.mem ((c.tc : Thread nD τ).loc main_v72) = out1 (P m c) (m ((c.tc : Thread nD τ).loc main_arg4))
    ∧ r.2.mem ((c.tc : Thread nD τ).loc main_v74) = out2 (P m c) (m ((c.tc : Thread nD τ).loc main_arg5))
    ∧ r.2.mem ((c.tc : Thread nD τ).loc main_v76) = out3 (P m c)
    ∧ r.2.mem ((c.tc : Thread nD τ).loc main_v77) = out4 (gates (P m c) (m ((c.tc : Thread nD τ).loc main_arg3)))
    ∧ r.2.mem ((c.tc : Thread nD τ).loc main_v78) = out5 (gates (P m c) (m ((c.tc : Thread nD τ).loc main_arg3)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run _ _ _).mono (fun _ h c => ⟨(h c).1.trans (res0 m c), (h c).2.1.trans (res1 m c), (h c).2.2.1.trans (res2 m c), (h c).2.2.2.1.trans rfl,
    (h c).2.2.2.2.1.trans rfl, (h c).2.2.2.2.2.1.trans rfl, (h c).2.2.2.2.2.2⟩) (Cert.Reference2Ideal.Value.run (F := Ideal) m ρ)
end

end Cert.Reference2Ideal.Parts
-- ==== Proof.Inp.RefRead.lean ====
module
public import proofs.«01_k».proof.Proof.Inp.RefParts
@[expose] public section
noncomputable section
namespace Cert.Reference2Ideal.Parts

open Cert.Reference2Ideal Cert.Reference2Ideal.Gen Cert.Inproj Idealize.ShloMosaic

/-! # The reference's parts, element by element -/

/-- The batch and the position of a row. -/
abbrev bR (r : Fin 32768) : Fin 4 := ⟨r.val / 8192, by omega⟩
abbrev iR (r : Fin 32768) : Fin 8192 := ⟨r.val % 8192, by omega⟩

theorem hid_at (x : FVec Ideal S4x8192x1024 .f32) (md : FVec Ideal S4x6x1024 .f32) (b : Fin 4) (i : Fin 8192) (d : Fin 1024) :
    hid x md (ix3 b i d) = normMod (fun z => x (ix3 b i z)) (fun z => md (ix3 b 1 z)) (fun z => md (ix3 b 0 z)) d := by
  pointwise [hid]
  rfl

theorem proj_at (h : FVec Ideal S4x8192x1024 .f32) (w : FVec Ideal S1024x3592 .f32) (b : Fin 4) (i : Fin 8192) (n : Fin 3592) :
    proj h w (ix3 b i n) = ∑ d : Fin 1024, (h (ix3 b i d) : EReal) * w (ix2 d n) := by
  pointwise [proj]

theorem norm5_at (y : FVec Ideal S4x8192x4x2x64 .f32) (g : FVec Ideal S64 .f32) (b : Fin 4) (i : Fin 8192) (h : Fin 4) (c : Fin 2) (e : Fin 64) :
    norm5 y g (ix5 b i h c e) = segNorm (fun z => y (ix5 b i h c z)) (fun z => g (ix1 z)) e := by
  pointwise [norm5]
  rfl

variable (p : FVec Ideal S4x8192x3592 .f32) (g : FVec Ideal S64 .f32) (r : Fin 32768)

theorem out0_at (n : Fin 2048) : out0 p (ix2 r n) = p (ix3 (bR r) (iR r) ⟨n.val, by omega⟩) := by
  pointwise [out0]
  split
  · rfl
  · split
    · exact congrArg p (congrArg (ix3 _ _) (Fin.ext (by simp only; omega)))
    · exact congrArg p (congrArg (ix3 _ _) (Fin.ext (by simp only; omega)))

/-- A half's lanes among the projection's columns. -/
theorem halves5_at (o : ℕ) (ho : o + 512 ≤ 3592) (hs : S4x8192x3592.Slices ![0, 0, o] S4x8192x512) (b : Fin 4) (i : Fin 8192) (h : Fin 4) (c : Fin 2) (e : Fin 64) :
    shapeCast S4x8192x4x2x64 (extractStridedSlice S4x8192x512 ![0, 0, o] p hs) shapeCasts_S4x8192x512_S4x8192x4x2x64 (ix5 b i h c e)
      = p (ix3 b i ⟨o + (128 * h.val + 64 * c.val + e.val), by omega⟩) := by
  pointwise
  exact congrArg p (congrArg (ix3 _ _) (Fin.ext (by simp only; omega)))

theorem out1_at (l : Fin 512) : out1 p g (ix2 r l)
    = segNorm (fun z => p (ix3 (bR r) (iR r) ⟨2056 + (segLane l z).val, by have := (segLane l z).isLt; omega⟩)) (fun z => g (ix1 z)) ⟨l.val % 64, by omega⟩ := by
  pointwise [out1]
  rw [norm5_at]
  refine congrArg (fun f => segNorm f _ _) (funext fun z => ?_)
  rw [halves5_at p 2056 (by omega)]
  exact congrArg p (congrArg (ix3 _ _) (Fin.ext (by simp only [segLane]; omega)))

theorem out2_at (l : Fin 512) : out2 p g (ix2 r l)
    = segNorm (fun z => p (ix3 (bR r) (iR r) ⟨2568 + (segLane l z).val, by have := (segLane l z).isLt; omega⟩)) (fun z => g (ix1 z)) ⟨l.val % 64, by omega⟩ := by
  pointwise [out2]
  rw [norm5_at]
  refine congrArg (fun f => segNorm f _ _) (funext fun z => ?_)
  rw [halves5_at p 2568 (by omega)]
  exact congrArg p (congrArg (ix3 _ _) (Fin.ext (by simp only [segLane]; omega)))

theorem out3_at (l : Fin 512) : out3 p (ix2 r l) = p (ix3 (bR r) (iR r) ⟨3080 + l.val, by omega⟩) := by
  pointwise [out3]

theorem gates_at (b : FVec Ideal S8 .f32) (n : Fin 8) : gates p b (ix2 r n) = p (ix3 (bR r) (iR r) ⟨2048 + n.val, by omega⟩) + b (ix1 n) := by
  pointwise [gates]
  split
  · rfl
  · exact congrArg₂ (fun a b : EReal => a + b) (congrArg p (congrArg (ix3 _ _) (Fin.ext (by simp only; omega)))) (congrArg b (congrArg ix1 (Fin.ext (by simp only; omega))))

theorem out4_at (x : FVec Ideal S32768x8 .f32) (n : Fin 128) : out4 x (ix2 r n) = if h : n.val < 8 then x (ix2 r ⟨n.val, h⟩) else 0 := by
  pointwise [out4]
  split
  · rfl
  · show (((0#32 : BitVec 32).toInt : ℝ) : EReal) = 0
    simp

theorem out5_at (x : FVec Ideal S32768x8 .f32) (n : Fin 8) : out5 x (ix2 n r) = x (ix2 r n) := by
  pointwise [out5]

end Cert.Reference2Ideal.Parts
-- ==== Proof.Inp.Blocks.lean ====
module
public import proofs.«01_k».proof.Proof.Gen.Kernel2Ideal.Value
public import proofs.«01_k».proof.Proof.Inp.Body
public import proofs.«01_k».proof.Proof.Inp.Host
public import proofs.«01_k».proof.Proof.Inp.RefRead
@[expose] public section
noncomputable section
namespace Cert.Kernel2Ideal.Proj

open Cert.Kernel2Ideal Cert.Kernel2Ideal.Gen Cert.Inproj
open Idealize.ShloMosaic
open Idealize.ShloMosaic.TcCoe Idealize.SL.Sem
open Cert.Reference2Ideal.Parts (bR iR)

/-! # The projection's blocks, point by point -/

/-- Where each moving window stands at a point. -/
theorem place (t : Fin cfg0.N) :
    (cfg0.win (0 : Fin 16)).index t 0 = t.val ∧ (cfg0.win (0 : Fin 16)).index t 1 = 0
    ∧ (cfg0.win (1 : Fin 16)).index t 0 = t.val / 16 ∧ (cfg0.win (1 : Fin 16)).index t 1 = 0 ∧ (cfg0.win (1 : Fin 16)).index t 2 = 0 := by
  revert t; decide +kernel

theorem place_out (t : Fin cfg0.N) :
    ((cfg0.win (10 : Fin 16)).index t 0 = t.val ∧ (cfg0.win (10 : Fin 16)).index t 1 = 0) ∧ ((cfg0.win (11 : Fin 16)).index t 0 = t.val ∧ (cfg0.win (11 : Fin 16)).index t 1 = 0) ∧ ((cfg0.win (12 : Fin 16)).index t 0 = t.val ∧ (cfg0.win (12 : Fin 16)).index t 1 = 0) ∧ ((cfg0.win (13 : Fin 16)).index t 0 = t.val ∧ (cfg0.win (13 : Fin 16)).index t 1 = 0) ∧ ((cfg0.win (14 : Fin 16)).index t 0 = t.val ∧ (cfg0.win (14 : Fin 16)).index t 1 = 0) ∧ ((cfg0.win (15 : Fin 16)).index t 0 = 0 ∧ (cfg0.win (15 : Fin 16)).index t 1 = t.val) := by
  revert t; decide +kernel

/-- The row of the input that a row of a point's block is. -/
abbrev rowB (t : Fin cfg0.N) (r : Fin 512) : Fin 32768 := ⟨512 * t.val + r.val, by have h : t.val < 64 := t.isLt; omega⟩

variable (m : (ℓ : Loc nD τ sig) → Buf (Elt Ideal) ℓ) (c : Dev nD)

theorem blk0 (t : Fin cfg0.N) (r : Fin 512) (d : Fin 1024) : iblk m c (0 : Fin 16) t (ix2 r d) = V m c main_v0 (ix2 (rowB t r) d) := by
  have hp := place t
  unfold iblk
  rw [View.read_apply]
  show V m c main_v0 _ = V m c main_v0 _
  congr 1
  funext a
  apply Fin.ext
  match a with
  | ⟨0, _⟩ =>
    show (cfg0.win (0 : Fin 16)).index t 0 * 512 + 1 * r.val = 512 * t.val + r.val
    rw [hp.1]; omega
  | ⟨1, _⟩ =>
    show (cfg0.win (0 : Fin 16)).index t 1 * 1024 + 1 * d.val = d.val
    rw [hp.2.1]; omega

theorem blk1 (t : Fin cfg0.N) (r : Fin 512) (k : Fin 6) (z : Fin 1024) : iblk m c (1 : Fin 16) t (ix3 (0 : Fin 1) k z) = m (c, main_arg1) (ix3 (bR (rowB t r)) k z) := by
  have hp := (place t).2.2
  unfold iblk
  rw [View.read_apply]
  refine Eq.trans ?_ (congrFun (V_main_arg1 m c) _)
  show V m c main_arg1 _ = V m c main_arg1 _
  congr 1
  funext a
  apply Fin.ext
  match a with
  | ⟨0, _⟩ =>
    show (cfg0.win (1 : Fin 16)).index t 0 * 1 + 1 * 0 = (512 * t.val + r.val) / 8192
    rw [hp.1]; omega
  | ⟨1, _⟩ =>
    show (cfg0.win (1 : Fin 16)).index t 1 * 6 + 1 * k.val = k.val
    rw [hp.2.1]; omega
  | ⟨2, _⟩ =>
    show (cfg0.win (1 : Fin 16)).index t 2 * 1024 + 1 * z.val = z.val
    rw [hp.2.2]; omega

theorem blk2 (t : Fin cfg0.N) (i : Fin 1024) (j : Fin 3584) : iblk m c (2 : Fin 16) t (ix2 i j) = V m c main_v4 (ix2 i j) := by
  unfold iblk
  rw [View.read_apply]
  show V m c main_v4 _ = V m c main_v4 _
  congr 1
  funext a
  apply Fin.ext
  match a with
  | ⟨0, _⟩ => show 0 * 1024 + 1 * i.val = i.val; omega
  | ⟨1, _⟩ => show 0 * 3584 + 1 * j.val = j.val; omega

theorem blk3 (t : Fin cfg0.N) (i : Fin 1024) (j : Fin 128) : iblk m c (3 : Fin 16) t (ix2 i j) = V m c main_v7 (ix2 i j) := by
  unfold iblk
  rw [View.read_apply]
  show V m c main_v7 _ = V m c main_v7 _
  congr 1
  funext a
  apply Fin.ext
  match a with
  | ⟨0, _⟩ => show 0 * 1024 + 1 * i.val = i.val; omega
  | ⟨1, _⟩ => show 0 * 128 + 1 * j.val = j.val; omega

theorem blk4 (t : Fin cfg0.N) (i : Fin 8) (j : Fin 1024) : iblk m c (4 : Fin 16) t (ix2 i j) = V m c main_v9 (ix2 i j) := by
  unfold iblk
  rw [View.read_apply]
  show V m c main_v9 _ = V m c main_v9 _
  congr 1
  funext a
  apply Fin.ext
  match a with
  | ⟨0, _⟩ => show 0 * 8 + 1 * i.val = i.val; omega
  | ⟨1, _⟩ => show 0 * 1024 + 1 * j.val = j.val; omega

theorem blk5 (t : Fin cfg0.N) (i : Fin 1) (j : Fin 128) : iblk m c (5 : Fin 16) t (ix2 i j) = V m c main_v11 (ix2 i j) := by
  unfold iblk
  rw [View.read_apply]
  show V m c main_v11 _ = V m c main_v11 _
  congr 1
  funext a
  apply Fin.ext
  match a with
  | ⟨0, _⟩ => show 0 * 1 + 1 * i.val = i.val; omega
  | ⟨1, _⟩ => show 0 * 128 + 1 * j.val = j.val; omega

theorem blk6 (t : Fin cfg0.N) (i : Fin 8) (j : Fin 1) : iblk m c (6 : Fin 16) t (ix2 i j) = V m c main_v12 (ix2 i j) := by
  unfold iblk
  rw [View.read_apply]
  show V m c main_v12 _ = V m c main_v12 _
  congr 1
  funext a
  apply Fin.ext
  match a with
  | ⟨0, _⟩ => show 0 * 8 + 1 * i.val = i.val; omega
  | ⟨1, _⟩ => show 0 * 1 + 1 * j.val = j.val; omega

theorem blk7 (t : Fin cfg0.N) (i : Fin 1) (j : Fin 512) : iblk m c (7 : Fin 16) t (ix2 i j) = V m c main_v16 (ix2 i j) := by
  unfold iblk
  rw [View.read_apply]
  show V m c main_v16 _ = V m c main_v16 _
  congr 1
  funext a
  apply Fin.ext
  match a with
  | ⟨0, _⟩ => show 0 * 1 + 1 * i.val = i.val; omega
  | ⟨1, _⟩ => show 0 * 512 + 1 * j.val = j.val; omega

theorem blk8 (t : Fin cfg0.N) (i : Fin 1) (j : Fin 512) : iblk m c (8 : Fin 16) t (ix2 i j) = V m c main_v20 (ix2 i j) := by
  unfold iblk
  rw [View.read_apply]
  show V m c main_v20 _ = V m c main_v20 _
  congr 1
  funext a
  apply Fin.ext
  match a with
  | ⟨0, _⟩ => show 0 * 1 + 1 * i.val = i.val; omega
  | ⟨1, _⟩ => show 0 * 512 + 1 * j.val = j.val; omega

theorem blk9 (t : Fin cfg0.N) (i : Fin 512) (j : Fin 512) : iblk m c (9 : Fin 16) t (ix2 i j) = V m c main_v28 (ix2 i j) := by
  unfold iblk
  rw [View.read_apply]
  show V m c main_v28 _ = V m c main_v28 _
  congr 1
  funext a
  apply Fin.ext
  match a with
  | ⟨0, _⟩ => show 0 * 512 + 1 * i.val = i.val; omega
  | ⟨1, _⟩ => show 0 * 512 + 1 * j.val = j.val; omega

end Cert.Kernel2Ideal.Proj
-- ==== Proof.Inp.Out.lean ====
module
public import proofs.«01_k».proof.Proof.Inp.Blocks
@[expose] public section
noncomputable section
namespace Cert.Kernel2Ideal.Proj

open Cert.Kernel2Ideal Cert.Kernel2Ideal.Gen Cert.Inproj
open Idealize.ShloMosaic
open Idealize.ShloMosaic.TcCoe Idealize.SL.Sem
open Cert.Reference2Ideal.Parts (bR iR hid proj out0 out1 out2 out3 out4 out5 gates)

/-! # The projection's result arrays when the call ends -/

variable (m : (ℓ : Loc nD τ sig) → Buf (Elt Ideal) ℓ) (c : Dev nD)

/-- The reference's projection over the kernel's arguments, and its results. -/
def PK : Cert.Reference2Ideal.S4x8192x3592.Idx → EReal := proj (hid (m (c, main_arg0)) (m (c, main_arg1))) (m (c, main_arg2))
def ref10 : S32768x2048.Idx → EReal := out0 (PK m c)
def ref11 : S32768x512.Idx → EReal := out1 (PK m c) (m (c, main_arg4))
def ref12 : S32768x512.Idx → EReal := out2 (PK m c) (m (c, main_arg5))
def ref13 : S32768x512.Idx → EReal := out3 (PK m c)
def ref14 : S32768x128.Idx → EReal := out4 (gates (PK m c) (m (c, main_arg3)))
def ref15 : S8x32768.Idx → EReal := out5 (gates (PK m c) (m (c, main_arg3)))

variable (t : Fin cfg0.N) (r : Fin 512)

/-- The normalised row. -/
theorem hidRow_eq (d : Fin 1024) : hidRow (iblk m c (0 : Fin 16) t) (iblk m c (1 : Fin 16) t) r d
    = hid (m (c, main_arg0)) (m (c, main_arg1)) (ix3 (bR (rowB t r)) (iR (rowB t r)) d) := by
  rw [Cert.Reference2Ideal.Parts.hid_at]
  have e0 : (fun z => iblk m c (0 : Fin 16) t (ix2 r z)) = fun z => m (c, main_arg0) (ix3 (bR (rowB t r)) (iR (rowB t r)) z) :=
    funext fun z => (blk0 m c t r z).trans (x_at m c (rowB t r) z)
  have e1 (k : Fin 6) : (fun z => iblk m c (1 : Fin 16) t (ix3 (0 : Fin 1) k z)) = fun z => m (c, main_arg1) (ix3 (bR (rowB t r)) k z) :=
    funext fun z => blk1 m c t r k z
  unfold hidRow
  exact congr (congr (congr (congrArg normMod e0) (e1 1)) (e1 0)) rfl

/-- The projection at a column of the reference. -/
theorem PK_at (n : Fin 3592) : PK m c (ix3 (bR (rowB t r)) (iR (rowB t r)) n)
    = ∑ d : Fin 1024, hidRow (iblk m c (0 : Fin 16) t) (iblk m c (1 : Fin 16) t) r d * m (c, main_arg2) (ix2 d n) := by
  unfold PK
  rw [Cert.Reference2Ideal.Parts.proj_at]
  exact Finset.sum_congr rfl fun d _ => congrArg (fun a : EReal => a * m (c, main_arg2) (ix2 d n)) (hidRow_eq m c t r d).symm

/-- The projection. -/
theorem projRow_eq (n : Fin 3584) (n' : Fin 3592) (hn : (if n.val < 2048 then n.val else n.val + 8) = n'.val) :
    projRow (iblk m c (0 : Fin 16) t) (iblk m c (1 : Fin 16) t) (iblk m c (2 : Fin 16) t) r n = PK m c (ix3 (bR (rowB t r)) (iR (rowB t r)) n') := by
  rw [PK_at]
  refine Finset.sum_congr rfl fun d _ => congrArg (fun a : EReal => hidRow (iblk m c (0 : Fin 16) t) (iblk m c (1 : Fin 16) t) r d * a) ?_
  refine (blk2 m c t d n).trans ((w_at m c d n).trans ?_)
  exact congrArg (fun k => m (c, main_arg2) (ix2 d k)) (Fin.ext hn)

theorem bd_block (j l : Fin 512) : iblk m c (9 : Fin 16) t (ix2 j l) = if j.val / 64 = l.val / 64 then (1 : EReal) else 0 :=
  (blk9 m c t j l).trans (bd_at m c j l)

theorem wrote10 (n : Fin 2048) : out0_10 (F := Ideal) (iblk m c (0 : Fin 16) t) (iblk m c (1 : Fin 16) t) (iblk m c (2 : Fin 16) t) (iblk m c (3 : Fin 16) t) (iblk m c (4 : Fin 16) t) (iblk m c (5 : Fin 16) t) (iblk m c (6 : Fin 16) t) (iblk m c (7 : Fin 16) t) (iblk m c (8 : Fin 16) t) (iblk m c (9 : Fin 16) t) (ix2 r n) = ref10 m c (ix2 (rowB t r) n) := by
  refine (out10_at _ _ _ _ _ _ _ _ _ _ r n).trans ?_
  refine Eq.trans ?_ (Cert.Reference2Ideal.Parts.out0_at (PK m c) (rowB t r) n).symm
  exact projRow_eq m c t r _ _ (if_pos n.isLt)

theorem wrote11 (l : Fin 512) : out0_11 (F := Ideal) (iblk m c (0 : Fin 16) t) (iblk m c (1 : Fin 16) t) (iblk m c (2 : Fin 16) t) (iblk m c (3 : Fin 16) t) (iblk m c (4 : Fin 16) t) (iblk m c (5 : Fin 16) t) (iblk m c (6 : Fin 16) t) (iblk m c (7 : Fin 16) t) (iblk m c (8 : Fin 16) t) (iblk m c (9 : Fin 16) t) (ix2 r l) = ref11 m c (ix2 (rowB t r) l) := by
  refine (out11_at _ _ _ _ _ _ _ _ _ _ (bd_block m c t) r l).trans ?_
  refine Eq.trans ?_ (Cert.Reference2Ideal.Parts.out1_at (PK m c) (m (c, main_arg4)) (rowB t r) l).symm
  refine congr (congr (congrArg segNorm (funext fun z => ?_)) (funext fun z => ?_)) rfl
  · exact projRow_eq m c t r _ _ (by rw [if_neg (by dsimp only; omega)]; dsimp only; omega)
  · exact (blk7 m c t 0 _).trans ((qg_at m c _).trans (congrArg (fun k => m (c, main_arg4) (ix1 k)) (Fin.ext (by dsimp only; omega))))

theorem wrote12 (l : Fin 512) : out0_12 (F := Ideal) (iblk m c (0 : Fin 16) t) (iblk m c (1 : Fin 16) t) (iblk m c (2 : Fin 16) t) (iblk m c (3 : Fin 16) t) (iblk m c (4 : Fin 16) t) (iblk m c (5 : Fin 16) t) (iblk m c (6 : Fin 16) t) (iblk m c (7 : Fin 16) t) (iblk m c (8 : Fin 16) t) (iblk m c (9 : Fin 16) t) (ix2 r l) = ref12 m c (ix2 (rowB t r) l) := by
  refine (out12_at _ _ _ _ _ _ _ _ _ _ (bd_block m c t) r l).trans ?_
  refine Eq.trans ?_ (Cert.Reference2Ideal.Parts.out2_at (PK m c) (m (c, main_arg5)) (rowB t r) l).symm
  refine congr (congr (congrArg segNorm (funext fun z => ?_)) (funext fun z => ?_)) rfl
  · exact projRow_eq m c t r _ _ (by rw [if_neg (by dsimp only; omega)]; dsimp only; omega)
  · exact (blk8 m c t 0 _).trans ((kg_at m c _).trans (congrArg (fun k => m (c, main_arg5) (ix1 k)) (Fin.ext (by dsimp only; omega))))

theorem wrote13 (l : Fin 512) : out0_13 (F := Ideal) (iblk m c (0 : Fin 16) t) (iblk m c (1 : Fin 16) t) (iblk m c (2 : Fin 16) t) (iblk m c (3 : Fin 16) t) (iblk m c (4 : Fin 16) t) (iblk m c (5 : Fin 16) t) (iblk m c (6 : Fin 16) t) (iblk m c (7 : Fin 16) t) (iblk m c (8 : Fin 16) t) (iblk m c (9 : Fin 16) t) (ix2 r l) = ref13 m c (ix2 (rowB t r) l) := by
  refine (out13_at _ _ _ _ _ _ _ _ _ _ r l).trans ?_
  refine Eq.trans ?_ (Cert.Reference2Ideal.Parts.out3_at (PK m c) (rowB t r) l).symm
  exact projRow_eq m c t r _ _ (by rw [if_neg (by dsimp only; omega)]; dsimp only; omega)

theorem wrote14 (n : Fin 128) : out0_14 (F := Ideal) (iblk m c (0 : Fin 16) t) (iblk m c (1 : Fin 16) t) (iblk m c (2 : Fin 16) t) (iblk m c (3 : Fin 16) t) (iblk m c (4 : Fin 16) t) (iblk m c (5 : Fin 16) t) (iblk m c (6 : Fin 16) t) (iblk m c (7 : Fin 16) t) (iblk m c (8 : Fin 16) t) (iblk m c (9 : Fin 16) t) (ix2 r n) = ref14 m c (ix2 (rowB t r) n) := by
  refine (out14_at _ _ _ _ _ _ _ _ _ _ r n).trans ?_
  refine Eq.trans ?_ (Cert.Reference2Ideal.Parts.out4_at (rowB t r) (gates (PK m c) (m (c, main_arg3))) n).symm
  have eb := (blk5 m c t 0 n).trans (gbr_at m c n)
  have ew (d : Fin 1024) := (blk3 m c t d n).trans (wg_at m c d n)
  by_cases h : n.val < 8
  · rw [dif_pos h] at eb ⊢
    rw [Cert.Reference2Ideal.Parts.gates_at, PK_at]
    refine congrArg₂ (fun a b : EReal => a + b) (Finset.sum_congr rfl fun d _ => ?_) eb
    have e := ew d
    rw [dif_pos h] at e
    exact congrArg (fun a : EReal => hidRow (iblk m c (0 : Fin 16) t) (iblk m c (1 : Fin 16) t) r d * a) e
  · rw [dif_neg h] at eb ⊢
    refine (congrArg₂ (fun a b : EReal => a + b) (Finset.sum_eq_zero fun d _ => ?_) eb).trans (add_zero (0 : EReal))
    have e := ew d
    rw [dif_neg h] at e
    exact (congrArg (fun a : EReal => hidRow (iblk m c (0 : Fin 16) t) (iblk m c (1 : Fin 16) t) r d * a) e).trans (mul_zero _)

theorem wrote15 (n : Fin 8) : out0_15 (F := Ideal) (iblk m c (0 : Fin 16) t) (iblk m c (1 : Fin 16) t) (iblk m c (2 : Fin 16) t) (iblk m c (3 : Fin 16) t) (iblk m c (4 : Fin 16) t) (iblk m c (5 : Fin 16) t) (iblk m c (6 : Fin 16) t) (iblk m c (7 : Fin 16) t) (iblk m c (8 : Fin 16) t) (iblk m c (9 : Fin 16) t) (ix2 n r) = ref15 m c (ix2 n (rowB t r)) := by
  refine (out15_at _ _ _ _ _ _ _ _ _ _ r n).trans ?_
  refine Eq.trans ?_ (Cert.Reference2Ideal.Parts.out5_at (rowB t r) (gates (PK m c) (m (c, main_arg3))) n).symm
  rw [Cert.Reference2Ideal.Parts.gates_at, PK_at]
  refine congrArg₂ (fun a b : EReal => a + b) (Finset.sum_congr rfl fun d _ => ?_) ((blk6 m c t n 0).trans (gbc_at m c n))
  exact congrArg (fun a : EReal => hidRow (iblk m c (0 : Fin 16) t) (iblk m c (1 : Fin 16) t) r d * a) ((blk4 m c t n d).trans (wgt_at m c d n))

/-! ## The whole arrays -/

theorem flushed_ref10 (t : Fin cfg0.N) : (dats m 0 c).flushed (10 : Fin 16) t = ((cfg0.win (10 : Fin 16)).blk t).view.read (Elt Ideal) (ref10 m c) := by
  have hp := (place_out t).1
  refine (Cert.Kernel2Ideal.Value.flushed10 m c t).trans ?_
  show (cfg0.win (10 : Fin 16)).cut (α := EReal) (grid0.coords t) _ = _
  funext y
  idx_vars y
  rw [View.read_apply]
  refine Eq.trans (wrote10 m c t y0 y1) ?_
  show ref10 m c _ = ref10 m c _
  congr 1
  funext a
  apply Fin.ext
  match a with
  | ⟨0, _⟩ =>
    show 512 * t.val + y0.val = (cfg0.win (10 : Fin 16)).index t 0 * 512 + 1 * y0.val
    rw [hp.1]; omega
  | ⟨1, _⟩ =>
    show y1.val = (cfg0.win (10 : Fin 16)).index t 1 * 2048 + 1 * y1.val
    rw [hp.2]; omega

theorem cover10 (i : S32768x2048.Idx) : ∃ t : Fin cfg0.N, (cfg0.win (10 : Fin 16)).flush t = true ∧ i ∈ ((cfg0.win (10 : Fin 16)).blk t).view.set := by
  have h0 : (i 0 : ℕ) < 32768 := (i 0).isLt
  have h1 : (i 1 : ℕ) < 2048 := (i 1).isLt
  have ht : (i 0 : ℕ) / 512 < cfg0.N := by show (i 0 : ℕ) / 512 < 64; omega
  refine ⟨⟨(i 0 : ℕ) / 512, ht⟩, flush0_10 _, ?_⟩
  generalize hq : (⟨(i 0 : ℕ) / 512, ht⟩ : Fin cfg0.N) = t
  have hv : t.val = (i 0 : ℕ) / 512 := by rw [← hq]
  have hp := (place_out t).1
  show i ∈ ((View.whole main_v29_0).slice ((cfg0.win (10 : Fin 16)).rect t)).set
  rw [View.set_slice_whole, Rect.mem_set_unit]
  intro a
  match a with
  | ⟨0, _⟩ =>
    show (cfg0.win (10 : Fin 16)).index t 0 * 512 ≤ (i 0 : ℕ) ∧ (i 0 : ℕ) < (cfg0.win (10 : Fin 16)).index t 0 * 512 + 512
    rw [hp.1]; omega
  | ⟨1, _⟩ =>
    show (cfg0.win (10 : Fin 16)).index t 1 * 2048 ≤ (i 1 : ℕ) ∧ (i 1 : ℕ) < (cfg0.win (10 : Fin 16)).index t 1 * 2048 + 2048
    rw [hp.2]; omega

theorem result10 : (dats m 0 c).arrAt (10 : Fin 16) cfg0.N = ref10 m c :=
  (dats m 0 c).arrAt_eq_of_cover (10 : Fin 16) (ref10 m c) (fun t _ => flushed_ref10 m c t) (fun i => cover10 i)

theorem flushed_ref11 (t : Fin cfg0.N) : (dats m 0 c).flushed (11 : Fin 16) t = ((cfg0.win (11 : Fin 16)).blk t).view.read (Elt Ideal) (ref11 m c) := by
  have hp := (place_out t).2.1
  refine (Cert.Kernel2Ideal.Value.flushed11 m c t).trans ?_
  show (cfg0.win (11 : Fin 16)).cut (α := EReal) (grid0.coords t) _ = _
  funext y
  idx_vars y
  rw [View.read_apply]
  refine Eq.trans (wrote11 m c t y0 y1) ?_
  show ref11 m c _ = ref11 m c _
  congr 1
  funext a
  apply Fin.ext
  match a with
  | ⟨0, _⟩ =>
    show 512 * t.val + y0.val = (cfg0.win (11 : Fin 16)).index t 0 * 512 + 1 * y0.val
    rw [hp.1]; omega
  | ⟨1, _⟩ =>
    show y1.val = (cfg0.win (11 : Fin 16)).index t 1 * 512 + 1 * y1.val
    rw [hp.2]; omega

theorem cover11 (i : S32768x512.Idx) : ∃ t : Fin cfg0.N, (cfg0.win (11 : Fin 16)).flush t = true ∧ i ∈ ((cfg0.win (11 : Fin 16)).blk t).view.set := by
  have h0 : (i 0 : ℕ) < 32768 := (i 0).isLt
  have h1 : (i 1 : ℕ) < 512 := (i 1).isLt
  have ht : (i 0 : ℕ) / 512 < cfg0.N := by show (i 0 : ℕ) / 512 < 64; omega
  refine ⟨⟨(i 0 : ℕ) / 512, ht⟩, flush0_11 _, ?_⟩
  generalize hq : (⟨(i 0 : ℕ) / 512, ht⟩ : Fin cfg0.N) = t
  have hv : t.val = (i 0 : ℕ) / 512 := by rw [← hq]
  have hp := (place_out t).2.1
  show i ∈ ((View.whole main_v29_1).slice ((cfg0.win (11 : Fin 16)).rect t)).set
  rw [View.set_slice_whole, Rect.mem_set_unit]
  intro a
  match a with
  | ⟨0, _⟩ =>
    show (cfg0.win (11 : Fin 16)).index t 0 * 512 ≤ (i 0 : ℕ) ∧ (i 0 : ℕ) < (cfg0.win (11 : Fin 16)).index t 0 * 512 + 512
    rw [hp.1]; omega
  | ⟨1, _⟩ =>
    show (cfg0.win (11 : Fin 16)).index t 1 * 512 ≤ (i 1 : ℕ) ∧ (i 1 : ℕ) < (cfg0.win (11 : Fin 16)).index t 1 * 512 + 512
    rw [hp.2]; omega

theorem result11 : (dats m 0 c).arrAt (11 : Fin 16) cfg0.N = ref11 m c :=
  (dats m 0 c).arrAt_eq_of_cover (11 : Fin 16) (ref11 m c) (fun t _ => flushed_ref11 m c t) (fun i => cover11 i)

theorem flushed_ref12 (t : Fin cfg0.N) : (dats m 0 c).flushed (12 : Fin 16) t = ((cfg0.win (12 : Fin 16)).blk t).view.read (Elt Ideal) (ref12 m c) := by
  have hp := (place_out t).2.2.1
  refine (Cert.Kernel2Ideal.Value.flushed12 m c t).trans ?_
  show (cfg0.win (12 : Fin 16)).cut (α := EReal) (grid0.coords t) _ = _
  funext y
  idx_vars y
  rw [View.read_apply]
  refine Eq.trans (wrote12 m c t y0 y1) ?_
  show ref12 m c _ = ref12 m c _
  congr 1
  funext a
  apply Fin.ext
  match a with
  | ⟨0, _⟩ =>
    show 512 * t.val + y0.val = (cfg0.win (12 : Fin 16)).index t 0 * 512 + 1 * y0.val
    rw [hp.1]; omega
  | ⟨1, _⟩ =>
    show y1.val = (cfg0.win (12 : Fin 16)).index t 1 * 512 + 1 * y1.val
    rw [hp.2]; omega

theorem cover12 (i : S32768x512.Idx) : ∃ t : Fin cfg0.N, (cfg0.win (12 : Fin 16)).flush t = true ∧ i ∈ ((cfg0.win (12 : Fin 16)).blk t).view.set := by
  have h0 : (i 0 : ℕ) < 32768 := (i 0).isLt
  have h1 : (i 1 : ℕ) < 512 := (i 1).isLt
  have ht : (i 0 : ℕ) / 512 < cfg0.N := by show (i 0 : ℕ) / 512 < 64; omega
  refine ⟨⟨(i 0 : ℕ) / 512, ht⟩, flush0_12 _, ?_⟩
  generalize hq : (⟨(i 0 : ℕ) / 512, ht⟩ : Fin cfg0.N) = t
  have hv : t.val = (i 0 : ℕ) / 512 := by rw [← hq]
  have hp := (place_out t).2.2.1
  show i ∈ ((View.whole main_v29_2).slice ((cfg0.win (12 : Fin 16)).rect t)).set
  rw [View.set_slice_whole, Rect.mem_set_unit]
  intro a
  match a with
  | ⟨0, _⟩ =>
    show (cfg0.win (12 : Fin 16)).index t 0 * 512 ≤ (i 0 : ℕ) ∧ (i 0 : ℕ) < (cfg0.win (12 : Fin 16)).index t 0 * 512 + 512
    rw [hp.1]; omega
  | ⟨1, _⟩ =>
    show (cfg0.win (12 : Fin 16)).index t 1 * 512 ≤ (i 1 : ℕ) ∧ (i 1 : ℕ) < (cfg0.win (12 : Fin 16)).index t 1 * 512 + 512
    rw [hp.2]; omega

theorem result12 : (dats m 0 c).arrAt (12 : Fin 16) cfg0.N = ref12 m c :=
  (dats m 0 c).arrAt_eq_of_cover (12 : Fin 16) (ref12 m c) (fun t _ => flushed_ref12 m c t) (fun i => cover12 i)

theorem flushed_ref13 (t : Fin cfg0.N) : (dats m 0 c).flushed (13 : Fin 16) t = ((cfg0.win (13 : Fin 16)).blk t).view.read (Elt Ideal) (ref13 m c) := by
  have hp := (place_out t).2.2.2.1
  refine (Cert.Kernel2Ideal.Value.flushed13 m c t).trans ?_
  show (cfg0.win (13 : Fin 16)).cut (α := EReal) (grid0.coords t) _ = _
  funext y
  idx_vars y
  rw [View.read_apply]
  refine Eq.trans (wrote13 m c t y0 y1) ?_
  show ref13 m c _ = ref13 m c _
  congr 1
  funext a
  apply Fin.ext
  match a with
  | ⟨0, _⟩ =>
    show 512 * t.val + y0.val = (cfg0.win (13 : Fin 16)).index t 0 * 512 + 1 * y0.val
    rw [hp.1]; omega
  | ⟨1, _⟩ =>
    show y1.val = (cfg0.win (13 : Fin 16)).index t 1 * 512 + 1 * y1.val
    rw [hp.2]; omega

theorem cover13 (i : S32768x512.Idx) : ∃ t : Fin cfg0.N, (cfg0.win (13 : Fin 16)).flush t = true ∧ i ∈ ((cfg0.win (13 : Fin 16)).blk t).view.set := by
  have h0 : (i 0 : ℕ) < 32768 := (i 0).isLt
  have h1 : (i 1 : ℕ) < 512 := (i 1).isLt
  have ht : (i 0 : ℕ) / 512 < cfg0.N := by show (i 0 : ℕ) / 512 < 64; omega
  refine ⟨⟨(i 0 : ℕ) / 512, ht⟩, flush0_13 _, ?_⟩
  generalize hq : (⟨(i 0 : ℕ) / 512, ht⟩ : Fin cfg0.N) = t
  have hv : t.val = (i 0 : ℕ) / 512 := by rw [← hq]
  have hp := (place_out t).2.2.2.1
  show i ∈ ((View.whole main_v29_3).slice ((cfg0.win (13 : Fin 16)).rect t)).set
  rw [View.set_slice_whole, Rect.mem_set_unit]
  intro a
  match a with
  | ⟨0, _⟩ =>
    show (cfg0.win (13 : Fin 16)).index t 0 * 512 ≤ (i 0 : ℕ) ∧ (i 0 : ℕ) < (cfg0.win (13 : Fin 16)).index t 0 * 512 + 512
    rw [hp.1]; omega
  | ⟨1, _⟩ =>
    show (cfg0.win (13 : Fin 16)).index t 1 * 512 ≤ (i 1 : ℕ) ∧ (i 1 : ℕ) < (cfg0.win (13 : Fin 16)).index t 1 * 512 + 512
    rw [hp.2]; omega

theorem result13 : (dats m 0 c).arrAt (13 : Fin 16) cfg0.N = ref13 m c :=
  (dats m 0 c).arrAt_eq_of_cover (13 : Fin 16) (ref13 m c) (fun t _ => flushed_ref13 m c t) (fun i => cover13 i)

theorem flushed_ref14 (t : Fin cfg0.N) : (dats m 0 c).flushed (14 : Fin 16) t = ((cfg0.win (14 : Fin 16)).blk t).view.read (Elt Ideal) (ref14 m c) := by
  have hp := (place_out t).2.2.2.2.1
  refine (Cert.Kernel2Ideal.Value.flushed14 m c t).trans ?_
  show (cfg0.win (14 : Fin 16)).cut (α := EReal) (grid0.coords t) _ = _
  funext y
  idx_vars y
  rw [View.read_apply]
  refine Eq.trans (wrote14 m c t y0 y1) ?_
  show ref14 m c _ = ref14 m c _
  congr 1
  funext a
  apply Fin.ext
  match a with
  | ⟨0, _⟩ =>
    show 512 * t.val + y0.val = (cfg0.win (14 : Fin 16)).index t 0 * 512 + 1 * y0.val
    rw [hp.1]; omega
  | ⟨1, _⟩ =>
    show y1.val = (cfg0.win (14 : Fin 16)).index t 1 * 128 + 1 * y1.val
    rw [hp.2]; omega

theorem cover14 (i : S32768x128.Idx) : ∃ t : Fin cfg0.N, (cfg0.win (14 : Fin 16)).flush t = true ∧ i ∈ ((cfg0.win (14 : Fin 16)).blk t).view.set := by
  have h0 : (i 0 : ℕ) < 32768 := (i 0).isLt
  have h1 : (i 1 : ℕ) < 128 := (i 1).isLt
  have ht : (i 0 : ℕ) / 512 < cfg0.N := by show (i 0 : ℕ) / 512 < 64; omega
  refine ⟨⟨(i 0 : ℕ) / 512, ht⟩, flush0_14 _, ?_⟩
  generalize hq : (⟨(i 0 : ℕ) / 512, ht⟩ : Fin cfg0.N) = t
  have hv : t.val = (i 0 : ℕ) / 512 := by rw [← hq]
  have hp := (place_out t).2.2.2.2.1
  show i ∈ ((View.whole main_v29_4).slice ((cfg0.win (14 : Fin 16)).rect t)).set
  rw [View.set_slice_whole, Rect.mem_set_unit]
  intro a
  match a with
  | ⟨0, _⟩ =>
    show (cfg0.win (14 : Fin 16)).index t 0 * 512 ≤ (i 0 : ℕ) ∧ (i 0 : ℕ) < (cfg0.win (14 : Fin 16)).index t 0 * 512 + 512
    rw [hp.1]; omega
  | ⟨1, _⟩ =>
    show (cfg0.win (14 : Fin 16)).index t 1 * 128 ≤ (i 1 : ℕ) ∧ (i 1 : ℕ) < (cfg0.win (14 : Fin 16)).index t 1 * 128 + 128
    rw [hp.2]; omega

theorem result14 : (dats m 0 c).arrAt (14 : Fin 16) cfg0.N = ref14 m c :=
  (dats m 0 c).arrAt_eq_of_cover (14 : Fin 16) (ref14 m c) (fun t _ => flushed_ref14 m c t) (fun i => cover14 i)

theorem flushed_ref15 (t : Fin cfg0.N) : (dats m 0 c).flushed (15 : Fin 16) t = ((cfg0.win (15 : Fin 16)).blk t).view.read (Elt Ideal) (ref15 m c) := by
  have hp := (place_out t).2.2.2.2.2
  refine (Cert.Kernel2Ideal.Value.flushed15 m c t).trans ?_
  show (cfg0.win (15 : Fin 16)).cut (α := EReal) (grid0.coords t) _ = _
  funext y
  idx_vars y
  rw [View.read_apply]
  refine Eq.trans (wrote15 m c t y1 y0) ?_
  show ref15 m c _ = ref15 m c _
  congr 1
  funext a
  apply Fin.ext
  match a with
  | ⟨0, _⟩ =>
    show y0.val = (cfg0.win (15 : Fin 16)).index t 0 * 8 + 1 * y0.val
    rw [hp.1]; omega
  | ⟨1, _⟩ =>
    show 512 * t.val + y1.val = (cfg0.win (15 : Fin 16)).index t 1 * 512 + 1 * y1.val
    rw [hp.2]; omega

theorem cover15 (i : S8x32768.Idx) : ∃ t : Fin cfg0.N, (cfg0.win (15 : Fin 16)).flush t = true ∧ i ∈ ((cfg0.win (15 : Fin 16)).blk t).view.set := by
  have h0 : (i 0 : ℕ) < 8 := (i 0).isLt
  have h1 : (i 1 : ℕ) < 32768 := (i 1).isLt
  have ht : (i 1 : ℕ) / 512 < cfg0.N := by show (i 1 : ℕ) / 512 < 64; omega
  refine ⟨⟨(i 1 : ℕ) / 512, ht⟩, flush0_15 _, ?_⟩
  generalize hq : (⟨(i 1 : ℕ) / 512, ht⟩ : Fin cfg0.N) = t
  have hv : t.val = (i 1 : ℕ) / 512 := by rw [← hq]
  have hp := (place_out t).2.2.2.2.2
  show i ∈ ((View.whole main_v29_5).slice ((cfg0.win (15 : Fin 16)).rect t)).set
  rw [View.set_slice_whole, Rect.mem_set_unit]
  intro a
  match a with
  | ⟨0, _⟩ =>
    show (cfg0.win (15 : Fin 16)).index t 0 * 8 ≤ (i 0 : ℕ) ∧ (i 0 : ℕ) < (cfg0.win (15 : Fin 16)).index t 0 * 8 + 8
    rw [hp.1]; omega
  | ⟨1, _⟩ =>
    show (cfg0.win (15 : Fin 16)).index t 1 * 512 ≤ (i 1 : ℕ) ∧ (i 1 : ℕ) < (cfg0.win (15 : Fin 16)).index t 1 * 512 + 512
    rw [hp.2]; omega

theorem result15 : (dats m 0 c).arrAt (15 : Fin 16) cfg0.N = ref15 m c :=
  (dats m 0 c).arrAt_eq_of_cover (15 : Fin 16) (ref15 m c) (fun t _ => flushed_ref15 m c t) (fun i => cover15 i)

end Cert.Kernel2Ideal.Proj
-- ==== Proof.Inp.Algebraic.lean ====
module

public import proofs.«01_k».proof.Defs
public import proofs.«01_k».proof.Proof.Inp.Out
@[expose] public section
noncomputable section
namespace Cert.Inproj

open Idealize.ShloMosaic Idealize.SL.Sem
open Idealize.ShloMosaic.TcCoe
open Cert.Kernel2Ideal.Proj Cert.Reference2Ideal.Parts

/-! # The projection's kernel and its reference end with equal results -/

theorem algebraic : Cert.algebraic_Kernel2Ideal_Reference2Ideal (hKernel2Ideal := Cert.Kernel2Ideal.Gen.facts) (hReference2Ideal := Cert.Reference2Ideal.Gen.facts) := by
  intro m g m' g' hpre hargs
  refine ⟨fun c => ref10 m c, fun c => ref11 m c, fun c => ref12 m c, fun c => ref13 m c, fun c => ref14 m c, fun c => ref15 m c, ?_, ?_⟩
  · refine (θ_run _ _ _).mono (fun r h c => ?_) (Cert.Kernel2Ideal.Value.run_blocks (F := Ideal) m g)
    obtain ⟨h0, h1, h2, h3, h4, h5, rest⟩ := h c
    exact ⟨h0.trans (result10 m c), h1.trans (result11 m c), h2.trans (result12 m c), h3.trans (result13 m c), h4.trans (result14 m c), h5.trans (result15 m c), rest⟩
  · refine (θ_run _ _ _).mono (fun r h c => ?_) (run_parts m' g')
    obtain ⟨h0, h1, h2, h3, h4, h5, rest⟩ := h c
    obtain ⟨a0, a1, a2, a3, a4, a5⟩ := hargs c
    have eP : P m' c = PK m c := by
      show proj (hid (m' (c, Cert.Reference2Ideal.main_arg0)) (m' (c, Cert.Reference2Ideal.main_arg1))) (m' (c, Cert.Reference2Ideal.main_arg2)) = _
      unfold PK
      exact congrArg₂ proj (congrArg₂ hid a0 a1) a2
    exact ⟨h0.trans (congrArg out0 eP), h1.trans (congrArg₂ out1 eP a4), h2.trans (congrArg₂ out2 eP a5), h3.trans (congrArg out3 eP),
      h4.trans (congrArg out4 (congrArg₂ gates eP a3)), h5.trans (congrArg out5 (congrArg₂ gates eP a3)), rest⟩

end Cert.Inproj
-- ==== Proof.Exp.Pre.lean ====
module

public import proofs.«01_k».proof.Defs
public import Idealize.ShloMosaic.Lib.Pointwise
@[expose] public section
namespace Cert.Experts

open Idealize.ShloMosaic

/-! # What the precondition says of the two tables -/

/-- The facts stated of the precondition's program. -/
theorem preTables : Cert.Pre_tables.Facts := ⟨by decide, by decide⟩

/-- A bit made of a truth value is one exactly when it is true. -/
theorem ofBool_one {b : Bool} (h : BitVec.ofBool b = 1#1) : b = true := by revert h; cases b <;> decide

attribute [local instance] preTables

/-- Every expert is one of the 256, and at least one block is in use. -/
theorem tables_of {F : FTy → Type} [FloatOps F] (e : IVec Cert.Pre_tables.S1280 32) (n : IVec Cert.Pre_tables.S1 32) (a b : FVec F Cert.Pre_tables.S327680x512 .bf16)
    (w1 w3 : FVec F Cert.Pre_tables.S256x1024x256 .f32) (w2 : FVec F Cert.Pre_tables.S256x256x1024 .f32)
    (h : (Cert.Pre_tables.fn e n a b w1 w3 w2).1 = (fun _ => 1#1) ∧ (Cert.Pre_tables.fn e n a b w1 w3 w2).2.1 = (fun _ => 1#1)
      ∧ (Cert.Pre_tables.fn e n a b w1 w3 w2).2.2 = (fun _ => 1#1)) :
    (∀ x, (e x).toNat < 256) ∧ ∀ x, 1 ≤ (n x).toNat ∧ (n x).toNat < 2147483648 := by
  obtain ⟨h0, h1, h2⟩ := h
  constructor
  · intro x
    have a0 : (0#32).sle (e x) = true := ofBool_one (congrFun h0 x)
    have a1 : (e x).slt 256#32 = true := ofBool_one (congrFun h1 x)
    have b0 : (0#32).toInt ≤ (e x).toInt := BitVec.sle_iff_toInt_le.mp a0
    have b1 : (e x).toInt < (256#32).toInt := BitVec.slt_iff_toInt_lt.mp a1
    rw [show (0#32).toInt = 0 from by decide, BitVec.toInt_eq_toNat_cond] at b0
    rw [show (256#32).toInt = 256 from by decide, BitVec.toInt_eq_toNat_cond] at b1
    have hl := (e x).isLt
    by_cases hs : 2 * (e x).toNat < 2 ^ 32
    · rw [if_pos hs] at b0 b1; omega
    · rw [if_neg hs] at b0 b1; omega
  · intro x
    have a0 : (1#32).sle (n x) = true := ofBool_one (congrFun h2 x)
    have b0 : (1#32).toInt ≤ (n x).toInt := BitVec.sle_iff_toInt_le.mp a0
    rw [show (1#32).toInt = 1 from by decide, BitVec.toInt_eq_toNat_cond] at b0
    have hl := (n x).isLt
    by_cases hs : 2 * (n x).toNat < 2 ^ 32
    · rw [if_pos hs] at b0; omega
    · rw [if_neg hs] at b0; omega

end Cert.Experts
-- ==== Proof.Exp.Tables.lean ====
module

public import proofs.«01_k».proof.Proof.Gen.Kernel3Ideal
public import proofs.«01_k».proof.Proof.Gen.Kernel3Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # The two tables of the experts' call

The call runs over blocks of rows; the first table gives each block's expert, the second the number of blocks in use. -/

/-- The table of experts as the body reads it. -/
abbrev eTab : Memref sig .tc .smem S1280 .i32 := Memref.whole main_arg0
/-- The number of blocks in use as the body reads it. -/
abbrev nTab : Memref sig .tc .smem S1 .i32 := Memref.whole main_arg1
/-- The scratch of the gate's weights. -/
abbrev gScr : Memref sig .tc .vmem S1024x256 .bf16 := Memref.whole cc0_scratch0
/-- The scratch of the up-projection's weights. -/
abbrev uScr : Memref sig .tc .vmem S1024x256 .bf16 := Memref.whole cc0_scratch1
/-- The scratch of the down-projection's weights. -/
abbrev dScr : Memref sig .tc .vmem S256x1024 .bf16 := Memref.whole cc0_scratch2

/-- Tables the call can run at: every expert is one of the 256, at least one block is in use. -/
structure Tab where
  e : S1280.Idx → BitVec 32
  n : S1.Idx → BitVec 32
  he : ∀ x, (e x).toNat < 256
  hn : ∀ x, 1 ≤ (n x).toNat ∧ (n x).toNat < 2147483648

/-- The expert of the block at coordinates `i`. -/
abbrev eWord (i : grid0.Coords) (E : S1280.Idx → BitVec 32) : BitVec 32 :=
  View.readAt (Elt Ideal) eTab.view (Rect.unit (s := S1280) (k0_off2 i) S1.size (k0_off2_inb i)).toLoadRect E (Shape.Idx.first (numel1_S1.symm ▸ Nat.one_pos))
/-- The expert of the block before it (of the first block itself, at the first). -/
abbrev pWord (i : grid0.Coords) (E : S1280.Idx → BitVec 32) : BitVec 32 :=
  View.readAt (Elt Ideal) eTab.view (Rect.unit (s := S1280) (k0_off3 i) S1.size (k0_off3_inb i)).toLoadRect E (Shape.Idx.first (numel1_S1.symm ▸ Nat.one_pos))
/-- The number of blocks in use. -/
abbrev nWord (N : S1.Idx → BitVec 32) : BitVec 32 :=
  View.readAt (Elt Ideal) nTab.view (Rect.unit (s := S1) ![0] S1.size inb_S1_S1_0).toLoadRect N (Shape.Idx.first (numel1_S1.symm ▸ Nat.one_pos))

/-- The block is in use. -/
abbrev Active (i : grid0.Coords) (N : S1.Idx → BitVec 32) : Prop := k0_cond1 i (nWord N) = 1#1
/-- The block's expert is not the one before it. -/
abbrev New (i : grid0.Coords) (E : S1280.Idx → BitVec 32) : Prop :=
  Scalar.cmpi .ne (Scalar.extui (Scalar.ori (Scalar.cmpi .eq (BitVec.ofNat 32 (i 0).val) 0#32) (Scalar.cmpi .ne (eWord i E) (pWord i E)))) 0#32 = 1#1

/-- The body's two conditions exclude each other and leave nothing out. -/
theorem cond3_iff (i : grid0.Coords) (v : BitVec 32) : k0_cond3 i v = 1#1 ↔ ¬ k0_cond1 i v = 1#1 := by
  unfold k0_cond3 k0_cond1
  dsimp only
  generalize Scalar.cmpi .slt (BitVec.ofNat 32 (i 0).val) v = b
  revert b
  decide

set_option backward.proofsInPublic true in
/-- The tables' contents, as the call takes them. -/
def pf (T : Tab) : pre0.Contents (Elt Ideal) := fun | ⟨0, _⟩ => T.e | ⟨1, _⟩ => T.n | ⟨_ + 2, h⟩ => absurd h (by simp)

/-- A word is the integer its digits write, where that is small. -/
theorem isInt_of (v : BitVec 32) (h : v.toNat < 2147483648) : Affine.IsInt v (v.toNat : Int) := by
  have := Affine.ofNat (e := (v.toNat : Int)) v.toNat ⟨rfl, by omega⟩
  rwa [BitVec.ofNat_toNat, BitVec.setWidth_eq] at this

theorem at_n (T : Tab) (h) : 1 ≤ ((pf T).at 1 (Rect.unit (s := S1) ![0] S1.size inb_S1_S1_0) h).toNat ∧ ((pf T).at 1 (Rect.unit (s := S1) ![0] S1.size inb_S1_S1_0) h).toNat < 2147483648 := T.hn _
theorem at_e (T : Tab) (r : Rect S1280) (h) : ((pf T).at 0 r h).toNat < 256 := T.he _

theorem inb_0 (T : Tab) : ∀ i : grid0.Coords, ∀ a, (cc0_transform_0 inb_S1_S1_0 numel1_S1 (pf T) i a + 1) * S256x512.size a ≤ S327680x512.size a := by
  intro i
  have r_i0 : (i 0).val < 1280 := (i 0).isLt
  have hb := at_n T numel1_S1
  have h0 : Affine.IsInt (BitVec.ofNat 32 (i 0).val) (((i 0).val : Int)) := Affine.ofNat _ (by omega)
  have ho : Affine.IsInt 1#32 (1) := Affine.ofNat _ (by omega)
  have h1 := Affine.subi (e := (((pf T).at 1 (Rect.unit (s := S1) ![0] S1.size inb_S1_S1_0) numel1_S1).toNat : Int) - 1) (isInt_of _ hb.2) ho (by omega)
  have h2 := Affine.minsi h0 h1 rfl
  have h3 : Affine.IsInt 0#32 (0) := Affine.ofNat _ (by omega)
  exact Affine.blk_cons h2 (by omega) <| Affine.blk_cons h3 (by omega) <| Affine.blk_nil

theorem inb_2 (T : Tab) : ∀ i : grid0.Coords, ∀ a, (cc0_transform_2 k0_off1_inb numel1_S1 (pf T) i a + 1) * S1x1024x256.size a ≤ S256x1024x256.size a := by
  intro i
  have hb := at_e T (Rect.unit (s := S1280) (k0_off1 i) S1.size (k0_off1_inb i)) numel1_S1
  have h1 := isInt_of _ (lt_of_lt_of_le hb (by omega))
  have h3 : Affine.IsInt 0#32 (0) := Affine.ofNat _ (by omega)
  exact Affine.blk_cons h1 (by omega) <| Affine.blk_cons h3 (by omega) <| Affine.blk_cons h3 (by omega) <| Affine.blk_nil

theorem inb_4 (T : Tab) : ∀ i : grid0.Coords, ∀ a, (cc0_transform_4 k0_off1_inb numel1_S1 (pf T) i a + 1) * S1x256x1024.size a ≤ S256x256x1024.size a := by
  intro i
  have hb := at_e T (Rect.unit (s := S1280) (k0_off1 i) S1.size (k0_off1_inb i)) numel1_S1
  have h1 := isInt_of _ (lt_of_lt_of_le hb (by omega))
  have h3 : Affine.IsInt 0#32 (0) := Affine.ofNat _ (by omega)
  exact Affine.blk_cons h1 (by omega) <| Affine.blk_cons h3 (by omega) <| Affine.blk_cons h3 (by omega) <| Affine.blk_nil

/-- At such tables every block of every window lies inside its array, on whole words. -/
theorem ok_pf (T : Tab) : ok0 (F := Ideal) (pf T) :=
  ⟨fun i => ⟨inb_0 T i, .inr (Affine.block_words_dvd (s := S327680x512) (p := EltTy.packing .bf16) (by decide) (by decide))⟩,
   fun i => ⟨inb_0 T i, .inr (Affine.block_words_dvd (s := S327680x512) (p := EltTy.packing .bf16) (by decide) (by decide))⟩,
   fun i => ⟨inb_2 T i, .inl rfl⟩,
   fun i => ⟨inb_2 T i, .inl rfl⟩,
   fun i => ⟨inb_4 T i, .inl rfl⟩⟩

/-- The tables, admissible; the call at them. -/
def adm (T : Tab) : (pcfg0 (F := Ideal)).Adm := ⟨pf T, ok_pf T⟩
abbrev cfg (T : Tab) : Pipeline.Cfg sig Λ₀ := cfg0 (F := Ideal) (adm T)
abbrev cfgs (T : Tab) : Fin 1 → Pipeline.Cfg sig Λ₀ := Pipeline.pin (pcfgs (F := Ideal)) fun _ => adm T

/-- Point `t`'s coordinates. -/
abbrev crd (T : Tab) (t : Fin (cfg T).N) : (cfg T).grid.Coords := (cfg T).grid.coords t

theorem crd_val : ∀ t : Fin grid0.N, (grid0.coords t 0).val = t.val := by decide +kernel

/-- Neither output is idle at any point. -/
theorem idle_5 (T : Tab) (t : Fin (cfg T).N) : (cfg T).idle (5 : Fin 7) ((cfg T).grid.coords t) = false := by
  show (!(k0_cond1 _ ((pf T).atD 1 ![0]) == 1#1) && !(k0_cond3 _ ((pf T).atD 1 ![0]) == 1#1)) = false
  by_cases h : k0_cond1 (crd T t) ((pf T).atD 1 ![0]) = 1#1
  · simp [h]
  · simp [(cond3_iff _ _).2 h]
theorem idle_6 (T : Tab) (t : Fin (cfg T).N) : (cfg T).idle (6 : Fin 7) ((cfg T).grid.coords t) = false := idle_5 T t

/-- The first block is in use and its expert is new. -/
theorem first (T : Tab) (t : Fin (cfg T).N) (h : t.val = 0) : Active (crd T t) T.n ∧ New (crd T t) T.e := by
  have hc : (crd T t 0).val = 0 := (crd_val t).trans h
  constructor
  · have hn : 1 ≤ (nWord T.n).toNat ∧ (nWord T.n).toNat < 2147483648 := T.hn _
    unfold Active k0_cond1
    dsimp only
    rw [hc]
    generalize nWord T.n = v at hn
    have : Scalar.cmpi .slt (BitVec.ofNat 32 0) v = 1#1 := by
      show BitVec.ofBool ((BitVec.ofNat 32 0).slt v) = 1#1
      have : (BitVec.ofNat 32 0).slt v = true := by
        rw [BitVec.slt_iff_toInt_lt, BitVec.toInt_eq_toNat_cond]
        simp
        rw [BitVec.toInt_eq_toNat_cond]
        split <;> omega
      rw [this]; rfl
    rw [this]; decide
  · unfold New
    rw [hc]
    generalize Scalar.cmpi .ne (eWord (crd T t) T.e) (pWord (crd T t) T.e) = b
    revert b
    decide

end Cert.Kernel3Ideal.Exp

end
-- ==== Proof.Exp.Runs.lean ====
module

public import proofs.«01_k».proof.Proof.Gen.Kernel3Ideal.Skeleton
public import proofs.«01_k».proof.Proof.Exp.Tables

@[expose] public section

set_option maxRecDepth 16384
set_option Elab.async false

noncomputable section

namespace Cert.Kernel3Ideal.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the machine the assertions speak of. -/
local notation "𝕄" => MT nD τ sig Unit (Elt Ideal) ℕ (UR sig nD τ) ℕ

/-! # The body, run once

On whole staging buffers holding the two halves of the rows and the expert's weights, and on the three scratches, the body runs
to its end; the three theorems, one per way its conditions fall, find what it leaves. -/

variable (c : Dev nD) (i : grid0.Coords)
  (arg3 : Memref sig .tc .vmem S256x512 .bf16) (harg3 : arg3.IsWhole) (arg4 : Memref sig .tc .vmem S256x512 .bf16) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S256x512 .bf16) (harg8 : arg8.IsWhole) (arg9 : Memref sig .tc .vmem S256x512 .bf16) (harg9 : arg9.IsWhole)
  (E : S1280.Idx → BitVec 32) (N : S1.Idx → BitVec 32)
  (x0 : S256x512.Idx → Elt Ideal .bf16) (x1 : S256x512.Idx → Elt Ideal .bf16) (x2 : S1x1024x256.Idx → Elt Ideal .f32) (x3 : S1x1024x256.Idx → Elt Ideal .f32) (x4 : S1x256x1024.Idx → Elt Ideal .f32)

/-- The inputs' staging buffers at their blocks, and the body's shares of the two tables. -/
def Ins : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (eTab.view.loc (c : Thread nD τ) ↦{fullShare.right} E) ∗ (nTab.view.loc (c : Thread nD τ) ↦{fullShare.right} N))

/-- The three scratches at given contents. -/
def Scr (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) : sProp 𝕄 :=
  iprop((gScr.view.loc (c : Thread nD τ) ↦{fullShare} xa0) ∗ (uScr.view.loc (c : Thread nD τ) ↦{fullShare} xa1) ∗ (dScr.view.loc (c : Thread nD τ) ↦{fullShare} xa2))

/-- The body on these buffers. -/
abbrev body : Prog (TpuEff nD τ sig (Elt Ideal) Λ₀ .tc) PUnit :=
  cc0_experts i eTab (Memref.isWhole_whole _) nTab (Memref.isWhole_whole _) arg3 harg3 arg4 harg4 arg5 harg5 arg6 harg6 arg7 harg7 arg8 harg8 arg9 harg9 gScr (Memref.isWhole_whole _) uScr (Memref.isWhole_whole _) dScr (Memref.isWhole_whole _)

/-- The body's run at a postcondition. -/
abbrev runs (K : PUnit → sProp 𝕄) : sProp 𝕄 :=
  wp frame (wpE (defs₀ (F := Ideal)) Variants.none c none) Set.univ (body i arg3 harg3 arg4 harg4 arg5 harg5 arg6 harg6 arg7 harg7 arg8 harg8 arg9 harg9) K

/-- One buffer of each output's window, through which its contents are stated. -/
abbrev VL : View sig .tc .vmem S256x512 .bf16 := (Memref.whole cc0_stg5_0 : Memref sig .tc .vmem S256x512 .bf16).view
abbrev VH : View sig .tc .vmem S256x512 .bf16 := (Memref.whole cc0_stg6_0 : Memref sig .tc .vmem S256x512 .bf16).view

set_option backward.proofsInPublic true in
set_option maxHeartbeats 8000000 in
/-- A block in use whose expert is new. -/
def runA (ha : Active i N) (hw : New i E) :
    Σ' (o8 o9 : List (View.Piece (Elt Ideal) S256x512 .bf16)) (o0 : Buf (Elt Ideal) ((c : Thread nD τ).loc cc0_scratch0)) (o1 : Buf (Elt Ideal) ((c : Thread nD τ).loc cc0_scratch1)), { o2 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop(Ins c arg3 arg4 arg5 arg6 arg7 E N x0 x1 x2 x3 x4
          ∗ (∃ d, owns (c : Thread nD τ) arg8 fullShare d) ∗ (∃ d, owns (c : Thread nD τ) arg9 fullShare d)
          ∗ Scr c xa0 xa1 xa2
          ∗ (iprop(Ins c arg3 arg4 arg5 arg6 arg7 E N x0 x1 x2 x3 x4
              ∗ (∃ f, arg8.view.loc (c : Thread nD τ) ↦[arg8.view.set]{fullShare} arg8.view.writes (Elt Ideal) f o8)
              ∗ (∃ f, arg9.view.loc (c : Thread nD τ) ↦[arg9.view.set]{fullShare} arg9.view.writes (Elt Ideal) f o9)
              ∗ Scr c o0 o1 o2) -∗ K ⟨⟩))
          ⊢ runs c i arg3 harg3 arg4 harg4 arg5 harg5 arg6 harg6 arg7 harg7 arg8 harg8 arg9 harg9 K } :=
  ⟨_, _, _, _, _, fun xa0 xa1 xa2 K => by
    unfold owns Ins Scr runs body
    rw [cc0_experts_eq_skeleton]; unfold cc0_experts_skel
    iintro ⟨⟨H0, H1, H2, H3, H4, HT0, HT1⟩, ⟨%d8, %f8, -, HO8⟩, ⟨%d9, %f9, -, HO9⟩, ⟨HS0, HS1, HS2⟩, Hk⟩
    have hS0 : gScr.IsWhole := Memref.isWhole_whole _
    have hS1 : uScr.IsWhole := Memref.isWhole_whole _
    have hS2 : dScr.IsWhole := Memref.isWhole_whole _
    have hT0 : eTab.IsWhole := Memref.isWhole_whole _
    have hT1 : nTab.IsWhole := Memref.isWhole_whole _
    have hb : ¬ k0_cond3 i (nWord N) = 1#1 := fun h => (cond3_iff _ _).1 h ha
    sl_exec! (disch := first | (guard_target = k0_cond1 _ _ = _; exact ha) | (guard_target = ¬(k0_cond3 _ _ = _); exact hb) | (guard_target = Scalar.cmpi = _; exact hw))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO8]
    · iexists _; iexact HO8
    isplitl [HO9]
    · iexists _; iexact HO9
    isplitl [HS0]; · iexact HS0
    isplitl [HS1]; · iexact HS1
    iexact HS2⟩

/-- Its stores cover the outputs' blocks. -/
theorem coverAl (ha : Active i N) (hw : New i E) (y : S256x512.Idx) :
    ∃ pc ∈ (runA c i arg3 harg3 arg4 harg4 arg5 harg5 arg6 harg6 arg7 harg7 arg8 harg8 arg9 harg9 E N x0 x1 x2 x3 x4 ha hw).1, y ∈ pc.1.set :=
  View.cover_of_tiledL (runA c i arg3 harg3 arg4 harg4 arg5 harg5 arg6 harg6 arg7 harg7 arg8 harg8 arg9 harg9 E N x0 x1 x2 x3 x4 ha hw).1 S256x512.size (by sl_kernel_rfl) y
theorem coverAh (ha : Active i N) (hw : New i E) (y : S256x512.Idx) :
    ∃ pc ∈ (runA c i arg3 harg3 arg4 harg4 arg5 harg5 arg6 harg6 arg7 harg7 arg8 harg8 arg9 harg9 E N x0 x1 x2 x3 x4 ha hw).2.1, y ∈ pc.1.set :=
  View.cover_of_tiledL (runA c i arg3 harg3 arg4 harg4 arg5 harg5 arg6 harg6 arg7 harg7 arg8 harg8 arg9 harg9 E N x0 x1 x2 x3 x4 ha hw).2.1 S256x512.size (by sl_kernel_rfl) y

/-- The blocks it leaves in the outputs' buffers. -/
def outAl (ha : Active i N) (hw : New i E) : S256x512.Idx → Elt Ideal .bf16 :=
  VL.read (Elt Ideal) (VL.writes (Elt Ideal) VL.junk (runA c i arg3 harg3 arg4 harg4 arg5 harg5 arg6 harg6 arg7 harg7 arg8 harg8 arg9 harg9 E N x0 x1 x2 x3 x4 ha hw).1)
def outAh (ha : Active i N) (hw : New i E) : S256x512.Idx → Elt Ideal .bf16 :=
  VH.read (Elt Ideal) (VH.writes (Elt Ideal) VH.junk (runA c i arg3 harg3 arg4 harg4 arg5 harg5 arg6 harg6 arg7 harg7 arg8 harg8 arg9 harg9 E N x0 x1 x2 x3 x4 ha hw).2.1)

set_option backward.proofsInPublic true in
set_option maxHeartbeats 8000000 in
/-- A block in use whose expert is the one before. -/
def runB (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (ha : Active i N) (hw : ¬ New i E) :
    Σ' (o8 : List (View.Piece (Elt Ideal) S256x512 .bf16)), { o9 : List (View.Piece (Elt Ideal) S256x512 .bf16) //
      ∀ (K : PUnit → sProp 𝕄),
        iprop(Ins c arg3 arg4 arg5 arg6 arg7 E N x0 x1 x2 x3 x4
          ∗ (∃ d, owns (c : Thread nD τ) arg8 fullShare d) ∗ (∃ d, owns (c : Thread nD τ) arg9 fullShare d)
          ∗ Scr c xa0 xa1 xa2
          ∗ (iprop(Ins c arg3 arg4 arg5 arg6 arg7 E N x0 x1 x2 x3 x4
              ∗ (∃ f, arg8.view.loc (c : Thread nD τ) ↦[arg8.view.set]{fullShare} arg8.view.writes (Elt Ideal) f o8)
              ∗ (∃ f, arg9.view.loc (c : Thread nD τ) ↦[arg9.view.set]{fullShare} arg9.view.writes (Elt Ideal) f o9)
              ∗ Scr c xa0 xa1 xa2) -∗ K ⟨⟩))
          ⊢ runs c i arg3 harg3 arg4 harg4 arg5 harg5 arg6 harg6 arg7 harg7 arg8 harg8 arg9 harg9 K } :=
  ⟨_, _, fun K => by
    unfold owns Ins Scr runs body
    rw [cc0_experts_eq_skeleton]; unfold cc0_experts_skel
    iintro ⟨⟨H0, H1, H2, H3, H4, HT0, HT1⟩, ⟨%d8, %f8, -, HO8⟩, ⟨%d9, %f9, -, HO9⟩, ⟨HS0, HS1, HS2⟩, Hk⟩
    have hS0 : gScr.IsWhole := Memref.isWhole_whole _
    have hS1 : uScr.IsWhole := Memref.isWhole_whole _
    have hS2 : dScr.IsWhole := Memref.isWhole_whole _
    have hT0 : eTab.IsWhole := Memref.isWhole_whole _
    have hT1 : nTab.IsWhole := Memref.isWhole_whole _
    have hb : ¬ k0_cond3 i (nWord N) = 1#1 := fun h => (cond3_iff _ _).1 h ha
    sl_exec! (disch := first | (guard_target = k0_cond1 _ _ = _; exact ha) | (guard_target = ¬(k0_cond3 _ _ = _); exact hb) | (guard_target = ¬(Scalar.cmpi = _); exact hw))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO8]
    · iexists _; iexact HO8
    isplitl [HO9]
    · iexists _; iexact HO9
    isplitl [HS0]; · iexact HS0
    isplitl [HS1]; · iexact HS1
    iexact HS2⟩

/-- Its stores cover the outputs' blocks. -/
theorem coverBl (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (ha : Active i N) (hw : ¬ New i E) (y : S256x512.Idx) :
    ∃ pc ∈ (runB c i arg3 harg3 arg4 harg4 arg5 harg5 arg6 harg6 arg7 harg7 arg8 harg8 arg9 harg9 E N x0 x1 x2 x3 x4 xa0 xa1 xa2 ha hw).1, y ∈ pc.1.set :=
  View.cover_of_tiledL (runB c i arg3 harg3 arg4 harg4 arg5 harg5 arg6 harg6 arg7 harg7 arg8 harg8 arg9 harg9 E N x0 x1 x2 x3 x4 xa0 xa1 xa2 ha hw).1 S256x512.size (by sl_kernel_rfl) y
theorem coverBh (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (ha : Active i N) (hw : ¬ New i E) (y : S256x512.Idx) :
    ∃ pc ∈ (runB c i arg3 harg3 arg4 harg4 arg5 harg5 arg6 harg6 arg7 harg7 arg8 harg8 arg9 harg9 E N x0 x1 x2 x3 x4 xa0 xa1 xa2 ha hw).2.1, y ∈ pc.1.set :=
  View.cover_of_tiledL (runB c i arg3 harg3 arg4 harg4 arg5 harg5 arg6 harg6 arg7 harg7 arg8 harg8 arg9 harg9 E N x0 x1 x2 x3 x4 xa0 xa1 xa2 ha hw).2.1 S256x512.size (by sl_kernel_rfl) y

/-- The blocks it leaves in the outputs' buffers. -/
def outBl (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (ha : Active i N) (hw : ¬ New i E) : S256x512.Idx → Elt Ideal .bf16 :=
  VL.read (Elt Ideal) (VL.writes (Elt Ideal) VL.junk (runB c i arg3 harg3 arg4 harg4 arg5 harg5 arg6 harg6 arg7 harg7 arg8 harg8 arg9 harg9 E N x0 x1 x2 x3 x4 xa0 xa1 xa2 ha hw).1)
def outBh (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (ha : Active i N) (hw : ¬ New i E) : S256x512.Idx → Elt Ideal .bf16 :=
  VH.read (Elt Ideal) (VH.writes (Elt Ideal) VH.junk (runB c i arg3 harg3 arg4 harg4 arg5 harg5 arg6 harg6 arg7 harg7 arg8 harg8 arg9 harg9 E N x0 x1 x2 x3 x4 xa0 xa1 xa2 ha hw).2.1)

set_option backward.proofsInPublic true in
set_option maxHeartbeats 8000000 in
/-- A block not in use. -/
def runC (z4 z5 : FVec Ideal S256x512 .bf16) (h4 : k0_pay4 (F := Ideal) = z4) (h5 : k0_pay5 (F := Ideal) = z5) (ha : ¬ Active i N) :
    Σ' (o8 : List (View.Piece (Elt Ideal) S256x512 .bf16)), { o9 : List (View.Piece (Elt Ideal) S256x512 .bf16) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop(Ins c arg3 arg4 arg5 arg6 arg7 E N x0 x1 x2 x3 x4
          ∗ (∃ d, owns (c : Thread nD τ) arg8 fullShare d) ∗ (∃ d, owns (c : Thread nD τ) arg9 fullShare d)
          ∗ Scr c xa0 xa1 xa2
          ∗ (iprop(Ins c arg3 arg4 arg5 arg6 arg7 E N x0 x1 x2 x3 x4
              ∗ (∃ f, arg8.view.loc (c : Thread nD τ) ↦[arg8.view.set]{fullShare} arg8.view.writes (Elt Ideal) f o8)
              ∗ (∃ f, arg9.view.loc (c : Thread nD τ) ↦[arg9.view.set]{fullShare} arg9.view.writes (Elt Ideal) f o9)
              ∗ Scr c xa0 xa1 xa2) -∗ K ⟨⟩))
          ⊢ runs c i arg3 harg3 arg4 harg4 arg5 harg5 arg6 harg6 arg7 harg7 arg8 harg8 arg9 harg9 K } :=
  ⟨_, _, fun xa0 xa1 xa2 K => by
    unfold owns Ins Scr runs body
    rw [cc0_experts_eq_skeleton]; unfold cc0_experts_skel
    rw [h4, h5]
    iintro ⟨⟨H0, H1, H2, H3, H4, HT0, HT1⟩, ⟨%d8, %f8, -, HO8⟩, ⟨%d9, %f9, -, HO9⟩, ⟨HS0, HS1, HS2⟩, Hk⟩
    have hS0 : gScr.IsWhole := Memref.isWhole_whole _
    have hS1 : uScr.IsWhole := Memref.isWhole_whole _
    have hS2 : dScr.IsWhole := Memref.isWhole_whole _
    have hT0 : eTab.IsWhole := Memref.isWhole_whole _
    have hT1 : nTab.IsWhole := Memref.isWhole_whole _
    have hb : k0_cond3 i (nWord N) = 1#1 := (cond3_iff _ _).2 ha
    sl_exec! (disch := first | (guard_target = ¬(k0_cond1 _ _ = _); exact ha) | (guard_target = k0_cond3 _ _ = _; exact hb))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO8]
    · iexists _; iexact HO8
    isplitl [HO9]
    · iexists _; iexact HO9
    isplitl [HS0]; · iexact HS0
    isplitl [HS1]; · iexact HS1
    iexact HS2⟩

/-- Its stores cover the outputs' blocks. -/
theorem coverCl (z4 z5 : FVec Ideal S256x512 .bf16) (h4 : k0_pay4 (F := Ideal) = z4) (h5 : k0_pay5 (F := Ideal) = z5) (ha : ¬ Active i N) (y : S256x512.Idx) :
    ∃ pc ∈ (runC c i arg3 harg3 arg4 harg4 arg5 harg5 arg6 harg6 arg7 harg7 arg8 harg8 arg9 harg9 E N x0 x1 x2 x3 x4 z4 z5 h4 h5 ha).1, y ∈ pc.1.set :=
  View.cover_of_tiledL (runC c i arg3 harg3 arg4 harg4 arg5 harg5 arg6 harg6 arg7 harg7 arg8 harg8 arg9 harg9 E N x0 x1 x2 x3 x4 z4 z5 h4 h5 ha).1 S256x512.size (by sl_kernel_rfl) y
theorem coverCh (z4 z5 : FVec Ideal S256x512 .bf16) (h4 : k0_pay4 (F := Ideal) = z4) (h5 : k0_pay5 (F := Ideal) = z5) (ha : ¬ Active i N) (y : S256x512.Idx) :
    ∃ pc ∈ (runC c i arg3 harg3 arg4 harg4 arg5 harg5 arg6 harg6 arg7 harg7 arg8 harg8 arg9 harg9 E N x0 x1 x2 x3 x4 z4 z5 h4 h5 ha).2.1, y ∈ pc.1.set :=
  View.cover_of_tiledL (runC c i arg3 harg3 arg4 harg4 arg5 harg5 arg6 harg6 arg7 harg7 arg8 harg8 arg9 harg9 E N x0 x1 x2 x3 x4 z4 z5 h4 h5 ha).2.1 S256x512.size (by sl_kernel_rfl) y

/-- The blocks it leaves in the outputs' buffers. -/
def outCl (z4 z5 : FVec Ideal S256x512 .bf16) (h4 : k0_pay4 (F := Ideal) = z4) (h5 : k0_pay5 (F := Ideal) = z5) (ha : ¬ Active i N) : S256x512.Idx → Elt Ideal .bf16 :=
  VL.read (Elt Ideal) (VL.writes (Elt Ideal) VL.junk (runC c i arg3 harg3 arg4 harg4 arg5 harg5 arg6 harg6 arg7 harg7 arg8 harg8 arg9 harg9 E N x0 x1 x2 x3 x4 z4 z5 h4 h5 ha).1)
def outCh (z4 z5 : FVec Ideal S256x512 .bf16) (h4 : k0_pay4 (F := Ideal) = z4) (h5 : k0_pay5 (F := Ideal) = z5) (ha : ¬ Active i N) : S256x512.Idx → Elt Ideal .bf16 :=
  VH.read (Elt Ideal) (VH.writes (Elt Ideal) VH.junk (runC c i arg3 harg3 arg4 harg4 arg5 harg5 arg6 harg6 arg7 harg7 arg8 harg8 arg9 harg9 E N x0 x1 x2 x3 x4 z4 z5 h4 h5 ha).2.1)

end Cert.Kernel3Ideal.Exp

end
-- ==== Proof.Exp.Flash.lean ====
module

public import proofs.«01_k».proof.Proof.Exp.Runs
public import Idealize.ShloMosaic.Lib.Pipeline.Frame
public import Idealize.ShloMosaic.Lib.Claim

@[expose] public section

set_option maxRecDepth 16384
set_option Elab.async false

noncomputable section

namespace Cert.Kernel3Ideal.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the machine the assertions speak of. -/
local notation "𝕄" => MT nD τ sig Unit (Elt Ideal) ℕ (UR sig nD τ) ℕ

/-! # The call's run

Before point `t` the three scratches hold what the runs below `t` left (nothing is known before the first); the staged inputs hold
their blocks. From this the library's launch theorem gives the run of the program: its arrays end at what the write-backs leave, every
other buffer at what it held when the call began. -/

/-- The embedding of the launch's own resources. -/
abbrev EP : Emb (UR sig nD τ) 𝕄 := emb₁

variable (T : Tab) (V : (c : Dev nD) → (b : Ref sig .tc) → Buf (Elt Ideal) ((c.tc : Thread nD τ).loc b))

abbrev ms0 (t : Fin (cfg T).N) : Memref sig .tc .vmem S256x512 .bf16 := spec0_0.stage ((cfg T).slots t (0 : Fin 7))
abbrev hs0 (t : Fin (cfg T).N) : (ms0 T t).IsWhole := hstage0_0 (((cfg T).slots t (0 : Fin 7)).cast nbuf0_0)
abbrev ms1 (t : Fin (cfg T).N) : Memref sig .tc .vmem S256x512 .bf16 := spec0_1.stage ((cfg T).slots t (1 : Fin 7))
abbrev hs1 (t : Fin (cfg T).N) : (ms1 T t).IsWhole := hstage0_1 (((cfg T).slots t (1 : Fin 7)).cast nbuf0_1)
abbrev ms2 (t : Fin (cfg T).N) : Memref sig .tc .vmem S1x1024x256 .f32 := spec0_2.stage ((cfg T).slots t (2 : Fin 7))
abbrev hs2 (t : Fin (cfg T).N) : (ms2 T t).IsWhole := hstage0_2 (((cfg T).slots t (2 : Fin 7)).cast nbuf0_2)
abbrev ms3 (t : Fin (cfg T).N) : Memref sig .tc .vmem S1x1024x256 .f32 := spec0_3.stage ((cfg T).slots t (3 : Fin 7))
abbrev hs3 (t : Fin (cfg T).N) : (ms3 T t).IsWhole := hstage0_3 (((cfg T).slots t (3 : Fin 7)).cast nbuf0_3)
abbrev ms4 (t : Fin (cfg T).N) : Memref sig .tc .vmem S1x256x1024 .f32 := spec0_4.stage ((cfg T).slots t (4 : Fin 7))
abbrev hs4 (t : Fin (cfg T).N) : (ms4 T t).IsWhole := hstage0_4 (((cfg T).slots t (4 : Fin 7)).cast nbuf0_4)
abbrev ms5 (t : Fin (cfg T).N) : Memref sig .tc .vmem S256x512 .bf16 := spec0_5.stage ((cfg T).slots t (5 : Fin 7))
abbrev hs5 (t : Fin (cfg T).N) : (ms5 T t).IsWhole := hstage0_5 (((cfg T).slots t (5 : Fin 7)).cast nbuf0_5)
abbrev ms6 (t : Fin (cfg T).N) : Memref sig .tc .vmem S256x512 .bf16 := spec0_6.stage ((cfg T).slots t (6 : Fin 7))
abbrev hs6 (t : Fin (cfg T).N) : (ms6 T t).IsWhole := hstage0_6 (((cfg T).slots t (6 : Fin 7)).cast nbuf0_6)

/-- Window `w`'s block at point `t`, read off its array as it is when the call begins. -/
def iblk (c : Dev nD) (w : Fin (cfg T).W) (t : Fin (cfg T).N) : (((cfg T).win w).xblock (crd T t)).Idx → Elt Ideal ((cfg T).win w).elt :=
  (((cfg T).win w).blk t).view.read (Elt Ideal) (V c (Pipeline.arrRef (cfg T).spec w))

/-- The contents of the three scratches on core `c`. -/
abbrev St (c : Dev nD) : Type :=
  Buf (Elt Ideal) ((c : Thread nD τ).loc cc0_scratch0) × Buf (Elt Ideal) ((c : Thread nD τ).loc cc0_scratch1) × Buf (Elt Ideal) ((c : Thread nD τ).loc cc0_scratch2)

/-- The run at a block in use whose expert is new. -/
abbrev atA (c : Dev nD) (t : Fin (cfg T).N) (ha : Active (crd T t) T.n) (hw : New (crd T t) T.e) := runA c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) ha hw

/-- The run at a block in use whose expert is the one before. -/
abbrev atB (c : Dev nD) (t : Fin (cfg T).N) (p : St c) (ha : Active (crd T t) T.n) (hw : ¬ New (crd T t) T.e) := runB c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) p.1 p.2.1 p.2.2 ha hw

/-- The run at a block not in use. -/
abbrev atC (c : Dev nD) (t : Fin (cfg T).N) (ha : ¬ Active (crd T t) T.n) := runC c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) k0_pay4 k0_pay5 rfl rfl ha

/-- What the body leaves in the scratches at point `t`, from what they held. -/
def step (c : Dev nD) (t : Fin (cfg T).N) (p : St c) : St c :=
  if ha : Active (crd T t) T.n then
    if hw : New (crd T t) T.e then ((atA T V c t ha hw).2.2.1, (atA T V c t ha hw).2.2.2.1, (atA T V c t ha hw).2.2.2.2.1)
    else p
  else p

/-- What the body leaves in the first output's block. -/
def outL (c : Dev nD) (t : Fin (cfg T).N) (p : St c) : S256x512.Idx → Elt Ideal .bf16 :=
  if ha : Active (crd T t) T.n then
    if hw : New (crd T t) T.e then outAl c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) ha hw
    else outBl c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) p.1 p.2.1 p.2.2 ha hw
  else outCl c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) k0_pay4 k0_pay5 rfl rfl ha

/-- What it leaves in the second's. -/
def outH (c : Dev nD) (t : Fin (cfg T).N) (p : St c) : S256x512.Idx → Elt Ideal .bf16 :=
  if ha : Active (crd T t) T.n then
    if hw : New (crd T t) T.e then outAh c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) ha hw
    else outBh c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) p.1 p.2.1 p.2.2 ha hw
  else outCh c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) k0_pay4 k0_pay5 rfl rfl ha

/-- What the scratches hold before point `n`. -/
def st (c : Dev nD) : ℕ → St c
  | 0 => (default, default, default)
  | n + 1 => if h : n < (cfg T).N then step T V c ⟨n, h⟩ (st c n) else st c n

theorem st_succ (c : Dev nD) (t : Fin (cfg T).N) : st T V c (t.val + 1) = step T V c t (st T V c t.val) := by
  rw [st]; exact dif_pos t.isLt

/-- The assertion before point `t`: the scratches, the body's shares of the tables, the generator's register. -/
def Phi (c : Dev nD) (t : Fin ((cfg T).N + 1)) : sProp 𝕄 :=
  iprop((∃ a0 a1 a2, ⌜t.val ≠ 0 → a0 = (st T V c t.val).1 ∧ a1 = (st T V c t.val).2.1 ∧ a2 = (st T V c t.val).2.2⌝ ∗ Scr c a0 a1 a2)
    ∗ ((eTab.view.loc (c : Thread nD τ) ↦{fullShare.right} T.e) ∗ (nTab.view.loc (c : Thread nD τ) ↦{fullShare.right} T.n))
    ∗ ∃ r, prngReg c r)

/-- The proof data of the call on core `c`. -/
def dats (_ : Fin 1) (c : Dev nD) : Dat τ (Elt Ideal) Unit ℕ (UR sig nD τ) ℕ (cfg T) c where
  A w := V c (Pipeline.arrRef (cfg T).spec w)
  after w t := match w with
    | ⟨0, _⟩ => iblk T V c (0 : Fin 7) t
    | ⟨1, _⟩ => iblk T V c (1 : Fin 7) t
    | ⟨2, _⟩ => iblk T V c (2 : Fin 7) t
    | ⟨3, _⟩ => iblk T V c (3 : Fin 7) t
    | ⟨4, _⟩ => iblk T V c (4 : Fin 7) t
    | ⟨5, _⟩ => outL T V c t (st T V c t.val)
    | ⟨6, _⟩ => outH T V c t (st T V c t.val)
  Φ t := Phi T V c t
  q _ := fullShare
  owed _ := 0

theorem after_0 (c : Dev nD) (t : Fin (cfg T).N) : (dats T V 0 c).after (0 : Fin 7) t = iblk T V c (0 : Fin 7) t := rfl
theorem after_1 (c : Dev nD) (t : Fin (cfg T).N) : (dats T V 0 c).after (1 : Fin 7) t = iblk T V c (1 : Fin 7) t := rfl
theorem after_2 (c : Dev nD) (t : Fin (cfg T).N) : (dats T V 0 c).after (2 : Fin 7) t = iblk T V c (2 : Fin 7) t := rfl
theorem after_3 (c : Dev nD) (t : Fin (cfg T).N) : (dats T V 0 c).after (3 : Fin 7) t = iblk T V c (3 : Fin 7) t := rfl
theorem after_4 (c : Dev nD) (t : Fin (cfg T).N) : (dats T V 0 c).after (4 : Fin 7) t = iblk T V c (4 : Fin 7) t := rfl
theorem after_5 (c : Dev nD) (t : Fin (cfg T).N) : (dats T V 0 c).after (5 : Fin 7) t = outL T V c t (st T V c t.val) := rfl
theorem after_6 (c : Dev nD) (t : Fin (cfg T).N) : (dats T V 0 c).after (6 : Fin 7) t = outH T V c t (st T V c t.val) := rfl

/-- Input window 0's buffer holds its block when the body runs. -/
theorem before_0 (c : Dev nD) (t : Fin (cfg T).N) (d) : (dats T V 0 c).before (0 : Fin 7) t d = iblk T V c (0 : Fin 7) t :=
  ((dats T V 0 c).before_in_eq_fetched (0 : Fin 7) rfl (fun _ => rfl) (fun _ _ _ => rfl) (fun t => by rw [after_0]; unfold Dat.blockOf iblk; rfl) t d).trans
    (by unfold Dat.fetched Dat.blockOf iblk; rfl)
/-- Input window 1's buffer holds its block when the body runs. -/
theorem before_1 (c : Dev nD) (t : Fin (cfg T).N) (d) : (dats T V 0 c).before (1 : Fin 7) t d = iblk T V c (1 : Fin 7) t :=
  ((dats T V 0 c).before_in_eq_fetched (1 : Fin 7) rfl (fun _ => rfl) (fun _ _ _ => rfl) (fun t => by rw [after_1]; unfold Dat.blockOf iblk; rfl) t d).trans
    (by unfold Dat.fetched Dat.blockOf iblk; rfl)
/-- Input window 2's buffer holds its block when the body runs. -/
theorem before_2 (c : Dev nD) (t : Fin (cfg T).N) (d) : (dats T V 0 c).before (2 : Fin 7) t d = iblk T V c (2 : Fin 7) t :=
  ((dats T V 0 c).before_in_eq_fetched (2 : Fin 7) rfl (fun _ => rfl) (fun _ _ _ => rfl) (fun t => by rw [after_2]; unfold Dat.blockOf iblk; rfl) t d).trans
    (by unfold Dat.fetched Dat.blockOf iblk; rfl)
/-- Input window 3's buffer holds its block when the body runs. -/
theorem before_3 (c : Dev nD) (t : Fin (cfg T).N) (d) : (dats T V 0 c).before (3 : Fin 7) t d = iblk T V c (3 : Fin 7) t :=
  ((dats T V 0 c).before_in_eq_fetched (3 : Fin 7) rfl (fun _ => rfl) (fun _ _ _ => rfl) (fun t => by rw [after_3]; unfold Dat.blockOf iblk; rfl) t d).trans
    (by unfold Dat.fetched Dat.blockOf iblk; rfl)
/-- Input window 4's buffer holds its block when the body runs. -/
theorem before_4 (c : Dev nD) (t : Fin (cfg T).N) (d) : (dats T V 0 c).before (4 : Fin 7) t d = iblk T V c (4 : Fin 7) t :=
  ((dats T V 0 c).before_in_eq_fetched (4 : Fin 7) rfl (fun _ => rfl) (fun _ _ _ => rfl) (fun t => by rw [after_4]; unfold Dat.blockOf iblk; rfl) t d).trans
    (by unfold Dat.fetched Dat.blockOf iblk; rfl)

set_option maxHeartbeats 4000000 in
/-- The body at point `t` turns the assertion before it into the one after it. -/
theorem sound_body (c : Dev nD) (t : Fin (cfg T).N) :
    iprop((dats T V 0 c).Φ t.castSucc ∗ (dats T V 0 c).owesAt () t.castSucc
        ∗ (∃ d, owns (c : Thread nD τ) (ms0 T t) fullShare ((dats T V 0 c).before (0 : Fin 7) t d))
        ∗ (∃ d, owns (c : Thread nD τ) (ms1 T t) fullShare ((dats T V 0 c).before (1 : Fin 7) t d))
        ∗ (∃ d, owns (c : Thread nD τ) (ms2 T t) fullShare ((dats T V 0 c).before (2 : Fin 7) t d))
        ∗ (∃ d, owns (c : Thread nD τ) (ms3 T t) fullShare ((dats T V 0 c).before (3 : Fin 7) t d))
        ∗ (∃ d, owns (c : Thread nD τ) (ms4 T t) fullShare ((dats T V 0 c).before (4 : Fin 7) t d))
        ∗ (∃ d, owns (c : Thread nD τ) (ms5 T t) fullShare ((dats T V 0 c).before (5 : Fin 7) t d))
        ∗ (∃ d, owns (c : Thread nD τ) (ms6 T t) fullShare ((dats T V 0 c).before (6 : Fin 7) t d)))
      ⊢ wp frame (wpE (defs₀ (F := Ideal)) Variants.none c none) Set.univ (body (crd T t) (ms0 T t) (hs0 T t) (ms1 T t) (hs1 T t) (ms2 T t) (hs2 T t) (ms3 T t) (hs3 T t) (ms4 T t) (hs4 T t) (ms5 T t) (hs5 T t) (ms6 T t) (hs6 T t)) fun _ =>
          iprop((dats T V 0 c).Φ t.succ ∗ (dats T V 0 c).owesAt () t.succ
            ∗ bigSep Finset.univ fun w : Fin (cfg T).W =>
                match (cfg T).idle w ((cfg T).grid.coords t) with
                | true =>
                  match ((cfg T).win w).flush t with
                  | false => iprop(∃ d, owns (c : Thread nD τ) (((cfg T).win w).stage ((cfg T).slots t w)) fullShare ((dats T V 0 c).before w t d))
                  | true => owns (c : Thread nD τ) (((cfg T).win w).stage ((cfg T).slots t w)) fullShare ((dats T V 0 c).after w t)
                | false => owns (c : Thread nD τ) (((cfg T).win w).stage ((cfg T).slots t w)) fullShare ((dats T V 0 c).after w t)) := by
  have sf := first T t
  rw [bigSep_W0]
  have hst := st_succ T V c t
  rewrite [show (dats T V 0 c).Φ t.succ = Phi T V c t.succ from rfl, show (dats T V 0 c).Φ t.castSucc = Phi T V c t.castSucc from rfl,
    show (dats T V 0 c).owesAt () t.succ = (dats T V 0 c).owesAt () t.castSucc from rfl]
  by_cases ha : Active (crd T t) T.n
  · by_cases hw : New (crd T t) T.e
    · have hs : step T V c t (st T V c t.val) = ((atA T V c t ha hw).2.2.1, (atA T V c t ha hw).2.2.2.1, (atA T V c t ha hw).2.2.2.2.1) := by unfold step; simp only [dif_pos ha, dif_pos hw]
      have hl : outL T V c t (st T V c t.val) = outAl c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) ha hw := by unfold outL; simp only [dif_pos ha, dif_pos hw]
      have hh : outH T V c t (st T V c t.val) = outAh c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) ha hw := by unfold outH; simp only [dif_pos ha, dif_pos hw]
      rewrite [idle_5]
      simp only [before_0, before_1, before_2, before_3, before_4, after_0, after_1, after_2, after_3, after_4]
      rewrite [after_5, after_6, hl, hh]
      unfold Phi; simp only [Fin.val_castSucc, Fin.val_succ, hst, hs]
      iintro ⟨⟨⟨%a0, %a1, %a2, %ha', HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      iapply ((atA T V c t ha hw).2.2.2.2.2 a0 a1 a2 _)
      isplitl [H0 H1 H2 H3 H4 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [H6]; · iexists _; iexact H6
      isplitl [HS]; · iexact HS
      unfold Ins
      iintro ⟨⟨H0, H1, H2, H3, H4, HT0, HT1⟩, ⟨%e5, H5⟩, ⟨%e6, H6⟩, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]
      · unfold owns; iexists _; isplitr; swap
        · iexact H5
        · ipureintro; exact View.read_writes_of_cover _ _ _ _ _ (coverAl c _ _ _ _ _ _ _ _ _ _ _ _ _ _ _ _ _ _ _ _ _ _ _ _)
      unfold owns; iexists _; isplitr; swap
      · iexact H6
      · ipureintro; exact View.read_writes_of_cover _ _ _ _ _ (coverAh c _ _ _ _ _ _ _ _ _ _ _ _ _ _ _ _ _ _ _ _ _ _ _ _)
    · have hs : step T V c t (st T V c t.val) = st T V c t.val := by unfold step; simp only [dif_pos ha, dif_neg hw]
      have hl : outL T V c t (st T V c t.val) = outBl c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) (st T V c t.val).1 (st T V c t.val).2.1 (st T V c t.val).2.2 ha hw := by unfold outL; simp only [dif_pos ha, dif_neg hw]
      have hh : outH T V c t (st T V c t.val) = outBh c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) (st T V c t.val).1 (st T V c t.val).2.1 (st T V c t.val).2.2 ha hw := by unfold outH; simp only [dif_pos ha, dif_neg hw]
      rewrite [idle_5]
      simp only [before_0, before_1, before_2, before_3, before_4, after_0, after_1, after_2, after_3, after_4]
      rewrite [after_5, after_6, hl, hh]
      unfold Phi; simp only [Fin.val_castSucc, Fin.val_succ, hst, hs]
      have hne : t.val ≠ 0 := fun h => hw (sf h).2
      iintro ⟨⟨⟨%a0, %a1, %a2, %ha', HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
      obtain ⟨rfl, rfl, rfl⟩ := ha' hne
      iapply ((atB T V c t (st T V c t.val) ha hw).2.2 _)
      isplitl [H0 H1 H2 H3 H4 HT0 HT1]
      · unfold Ins
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [H6]; · iexists _; iexact H6
      isplitl [HS]; · iexact HS
      unfold Ins
      iintro ⟨⟨H0, H1, H2, H3, H4, HT0, HT1⟩, ⟨%e5, H5⟩, ⟨%e6, H6⟩, HS⟩
      isplitl [HS HT0 HT1 Hp]
      · isplitl [HS]
        · iexists _; iexists _; iexists _; isplitr; swap
          · iexact HS
          · ipureintro; intro _; exact ⟨rfl, rfl, rfl⟩
        isplitl [HT0 HT1]
        · isplitl [HT0]; · iexact HT0
          iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]
      · unfold owns; iexists _; isplitr; swap
        · iexact H5
        · ipureintro; exact View.read_writes_of_cover _ _ _ _ _ (coverBl c _ _ _ _ _ _ _ _ _ _ _ _ _ _ _ _ _ _ _ _ _ _ _ _ _ _ _)
      unfold owns; iexists _; isplitr; swap
      · iexact H6
      · ipureintro; exact View.read_writes_of_cover _ _ _ _ _ (coverBh c _ _ _ _ _ _ _ _ _ _ _ _ _ _ _ _ _ _ _ _ _ _ _ _ _ _ _)
  · have hs : step T V c t (st T V c t.val) = st T V c t.val := by unfold step; simp only [dif_neg ha]
    have hl : outL T V c t (st T V c t.val) = outCl c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) k0_pay4 k0_pay5 rfl rfl ha := by unfold outL; simp only [dif_neg ha]
    have hh : outH T V c t (st T V c t.val) = outCh c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) k0_pay4 k0_pay5 rfl rfl ha := by unfold outH; simp only [dif_neg ha]
    rewrite [idle_5]
    simp only [before_0, before_1, before_2, before_3, before_4, after_0, after_1, after_2, after_3, after_4]
    rewrite [after_5, after_6, hl, hh]
    unfold Phi; simp only [Fin.val_castSucc, Fin.val_succ, hst, hs]
    have hne : t.val ≠ 0 := fun h => ha (sf h).1
    iintro ⟨⟨⟨%a0, %a1, %a2, %ha', HS⟩, ⟨HT0, HT1⟩, Hp⟩, Ho, ⟨%d0, H0⟩, ⟨%d1, H1⟩, ⟨%d2, H2⟩, ⟨%d3, H3⟩, ⟨%d4, H4⟩, ⟨%d5, H5⟩, ⟨%d6, H6⟩⟩
    obtain ⟨rfl, rfl, rfl⟩ := ha' hne
    iapply ((atC T V c t ha).2.2 (st T V c t.val).1 (st T V c t.val).2.1 (st T V c t.val).2.2 _)
    isplitl [H0 H1 H2 H3 H4 HT0 HT1]
    · unfold Ins
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexists _; iexact H5
    isplitl [H6]; · iexists _; iexact H6
    isplitl [HS]; · iexact HS
    unfold Ins
    iintro ⟨⟨H0, H1, H2, H3, H4, HT0, HT1⟩, ⟨%e5, H5⟩, ⟨%e6, H6⟩, HS⟩
    isplitl [HS HT0 HT1 Hp]
    · isplitl [HS]
      · iexists _; iexists _; iexists _; isplitr; swap
        · iexact HS
        · ipureintro; intro _; exact ⟨rfl, rfl, rfl⟩
      isplitl [HT0 HT1]
      · isplitl [HT0]; · iexact HT0
        iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]
    · unfold owns; iexists _; isplitr; swap
      · iexact H5
      · ipureintro; exact View.read_writes_of_cover _ _ _ _ _ (coverCl c _ _ _ _ _ _ _ _ _ _ _ _ _ _ _ _ _ _ _ _ _ _ _ _ _ _ _)
    unfold owns; iexists _; isplitr; swap
    · iexact H6
    · ipureintro; exact View.read_writes_of_cover _ _ _ _ _ (coverCh c _ _ _ _ _ _ _ _ _ _ _ _ _ _ _ _ _ _ _ _ _ _ _ _ _ _ _)

/-- The same as the library states it. -/
theorem body_obligation (c : Dev nD) : BodyObligation (dats T V 0 c) (defs₀ (F := Ideal)) Variants.none () Set.univ := fun t => by
  rw [bigSep_W0]
  exact sound_body T V c t

theorem share_eq (c : Dev nD) (w : Fin (cfg T).W) : (dats T V 0 c).share w = fullShare := by unfold Dat.share; split <;> rfl

/-- The body's shares of the tables, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The assertion before the first point, from what the call finds. -/
theorem enter (c : Dev nD) :
    iprop((Pipeline.ΦA (cfg T).spec c : sProp 𝕄) ∗ (Pipeline.ΦT pre0 (adm T).1 c : sProp 𝕄)) ⊢ (dats T V 0 c).Φ 0 := by
  rw [show (dats T V 0 c).Φ 0 = Phi T V c 0 from rfl]
  unfold Phi Scr Pipeline.ΦA Pipeline.ΦT
  rw [tables_eq, show (Pipeline.scopedRest (Ix := Unit) (Name := ℕ) (U := UR sig nD τ) (Lvl := ℕ) (Val := Elt Ideal) (cfg T).spec c : sProp 𝕄) = Pipeline.scopedRest spec0 c from rfl, scopedRest0_eq]
  iintro ⟨⟨⟨⟨%a0, HS0⟩, ⟨%a1, HS1⟩, ⟨%a2, HS2⟩⟩, Hp⟩, ⟨HT0, HT1⟩⟩
  isplitl [HS0 HS1 HS2]
  · iexists a0; iexists a1; iexists a2; isplitr
    · ipureintro; intro h; exact absurd rfl h
    isplitl [HS0]; · iexact HS0
    isplitl [HS1]; · iexact HS1
    iexact HS2
  isplitl [HT0 HT1]
  · isplitl [HT0]; · iexact HT0
    iexact HT1
  iexact Hp

/-- The assertion after the last point gives the scratches back. -/
theorem leave (c : Dev nD) : (dats T V 0 c).Φ (Fin.last (cfg T).N) ⊢ (Pipeline.ΦA (cfg T).spec c : sProp 𝕄) := by
  rw [show (dats T V 0 c).Φ (Fin.last (cfg T).N) = Phi T V c (Fin.last _) from rfl]
  unfold Phi Scr Pipeline.ΦA
  rw [show (Pipeline.scopedRest (Ix := Unit) (Name := ℕ) (U := UR sig nD τ) (Lvl := ℕ) (Val := Elt Ideal) (cfg T).spec c : sProp 𝕄) = Pipeline.scopedRest spec0 c from rfl, scopedRest0_eq]
  iintro ⟨⟨%a0, %a1, %a2, -, HS0, HS1, HS2⟩, -, Hp⟩
  isplitl [HS0 HS1 HS2]
  · isplitl [HS0]; · iexists a0; iexact HS0
    isplitl [HS1]; · iexists a1; iexact HS1
    iexists a2; iexact HS2
  iexact Hp

variable (m : (ℓ : Loc nD τ sig) → Buf (Elt Ideal) ℓ) (ρ : Dev nD → PrngReg)

/-- The buffers when the call begins: as in memory. -/
abbrev V0 (c : Dev nD) (b : Ref sig .tc) : Buf (Elt Ideal) ((c.tc : Thread nD τ).loc b) :=
  StableHlo.after (([] : List (List (HloOp τ sig (Elt Ideal)))).flatten) (fun b => m (c, b)) b

/-- The tables are what memory holds of them on every core. -/
def Holds : Prop := ∀ c : Dev nD, T.e = m ((c.tc : Thread nD τ).loc main_arg0) ∧ T.n = m ((c.tc : Thread nD τ).loc main_arg1)

theorem tables_at (hT : Holds T m) (c : Dev nD) : ∀ k, V0 m c (pre0.ref k) = (adm T).1 k := by
  intro k
  fin_cases k
  · exact (hT c).1.symm
  · exact (hT c).2.symm

set_option backward.isDefEq.respectTransparency.types false in
set_option maxHeartbeats 4000000 in
/-- THE RUN: from any memory with all counters zero whose tables are `T`, the program terminates, nothing faulting; at the end the
    call's arrays hold what the write-backs leave, every other buffer what it held when the call began, and every counter is zero. -/
theorem run_main (hT : Holds T m) : θ_run (defs (F := Ideal)) (onTc (τ := τ) (main (F := Ideal))) (s₀ m ρ)
    (fun r => Pipeline.FramePost (cfgs T) (dats T (V0 m)) 0 (V0 m) r ∧ r.2.sem = fun _ => 0) :=
  Pipeline.θ_run_frameP_track (pcfgs (F := Ideal)) (fun _ => adm T) (dats T (V0 m)) 0 (launch0 (F := Ideal)) defs₀ Variants.none m ρ main
    (hbody := fun c => (body_obligation T (V0 m) c).loose) (hshare := fun c w => share_eq T (V0 m) c w) (howed := fun _ _ => rfl)
    (V := V0 m)
    (hmain := Pipeline.hmainP_prefixes (pcfgs (F := Ideal)) 0 defs₀ Variants.none m main [] (by simp [List.Forall]) (by simp [List.Forall]) main_chain)
    (hA := fun _ _ => rfl) (hpf := fun c k => tables_at T m hT c k)
    (hin := fun c => enter T (V0 m) c) (hout := fun c => leave T (V0 m) c)
    (Q' := fun r => Pipeline.FramePost (cfgs T) (dats T (V0 m)) 0 (V0 m) r ∧ r.2.sem = fun _ => 0) (hQ' := fun _ h => h)

/-- The arguments end unchanged. -/
theorem rest_arg (r : PUnit × MemSt nD τ sig (Elt Ideal)) (h : Pipeline.FramePost (cfgs T) (dats T (V0 m)) 0 (V0 m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) :=
  ⟨(h c).2 main_arg0 (show main_arg0 ∈ Pipeline.restRefs sig spec0 by decide), (h c).2 main_arg1 (show main_arg1 ∈ Pipeline.restRefs sig spec0 by decide), ((h c).1 (0 : Fin 7)).trans ((dats T (V0 m) 0 c).arrAt_in (0 : Fin 7) rfl _), ((h c).1 (1 : Fin 7)).trans ((dats T (V0 m) 0 c).arrAt_in (1 : Fin 7) rfl _), ((h c).1 (2 : Fin 7)).trans ((dats T (V0 m) 0 c).arrAt_in (2 : Fin 7) rfl _), ((h c).1 (3 : Fin 7)).trans ((dats T (V0 m) 0 c).arrAt_in (3 : Fin 7) rfl _), ((h c).1 (4 : Fin 7)).trans ((dats T (V0 m) 0 c).arrAt_in (4 : Fin 7) rfl _)⟩

end Cert.Kernel3Ideal.Exp

end
-- ==== Proof.Exp.Held.lean ====
module

public import proofs.«01_k».proof.Defs
public import proofs.«01_k».proof.Proof.Exp.Pre
public import proofs.«01_k».proof.Proof.Exp.Flash
@[expose] public section
namespace Cert.Kernel3Ideal.Exp

open Cert.Kernel3Ideal Cert.Experts
open Idealize.ShloMosaic Idealize.SL.Sem
open Idealize.ShloMosaic.TcCoe

/-! # The tables of a memory of the precondition, and the frame -/

/-- The tables a memory of the precondition holds. -/
theorem tab_of (m : (ℓ : Loc nD τ sig) → Buf (Elt Ideal) ℓ)
    (hpre : Cert.Pre_Kernel3Ideal (hPre_tables := preTables) m) : ∃ T : Tab, Holds T m := by
  let c0 : Dev nD := (⟨0, Nat.one_pos⟩ : Fin 1)
  have h := tables_of _ _ _ _ _ _ _ (hpre c0)
  refine ⟨⟨m ((c0.tc : Thread nD τ).loc main_arg0), m ((c0.tc : Thread nD τ).loc main_arg1), h.1, h.2⟩, fun c => ?_⟩
  obtain rfl : c = c0 := Subsingleton.elim (α := Fin 1) c c0
  exact ⟨rfl, rfl⟩

/-- The kernel runs and leaves its arguments unchanged. -/
theorem frame : Cert.quiescent_Kernel3Ideal (hKernel3Ideal := Cert.Kernel3Ideal.Gen.facts) (hPre_tables := preTables) := fun m g hpre => by
  obtain ⟨T, hT⟩ := tab_of m hpre
  exact (θ_run _ _ _).mono (fun r h => ⟨fun c => rest_arg T m r h.1 c, h.2⟩) (run_main T m g hT)

end Cert.Kernel3Ideal.Exp
-- ==== Proof.ExpB.Runs.lean ====
module

public import proofs.«01_k».proof.Proof.Gen.Kernel3.Skeleton
public import proofs.«01_k».proof.Proof.ExpB.Tables

@[expose] public section

set_option maxRecDepth 16384
set_option Elab.async false

noncomputable section

namespace Cert.Kernel3.Exp

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the machine the assertions speak of. -/
local notation "𝕄" => MT nD τ sig Unit (Elt Bits) ℕ (UR sig nD τ) ℕ

/-! # The body, run once

On whole staging buffers holding the two halves of the rows and the expert's weights, and on the three scratches, the body runs
to its end; the three theorems, one per way its conditions fall, find what it leaves. -/

variable (c : Dev nD) (i : grid0.Coords)
  (arg3 : Memref sig .tc .vmem S256x512 .bf16) (harg3 : arg3.IsWhole) (arg4 : Memref sig .tc .vmem S256x512 .bf16) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S256x512 .bf16) (harg8 : arg8.IsWhole) (arg9 : Memref sig .tc .vmem S256x512 .bf16) (harg9 : arg9.IsWhole)
  (E : S1280.Idx → BitVec 32) (N : S1.Idx → BitVec 32)
  (x0 : S256x512.Idx → Elt Bits .bf16) (x1 : S256x512.Idx → Elt Bits .bf16) (x2 : S1x1024x256.Idx → Elt Bits .f32) (x3 : S1x1024x256.Idx → Elt Bits .f32) (x4 : S1x256x1024.Idx → Elt Bits .f32)

/-- The inputs' staging buffers at their blocks, and the body's shares of the two tables. -/
def Ins : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (eTab.view.loc (c : Thread nD τ) ↦{fullShare.right} E) ∗ (nTab.view.loc (c : Thread nD τ) ↦{fullShare.right} N))

/-- The three scratches at given contents. -/
def Scr (xa0 : Buf (Elt Bits) ((c : Thread nD τ).loc cc0_scratch0)) (xa1 : Buf (Elt Bits) ((c : Thread nD τ).loc cc0_scratch1)) (xa2 : Buf (Elt Bits) ((c : Thread nD τ).loc cc0_scratch2)) : sProp 𝕄 :=
  iprop((gScr.view.loc (c : Thread nD τ) ↦{fullShare} xa0) ∗ (uScr.view.loc (c : Thread nD τ) ↦{fullShare} xa1) ∗ (dScr.view.loc (c : Thread nD τ) ↦{fullShare} xa2))

/-- The body on these buffers. -/
abbrev body : Prog (TpuEff nD τ sig (Elt Bits) Λ₀ .tc) PUnit :=
  cc0_experts i eTab (Memref.isWhole_whole _) nTab (Memref.isWhole_whole _) arg3 harg3 arg4 harg4 arg5 harg5 arg6 harg6 arg7 harg7 arg8 harg8 arg9 harg9 gScr (Memref.isWhole_whole _) uScr (Memref.isWhole_whole _) dScr (Memref.isWhole_whole _)

/-- The body's run at a postcondition. -/
abbrev runs (K : PUnit → sProp 𝕄) : sProp 𝕄 :=
  wp frame (wpE (defs₀ (F := Bits)) Variants.none c none) Set.univ (body i arg3 harg3 arg4 harg4 arg5 harg5 arg6 harg6 arg7 harg7 arg8 harg8 arg9 harg9) K

/-- One buffer of each output's window, through which its contents are stated. -/
abbrev VL : View sig .tc .vmem S256x512 .bf16 := (Memref.whole cc0_stg5_0 : Memref sig .tc .vmem S256x512 .bf16).view
abbrev VH : View sig .tc .vmem S256x512 .bf16 := (Memref.whole cc0_stg6_0 : Memref sig .tc .vmem S256x512 .bf16).view

set_option backward.proofsInPublic true in
set_option maxHeartbeats 8000000 in
/-- A block in use whose expert is new. -/
def runA (ha : Active i N) (hw : New i E) :
    Σ' (o8 o9 : List (View.Piece (Elt Bits) S256x512 .bf16)) (o0 : Buf (Elt Bits) ((c : Thread nD τ).loc cc0_scratch0)) (o1 : Buf (Elt Bits) ((c : Thread nD τ).loc cc0_scratch1)), { o2 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop(Ins c arg3 arg4 arg5 arg6 arg7 E N x0 x1 x2 x3 x4
          ∗ (∃ d, owns (c : Thread nD τ) arg8 fullShare d) ∗ (∃ d, owns (c : Thread nD τ) arg9 fullShare d)
          ∗ Scr c xa0 xa1 xa2
          ∗ (iprop(Ins c arg3 arg4 arg5 arg6 arg7 E N x0 x1 x2 x3 x4
              ∗ (∃ f, arg8.view.loc (c : Thread nD τ) ↦[arg8.view.set]{fullShare} arg8.view.writes (Elt Bits) f o8)
              ∗ (∃ f, arg9.view.loc (c : Thread nD τ) ↦[arg9.view.set]{fullShare} arg9.view.writes (Elt Bits) f o9)
              ∗ Scr c o0 o1 o2) -∗ K ⟨⟩))
          ⊢ runs c i arg3 harg3 arg4 harg4 arg5 harg5 arg6 harg6 arg7 harg7 arg8 harg8 arg9 harg9 K } :=
  ⟨_, _, _, _, _, fun xa0 xa1 xa2 K => by
    unfold owns Ins Scr runs body
    rw [cc0_experts_eq_skeleton]; unfold cc0_experts_skel
    iintro ⟨⟨H0, H1, H2, H3, H4, HT0, HT1⟩, ⟨%d8, %f8, -, HO8⟩, ⟨%d9, %f9, -, HO9⟩, ⟨HS0, HS1, HS2⟩, Hk⟩
    have hS0 : gScr.IsWhole := Memref.isWhole_whole _
    have hS1 : uScr.IsWhole := Memref.isWhole_whole _
    have hS2 : dScr.IsWhole := Memref.isWhole_whole _
    have hT0 : eTab.IsWhole := Memref.isWhole_whole _
    have hT1 : nTab.IsWhole := Memref.isWhole_whole _
    have hb : ¬ k0_cond3 i (nWord N) = 1#1 := fun h => (cond3_iff _ _).1 h ha
    sl_exec! (disch := first | (guard_target = k0_cond1 _ _ = _; exact ha) | (guard_target = ¬(k0_cond3 _ _ = _); exact hb) | (guard_target = Scalar.cmpi = _; exact hw))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO8]
    · iexists _; iexact HO8
    isplitl [HO9]
    · iexists _; iexact HO9
    isplitl [HS0]; · iexact HS0
    isplitl [HS1]; · iexact HS1
    iexact HS2⟩

/-- Its stores cover the outputs' blocks. -/
theorem coverAl (ha : Active i N) (hw : New i E) (y : S256x512.Idx) :
    ∃ pc ∈ (runA c i arg3 harg3 arg4 harg4 arg5 harg5 arg6 harg6 arg7 harg7 arg8 harg8 arg9 harg9 E N x0 x1 x2 x3 x4 ha hw).1, y ∈ pc.1.set :=
  View.cover_of_tiledL (runA c i arg3 harg3 arg4 harg4 arg5 harg5 arg6 harg6 arg7 harg7 arg8 harg8 arg9 harg9 E N x0 x1 x2 x3 x4 ha hw).1 S256x512.size (by sl_kernel_rfl) y
theorem coverAh (ha : Active i N) (hw : New i E) (y : S256x512.Idx) :
    ∃ pc ∈ (runA c i arg3 harg3 arg4 harg4 arg5 harg5 arg6 harg6 arg7 harg7 arg8 harg8 arg9 harg9 E N x0 x1 x2 x3 x4 ha hw).2.1, y ∈ pc.1.set :=
  View.cover_of_tiledL (runA c i arg3 harg3 arg4 harg4 arg5 harg5 arg6 harg6 arg7 harg7 arg8 harg8 arg9 harg9 E N x0 x1 x2 x3 x4 ha hw).2.1 S256x512.size (by sl_kernel_rfl) y

/-- The blocks it leaves in the outputs' buffers. -/
def outAl (ha : Active i N) (hw : New i E) : S256x512.Idx → Elt Bits .bf16 :=
  VL.read (Elt Bits) (VL.writes (Elt Bits) VL.junk (runA c i arg3 harg3 arg4 harg4 arg5 harg5 arg6 harg6 arg7 harg7 arg8 harg8 arg9 harg9 E N x0 x1 x2 x3 x4 ha hw).1)
def outAh (ha : Active i N) (hw : New i E) : S256x512.Idx → Elt Bits .bf16 :=
  VH.read (Elt Bits) (VH.writes (Elt Bits) VH.junk (runA c i arg3 harg3 arg4 harg4 arg5 harg5 arg6 harg6 arg7 harg7 arg8 harg8 arg9 harg9 E N x0 x1 x2 x3 x4 ha hw).2.1)

set_option backward.proofsInPublic true in
set_option maxHeartbeats 8000000 in
/-- A block in use whose expert is the one before. -/
def runB (xa0 : Buf (Elt Bits) ((c : Thread nD τ).loc cc0_scratch0)) (xa1 : Buf (Elt Bits) ((c : Thread nD τ).loc cc0_scratch1)) (xa2 : Buf (Elt Bits) ((c : Thread nD τ).loc cc0_scratch2)) (ha : Active i N) (hw : ¬ New i E) :
    Σ' (o8 : List (View.Piece (Elt Bits) S256x512 .bf16)), { o9 : List (View.Piece (Elt Bits) S256x512 .bf16) //
      ∀ (K : PUnit → sProp 𝕄),
        iprop(Ins c arg3 arg4 arg5 arg6 arg7 E N x0 x1 x2 x3 x4
          ∗ (∃ d, owns (c : Thread nD τ) arg8 fullShare d) ∗ (∃ d, owns (c : Thread nD τ) arg9 fullShare d)
          ∗ Scr c xa0 xa1 xa2
          ∗ (iprop(Ins c arg3 arg4 arg5 arg6 arg7 E N x0 x1 x2 x3 x4
              ∗ (∃ f, arg8.view.loc (c : Thread nD τ) ↦[arg8.view.set]{fullShare} arg8.view.writes (Elt Bits) f o8)
              ∗ (∃ f, arg9.view.loc (c : Thread nD τ) ↦[arg9.view.set]{fullShare} arg9.view.writes (Elt Bits) f o9)
              ∗ Scr c xa0 xa1 xa2) -∗ K ⟨⟩))
          ⊢ runs c i arg3 harg3 arg4 harg4 arg5 harg5 arg6 harg6 arg7 harg7 arg8 harg8 arg9 harg9 K } :=
  ⟨_, _, fun K => by
    unfold owns Ins Scr runs body
    rw [cc0_experts_eq_skeleton]; unfold cc0_experts_skel
    iintro ⟨⟨H0, H1, H2, H3, H4, HT0, HT1⟩, ⟨%d8, %f8, -, HO8⟩, ⟨%d9, %f9, -, HO9⟩, ⟨HS0, HS1, HS2⟩, Hk⟩
    have hS0 : gScr.IsWhole := Memref.isWhole_whole _
    have hS1 : uScr.IsWhole := Memref.isWhole_whole _
    have hS2 : dScr.IsWhole := Memref.isWhole_whole _
    have hT0 : eTab.IsWhole := Memref.isWhole_whole _
    have hT1 : nTab.IsWhole := Memref.isWhole_whole _
    have hb : ¬ k0_cond3 i (nWord N) = 1#1 := fun h => (cond3_iff _ _).1 h ha
    sl_exec! (disch := first | (guard_target = k0_cond1 _ _ = _; exact ha) | (guard_target = ¬(k0_cond3 _ _ = _); exact hb) | (guard_target = ¬(Scalar.cmpi = _); exact hw))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO8]
    · iexists _; iexact HO8
    isplitl [HO9]
    · iexists _; iexact HO9
    isplitl [HS0]; · iexact HS0
    isplitl [HS1]; · iexact HS1
    iexact HS2⟩

/-- Its stores cover the outputs' blocks. -/
theorem coverBl (xa0 : Buf (Elt Bits) ((c : Thread nD τ).loc cc0_scratch0)) (xa1 : Buf (Elt Bits) ((c : Thread nD τ).loc cc0_scratch1)) (xa2 : Buf (Elt Bits) ((c : Thread nD τ).loc cc0_scratch2)) (ha : Active i N) (hw : ¬ New i E) (y : S256x512.Idx) :
    ∃ pc ∈ (runB c i arg3 harg3 arg4 harg4 arg5 harg5 arg6 harg6 arg7 harg7 arg8 harg8 arg9 harg9 E N x0 x1 x2 x3 x4 xa0 xa1 xa2 ha hw).1, y ∈ pc.1.set :=
  View.cover_of_tiledL (runB c i arg3 harg3 arg4 harg4 arg5 harg5 arg6 harg6 arg7 harg7 arg8 harg8 arg9 harg9 E N x0 x1 x2 x3 x4 xa0 xa1 xa2 ha hw).1 S256x512.size (by sl_kernel_rfl) y
theorem coverBh (xa0 : Buf (Elt Bits) ((c : Thread nD τ).loc cc0_scratch0)) (xa1 : Buf (Elt Bits) ((c : Thread nD τ).loc cc0_scratch1)) (xa2 : Buf (Elt Bits) ((c : Thread nD τ).loc cc0_scratch2)) (ha : Active i N) (hw : ¬ New i E) (y : S256x512.Idx) :
    ∃ pc ∈ (runB c i arg3 harg3 arg4 harg4 arg5 harg5 arg6 harg6 arg7 harg7 arg8 harg8 arg9 harg9 E N x0 x1 x2 x3 x4 xa0 xa1 xa2 ha hw).2.1, y ∈ pc.1.set :=
  View.cover_of_tiledL (runB c i arg3 harg3 arg4 harg4 arg5 harg5 arg6 harg6 arg7 harg7 arg8 harg8 arg9 harg9 E N x0 x1 x2 x3 x4 xa0 xa1 xa2 ha hw).2.1 S256x512.size (by sl_kernel_rfl) y

/-- The blocks it leaves in the outputs' buffers. -/
def outBl (xa0 : Buf (Elt Bits) ((c : Thread nD τ).loc cc0_scratch0)) (xa1 : Buf (Elt Bits) ((c : Thread nD τ).loc cc0_scratch1)) (xa2 : Buf (Elt Bits) ((c : Thread nD τ).loc cc0_scratch2)) (ha : Active i N) (hw : ¬ New i E) : S256x512.Idx → Elt Bits .bf16 :=
  VL.read (Elt Bits) (VL.writes (Elt Bits) VL.junk (runB c i arg3 harg3 arg4 harg4 arg5 harg5 arg6 harg6 arg7 harg7 arg8 harg8 arg9 harg9 E N x0 x1 x2 x3 x4 xa0 xa1 xa2 ha hw).1)
def outBh (xa0 : Buf (Elt Bits) ((c : Thread nD τ).loc cc0_scratch0)) (xa1 : Buf (Elt Bits) ((c : Thread nD τ).loc cc0_scratch1)) (xa2 : Buf (Elt Bits) ((c : Thread nD τ).loc cc0_scratch2)) (ha : Active i N) (hw : ¬ New i E) : S256x512.Idx → Elt Bits .bf16 :=
  VH.read (Elt Bits) (VH.writes (Elt Bits) VH.junk (runB c i arg3 harg3 arg4 harg4 arg5 harg5 arg6 harg6 arg7 harg7 arg8 harg8 arg9 harg9 E N x0 x1 x2 x3 x4 xa0 xa1 xa2 ha hw).2.1)

set_option backward.proofsInPublic true in
set_option maxHeartbeats 8000000 in
/-- A block not in use. -/
def runC (z4 z5 : FVec Bits S256x512 .bf16) (h4 : k0_pay4 (F := Bits) = z4) (h5 : k0_pay5 (F := Bits) = z5) (ha : ¬ Active i N) :
    Σ' (o8 : List (View.Piece (Elt Bits) S256x512 .bf16)), { o9 : List (View.Piece (Elt Bits) S256x512 .bf16) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop(Ins c arg3 arg4 arg5 arg6 arg7 E N x0 x1 x2 x3 x4
          ∗ (∃ d, owns (c : Thread nD τ) arg8 fullShare d) ∗ (∃ d, owns (c : Thread nD τ) arg9 fullShare d)
          ∗ Scr c xa0 xa1 xa2
          ∗ (iprop(Ins c arg3 arg4 arg5 arg6 arg7 E N x0 x1 x2 x3 x4
              ∗ (∃ f, arg8.view.loc (c : Thread nD τ) ↦[arg8.view.set]{fullShare} arg8.view.writes (Elt Bits) f o8)
              ∗ (∃ f, arg9.view.loc (c : Thread nD τ) ↦[arg9.view.set]{fullShare} arg9.view.writes (Elt Bits) f o9)
              ∗ Scr c xa0 xa1 xa2) -∗ K ⟨⟩))
          ⊢ runs c i arg3 harg3 arg4 harg4 arg5 harg5 arg6 harg6 arg7 harg7 arg8 harg8 arg9 harg9 K } :=
  ⟨_, _, fun xa0 xa1 xa2 K => by
    unfold owns Ins Scr runs body
    rw [cc0_experts_eq_skeleton]; unfold cc0_experts_skel
    rw [h4, h5]
    iintro ⟨⟨H0, H1, H2, H3, H4, HT0, HT1⟩, ⟨%d8, %f8, -, HO8⟩, ⟨%d9, %f9, -, HO9⟩, ⟨HS0, HS1, HS2⟩, Hk⟩
    have hS0 : gScr.IsWhole := Memref.isWhole_whole _
    have hS1 : uScr.IsWhole := Memref.isWhole_whole _
    have hS2 : dScr.IsWhole := Memref.isWhole_whole _
    have hT0 : eTab.IsWhole := Memref.isWhole_whole _
    have hT1 : nTab.IsWhole := Memref.isWhole_whole _
    have hb : k0_cond3 i (nWord N) = 1#1 := (cond3_iff _ _).2 ha
    sl_exec! (disch := first | (guard_target = ¬(k0_cond1 _ _ = _); exact ha) | (guard_target = k0_cond3 _ _ = _; exact hb))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO8]
    · iexists _; iexact HO8
    isplitl [HO9]
    · iexists _; iexact HO9
    isplitl [HS0]; · iexact HS0
    isplitl [HS1]; · iexact HS1
    iexact HS2⟩

/-- Its stores cover the outputs' blocks. -/
theorem coverCl (z4 z5 : FVec Bits S256x512 .bf16) (h4 : k0_pay4 (F := Bits) = z4) (h5 : k0_pay5 (F := Bits) = z5) (ha : ¬ Active i N) (y : S256x512.Idx) :
    ∃ pc ∈ (runC c i arg3 harg3 arg4 harg4 arg5 harg5 arg6 harg6 arg7 harg7 arg8 harg8 arg9 harg9 E N x0 x1 x2 x3 x4 z4 z5 h4 h5 ha).1, y ∈ pc.1.set :=
  View.cover_of_tiledL (runC c i arg3 harg3 arg4 harg4 arg5 harg5 arg6 harg6 arg7 harg7 arg8 harg8 arg9 harg9 E N x0 x1 x2 x3 x4 z4 z5 h4 h5 ha).1 S256x512.size (by sl_kernel_rfl) y
theorem coverCh (z4 z5 : FVec Bits S256x512 .bf16) (h4 : k0_pay4 (F := Bits) = z4) (h5 : k0_pay5 (F := Bits) = z5) (ha : ¬ Active i N) (y : S256x512.Idx) :
    ∃ pc ∈ (runC c i arg3 harg3 arg4 harg4 arg5 harg5 arg6 harg6 arg7 harg7 arg8 harg8 arg9 harg9 E N x0 x1 x2 x3 x4 z4 z5 h4 h5 ha).2.1, y ∈ pc.1.set :=
  View.cover_of_tiledL (runC c i arg3 harg3 arg4 harg4 arg5 harg5 arg6 harg6 arg7 harg7 arg8 harg8 arg9 harg9 E N x0 x1 x2 x3 x4 z4 z5 h4 h5 ha).2.1 S256x512.size (by sl_kernel_rfl) y

/-- The blocks it leaves in the outputs' buffers. -/
def outCl (z4 z5 : FVec Bits S256x512 .bf16) (h4 : k0_pay4 (F := Bits) = z4) (h5 : k0_pay5 (F := Bits) = z5) (ha : ¬ Active i N) : S256x512.Idx → Elt Bits .bf16 :=
  VL.read (Elt Bits) (VL.writes (Elt Bits) VL.junk (runC c i arg3 harg3 arg4 harg4 arg5 harg5 arg6 harg6 arg7 harg7 arg8 harg8 arg9 harg9 E N x0 x1 x2 x3 x4 z4 z5 h4 h5 ha).1)
def outCh (z4 z5 : FVec Bits S256x512 .bf16) (h4 : k0_pay4 (F := Bits) = z4) (h5 : k0_pay5 (F := Bits) = z5) (ha : ¬ Active i N) : S256x512.Idx → Elt Bits .bf16 :=
  VH.read (Elt Bits) (VH.writes (Elt Bits) VH.junk (runC c i arg3 harg3 arg4 harg4 arg5 harg5 arg6 harg6 arg7 harg7 arg8 harg8 arg9 harg9 E N x0 x1 x2 x3 x4 z4 z5 h4 h5 ha).2.1)

end Cert.Kernel3.Exp

end
-- ==== Proof.ExpB.Held.lean ====
module

public import proofs.«01_k».proof.Defs
public import proofs.«01_k».proof.Proof.Exp.Pre
public import proofs.«01_k».proof.Proof.ExpB.Flash
@[expose] public section
namespace Cert.Kernel3.Exp

open Cert.Kernel3 Cert.Experts
open Idealize.ShloMosaic Idealize.SL.Sem
open Idealize.ShloMosaic.TcCoe

/-! # The tables of a memory of the precondition, and the frame -/

/-- The tables a memory of the precondition holds. -/
theorem tab_of (m : (ℓ : Loc nD τ sig) → Buf (Elt Bits) ℓ)
    (hpre : Cert.Pre_Kernel3 (hPre_tables := preTables) m) : ∃ T : Tab, Holds T m := by
  let c0 : Dev nD := (⟨0, Nat.one_pos⟩ : Fin 1)
  have h := tables_of _ _ _ _ _ _ _ (hpre c0)
  refine ⟨⟨m ((c0.tc : Thread nD τ).loc main_arg0), m ((c0.tc : Thread nD τ).loc main_arg1), h.1, h.2⟩, fun c => ?_⟩
  obtain rfl : c = c0 := Subsingleton.elim (α := Fin 1) c c0
  exact ⟨rfl, rfl⟩

/-- The kernel runs and leaves its arguments unchanged. -/
theorem frame : Cert.quiescent_Kernel3 (hKernel3 := Cert.Kernel3.Gen.facts) (hPre_tables := preTables) := fun m g hpre => by
  obtain ⟨T, hT⟩ := tab_of m hpre
  exact (θ_run _ _ _).mono (fun r h => ⟨fun c => rest_arg T m r h.1 c, h.2⟩) (run_main T m g hT)

end Cert.Kernel3.Exp
-- ==== Proof.Exp.Place.lean ====
module
public import proofs.«01_k».proof.Proof.Exp.Flash
public import Idealize.ShloMosaic.Lib.Pointwise
@[expose] public section
set_option maxRecDepth 16384
noncomputable section
namespace Cert.Kernel3Ideal.Exp

open Cert.Kernel3Ideal Cert.Kernel3Ideal.Gen
open Idealize.ShloMosaic
open Idealize.ShloMosaic.TcCoe Idealize.SL.Sem

/-! # What a point's words are, and which blocks its windows read -/

/-- A small word's signed value is its digits' value. -/
theorem toInt_small (v : BitVec 32) (h : v.toNat < 2 ^ 31) : v.toInt = (v.toNat : Int) := by
  rw [BitVec.toInt_eq_toNat_cond, if_pos (by omega)]
theorem toNat_of (v : BitVec 32) (k : ℕ) (h : v.toInt = (k : Int)) : v.toNat = k := by
  rw [BitVec.toInt_eq_toNat_cond] at h
  split at h <;> omega
theorem toNat_lit (k : ℕ) (h : k < 1280) : (BitVec.ofNat 32 k).toNat = k := by
  rw [BitVec.toNat_ofNat]; omega

variable (T : Tab) (t : Fin (cfg T).N)

theorem t_lt : t.val < 1280 := t.isLt
/-- The point as a block's number. -/
abbrev tF : Fin 1280 := ⟨t.val, t_lt T t⟩
/-- The expert of a block, the number of blocks in use. -/
abbrev eN (k : Fin 1280) : ℕ := (T.e (ix1 k)).toNat
abbrev eF (k : Fin 1280) : Fin 256 := ⟨eN T k, T.he _⟩
abbrev nN : ℕ := (T.n (ix1 0)).toNat

theorem crd0 : (crd T t 0).val = t.val := crd_val t

theorem off_2 : k0_off2 (crd T t) 0 = t.val := by
  show (BitVec.ofNat 32 (crd T t 0).val).toNat = t.val
  rw [crd0, toNat_lit _ (t_lt T t)]
theorem off_1 : k0_off1 (crd T t) 0 = t.val := off_2 T t

/-- The word the body reads for its block is the table's. -/
theorem eWord_eq : eWord (crd T t) T.e = T.e (ix1 (tF T t)) := by
  show T.e _ = T.e _
  refine congrArg T.e (funext fun a => Fin.ext ?_)
  fin_cases a
  show k0_off2 (crd T t) 0 + 1 * 0 = t.val
  rw [off_2]; omega

theorem off_3 : k0_off3 (crd T t) 0 = t.val - 1 := by
  show (Scalar.maxsi (Scalar.subi (BitVec.ofNat 32 (crd T t 0).val) 1#32) 0#32).toNat = t.val - 1
  rw [crd0]
  have ht := t_lt T t
  have h0 : Affine.IsInt (BitVec.ofNat 32 t.val) ((t.val : Int)) := Affine.ofNat _ (by omega)
  have h1 := Affine.subi (e := (t.val : Int) - 1) h0 (Affine.ofNat (e := 1) 1 (by omega)) (by omega)
  have h2 := Affine.maxsi (e := ((t.val - 1 : ℕ) : Int)) h1 (Affine.ofNat (e := 0) 0 (by omega)) (by omega)
  unfold Affine.IsInt at h2
  exact toNat_of _ _ h2

/-- And for the block before. -/
theorem pWord_eq : pWord (crd T t) T.e = T.e (ix1 ⟨t.val - 1, by have := t_lt T t; omega⟩) := by
  show T.e _ = T.e _
  refine congrArg T.e (funext fun a => Fin.ext ?_)
  fin_cases a
  show k0_off3 (crd T t) 0 + 1 * 0 = t.val - 1
  rw [off_3]; omega

/-- A block is in use exactly when its number is below the count. -/
theorem active_iff : Active (crd T t) T.n ↔ t.val < nN T := by
  have ht := t_lt T t
  have hn := T.hn (ix1 0)
  have hw : nWord T.n = T.n (ix1 0) := by
    show T.n _ = T.n _
    refine congrArg T.n (funext fun a => Fin.ext ?_)
    fin_cases a
    rfl
  unfold Active k0_cond1
  dsimp only
  rw [hw, crd0]
  have h : (BitVec.ofNat 32 t.val).slt (T.n (ix1 0)) = decide (t.val < nN T) := by
    rw [Bool.eq_iff_iff, BitVec.slt_iff_toInt_lt, toInt_small _ (by rw [toNat_lit _ ht]; omega), toInt_small _ (by omega), toNat_lit _ ht]
    simp
  show Scalar.cmpi .ne (Scalar.extui (BitVec.ofBool ((BitVec.ofNat 32 t.val).slt (T.n (ix1 0))))) 0#32 = 1#1 ↔ _
  rw [h]
  by_cases hd : t.val < nN T
  · simp only [hd, decide_true, iff_true]; decide
  · simp only [hd, decide_false, iff_false]; decide

/-- Where the expert is not new the block has one before it, of the same expert. -/
theorem not_new (hw : ¬ New (crd T t) T.e) : t.val ≠ 0 ∧ T.e (ix1 (tF T t)) = T.e (ix1 ⟨t.val - 1, by have := t_lt T t; omega⟩) := by
  constructor
  · intro h
    exact hw (first T t h).2
  · by_contra hne
    apply hw
    unfold New
    rw [eWord_eq, pWord_eq]
    have hb : Scalar.cmpi .ne (T.e (ix1 (tF T t))) (T.e (ix1 ⟨t.val - 1, by have := t_lt T t; omega⟩)) = 1#1 := by
      show BitVec.ofBool (T.e (ix1 (tF T t)) != T.e (ix1 ⟨t.val - 1, by have := t_lt T t; omega⟩)) = 1#1
      rw [bne_iff_ne.2 hne]; rfl
    rw [hb]
    generalize Scalar.cmpi .eq (BitVec.ofNat 32 (crd T t 0).val) 0#32 = b
    revert b
    decide

/-- The rows' windows read the block's own rows, where it is in use. -/
theorem idx_0 (h : t.val < nN T) : ((cfg T).win (0 : Fin 7)).index t 0 = t.val := by
  have ht := t_lt T t
  have hn := T.hn (ix1 0)
  have h0 : Affine.IsInt (BitVec.ofNat 32 (crd T t 0).val) ((t.val : Int)) := Affine.ofNat _ ⟨by rw [crd0], by rw [crd0]; omega⟩
  have h1 := Affine.subi (e := ((T.n (ix1 0)).toNat : Int) - 1) (isInt_of _ hn.2) (Affine.ofNat (e := 1) 1 (by omega)) (by omega)
  have h2 := Affine.minsi (e := (t.val : Int)) h0 h1 (by unfold nN at h; omega)
  unfold Affine.IsInt at h2
  have hw : (pf T).at 1 (Rect.unit (s := S1) ![0] S1.size inb_S1_S1_0) numel1_S1 = T.n (ix1 0) := by
    show T.n _ = T.n _
    refine congrArg T.n (funext fun a => Fin.ext ?_)
    fin_cases a
    rfl
  show (Scalar.minsi (BitVec.ofNat 32 (crd T t 0).val) (Scalar.subi ((pf T).at 1 (Rect.unit (s := S1) ![0] S1.size inb_S1_S1_0) numel1_S1) 1#32)).toNat = t.val
  rw [hw]
  exact toNat_of _ _ h2
theorem idx_1 (h : t.val < nN T) : ((cfg T).win (1 : Fin 7)).index t 0 = t.val := idx_0 T t h

/-- The weights' windows read the block's expert's. -/
theorem idx_2 : ((cfg T).win (2 : Fin 7)).index t 0 = eN T (tF T t) := by
  show ((pf T).at 0 (Rect.unit (s := S1280) (k0_off1 (crd T t)) S1.size (k0_off1_inb (crd T t))) numel1_S1).toNat = _
  show (T.e _).toNat = (T.e _).toNat
  refine congrArg (fun y => (T.e y).toNat) (funext fun a => Fin.ext ?_)
  fin_cases a
  show k0_off1 (crd T t) 0 + 1 * 0 = t.val
  rw [off_1]; omega
theorem idx_3 : ((cfg T).win (3 : Fin 7)).index t 0 = eN T (tF T t) := idx_2 T t
theorem idx_4 : ((cfg T).win (4 : Fin 7)).index t 0 = eN T (tF T t) := idx_2 T t

/-- The outputs' windows are the block's own rows. -/
theorem idx_5 : ((cfg T).win (5 : Fin 7)).index t 0 = t.val := by
  show (BitVec.ofNat 32 (crd T t 0).val).toNat = t.val
  rw [crd0, toNat_lit _ (t_lt T t)]
theorem idx_6 : ((cfg T).win (6 : Fin 7)).index t 0 = t.val := idx_5 T t

end Cert.Kernel3Ideal.Exp
-- ==== Proof.Exp.Spec.lean ====
module

public import Idealize.ShloMosaic.PureOps.Ideal
public import Idealize.ShloMosaic.Lib.Pointwise
@[expose] public section
noncomputable section
namespace Cert.Experts

open Idealize.ShloMosaic

/-! # One row through one expert -/

/-- A row times a matrix. -/
def dot {n k : ℕ} (x : Fin n → EReal) (w : Fin n → Fin k → EReal) (f : Fin k) : EReal := ∑ d : Fin n, x d * w d f

/-- The gated hidden row. -/
def gated (g u : Fin 256 → EReal) (f : Fin 256) : EReal := g f * Ideal.div 1 (1 + Ideal.exp (-g f)) * u f

/-- The expert's feed-forward: gate, up-projection, down-projection. -/
def ffn (x : Fin 1024 → EReal) (w1 w3 : Fin 1024 → Fin 256 → EReal) (w2 : Fin 256 → Fin 1024 → EReal) (n : Fin 1024) : EReal :=
  dot (gated (dot x w1) (dot x w3)) w2 n

/-- Two half rows as one. -/
def join (a b : Fin 512 → EReal) (d : Fin 1024) : EReal := if h : d.val < 512 then a ⟨d.val, h⟩ else b ⟨d.val - 512, by omega⟩

/-- The product of a joined row is the sum of the halves' products. -/
theorem dot_join {k : ℕ} (a b : Fin 512 → EReal) (w : Fin 1024 → Fin k → EReal) (f : Fin k) :
    dot (join a b) w f = (∑ d : Fin 512, a d * w ⟨d.val, by omega⟩ f) + ∑ d : Fin 512, b d * w ⟨512 + d.val, by omega⟩ f := by
  unfold dot
  rw [show (∑ d : Fin 1024, join a b d * w d f) = ∑ d : Fin (512 + 512), join a b d * w d f from rfl, Fin.sum_univ_add]
  refine congrArg₂ (fun a b : EReal => a + b) (Finset.sum_congr rfl fun d _ => ?_) (Finset.sum_congr rfl fun d _ => ?_)
  · have : join a b (Fin.castAdd 512 d) = a d := dif_pos d.isLt
    rw [this]; rfl
  · have : join a b (Fin.natAdd 512 d) = b d := by
      unfold join
      rw [dif_neg (show ¬ (Fin.natAdd 512 d).val < 512 by simp)]
      exact congrArg b (Fin.ext (by simp))
    rw [this]; rfl

/-! # The whole call -/

section
variable (E : (⟨1, ![1280]⟩ : Shape).Idx → BitVec 32) (N : (⟨1, ![1]⟩ : Shape).Idx → BitVec 32) (A B : (⟨2, ![327680, 512]⟩ : Shape).Idx → EReal)
  (W1 W3 : (⟨3, ![256, 1024, 256]⟩ : Shape).Idx → EReal) (W2 : (⟨3, ![256, 256, 1024]⟩ : Shape).Idx → EReal)

/-- The expert of a block of rows. -/
def expert (k : Fin 1280) : Fin 256 := ⟨(E (ix1 k)).toNat % 256, Nat.mod_lt _ (by norm_num)⟩
/-- Row `r` of block `k`. -/
def rowOf (k : Fin 1280) (r : Fin 256) : Fin 327680 := ⟨256 * k.val + r.val, by omega⟩
/-- That row of the input, from its two halves. -/
def inRow (k : Fin 1280) (r : Fin 256) : Fin 1024 → EReal := join (fun d => A (ix2 (rowOf k r) d)) (fun d => B (ix2 (rowOf k r) d))
/-- An element of the result: the block's expert on the row, zero in the blocks not in use. -/
def value (k : Fin 1280) (r : Fin 256) (n : Fin 1024) : EReal :=
  if k.val < (N (ix1 0)).toNat then
    ffn (inRow A B k r) (fun d f => W1 (ix3 (expert E k) d f)) (fun d f => W3 (ix3 (expert E k) d f)) (fun f n => W2 (ix3 (expert E k) f n)) n
  else 0
/-- The result's two half arrays: lanes `o`, `o + 1`, … of every row. -/
def half (o : ℕ) (ho : o ≤ 512) (y : (⟨2, ![327680, 512]⟩ : Shape).Idx) : EReal :=
  value E N A B W1 W3 W2 ⟨(y 0).val / 256, by have : (y 0).val < 327680 := (y 0).isLt; omega⟩ ⟨(y 0).val % 256, Nat.mod_lt _ (by norm_num)⟩ ⟨o + (y 1).val, by have : (y 1).val < 512 := (y 1).isLt; omega⟩
end

end Cert.Experts
-- ==== Proof.Exp.Pay.lean ====
module
public import proofs.«01_k».proof.Proof.Exp.Spec
public import proofs.«01_k».proof.Proof.Exp.Flash
@[expose] public section
set_option maxRecDepth 16384
set_option Elab.async false
noncomputable section
namespace Cert.Kernel3Ideal.Exp

open Cert.Kernel3Ideal Cert.Kernel3Ideal.Gen Cert.Experts
open Idealize.ShloMosaic Idealize.ShloMosaic.TcCoe

/-! # The body's arithmetic, element by element -/

theorem pay6_at (x : Vec Ideal S1x1024x256 .f32) (d : Fin 1024) (f : Fin 256) : k0_pay6 x (ix2 d f) = x (ix3 0 d f) := by pointwise [k0_pay6]
theorem pay7_at (x : Vec Ideal S1x1024x256 .f32) (d : Fin 1024) (f : Fin 256) : k0_pay7 x (ix2 d f) = x (ix3 0 d f) := by pointwise [k0_pay7]
theorem pay8_at (x : Vec Ideal S1x256x1024 .f32) (f : Fin 256) (n : Fin 1024) : k0_pay8 x (ix2 f n) = x (ix3 0 f n) := by pointwise [k0_pay8]
theorem pay4_at (r : Fin 256) (n : Fin 512) : k0_pay4 (F := Ideal) (ix2 r n) = 0 := by pointwise [k0_pay4]
theorem pay5_at (r : Fin 256) (n : Fin 512) : k0_pay5 (F := Ideal) (ix2 r n) = 0 := by pointwise [k0_pay5]

theorem pay2_at (h : FVec Ideal S256x256 .bf16) (w : Vec Ideal S256x1024 .bf16) (r : Fin 256) (n : Fin 512) :
    k0_pay2 h w (ix2 r n) = dot (fun f => h (ix2 r f)) (fun f n => w (ix2 f n)) ⟨n.val, by omega⟩ := by
  pointwise [k0_pay2, k0_pay1, dot]
theorem pay3_at (h : FVec Ideal S256x256 .bf16) (w : Vec Ideal S256x1024 .bf16) (r : Fin 256) (n : Fin 512) :
    k0_pay3 h w (ix2 r n) = dot (fun f => h (ix2 r f)) (fun f n => w (ix2 f n)) ⟨512 + n.val, by omega⟩ := by
  pointwise [k0_pay3, k0_pay1, dot]
theorem pay9_at (a b : Vec Ideal S256x512 .bf16) (w0 w1 u0 u1 : Vec Ideal S512x256 .bf16) (r f : Fin 256) :
    k0_pay9 a b w0 w1 u0 u1 (ix2 r f) =
      gated (fun f => (∑ d : Fin 512, a (ix2 r d) * w0 (ix2 d f)) + ∑ d : Fin 512, b (ix2 r d) * w1 (ix2 d f))
        (fun f => (∑ d : Fin 512, a (ix2 r d) * u0 (ix2 d f)) + ∑ d : Fin 512, b (ix2 r d) * u1 (ix2 d f)) f := by
  pointwise [k0_pay9, gated]
  rw [zero_sub]

end Cert.Kernel3Ideal.Exp
-- ==== Proof.Exp.Cont.lean ====
module
public import proofs.«01_k».proof.Proof.Exp.Pay
public import Idealize.ShloMosaic.Lib.WritesUnit
public import Idealize.ShloMosaic.Lib.VecWindow
@[expose] public section
set_option maxRecDepth 16384
set_option Elab.async false
noncomputable section
namespace Cert.Kernel3Ideal.Exp

open Cert.Kernel3Ideal Cert.Kernel3Ideal.Gen Cert.Experts
open Idealize.ShloMosaic Idealize.ShloMosaic.TcCoe

/-! # What a run of the body leaves in the scratches and in the outputs' blocks, element by element -/

/-- A load of rows `o`, `o + 1`, … of a matrix. -/
theorem rd {κ : Kind} {sp : Space} {R w : ℕ} {e : EltTy} {sg : RefSig} {Val : EltTy → Type} (v : View sg κ sp (⟨2, ![R, w]⟩ : Shape) e) (f : v.ty.Contents Val) (o h : ℕ)
    (inb : ∀ a, (![o, 0] : Fin 2 → ℕ) a + (![h, w] : Fin 2 → ℕ) a ≤ (⟨2, ![R, w]⟩ : Shape).size a) (d : Fin h) (x : Fin w) (d' : Fin R) (hd : d'.val = o + d.val) :
    View.readAt Val v (Rect.unit (s := (⟨2, ![R, w]⟩ : Shape)) ![o, 0] ![h, w] inb).toLoadRect f (ix2 d x) = v.read Val f (ix2 d' x) := by
  show v.read Val f _ = v.read Val f _
  refine congrArg (v.read Val f) (funext fun a => Fin.ext ?_)
  fin_cases a
  · show o + 1 * d.val = d'.val; omega
  · show 0 + 1 * x.val = x.val; omega

/-- The hidden row of the two half rows and the two first weights. -/
abbrev hid (x0 x1 : S256x512.Idx → Elt Ideal .bf16) (g u : Fin 1024 → Fin 256 → EReal) (r : Fin 256) : Fin 256 → EReal :=
  gated (dot (join (fun d => x0 (ix2 r d)) (fun d => x1 (ix2 r d))) g) (dot (join (fun d => x0 (ix2 r d)) (fun d => x1 (ix2 r d))) u)

/-- The hidden block of weights read in halves. -/
theorem pay9_hid (x0 x1 : S256x512.Idx → Elt Ideal .bf16) (a b : Vec Ideal S256x512 .bf16) (w0 w1 u0 u1 : Vec Ideal S512x256 .bf16) (g u : Fin 1024 → Fin 256 → EReal)
    (ha : a = x0) (hb : b = x1)
    (h0 : ∀ (d : Fin 512) (f : Fin 256), w0 (ix2 d f) = g ⟨d.val, by omega⟩ f) (h1 : ∀ (d : Fin 512) (f : Fin 256), w1 (ix2 d f) = g ⟨512 + d.val, by omega⟩ f)
    (k0 : ∀ (d : Fin 512) (f : Fin 256), u0 (ix2 d f) = u ⟨d.val, by omega⟩ f) (k1 : ∀ (d : Fin 512) (f : Fin 256), u1 (ix2 d f) = u ⟨512 + d.val, by omega⟩ f)
    (r f : Fin 256) : k0_pay9 a b w0 w1 u0 u1 (ix2 r f) = hid x0 x1 g u r f := by
  subst ha; subst hb
  rw [pay9_at]
  have hg : dot (join (fun d => a (ix2 r d)) (fun d => b (ix2 r d))) g = fun f => (∑ d : Fin 512, a (ix2 r d) * w0 (ix2 d f)) + ∑ d : Fin 512, b (ix2 r d) * w1 (ix2 d f) := by
    funext f; rw [dot_join]; simp only [h0, h1]
  have hu : dot (join (fun d => a (ix2 r d)) (fun d => b (ix2 r d))) u = fun f => (∑ d : Fin 512, a (ix2 r d) * u0 (ix2 d f)) + ∑ d : Fin 512, b (ix2 r d) * u1 (ix2 d f) := by
    funext f; rw [dot_join]; simp only [k0, k1]
  rw [hid, hg, hu]

variable (c : Dev nD) (i : grid0.Coords)
  (arg3 : Memref sig .tc .vmem S256x512 .bf16) (harg3 : arg3.IsWhole) (arg4 : Memref sig .tc .vmem S256x512 .bf16) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S256x512 .bf16) (harg8 : arg8.IsWhole) (arg9 : Memref sig .tc .vmem S256x512 .bf16) (harg9 : arg9.IsWhole)
  (E : S1280.Idx → BitVec 32) (N : S1.Idx → BitVec 32)
  (x0 : S256x512.Idx → Elt Ideal .bf16) (x1 : S256x512.Idx → Elt Ideal .bf16) (x2 : S1x1024x256.Idx → Elt Ideal .f32) (x3 : S1x1024x256.Idx → Elt Ideal .f32) (x4 : S1x256x1024.Idx → Elt Ideal .f32)

/-- The scratches' contents as matrices. -/
abbrev gOf (f : Buf (Elt Ideal) ((c : Thread nD τ).loc cc0_scratch0)) (d : Fin 1024) (k : Fin 256) : EReal := gScr.view.read (Elt Ideal) f (ix2 d k)
abbrev uOf (f : Buf (Elt Ideal) ((c : Thread nD τ).loc cc0_scratch1)) (d : Fin 1024) (k : Fin 256) : EReal := uScr.view.read (Elt Ideal) f (ix2 d k)
abbrev dOf (f : Buf (Elt Ideal) ((c : Thread nD τ).loc cc0_scratch2)) (k : Fin 256) (n : Fin 1024) : EReal := dScr.view.read (Elt Ideal) f (ix2 k n)

/-! ### A block whose expert is new -/

theorem gA (d : Fin 1024) (k : Fin 256) : gScr.view.read (Elt Ideal) (gScr.view.writes (Elt Ideal) gScr.view.junk (runA.sl.HS0_1 arg5 x2)) (ix2 d k) = x2 (ix3 0 d k) := by
  unfold runA.sl.HS0_1
  refine (congrFun (View.read_writes_full _ _ _ _ _) _).trans ((pay6_at _ d k).trans ?_)
  exact congrFun (View.readAt_rep_full _ _ _) _
theorem uA (d : Fin 1024) (k : Fin 256) : uScr.view.read (Elt Ideal) (uScr.view.writes (Elt Ideal) uScr.view.junk (runA.sl.HS1_1 arg6 x3)) (ix2 d k) = x3 (ix3 0 d k) := by
  unfold runA.sl.HS1_1
  refine (congrFun (View.read_writes_full _ _ _ _ _) _).trans ((pay7_at _ d k).trans ?_)
  exact congrFun (View.readAt_rep_full _ _ _) _
theorem dA (k : Fin 256) (n : Fin 1024) : dScr.view.read (Elt Ideal) (dScr.view.writes (Elt Ideal) dScr.view.junk (runA.sl.HS2_1 arg7 x4)) (ix2 k n) = x4 (ix3 0 k n) := by
  unfold runA.sl.HS2_1
  refine (congrFun (View.read_writes_full _ _ _ _ _) _).trans ((pay8_at _ k n).trans ?_)
  exact congrFun (View.readAt_rep_full _ _ _) _

set_option maxHeartbeats 1000000 in
theorem hidA (r f : Fin 256) : runA.sl.r_3 arg3 arg4 arg5 arg6 x0 x1 x2 x3 (ix2 r f) = hid x0 x1 (fun d k => x2 (ix3 0 d k)) (fun d k => x3 (ix3 0 d k)) r f := by
  unfold runA.sl.r_3
  refine pay9_hid x0 x1 _ _ _ _ _ _ _ _ (View.readAt_rep_full _ _ _) (View.readAt_rep_full _ _ _) (fun d f => ?_) (fun d f => ?_) (fun d f => ?_) (fun d f => ?_) r f
  · exact (rd gScr.view (gScr.view.writes (Elt Ideal) gScr.view.junk (runA.sl.HS0_1 arg5 x2)) 0 512 inb_S1024x256_S512x256_0_0 d f ⟨d.val, by omega⟩ (by simp)).trans (gA arg5 x2 ⟨d.val, by omega⟩ f)
  · exact (rd gScr.view (gScr.view.writes (Elt Ideal) gScr.view.junk (runA.sl.HS0_1 arg5 x2)) 512 512 inb_S1024x256_S512x256_512_0 d f ⟨512 + d.val, by omega⟩ rfl).trans (gA arg5 x2 ⟨512 + d.val, by omega⟩ f)
  · exact (rd uScr.view (uScr.view.writes (Elt Ideal) uScr.view.junk (runA.sl.HS1_1 arg6 x3)) 0 512 inb_S1024x256_S512x256_0_0 d f ⟨d.val, by omega⟩ (by simp)).trans (uA arg6 x3 ⟨d.val, by omega⟩ f)
  · exact (rd uScr.view (uScr.view.writes (Elt Ideal) uScr.view.junk (runA.sl.HS1_1 arg6 x3)) 512 512 inb_S1024x256_S512x256_512_0 d f ⟨512 + d.val, by omega⟩ rfl).trans (uA arg6 x3 ⟨512 + d.val, by omega⟩ f)

theorem downA (k : Fin 256) (n : Fin 1024) : runA.sl.v40 arg7 x4 (ix2 k n) = x4 (ix3 0 k n) := by
  unfold runA.sl.v40
  exact (rd dScr.view (dScr.view.writes (Elt Ideal) dScr.view.junk (runA.sl.HS2_1 arg7 x4)) 0 256 inb_S256x1024_S256x1024_0_0 k n k (by simp)).trans (dA arg7 x4 k n)

section
variable (ha : Active i N) (hw : New i E) (r : Fin 256) (n : Fin 512)

theorem outAl_at : outAl c i arg3 harg3 arg4 harg4 arg5 harg5 arg6 harg6 arg7 harg7 arg8 harg8 arg9 harg9 E N x0 x1 x2 x3 x4 ha hw (ix2 r n) = dot (hid x0 x1 (fun d k => x2 (ix3 0 d k)) (fun d k => x3 (ix3 0 d k)) r) (fun k n => x4 (ix3 0 k n)) ⟨n.val, by omega⟩ := by
  have hl : (runA c i arg3 harg3 arg4 harg4 arg5 harg5 arg6 harg6 arg7 harg7 arg8 harg8 arg9 harg9 E N x0 x1 x2 x3 x4 ha hw).1 = runA.sl.HO8_1 arg3 arg4 arg5 arg6 arg7 x0 x1 x2 x3 x4 := by unfold runA; rfl
  unfold outAl
  rw [hl]
  unfold runA.sl.HO8_1
  refine (congrFun (View.read_writes_full _ _ _ _ _) _).trans ((pay2_at _ _ r n).trans ?_)
  simp only [hidA, downA]

theorem outAh_at : outAh c i arg3 harg3 arg4 harg4 arg5 harg5 arg6 harg6 arg7 harg7 arg8 harg8 arg9 harg9 E N x0 x1 x2 x3 x4 ha hw (ix2 r n) = dot (hid x0 x1 (fun d k => x2 (ix3 0 d k)) (fun d k => x3 (ix3 0 d k)) r) (fun k n => x4 (ix3 0 k n)) ⟨512 + n.val, by omega⟩ := by
  have hl : (runA c i arg3 harg3 arg4 harg4 arg5 harg5 arg6 harg6 arg7 harg7 arg8 harg8 arg9 harg9 E N x0 x1 x2 x3 x4 ha hw).2.1 = runA.sl.HO9_1 arg3 arg4 arg5 arg6 arg7 x0 x1 x2 x3 x4 := by unfold runA; rfl
  unfold outAh
  rw [hl]
  unfold runA.sl.HO9_1
  refine (congrFun (View.read_writes_full _ _ _ _ _) _).trans ((pay3_at _ _ r n).trans ?_)
  simp only [hidA, downA]

end

/-! ### A block whose expert is the one before -/

section
variable (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (ha : Active i N) (hw : ¬ New i E) (r : Fin 256) (n : Fin 512)

theorem hidB (f : Fin 256) : runB.sl.r_3 c arg3 arg4 x0 x1 xa0 xa1 (ix2 r f) = hid x0 x1 (gOf c xa0) (uOf c xa1) r f := by
  unfold runB.sl.r_3
  refine pay9_hid x0 x1 _ _ _ _ _ _ _ _ (View.readAt_rep_full _ _ _) (View.readAt_rep_full _ _ _) (fun d f => ?_) (fun d f => ?_) (fun d f => ?_) (fun d f => ?_) r f
  · exact rd gScr.view _ 0 512 _ d f ⟨d.val, by omega⟩ (by simp)
  · exact rd gScr.view _ 512 512 _ d f ⟨512 + d.val, by omega⟩ rfl
  · exact rd uScr.view _ 0 512 _ d f ⟨d.val, by omega⟩ (by simp)
  · exact rd uScr.view _ 512 512 _ d f ⟨512 + d.val, by omega⟩ rfl

theorem downB (k : Fin 256) (n : Fin 1024) : runB.sl.r_4 c xa2 (ix2 k n) = dOf c xa2 k n := by
  unfold runB.sl.r_4
  exact rd dScr.view _ 0 256 _ k n k (by simp)

theorem outBl_at : outBl c i arg3 harg3 arg4 harg4 arg5 harg5 arg6 harg6 arg7 harg7 arg8 harg8 arg9 harg9 E N x0 x1 x2 x3 x4 xa0 xa1 xa2 ha hw (ix2 r n) = dot (hid x0 x1 (gOf c xa0) (uOf c xa1) r) (dOf c xa2) ⟨n.val, by omega⟩ := by
  have hl : (runB c i arg3 harg3 arg4 harg4 arg5 harg5 arg6 harg6 arg7 harg7 arg8 harg8 arg9 harg9 E N x0 x1 x2 x3 x4 xa0 xa1 xa2 ha hw).1 = runB.sl.HO8_1 c arg3 arg4 x0 x1 xa0 xa1 xa2 := by unfold runB; rfl
  unfold outBl
  rw [hl]
  unfold runB.sl.HO8_1
  refine (congrFun (View.read_writes_full _ _ _ _ _) _).trans ((pay2_at _ _ r n).trans ?_)
  simp only [hidB, downB]

theorem outBh_at : outBh c i arg3 harg3 arg4 harg4 arg5 harg5 arg6 harg6 arg7 harg7 arg8 harg8 arg9 harg9 E N x0 x1 x2 x3 x4 xa0 xa1 xa2 ha hw (ix2 r n) = dot (hid x0 x1 (gOf c xa0) (uOf c xa1) r) (dOf c xa2) ⟨512 + n.val, by omega⟩ := by
  have hl : (runB c i arg3 harg3 arg4 harg4 arg5 harg5 arg6 harg6 arg7 harg7 arg8 harg8 arg9 harg9 E N x0 x1 x2 x3 x4 xa0 xa1 xa2 ha hw).2.1 = runB.sl.HO9_1 c arg3 arg4 x0 x1 xa0 xa1 xa2 := by unfold runB; rfl
  unfold outBh
  rw [hl]
  unfold runB.sl.HO9_1
  refine (congrFun (View.read_writes_full _ _ _ _ _) _).trans ((pay3_at _ _ r n).trans ?_)
  simp only [hidB, downB]

end

/-! ### A block not in use -/

section
variable (ha : ¬ Active i N) (r : Fin 256) (n : Fin 512)

theorem outCl_at : outCl c i arg3 harg3 arg4 harg4 arg5 harg5 arg6 harg6 arg7 harg7 arg8 harg8 arg9 harg9 E N x0 x1 x2 x3 x4 k0_pay4 k0_pay5 rfl rfl ha (ix2 r n) = 0 := by
  have hl : (runC c i arg3 harg3 arg4 harg4 arg5 harg5 arg6 harg6 arg7 harg7 arg8 harg8 arg9 harg9 E N x0 x1 x2 x3 x4 k0_pay4 k0_pay5 rfl rfl ha).1 = runC.sl.HO8_1 k0_pay4 := by unfold runC; rfl
  unfold outCl
  rw [hl]
  unfold runC.sl.HO8_1
  exact (congrFun (View.read_writes_full _ _ _ _ _) _).trans (pay4_at r n)

theorem outCh_at : outCh c i arg3 harg3 arg4 harg4 arg5 harg5 arg6 harg6 arg7 harg7 arg8 harg8 arg9 harg9 E N x0 x1 x2 x3 x4 k0_pay4 k0_pay5 rfl rfl ha (ix2 r n) = 0 := by
  have hl : (runC c i arg3 harg3 arg4 harg4 arg5 harg5 arg6 harg6 arg7 harg7 arg8 harg8 arg9 harg9 E N x0 x1 x2 x3 x4 k0_pay4 k0_pay5 rfl rfl ha).2.1 = runC.sl.HO9_1 k0_pay5 := by unfold runC; rfl
  unfold outCh
  rw [hl]
  unfold runC.sl.HO9_1
  exact (congrFun (View.read_writes_full _ _ _ _ _) _).trans (pay5_at r n)

end

end Cert.Kernel3Ideal.Exp
-- ==== Proof.Exp.Load.lean ====
module
public import proofs.«01_k».proof.Proof.Exp.Place
public import proofs.«01_k».proof.Proof.Exp.Cont
@[expose] public section
set_option maxRecDepth 16384
noncomputable section
namespace Cert.Kernel3Ideal.Exp

open Cert.Kernel3Ideal Cert.Kernel3Ideal.Gen Cert.Experts
open Idealize.ShloMosaic
open Idealize.ShloMosaic.TcCoe Idealize.SL.Sem

/-! # What the windows read at a point, and what a new expert leaves in the scratches -/

variable (T : Tab) (V : (c : Dev nD) → (b : Ref sig .tc) → Buf (Elt Ideal) ((c.tc : Thread nD τ).loc b)) (c : Dev nD) (t : Fin (cfg T).N)

theorem expert_val : (expert T.e (tF T t)).val = eN T (tF T t) := Nat.mod_eq_of_lt (T.he _)

/-- The rows of a block in use. -/
theorem blk0 (h : t.val < nN T) (r : Fin 256) (d : Fin 512) : iblk T V c (0 : Fin 7) t (ix2 r d) = V c main_arg2 (ix2 (rowOf (tF T t) r) d) := by
  unfold iblk
  rw [View.read_apply]
  show V c main_arg2 _ = V c main_arg2 _
  congr 1
  funext a
  apply Fin.ext
  match a with
  | ⟨0, _⟩ =>
    show ((cfg T).win (0 : Fin 7)).index t 0 * 256 + 1 * r.val = 256 * t.val + r.val
    rw [idx_0 T t h]; omega
  | ⟨1, _⟩ =>
    show 0 * 512 + 1 * d.val = d.val
    omega

/-- The rows of a block in use. -/
theorem blk1 (h : t.val < nN T) (r : Fin 256) (d : Fin 512) : iblk T V c (1 : Fin 7) t (ix2 r d) = V c main_arg3 (ix2 (rowOf (tF T t) r) d) := by
  unfold iblk
  rw [View.read_apply]
  show V c main_arg3 _ = V c main_arg3 _
  congr 1
  funext a
  apply Fin.ext
  match a with
  | ⟨0, _⟩ =>
    show ((cfg T).win (1 : Fin 7)).index t 0 * 256 + 1 * r.val = 256 * t.val + r.val
    rw [idx_1 T t h]; omega
  | ⟨1, _⟩ =>
    show 0 * 512 + 1 * d.val = d.val
    omega

/-- The block's expert's weights. -/
theorem blk2 (d : Fin 1024) (f : Fin 256) : iblk T V c (2 : Fin 7) t (ix3 0 d f) = V c main_arg4 (ix3 (expert T.e (tF T t)) d f) := by
  unfold iblk
  rw [View.read_apply]
  show V c main_arg4 _ = V c main_arg4 _
  congr 1
  funext a
  apply Fin.ext
  match a with
  | ⟨0, _⟩ =>
    show ((cfg T).win (2 : Fin 7)).index t 0 * 1 + 1 * 0 = (expert T.e (tF T t)).val
    rw [idx_2, expert_val]; omega
  | ⟨1, _⟩ =>
    show 0 * 1024 + 1 * d.val = d.val
    omega
  | ⟨2, _⟩ =>
    show 0 * 256 + 1 * f.val = f.val
    omega

/-- The block's expert's weights. -/
theorem blk3 (d : Fin 1024) (f : Fin 256) : iblk T V c (3 : Fin 7) t (ix3 0 d f) = V c main_arg5 (ix3 (expert T.e (tF T t)) d f) := by
  unfold iblk
  rw [View.read_apply]
  show V c main_arg5 _ = V c main_arg5 _
  congr 1
  funext a
  apply Fin.ext
  match a with
  | ⟨0, _⟩ =>
    show ((cfg T).win (3 : Fin 7)).index t 0 * 1 + 1 * 0 = (expert T.e (tF T t)).val
    rw [idx_3, expert_val]; omega
  | ⟨1, _⟩ =>
    show 0 * 1024 + 1 * d.val = d.val
    omega
  | ⟨2, _⟩ =>
    show 0 * 256 + 1 * f.val = f.val
    omega

/-- The block's expert's weights. -/
theorem blk4 (d : Fin 256) (f : Fin 1024) : iblk T V c (4 : Fin 7) t (ix3 0 d f) = V c main_arg6 (ix3 (expert T.e (tF T t)) d f) := by
  unfold iblk
  rw [View.read_apply]
  show V c main_arg6 _ = V c main_arg6 _
  congr 1
  funext a
  apply Fin.ext
  match a with
  | ⟨0, _⟩ =>
    show ((cfg T).win (4 : Fin 7)).index t 0 * 1 + 1 * 0 = (expert T.e (tF T t)).val
    rw [idx_4, expert_val]; omega
  | ⟨1, _⟩ =>
    show 0 * 256 + 1 * d.val = d.val
    omega
  | ⟨2, _⟩ =>
    show 0 * 1024 + 1 * f.val = f.val
    omega

/-- The scratches hold an expert's weights. -/
def Holds3 (p : St c) (k : Fin 256) : Prop :=
  (gOf c p.1 = fun d f => V c main_arg4 (ix3 k d f)) ∧ (uOf c p.2.1 = fun d f => V c main_arg5 (ix3 k d f)) ∧ (dOf c p.2.2 = fun f n => V c main_arg6 (ix3 k f n))

set_option maxHeartbeats 1000000 in
/-- The contents a new expert's block leaves in the first scratch. -/
theorem scr0 (ha : Active (crd T t) T.n) (hw : New (crd T t) T.e) :
    (atA T V c t ha hw).2.2.1 = gScr.view.writes (Elt Ideal) gScr.view.junk (runA.sl.HS0_1 (ms2 T t) (iblk T V c (2 : Fin 7) t)) := by
  unfold atA runA; rfl

set_option maxHeartbeats 1000000 in
/-- The contents a new expert's block leaves in the second scratch. -/
theorem scr1 (ha : Active (crd T t) T.n) (hw : New (crd T t) T.e) :
    (atA T V c t ha hw).2.2.2.1 = uScr.view.writes (Elt Ideal) uScr.view.junk (runA.sl.HS1_1 (ms3 T t) (iblk T V c (3 : Fin 7) t)) := by
  unfold atA runA; rfl

set_option maxHeartbeats 1000000 in
/-- The contents a new expert's block leaves in the third scratch. -/
theorem scr2 (ha : Active (crd T t) T.n) (hw : New (crd T t) T.e) :
    (atA T V c t ha hw).2.2.2.2.1 = dScr.view.writes (Elt Ideal) dScr.view.junk (runA.sl.HS2_1 (ms4 T t) (iblk T V c (4 : Fin 7) t)) := by
  unfold atA runA; rfl

theorem holds_of {a0 b0 : Buf (Elt Ideal) ((c : Thread nD τ).loc cc0_scratch0)} {a1 b1 : Buf (Elt Ideal) ((c : Thread nD τ).loc cc0_scratch1)} {a2 b2 : Buf (Elt Ideal) ((c : Thread nD τ).loc cc0_scratch2)} {k : Fin 256}
    (h0 : a0 = b0) (h1 : a1 = b1) (h2 : a2 = b2) (hg : gOf c b0 = fun d f => V c main_arg4 (ix3 k d f)) (hu : uOf c b1 = fun d f => V c main_arg5 (ix3 k d f)) (hd : dOf c b2 = fun f n => V c main_arg6 (ix3 k f n)) :
    Holds3 V c (a0, a1, a2) k := by
  subst h0 h1 h2
  exact ⟨hg, hu, hd⟩

/-- A block whose expert is new loads its weights. -/
theorem loaded (p : St c) (ha : Active (crd T t) T.n) (hw : New (crd T t) T.e) : Holds3 V c (step T V c t p) (expert T.e (tF T t)) := by
  unfold step
  rw [dif_pos ha, dif_pos hw]
  refine holds_of V c (scr0 T V c t ha hw) (scr1 T V c t ha hw) (scr2 T V c t ha hw) ?_ ?_ ?_
  · funext d f; exact (gA (ms2 T t) (iblk T V c (2 : Fin 7) t) d f).trans (blk2 T V c t d f)
  · funext d f; exact (uA (ms3 T t) (iblk T V c (3 : Fin 7) t) d f).trans (blk3 T V c t d f)
  · funext d f; exact (dA (ms4 T t) (iblk T V c (4 : Fin 7) t) d f).trans (blk4 T V c t d f)

end Cert.Kernel3Ideal.Exp
-- ==== Proof.Exp.Traj.lean ====
module
public import proofs.«01_k».proof.Proof.Exp.Load
@[expose] public section
set_option maxRecDepth 16384
noncomputable section
namespace Cert.Kernel3Ideal.Exp

open Cert.Kernel3Ideal Cert.Kernel3Ideal.Gen Cert.Experts
open Idealize.ShloMosaic
open Idealize.ShloMosaic.TcCoe Idealize.SL.Sem

/-! # What the body leaves at every point -/

variable (T : Tab) (V : (c : Dev nD) → (b : Ref sig .tc) → Buf (Elt Ideal) ((c.tc : Thread nD τ).loc b)) (c : Dev nD) (t : Fin (cfg T).N)

/-- After a block in use they hold its expert's. -/
theorem held : ∀ (j : ℕ) (t : Fin (cfg T).N), t.val = j → t.val < nN T → Holds3 V c (st T V c (t.val + 1)) (expert T.e (tF T t)) := by
  intro j
  induction j with
  | zero =>
    intro t ht hn
    rw [st_succ]
    exact loaded T V c t _ (first T t ht).1 (first T t ht).2
  | succ j ih =>
    intro t ht hn
    have ha := (active_iff T t).2 hn
    rw [st_succ]
    by_cases hw : New (crd T t) T.e
    · exact loaded T V c t _ ha hw
    · unfold step
      rw [dif_pos ha, dif_neg hw]
      have hp : j < (cfg T).N := by have := t.isLt; omega
      have h := ih ⟨j, hp⟩ rfl (by show j < nN T; omega)
      have he : expert T.e (tF T ⟨j, hp⟩) = expert T.e (tF T t) := by
        refine Fin.ext ?_
        have h2 := (not_new T t hw).2
        have h3 : (⟨t.val - 1, by have := t_lt T t; omega⟩ : Fin 1280) = tF T ⟨j, hp⟩ := Fin.ext (by show t.val - 1 = j; omega)
        rw [h3] at h2
        show (T.e (ix1 (tF T ⟨j, hp⟩))).toNat % 256 = (T.e (ix1 (tF T t))).toNat % 256
        rw [h2]
      rw [he] at h
      rw [ht]
      exact h

/-- Before a block in use whose expert is not new they hold its expert's already. -/
theorem held_before (hn : t.val < nN T) (hw : ¬ New (crd T t) T.e) : Holds3 V c (st T V c t.val) (expert T.e (tF T t)) := by
  have h := held T V c (t.val) t rfl hn
  rw [st_succ] at h
  unfold step at h
  rw [dif_pos ((active_iff T t).2 hn), dif_neg hw] at h
  exact h

/-- The result over the arrays as the call finds them. -/
abbrev valV (k : Fin 1280) (r : Fin 256) (n : Fin 1024) : EReal :=
  value T.e T.n (V c main_arg2) (V c main_arg3) (V c main_arg4) (V c main_arg5) (V c main_arg6) k r n

/-- The expert's hidden row of a block in use. -/
theorem hid_eq (hn : t.val < nN T) (g u : Fin 1024 → Fin 256 → EReal) (r : Fin 256) :
    hid (iblk T V c (0 : Fin 7) t) (iblk T V c (1 : Fin 7) t) g u r
      = gated (dot (inRow (V c main_arg2) (V c main_arg3) (tF T t) r) g) (dot (inRow (V c main_arg2) (V c main_arg3) (tF T t) r) u) := by
  have h : join (fun d => iblk T V c (0 : Fin 7) t (ix2 r d)) (fun d => iblk T V c (1 : Fin 7) t (ix2 r d)) = inRow (V c main_arg2) (V c main_arg3) (tF T t) r := by
    unfold inRow
    exact congrArg₂ join (funext fun d => blk0 T V c t hn r d) (funext fun d => blk1 T V c t hn r d)
  show gated (dot (join (fun d => iblk T V c (0 : Fin 7) t (ix2 r d)) (fun d => iblk T V c (1 : Fin 7) t (ix2 r d))) g) (dot (join (fun d => iblk T V c (0 : Fin 7) t (ix2 r d)) (fun d => iblk T V c (1 : Fin 7) t (ix2 r d))) u) = _
  rw [h]

theorem w1_eq : (fun d f => iblk T V c (2 : Fin 7) t (ix3 0 d f)) = fun d f => V c main_arg4 (ix3 (expert T.e (tF T t)) d f) := by funext d f; exact blk2 T V c t d f
theorem w3_eq : (fun d f => iblk T V c (3 : Fin 7) t (ix3 0 d f)) = fun d f => V c main_arg5 (ix3 (expert T.e (tF T t)) d f) := by funext d f; exact blk3 T V c t d f
theorem w2_eq : (fun d f => iblk T V c (4 : Fin 7) t (ix3 0 d f)) = fun d f => V c main_arg6 (ix3 (expert T.e (tF T t)) d f) := by funext d f; exact blk4 T V c t d f

/-- What the body leaves in the first output's block. -/
theorem outL_at (r : Fin 256) (n : Fin 512) : outL T V c t (st T V c t.val) (ix2 r n) = valV T V c (tF T t) r ⟨n.val, by omega⟩ := by
  unfold outL valV value
  by_cases hn : t.val < nN T
  · have ha := (active_iff T t).2 hn
    rw [dif_pos ha, if_pos hn]
    by_cases hw : New (crd T t) T.e
    · rw [dif_pos hw, outAl_at, hid_eq T V c t hn, w1_eq, w3_eq, w2_eq]
      rfl
    · rw [dif_neg hw, outBl_at, hid_eq T V c t hn]
      obtain ⟨hg, hu, hd⟩ := held_before T V c t hn hw
      rw [hg, hu, hd]
      rfl
  · rw [dif_neg (fun ha => hn ((active_iff T t).1 ha)), if_neg hn]
    exact outCl_at c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) _ r n

/-- What the body leaves in the second output's block. -/
theorem outH_at (r : Fin 256) (n : Fin 512) : outH T V c t (st T V c t.val) (ix2 r n) = valV T V c (tF T t) r ⟨512 + n.val, by omega⟩ := by
  unfold outH valV value
  by_cases hn : t.val < nN T
  · have ha := (active_iff T t).2 hn
    rw [dif_pos ha, if_pos hn]
    by_cases hw : New (crd T t) T.e
    · rw [dif_pos hw, outAh_at, hid_eq T V c t hn, w1_eq, w3_eq, w2_eq]
      rfl
    · rw [dif_neg hw, outBh_at, hid_eq T V c t hn]
      obtain ⟨hg, hu, hd⟩ := held_before T V c t hn hw
      rw [hg, hu, hd]
      rfl
  · rw [dif_neg (fun ha => hn ((active_iff T t).1 ha)), if_neg hn]
    exact outCh_at c (crd T t) (ms0 T t) (hs0 T t) (ms1 T t) (hs1 T t) (ms2 T t) (hs2 T t) (ms3 T t) (hs3 T t) (ms4 T t) (hs4 T t) (ms5 T t) (hs5 T t) (ms6 T t) (hs6 T t) T.e T.n (iblk T V c (0 : Fin 7) t) (iblk T V c (1 : Fin 7) t) (iblk T V c (2 : Fin 7) t) (iblk T V c (3 : Fin 7) t) (iblk T V c (4 : Fin 7) t) _ r n

end Cert.Kernel3Ideal.Exp
-- ==== Proof.Exp.Out.lean ====
module
public import proofs.«01_k».proof.Proof.Exp.Traj
public import Idealize.ShloMosaic.Lib.Pipeline.Value
@[expose] public section
set_option maxRecDepth 16384
noncomputable section
namespace Cert.Kernel3Ideal.Exp

open Cert.Kernel3Ideal Cert.Kernel3Ideal.Gen Cert.Experts
open Idealize.ShloMosaic
open Idealize.ShloMosaic.TcCoe Idealize.SL.Sem

/-! # The result arrays when the call ends -/

variable (T : Tab) (V : (c : Dev nD) → (b : Ref sig .tc) → Buf (Elt Ideal) ((c.tc : Thread nD τ).loc b)) (c : Dev nD)

/-- The two half results over the arrays as the call finds them. -/
def halfV (o : ℕ) (ho : o ≤ 512) : S327680x512.Idx → EReal :=
  half T.e T.n (V c main_arg2) (V c main_arg3) (V c main_arg4) (V c main_arg5) (V c main_arg6) o ho

theorem halfV_at (o : ℕ) (ho : o ≤ 512) (k : Fin 1280) (r : Fin 256) (n : Fin 512) :
    halfV T V c o ho (ix2 (rowOf k r) n) = valV T V c k r ⟨o + n.val, by omega⟩ := by
  unfold halfV half
  show value _ _ _ _ _ _ _ _ _ _ = value _ _ _ _ _ _ _ _ _ _
  congr 1
  · refine Fin.ext ?_
    show (256 * k.val + r.val) / 256 = k.val
    omega
  · refine Fin.ext ?_
    show (256 * k.val + r.val) % 256 = r.val
    omega

/-- A block whose rows are those of an array is that block of the array. -/
theorem block_5 (t : Fin (cfg T).N) (R : S327680x512.Idx → EReal) (O : S256x512.Idx → EReal) (h : ∀ (r : Fin 256) (n : Fin 512), O (ix2 r n) = R (ix2 (rowOf (tF T t) r) n)) :
    ((cfg T).win (5 : Fin 7)).cut (α := EReal) (crd T t) O = (((cfg T).win (5 : Fin 7)).blk t).view.read (Elt Ideal) R := by
  funext y
  idx_vars y
  rw [View.read_apply]
  refine Eq.trans (h y0 y1) ?_
  show R _ = R _
  congr 1
  funext a
  apply Fin.ext
  match a with
  | ⟨0, _⟩ =>
    show 256 * t.val + y0.val = ((cfg T).win (5 : Fin 7)).index t 0 * 256 + 1 * y0.val
    rw [idx_5]; omega
  | ⟨1, _⟩ =>
    show y1.val = 0 * 512 + 1 * y1.val
    omega

theorem flushed_5 (t : Fin (cfg T).N) (hf : ((cfg T).win (5 : Fin 7)).flush t = true) :
    (dats T V 0 c).flushed (5 : Fin 7) t = (((cfg T).win (5 : Fin 7)).blk t).view.read (Elt Ideal) (halfV T V c 0 (by omega)) := by
  show ((cfg T).win (5 : Fin 7)).cut (crd T t) ((dats T V 0 c).after (5 : Fin 7) t) = _
  rw [after_5]
  refine block_5 T t _ (outL T V c t (st T V c t.val)) (fun r n => ?_)
  rw [outL_at, halfV_at]
  exact congrArg (valV T V c (tF T t) r) (Fin.ext (by show n.val = 0 + n.val; omega))

/-- The written blocks are the whole array. -/
theorem cover_5 (i : S327680x512.Idx) : ∃ t : Fin (cfg T).N, ((cfg T).win (5 : Fin 7)).flush t = true ∧ i ∈ (((cfg T).win (5 : Fin 7)).blk t).view.set := by
  have h0 : (i 0 : ℕ) < 327680 := (i 0).isLt
  have h1 : (i 1 : ℕ) < 512 := (i 1).isLt
  have hN : (i 0 : ℕ) / 256 < (cfg T).N := by show (i 0 : ℕ) / 256 < 1280; omega
  refine ⟨⟨(i 0 : ℕ) / 256, hN⟩, ?_, ?_⟩
  · unfold Pipeline.Window.flush
    rw [Bool.and_eq_true]
    refine ⟨rfl, ?_⟩
    rw [Bool.or_eq_true]
    refine (em _).imp id fun _ => ?_
    by_cases hl : (i 0 : ℕ) / 256 + 1 < (cfg T).N
    · exact decide_eq_true ⟨hl, fun he => by
        have h2 := congrFun he 0
        rw [idx_5 T ⟨(i 0 : ℕ) / 256 + 1, hl⟩, idx_5 T ⟨(i 0 : ℕ) / 256, hN⟩] at h2
        exact absurd h2 (by show ¬ ((i 0 : ℕ) / 256 + 1 = (i 0 : ℕ) / 256); omega)⟩
    · exfalso
      rename_i hc
      exact hc (decide_eq_true (by show (i 0 : ℕ) / 256 + 1 = (cfg T).N; omega))
  · show i ∈ ((View.whole main_v0_0).slice (((cfg T).win (5 : Fin 7)).rect ⟨(i 0 : ℕ) / 256, hN⟩)).set
    rw [View.set_slice_whole, Rect.mem_set_unit]
    intro a
    match a with
    | ⟨0, _⟩ =>
      show ((cfg T).win (5 : Fin 7)).index ⟨(i 0 : ℕ) / 256, hN⟩ 0 * 256 ≤ (i 0 : ℕ) ∧ (i 0 : ℕ) < ((cfg T).win (5 : Fin 7)).index ⟨(i 0 : ℕ) / 256, hN⟩ 0 * 256 + 256
      rw [idx_5]; dsimp only; omega
    | ⟨1, _⟩ =>
      show 0 * 512 ≤ (i 1 : ℕ) ∧ (i 1 : ℕ) < 0 * 512 + 512
      omega

/-- So the array ends as the value. -/
theorem result_5 : (dats T V 0 c).arrAt (5 : Fin 7) (cfg T).N = halfV T V c 0 (by omega) :=
  (dats T V 0 c).arrAt_eq_of_cover (5 : Fin 7) (halfV T V c 0 (by omega)) (fun t hf => flushed_5 T V c t hf) (fun i => cover_5 T i)

/-- A block whose rows are those of an array is that block of the array. -/
theorem block_6 (t : Fin (cfg T).N) (R : S327680x512.Idx → EReal) (O : S256x512.Idx → EReal) (h : ∀ (r : Fin 256) (n : Fin 512), O (ix2 r n) = R (ix2 (rowOf (tF T t) r) n)) :
    ((cfg T).win (6 : Fin 7)).cut (α := EReal) (crd T t) O = (((cfg T).win (6 : Fin 7)).blk t).view.read (Elt Ideal) R := by
  funext y
  idx_vars y
  rw [View.read_apply]
  refine Eq.trans (h y0 y1) ?_
  show R _ = R _
  congr 1
  funext a
  apply Fin.ext
  match a with
  | ⟨0, _⟩ =>
    show 256 * t.val + y0.val = ((cfg T).win (6 : Fin 7)).index t 0 * 256 + 1 * y0.val
    rw [idx_6]; omega
  | ⟨1, _⟩ =>
    show y1.val = 0 * 512 + 1 * y1.val
    omega

theorem flushed_6 (t : Fin (cfg T).N) (hf : ((cfg T).win (6 : Fin 7)).flush t = true) :
    (dats T V 0 c).flushed (6 : Fin 7) t = (((cfg T).win (6 : Fin 7)).blk t).view.read (Elt Ideal) (halfV T V c 512 (by omega)) := by
  show ((cfg T).win (6 : Fin 7)).cut (crd T t) ((dats T V 0 c).after (6 : Fin 7) t) = _
  rw [after_6]
  refine block_6 T t _ (outH T V c t (st T V c t.val)) (fun r n => ?_)
  rw [outH_at, halfV_at]

/-- The written blocks are the whole array. -/
theorem cover_6 (i : S327680x512.Idx) : ∃ t : Fin (cfg T).N, ((cfg T).win (6 : Fin 7)).flush t = true ∧ i ∈ (((cfg T).win (6 : Fin 7)).blk t).view.set := by
  have h0 : (i 0 : ℕ) < 327680 := (i 0).isLt
  have h1 : (i 1 : ℕ) < 512 := (i 1).isLt
  have hN : (i 0 : ℕ) / 256 < (cfg T).N := by show (i 0 : ℕ) / 256 < 1280; omega
  refine ⟨⟨(i 0 : ℕ) / 256, hN⟩, ?_, ?_⟩
  · unfold Pipeline.Window.flush
    rw [Bool.and_eq_true]
    refine ⟨rfl, ?_⟩
    rw [Bool.or_eq_true]
    refine (em _).imp id fun _ => ?_
    by_cases hl : (i 0 : ℕ) / 256 + 1 < (cfg T).N
    · exact decide_eq_true ⟨hl, fun he => by
        have h2 := congrFun he 0
        rw [idx_6 T ⟨(i 0 : ℕ) / 256 + 1, hl⟩, idx_6 T ⟨(i 0 : ℕ) / 256, hN⟩] at h2
        exact absurd h2 (by show ¬ ((i 0 : ℕ) / 256 + 1 = (i 0 : ℕ) / 256); omega)⟩
    · exfalso
      rename_i hc
      exact hc (decide_eq_true (by show (i 0 : ℕ) / 256 + 1 = (cfg T).N; omega))
  · show i ∈ ((View.whole main_v0_1).slice (((cfg T).win (6 : Fin 7)).rect ⟨(i 0 : ℕ) / 256, hN⟩)).set
    rw [View.set_slice_whole, Rect.mem_set_unit]
    intro a
    match a with
    | ⟨0, _⟩ =>
      show ((cfg T).win (6 : Fin 7)).index ⟨(i 0 : ℕ) / 256, hN⟩ 0 * 256 ≤ (i 0 : ℕ) ∧ (i 0 : ℕ) < ((cfg T).win (6 : Fin 7)).index ⟨(i 0 : ℕ) / 256, hN⟩ 0 * 256 + 256
      rw [idx_6]; dsimp only; omega
    | ⟨1, _⟩ =>
      show 0 * 512 ≤ (i 1 : ℕ) ∧ (i 1 : ℕ) < 0 * 512 + 512
      omega

/-- So the array ends as the value. -/
theorem result_6 : (dats T V 0 c).arrAt (6 : Fin 7) (cfg T).N = halfV T V c 512 (by omega) :=
  (dats T V 0 c).arrAt_eq_of_cover (6 : Fin 7) (halfV T V c 512 (by omega)) (fun t hf => flushed_6 T V c t hf) (fun i => cover_6 T i)

end Cert.Kernel3Ideal.Exp
-- ==== Proof.Exp.Ref.lean ====
module
public import proofs.«01_k».proof.Proof.Gen.Reference3Ideal.Run
public import proofs.«01_k».proof.Proof.Exp.Spec
public import Idealize.ShloMosaic.Lib.Pointwise
@[expose] public section
noncomputable section
namespace Cert.Reference3Ideal.Parts

open Cert.Reference3Ideal Cert.Reference3Ideal.Gen Idealize.ShloMosaic Idealize.ShloMosaic.TcCoe Idealize.SL.Sem Idealize.ShloMosaic.StableHlo
open Cert.Experts

/-! # The reference of the experts' call, in named parts -/

/-- The input's rows by blocks. -/
def rows (a b : FVec Ideal S327680x512 .bf16) : FVec Ideal S1280x256x1024 .f32 :=
  shapeCast S1280x256x1024 (extf .f32 (concatenate S327680x1024 1 [⟨S327680x512, a⟩, ⟨S327680x512, b⟩] concatenates_S327680x512_S327680x512_S327680x1024_d1) bitsLt_bf16_f32) shapeCasts_S327680x1024_S1280x256x1024

/-- The experts' indices, a negative one counted from the end. -/
def index (e : IVec S1280 32) : IVec S1280x1 32 :=
  broadcastInDim S1280x1 ![0] bcast_S1280_S1280x1_0 (select (cmpi .slt e (broadcastInDim S1280 ![] bcast_S_S1280 (constantI S_ 32 0#32))) (addi e (broadcastInDim S1280 ![] bcast_S_S1280 (constantI S_ 32 256#32))) e)

/-- A block's rows times its expert's weights. -/
def into (x : FVec Ideal S1280x256x1024 .f32) (w : FVec Ideal S1280x1024x256 .f32) : FVec Ideal S1280x256x256 .f32 :=
  Host.dotGeneral dot_S1280x256x1024_S1280x1024x256_S1280x256x256_2_1_1_2_0_0 none x w

/-- The gated hidden rows. -/
def gate (g u : FVec Ideal S1280x256x256 .f32) : FVec Ideal S1280x256x256 .f32 :=
  mulf (mulf g (Host.divf (broadcastInDim S1280x256x256 ![] bcast_S_S1280x256x256 (constant S_ .f32 0x3F800000#32)) (addf (broadcastInDim S1280x256x256 ![] bcast_S_S1280x256x256 (constant S_ .f32 0x3F800000#32)) (Host.exp (Host.negf g))))) u

/-- Back through the expert's last weights. -/
def back (h : FVec Ideal S1280x256x256 .f32) (w : FVec Ideal S1280x256x1024 .f32) : FVec Ideal S1280x256x1024 .f32 :=
  Host.dotGeneral dot_S1280x256x256_S1280x256x1024_S1280x256x1024_2_1_1_2_0_0 none h w

/-- Zero in the blocks not in use; as rows. -/
def masked (n : IVec S1 32) (y : FVec Ideal S1280x256x1024 .f32) : FVec Ideal S327680x1024 .bf16 :=
  truncf .bf16 (shapeCast S327680x1024 (select (broadcastInDim S1280x256x1024 ![0, 1, 2] bcast_S1280x1x1_S1280x256x1024_0_1_2 (cmpi .slt (broadcastInDim S1280x1x1 ![0] bcast_S1280_S1280x1x1_0 (iotaInDim S1280 32 0)) (broadcastInDim S1280x1x1 ![0, 1, 2] bcast_S1x1x1_S1280x1x1_0_1_2 (broadcastInDim S1x1x1 ![2] bcast_S1_S1x1x1_2 n)))) y
    (broadcastInDim S1280x256x1024 ![] bcast_S_S1280x256x1024 (id (constant S_ .f32 0x00000000#32)))) shapeCasts_S1280x256x1024_S327680x1024) bitsLt_bf16_f32

section
variable (e : IVec S1280 32) (n : IVec S1 32) (a b : FVec Ideal S327680x512 .bf16) (w1 w3 : FVec Ideal S256x1024x256 .f32) (w2 : FVec Ideal S256x256x1024 .f32)

/-- The result's rows whole. -/
def whole : FVec Ideal S327680x1024 .bf16 :=
  masked n (back (gate (into (rows a b) (Host.gather gather_S256x1024x256_S1280x1_S1280x1024x256_12_0_n_n_0_1_11024256 w1 (index e)))
      (into (rows a b) (Host.gather gather_S256x1024x256_S1280x1_S1280x1024x256_12_0_n_n_0_1_11024256 w3 (index e))))
    (Host.gather gather_S256x256x1024_S1280x1_S1280x256x1024_12_0_n_n_0_1_12561024 w2 (index e)))
/-- Its two halves. -/
def lo : FVec Ideal S327680x512 .bf16 := extractStridedSlice S327680x512 ![0, 0] (whole e n a b w1 w3 w2) slices_S327680x1024_S327680x512_0_0
def hi : FVec Ideal S327680x512 .bf16 := extractStridedSlice S327680x512 ![0, 512] (whole e n a b w1 w3 w2) slices_S327680x1024_S327680x512_0_512
end

/-- The reference ends with the two halves, its arguments unchanged. -/
theorem run_parts (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = lo (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v38) = hi (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference3Ideal.Value.run m ρ

/-! ## Element by element -/

theorem rows_at (a b : FVec Ideal S327680x512 .bf16) (k : Fin 1280) (r : Fin 256) (d : Fin 1024) : rows a b (ix3 k r d) = inRow a b k r d := by
  pointwise [rows]
  unfold inRow join rowOf
  have h : (⟨k.val * 256 + r.val, by omega⟩ : Fin 327680) = ⟨256 * k.val + r.val, by omega⟩ := Fin.ext (by show k.val * 256 + r.val = 256 * k.val + r.val; omega)
  exact dite_congr rfl (fun _ => congrArg (fun z => a (ix2 z _)) h) (fun _ => congrArg (fun z => b (ix2 z _)) h)

theorem index_at (e : IVec S1280 32) (k : Fin 1280) (h : (e (ix1 k)).toNat < 256) : index e (ix2 k 0) = e (ix1 k) := by
  pointwise [index]
  generalize e (ix1 k) = v at h
  have h0 : IntOp.cmpi CmpIPredicate.slt v 0#32 = 0#1 := by
    show BitVec.ofBool (v.slt 0#32) = 0#1
    have : v.slt 0#32 = false := by
      rw [Bool.eq_false_iff]
      intro hc
      rw [BitVec.slt_iff_toInt_lt, BitVec.toInt_eq_toNat_cond, if_pos (by omega)] at hc
      simp at hc
      omega
    rw [this]; rfl
  rw [h0]; rfl

theorem into_at (x : FVec Ideal S1280x256x1024 .f32) (w : FVec Ideal S1280x1024x256 .f32) (k : Fin 1280) (r f : Fin 256) :
    into x w (ix3 k r f) = dot (fun d => x (ix3 k r d)) (fun d f => w (ix3 k d f)) f := by
  pointwise [into, dot]
theorem back_at (x : FVec Ideal S1280x256x256 .f32) (w : FVec Ideal S1280x256x1024 .f32) (k : Fin 1280) (r : Fin 256) (n : Fin 1024) :
    back x w (ix3 k r n) = dot (fun d => x (ix3 k r d)) (fun d f => w (ix3 k d f)) n := by
  pointwise [back, dot]
theorem gate_at (g u : FVec Ideal S1280x256x256 .f32) (k : Fin 1280) (r f : Fin 256) :
    gate g u (ix3 k r f) = gated (fun f => g (ix3 k r f)) (fun f => u (ix3 k r f)) f := by
  pointwise [gate, gated]
theorem masked_at (n : IVec S1 32) (hn : (n (ix1 0)).toNat < 2147483648) (y : FVec Ideal S1280x256x1024 .f32) (i : Fin 327680) (l : Fin 1024) :
    masked n y (ix2 i l) = if i.val / 256 < (n (ix1 0)).toNat then y (ix3 ⟨i.val / 256, by omega⟩ ⟨i.val % 256, Nat.mod_lt _ (by norm_num)⟩ l) else 0 := by
  pointwise [masked]
  have hi : i.val / 256 < 1280 := by omega
  generalize n (ix1 0) = v at hn
  have hz : id (constant (F := Ideal) S_ FTy.f32 0x00000000#32) ix0 = (0 : EReal) := by pointwise [id]
  have h : IntOp.cmpi CmpIPredicate.slt (BitVec.ofNat 32 (i.val / 256)) v = BitVec.ofBool (decide (i.val / 256 < v.toNat)) := by
    show BitVec.ofBool ((BitVec.ofNat 32 (i.val / 256)).slt v) = _
    have h2 : (BitVec.ofNat 32 (i.val / 256)).toNat = i.val / 256 := by rw [BitVec.toNat_ofNat]; omega
    congr 1
    rw [Bool.eq_iff_iff, BitVec.slt_iff_toInt_lt, BitVec.toInt_eq_toNat_cond, BitVec.toInt_eq_toNat_cond, if_pos (by omega), if_pos (by omega), h2]
    simp only [decide_eq_true_eq, Nat.cast_lt]
  rw [h, hz]
  by_cases hd : i.val / 256 < v.toNat
  · rw [if_pos hd, decide_eq_true hd]; rfl
  · rw [if_neg hd, decide_eq_false hd]; rfl

/-- Gathering the experts' weights takes each block's expert's. -/
theorem gather_1 (w : FVec Ideal S256x1024x256 .f32) (ix : IVec S1280x1 32) (k : Fin 1280) (d : Fin 1024) (f : Fin 256) (h : (ix (ix2 k 0)).toNat < 256) :
    Host.gather gather_S256x1024x256_S1280x1_S1280x1024x256_12_0_n_n_0_1_11024256 w ix (ix3 k d f) = w (ix3 ⟨(ix (ix2 k 0)).toNat, h⟩ d f) := by
  have s0 : (gather_S256x1024x256_S1280x1_S1280x1024x256_12_0_n_n_0_1_11024256).start (ix3 k d f) ix (0 : Fin 3) = (ix (ix2 k 0)).toNat := by
    unfold GatherDims.start
    rw [dif_pos (show (0 : Fin 3) ∈ (gather_S256x1024x256_S1280x1_S1280x1024x256_12_0_n_n_0_1_11024256).startIndexMap from List.mem_singleton.mpr rfl)]
    have hsi : (gather_S256x1024x256_S1280x1_S1280x1024x256_12_0_n_n_0_1_11024256).siIdx (ix3 k d f) ⟨List.idxOf (0 : Fin 3) (gather_S256x1024x256_S1280x1_S1280x1024x256_12_0_n_n_0_1_11024256).startIndexMap, List.idxOf_lt_length_iff.2 (List.mem_singleton.mpr rfl)⟩ = ix2 k 0 := by
      funext b; refine Fin.ext ?_
      fin_cases b <;> rfl
    rw [hsi, BitVec.toInt_eq_toNat_cond, if_pos (by omega)]
    show min (((ix (ix2 k 0)).toNat : ℤ)).toNat (256 - 1) = _
    omega
  have s1 : (gather_S256x1024x256_S1280x1_S1280x1024x256_12_0_n_n_0_1_11024256).start (ix3 k d f) ix (1 : Fin 3) = 0 := by
    unfold GatherDims.start
    exact dif_neg (show ¬ (1 : Fin 3) ∈ (gather_S256x1024x256_S1280x1_S1280x1024x256_12_0_n_n_0_1_11024256).startIndexMap from by decide)
  have s2 : (gather_S256x1024x256_S1280x1_S1280x1024x256_12_0_n_n_0_1_11024256).start (ix3 k d f) ix (2 : Fin 3) = 0 := by
    unfold GatherDims.start
    exact dif_neg (show ¬ (2 : Fin 3) ∈ (gather_S256x1024x256_S1280x1_S1280x1024x256_12_0_n_n_0_1_11024256).startIndexMap from by decide)
  unfold Host.gather
  congr 1
  funext a
  refine Fin.ext ?_
  show (gather_S256x1024x256_S1280x1_S1280x1024x256_12_0_n_n_0_1_11024256).start (ix3 k d f) ix a + (gather_S256x1024x256_S1280x1_S1280x1024x256_12_0_n_n_0_1_11024256).batchCoord (ix3 k d f) a + (gather_S256x1024x256_S1280x1_S1280x1024x256_12_0_n_n_0_1_11024256).offCoord (ix3 k d f) a = _
  rw [GatherDims.batchCoord_eq_zero _ _ _ List.not_mem_nil]
  fin_cases a
  · refine (congrArg₂ (fun x y : ℕ => x + 0 + y) s0 (GatherDims.offCoord_eq_zero _ _ _ (fun h => ((GatherDims.mem_sKept _ _).mp h).1 (List.mem_singleton.mpr rfl)))).trans ?_
    rfl
  · refine (congrArg (fun x : ℕ => x + 0 + _) s1).trans ?_
    show 0 + 0 + d.val = d.val
    omega
  · refine (congrArg (fun x : ℕ => x + 0 + _) s2).trans ?_
    show 0 + 0 + f.val = f.val
    omega

/-- Gathering the experts' weights takes each block's expert's. -/
theorem gather_2 (w : FVec Ideal S256x256x1024 .f32) (ix : IVec S1280x1 32) (k : Fin 1280) (d : Fin 256) (f : Fin 1024) (h : (ix (ix2 k 0)).toNat < 256) :
    Host.gather gather_S256x256x1024_S1280x1_S1280x256x1024_12_0_n_n_0_1_12561024 w ix (ix3 k d f) = w (ix3 ⟨(ix (ix2 k 0)).toNat, h⟩ d f) := by
  have s0 : (gather_S256x256x1024_S1280x1_S1280x256x1024_12_0_n_n_0_1_12561024).start (ix3 k d f) ix (0 : Fin 3) = (ix (ix2 k 0)).toNat := by
    unfold GatherDims.start
    rw [dif_pos (show (0 : Fin 3) ∈ (gather_S256x256x1024_S1280x1_S1280x256x1024_12_0_n_n_0_1_12561024).startIndexMap from List.mem_singleton.mpr rfl)]
    have hsi : (gather_S256x256x1024_S1280x1_S1280x256x1024_12_0_n_n_0_1_12561024).siIdx (ix3 k d f) ⟨List.idxOf (0 : Fin 3) (gather_S256x256x1024_S1280x1_S1280x256x1024_12_0_n_n_0_1_12561024).startIndexMap, List.idxOf_lt_length_iff.2 (List.mem_singleton.mpr rfl)⟩ = ix2 k 0 := by
      funext b; refine Fin.ext ?_
      fin_cases b <;> rfl
    rw [hsi, BitVec.toInt_eq_toNat_cond, if_pos (by omega)]
    show min (((ix (ix2 k 0)).toNat : ℤ)).toNat (256 - 1) = _
    omega
  have s1 : (gather_S256x256x1024_S1280x1_S1280x256x1024_12_0_n_n_0_1_12561024).start (ix3 k d f) ix (1 : Fin 3) = 0 := by
    unfold GatherDims.start
    exact dif_neg (show ¬ (1 : Fin 3) ∈ (gather_S256x256x1024_S1280x1_S1280x256x1024_12_0_n_n_0_1_12561024).startIndexMap from by decide)
  have s2 : (gather_S256x256x1024_S1280x1_S1280x256x1024_12_0_n_n_0_1_12561024).start (ix3 k d f) ix (2 : Fin 3) = 0 := by
    unfold GatherDims.start
    exact dif_neg (show ¬ (2 : Fin 3) ∈ (gather_S256x256x1024_S1280x1_S1280x256x1024_12_0_n_n_0_1_12561024).startIndexMap from by decide)
  unfold Host.gather
  congr 1
  funext a
  refine Fin.ext ?_
  show (gather_S256x256x1024_S1280x1_S1280x256x1024_12_0_n_n_0_1_12561024).start (ix3 k d f) ix a + (gather_S256x256x1024_S1280x1_S1280x256x1024_12_0_n_n_0_1_12561024).batchCoord (ix3 k d f) a + (gather_S256x256x1024_S1280x1_S1280x256x1024_12_0_n_n_0_1_12561024).offCoord (ix3 k d f) a = _
  rw [GatherDims.batchCoord_eq_zero _ _ _ List.not_mem_nil]
  fin_cases a
  · refine (congrArg₂ (fun x y : ℕ => x + 0 + y) s0 (GatherDims.offCoord_eq_zero _ _ _ (fun h => ((GatherDims.mem_sKept _ _).mp h).1 (List.mem_singleton.mpr rfl)))).trans ?_
    rfl
  · refine (congrArg (fun x : ℕ => x + 0 + _) s1).trans ?_
    show 0 + 0 + d.val = d.val
    omega
  · refine (congrArg (fun x : ℕ => x + 0 + _) s2).trans ?_
    show 0 + 0 + f.val = f.val
    omega

/-- So the result whole is the value at every row and lane. -/
theorem whole_at (e : IVec S1280 32) (n : IVec S1 32) (a b : FVec Ideal S327680x512 .bf16) (w1 w3 : FVec Ideal S256x1024x256 .f32) (w2 : FVec Ideal S256x256x1024 .f32)
    (he : ∀ x, (e x).toNat < 256) (hn : ∀ x, (n x).toNat < 2147483648) (i : Fin 327680) (l : Fin 1024) :
    whole e n a b w1 w3 w2 (ix2 i l) = value e n a b w1 w3 w2 ⟨i.val / 256, by omega⟩ ⟨i.val % 256, Nat.mod_lt _ (by norm_num)⟩ l := by
  unfold whole value
  rw [masked_at _ (hn _)]
  have hx : ∀ k : Fin 1280, (index e (ix2 k 0)).toNat < 256 := fun k => by rw [index_at e k (he _)]; exact he _
  have hk : ∀ k : Fin 1280, (⟨(index e (ix2 k 0)).toNat, hx k⟩ : Fin 256) = expert e k := fun k => Fin.ext (by
    show (index e (ix2 k 0)).toNat = (e (ix1 k)).toNat % 256
    rw [index_at e k (he _), Nat.mod_eq_of_lt (he _)])
  refine if_congr Iff.rfl ?_ rfl
  unfold ffn
  rw [back_at]
  simp only [gate_at, into_at, rows_at, gather_1 _ _ _ _ _ (hx _), gather_2 _ _ _ _ _ (hx _), hk]

theorem lo_at (e : IVec S1280 32) (n : IVec S1 32) (a b : FVec Ideal S327680x512 .bf16) (w1 w3 : FVec Ideal S256x1024x256 .f32) (w2 : FVec Ideal S256x256x1024 .f32)
    (he : ∀ x, (e x).toNat < 256) (hn : ∀ x, (n x).toNat < 2147483648) : lo e n a b w1 w3 w2 = half e n a b w1 w3 w2 0 (by omega) := by
  funext y
  idx_vars y
  have h : lo e n a b w1 w3 w2 (ix2 y0 y1) = whole e n a b w1 w3 w2 (ix2 y0 ⟨0 + y1.val, by omega⟩) := by
    pointwise [lo]
  exact h.trans (whole_at e n a b w1 w3 w2 he hn _ _)
theorem hi_at (e : IVec S1280 32) (n : IVec S1 32) (a b : FVec Ideal S327680x512 .bf16) (w1 w3 : FVec Ideal S256x1024x256 .f32) (w2 : FVec Ideal S256x256x1024 .f32)
    (he : ∀ x, (e x).toNat < 256) (hn : ∀ x, (n x).toNat < 2147483648) : hi e n a b w1 w3 w2 = half e n a b w1 w3 w2 512 (by omega) := by
  funext y
  idx_vars y
  have h : hi e n a b w1 w3 w2 (ix2 y0 y1) = whole e n a b w1 w3 w2 (ix2 y0 ⟨512 + y1.val, by omega⟩) := by
    pointwise [hi]
  exact h.trans (whole_at e n a b w1 w3 w2 he hn _ _)

end Cert.Reference3Ideal.Parts
-- ==== Proof.Exp.Algebraic.lean ====
module

public import proofs.«01_k».proof.Defs
public import proofs.«01_k».proof.Proof.Exp.Held
public import proofs.«01_k».proof.Proof.Exp.Out
public import proofs.«01_k».proof.Proof.Exp.Ref
@[expose] public section
noncomputable section
namespace Cert.Experts

open Idealize.ShloMosaic Idealize.SL.Sem
open Idealize.ShloMosaic.TcCoe
open Cert.Kernel3Ideal.Exp Cert.Reference3Ideal.Parts

/-! # The experts' kernel and its reference end with equal results -/

/-- Equal arguments, with tables of the precondition, give equal results. -/
theorem algebraic : Cert.algebraic_Kernel3Ideal_Reference3Ideal (hKernel3Ideal := Cert.Kernel3Ideal.Gen.facts) (hReference3Ideal := Cert.Reference3Ideal.Gen.facts) (hPre_tables := preTables) := by
  intro m g m' g' hpre hargs
  obtain ⟨T, hT⟩ := Cert.Kernel3Ideal.Exp.tab_of m hpre
  refine ⟨fun c => halfV T (V0 m) c 0 (by omega), fun c => halfV T (V0 m) c 512 (by omega), ?_, ?_⟩
  · refine (θ_run _ _ _).mono (fun r h c => ?_) (run_main T m g hT)
    exact ⟨((h.1 c).1 (5 : Fin 7)).trans (result_5 T (V0 m) c), ((h.1 c).1 (6 : Fin 7)).trans (result_6 T (V0 m) c), rest_arg T m r h.1 c⟩
  · refine (θ_run _ _ _).mono (fun r h c => ?_) (run_parts m' g')
    obtain ⟨h0, h1, rest⟩ := h c
    obtain ⟨a0, a1, a2, a3, a4, a5, a6⟩ := hargs c
    have e0 : m' ((c.tc : Thread Cert.Reference3Ideal.nD Cert.Reference3Ideal.τ).loc Cert.Reference3Ideal.main_arg0) = T.e := a0.trans (hT c).1.symm
    have e1 : m' ((c.tc : Thread Cert.Reference3Ideal.nD Cert.Reference3Ideal.τ).loc Cert.Reference3Ideal.main_arg1) = T.n := a1.trans (hT c).2.symm
    refine ⟨h0.trans ?_, h1.trans ?_, rest⟩
    · rw [e0, e1, a2, a3, a4, a5, a6]
      exact lo_at T.e T.n _ _ _ _ _ T.he (fun x => (T.hn x).2)
    · rw [e0, e1, a2, a3, a4, a5, a6]
      exact hi_at T.e T.n _ _ _ _ _ T.he (fun x => (T.hn x).2)

end Cert.Experts
-- ==== Proof.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.ReferenceIdeal
public import proofs.«01_k».proof.Proof.Gen.ReferenceIdeal.Run
public import proofs.«01_k».proof.Proof.Att.Flash
public import proofs.«01_k».proof.Proof.AttB.Flash
public import proofs.«01_k».proof.Proof.Algebraic
public import proofs.«01_k».proof.Proof.Inp.Algebraic
public import proofs.«01_k».proof.Proof.Gen.Reference3Ideal
public import proofs.«01_k».proof.Proof.Gen.Reference3Ideal.Run
public import proofs.«01_k».proof.Proof.Exp.Held
public import proofs.«01_k».proof.Proof.ExpB.Held
public import proofs.«01_k».proof.Proof.Exp.Algebraic
public import Idealize.ShloMosaic.Lib.Quiescent

@[expose] public section

namespace Cert.Proof

open Idealize.ShloMosaic Idealize.SL.Sem

/-- The facts stated of the precondition's program. -/
theorem preFacts : Cert.Pre_finite_inputs.Facts := ⟨by decide, by decide⟩

/-- The kernel as printed runs and leaves its arguments unchanged. -/
theorem frame_p : Cert.quiescent_Kernel (hKernel := Cert.Kernel.Gen.facts) := fun m g _ =>
  (θ_run _ _ _).mono (fun r h => ⟨fun c => Cert.Kernel.Attn.rest_arg m r h.1 c, h.2⟩) (Cert.Kernel.Attn.run_main m g)

/-- So does the idealised kernel, -/
theorem frame_pi : Cert.quiescent_KernelIdeal (hKernelIdeal := Cert.KernelIdeal.Gen.facts) := fun m g _ =>
  (θ_run _ _ _).mono (fun r h => ⟨fun c => Cert.KernelIdeal.Attn.rest_arg m r h.1 c, h.2⟩) (Cert.KernelIdeal.Attn.run_main m g)

theorem frame_pi_pre : Cert.quiescent_KernelIdeal_pre_finite_inputs (hKernelIdeal := Cert.KernelIdeal.Gen.facts) (hPre_finite_inputs := preFacts) := fun m g _ =>
  (θ_run _ _ _).mono (fun r h => ⟨fun c => Cert.KernelIdeal.Attn.rest_arg m r h.1 c, h.2⟩) (Cert.KernelIdeal.Attn.run_main m g)

/-- and the reference. -/
theorem frame_ri : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

theorem frame_ri_pre : Cert.quiescent_ReferenceIdeal_pre_finite_inputs (hReferenceIdeal := Cert.ReferenceIdeal.Gen.facts) (hPre_finite_inputs := preFacts) := fun m g _ =>
  (θ_run _ _ _).mono (fun r h => ⟨fun c => (h c).2, sem_eq_zero_of_no_sems (by decide) r.2⟩) (Cert.ReferenceIdeal.Value.run m g)

/-- The three named constants are the exact numbers they stand for. -/
theorem preserves : Cert.preserves_Kernel_KernelIdeal :=
  ⟨IdealRules.named_const.statement _ _ _ _ _ rfl, IdealRules.named_const.statement _ _ _ _ _ rfl, IdealRules.named_const.statement _ _ _ _ _ rfl⟩

/-- The projection's kernel as printed, -/
theorem frame_p2 : Cert.quiescent_Kernel2 (hKernel2 := Cert.Kernel2.Gen.facts) := fun m g _ => Cert.Kernel2.Gen.frame m g

/-- idealised, -/
theorem frame_pi2 : Cert.quiescent_Kernel2Ideal (hKernel2Ideal := Cert.Kernel2Ideal.Gen.facts) := fun m g _ => Cert.Kernel2Ideal.Gen.frame m g

/-- and its reference run and leave their arguments unchanged. -/
theorem frame_ri2 : Cert.quiescent_Reference2Ideal (hReference2Ideal := Cert.Reference2Ideal.Gen.facts) := fun m g _ =>
  (θ_run _ _ _).mono (fun r h => ⟨fun c => (h c).2.2.2.2.2.2, sem_eq_zero_of_no_sems (by decide) r.2⟩) (Cert.Reference2Ideal.Value.run m g)

/-- The projection's kernel has no constant to name. -/
theorem preserves2 : Cert.preserves_Kernel2_Kernel2Ideal := trivial

/-- The reference of the experts runs and leaves its arguments unchanged. -/
theorem frame_ri3 : Cert.quiescent_Reference3Ideal (hReference3Ideal := Cert.Reference3Ideal.Gen.facts) := fun m g _ =>
  (θ_run _ _ _).mono (fun r h => ⟨fun c => (h c).2.2, sem_eq_zero_of_no_sems (by decide) r.2⟩) (Cert.Reference3Ideal.Value.run m g)

theorem frame_ri3_pre : Cert.quiescent_Reference3Ideal_pre_tables (hReference3Ideal := Cert.Reference3Ideal.Gen.facts) (hPre_tables := Cert.Experts.preTables) := fun m g _ =>
  (θ_run _ _ _).mono (fun r h => ⟨fun c => (h c).2.2, sem_eq_zero_of_no_sems (by decide) r.2⟩) (Cert.Reference3Ideal.Value.run m g)

/-- The experts' kernel has no constant to name. -/
theorem preserves3 : Cert.preserves_Kernel3_Kernel3Ideal := trivial

end Cert.Proof

/-- Everything claimed. -/
theorem Cert.Proof.claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Proof.preFacts, Cert.Experts.preTables,
    Cert.Proof.frame_p, Cert.Proof.frame_pi, Cert.Proof.frame_pi_pre, Cert.Proof.frame_ri, Cert.Proof.frame_ri_pre, Cert.Proof.frame_p2, Cert.Proof.frame_pi2, Cert.Proof.frame_ri2,
    Cert.Kernel3.Exp.frame, Cert.Kernel3Ideal.Exp.frame, Cert.Proof.frame_ri3, Cert.Proof.frame_ri3_pre, Cert.Proof.preserves,
    Cert.Algebraic.algebraic (hp := Cert.Proof.preFacts), Cert.Proof.preserves2, Cert.Inproj.algebraic, Cert.Proof.preserves3, Cert.Experts.algebraic⟩
